-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x1024 : Shape := ⟨3, ![8, 4096, 1024]⟩
abbrev S8x512x256 : Shape := ⟨3, ![8, 512, 256]⟩
abbrev S8x256x512 : Shape := ⟨3, ![8, 256, 512]⟩
abbrev S1x1024 : Shape := ⟨2, ![1, 1024]⟩
abbrev S1x1024x4624 : Shape := ⟨3, ![1, 1024, 4624]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x16x256 : Shape := ⟨3, ![1, 16, 256]⟩
abbrev S1x256 : Shape := ⟨2, ![1, 256]⟩
abbrev S1x512 : Shape := ⟨2, ![1, 512]⟩
abbrev S1x2048x1024 : Shape := ⟨3, ![1, 2048, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bitsLt_bf16_f32 : FTy.bits .bf16 < FTy.bits .f32
  bcast_S_S8x512x256 : S_.BroadcastsInDim S8x512x256 (![] : Fin 0 → Fin S8x512x256.rank)
  reducesTo_S8x512x256_S_d0_1_2 : S8x512x256.ReducesTo [0, 1, 2] S_
  bcast_S_S8x256x512 : S_.BroadcastsInDim S8x256x512 (![] : Fin 0 → Fin S8x256x512.rank)
  reducesTo_S8x256x512_S_d0_1_2 : S8x256x512.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4624 : S_.BroadcastsInDim S1x1024x4624 (![] : Fin 0 → Fin S1x1024x4624.rank)
  reducesTo_S1x1024x4624_S_d0_1_2 : S1x1024x4624.ReducesTo [0, 1, 2] S_
  bcast_S_S1x4x1024 : S_.BroadcastsInDim S1x4x1024 (![] : Fin 0 → Fin S1x4x1024.rank)
  reducesTo_S1x4x1024_S_d0_1_2 : S1x4x1024.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x16x256 : S_.BroadcastsInDim S1x16x256 (![] : Fin 0 → Fin S1x16x256.rank)
  reducesTo_S1x16x256_S_d0_1_2 : S1x16x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part4 {F : FTy → Type} [FloatOps F] (main_v65 : IVec S_ 1) (main_v68 : IVec S1x256 1) : IVec S_ 1 :=
  let main_c_25 : IVec S_ 1 := constantI S_ 1 1#1
  let main_v69 : IVec S_ 1 := (fun x v => Host.reduce IntOp.andi x v reducesTo_S1x256_S_d0_1 h_S_) main_v68 main_c_25
  let main_v70 : IVec S_ 1 := andi main_v65 main_v69
  main_v70

def fn_part3 {F : FTy → Type} [FloatOps F] (main_arg11 : FVec F S1x1024 .f32) (main_arg12 : FVec F S1x16x256 .f32) (main_arg13 : FVec F S1x256 .f32) (main_v50 : IVec S_ 1) (main_v51 : FVec F S1x8x128 .f32) : IVec S_ 1 :=
  let main_cst_18 : FVec F S_ .f32 := constant S_ .f32 0x7F800000#32
  let main_v52 : FVec F S1x8x128 .f32 := broadcastInDim S1x8x128 ![] bcast_S_S1x8x128 main_cst_18
  let main_v53 : IVec S1x8x128 1 := cmpf .olt main_v51 main_v52
  let main_c_19 : IVec S_ 1 := constantI S_ 1 1#1
  let main_v54 : IVec S_ 1 := (fun x v => Host.reduce IntOp.andi x v reducesTo_S1x8x128_S_d0_1_2 h_S_) main_v53 main_c_19
  let main_v55 : IVec S_ 1 := andi main_v50 main_v54
  let main_v56 : FVec F S1x1024 .f32 := Host.absf main_arg11
  let main_cst_20 : FVec F S_ .f32 := constant S_ .f32 0x7F800000#32
  let main_v57 : FVec F S1x1024 .f32 := broadcastInDim S1x1024 ![] bcast_S_S1x1024 main_cst_20
  let main_v58 : IVec S1x1024 1 := cmpf .olt main_v56 main_v57
  let main_c_21 : IVec S_ 1 := constantI S_ 1 1#1
  let main_v59 : IVec S_ 1 := (fun x v => Host.reduce IntOp.andi x v reducesTo_S1x1024_S_d0_1 h_S_) main_v58 main_c_21
  let main_v60 : IVec S_ 1 := andi main_v55 main_v59
  let main_v61 : FVec F S1x16x256 .f32 := Host.absf main_arg12
  let main_cst_22 : FVec F S_ .f32 := constant S_ .f32 0x7F800000#32
  let main_v62 : FVec F S1x16x256 .f32 := broadcastInDim S1x16x256 ![] bcast_S_S1x16x256 main_cst_22
  let main_v63 : IVec S1x16x256 1 := cmpf .olt main_v61 main_v62
  let main_c_23 : IVec S_ 1 := constantI S_ 1 1#1
  let main_v64 : IVec S_ 1 := (fun x v => Host.reduce IntOp.andi x v reducesTo_S1x16x256_S_d0_1_2 h_S_) main_v63 main_c_23
  let main_v65 : IVec S_ 1 := andi main_v60 main_v64
  let main_v66 : FVec F S1x256 .f32 := Host.absf main_arg13
  let main_cst_24 : FVec F S_ .f32 := constant S_ .f32 0x7F800000#32
  let main_v67 : FVec F S1x256 .f32 := broadcastInDim S1x256 ![] bcast_S_S1x256 main_cst_24
  let main_v68 : IVec S1x256 1 := cmpf .olt main_v66 main_v67
  fn_part4 (F := F) main_v65 main_v68

def fn_part2 {F : FTy → Type} [FloatOps F] (main_arg7 : FVec F S1x8x128x128 .f32) (main_arg8 : FVec F S1x8x128 .f32) (main_arg9 : FVec F S1x8x128x128 .f32) (main_arg10 : FVec F S1x8x128 .f32) (main_arg11 : FVec F S1x1024 .f32) (main_arg12 : FVec F S1x16x256 .f32) (main_arg13 : FVec F S1x256 .f32) (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  let main_v36 : FVec F S1x8x128x128 .f32 := Host.absf main_arg7
  let main_cst_12 : FVec F S_ .f32 := constant S_ .f32 0x7F800000#32
  let main_v37 : FVec F S1x8x128x128 .f32 := broadcastInDim S1x8x128x128 ![] bcast_S_S1x8x128x128 main_cst_12
  let main_v38 : IVec S1x8x128x128 1 := cmpf .olt main_v36 main_v37
  let main_c_13 : IVec S_ 1 := constantI S_ 1 1#1
  let main_v39 : IVec S_ 1 := (fun x v => Host.reduce IntOp.andi x v reducesTo_S1x8x128x128_S_d0_1_2_3 h_S_) main_v38 main_c_13
  let main_v40 : IVec S_ 1 := andi main_v35 main_v39
  let main_v41 : FVec F S1x8x128 .f32 := Host.absf main_arg8
  let main_cst_14 : FVec F S_ .f32 := constant S_ .f32 0x7F800000#32
  let main_v42 : FVec F S1x8x128 .f32 := broadcastInDim S1x8x128 ![] bcast_S_S1x8x128 main_cst_14
  let main_v43 : IVec S1x8x128 1 := cmpf .olt main_v41 main_v42
  let main_c_15 : IVec S_ 1 := constantI S_ 1 1#1
  let main_v44 : IVec S_ 1 := (fun x v => Host.reduce IntOp.andi x v reducesTo_S1x8x128_S_d0_1_2 h_S_) main_v43 main_c_15
  let main_v45 : IVec S_ 1 := andi main_v40 main_v44
  let main_v46 : FVec F S1x8x128x128 .f32 := Host.absf main_arg9
  let main_cst_16 : FVec F S_ .f32 := constant S_ .f32 0x7F800000#32
  let main_v47 : FVec F S1x8x128x128 .f32 := broadcastInDim S1x8x128x128 ![] bcast_S_S1x8x128x128 main_cst_16
  let main_v48 : IVec S1x8x128x128 1 := cmpf .olt main_v46 main_v47
  let main_c_17 : IVec S_ 1 := constantI S_ 1 1#1
  let main_v49 : IVec S_ 1 := (fun x v => Host.reduce IntOp.andi x v reducesTo_S1x8x128x128_S_d0_1_2_3 h_S_) main_v48 main_c_17
  let main_v50 : IVec S_ 1 := andi main_v45 main_v49
  let main_v51 : FVec F S1x8x128 .f32 := Host.absf main_arg10
  fn_part3 (F := F) main_arg11 main_arg12 main_arg13 main_v50 main_v51

def fn_part1 {F : FTy → Type} [FloatOps F] (main_arg4 : FVec F S1x1024x4624 .f32) (main_arg5 : FVec F S1x4x1024 .f32) (main_arg6 : FVec F S1x1024 .f32) (main_arg7 : FVec F S1x8x128x128 .f32) (main_arg8 : FVec F S1x8x128 .f32) (main_arg9 : FVec F S1x8x128x128 .f32) (main_arg10 : FVec F S1x8x128 .f32) (main_arg11 : FVec F S1x1024 .f32) (main_arg12 : FVec F S1x16x256 .f32) (main_arg13 : FVec F S1x256 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024x4624 .f32 := Host.absf main_arg4
  let main_cst_6 : FVec F S_ .f32 := constant S_ .f32 0x7F800000#32
  let main_v22 : FVec F S1x1024x4624 .f32 := broadcastInDim S1x1024x4624 ![] bcast_S_S1x1024x4624 main_cst_6
  let main_v23 : IVec S1x1024x4624 1 := cmpf .olt main_v21 main_v22
  let main_c_7 : IVec S_ 1 := constantI S_ 1 1#1
  let main_v24 : IVec S_ 1 := (fun x v => Host.reduce IntOp.andi x v reducesTo_S1x1024x4624_S_d0_1_2 h_S_) main_v23 main_c_7
  let main_v25 : IVec S_ 1 := andi main_v20 main_v24
  let main_v26 : FVec F S1x4x1024 .f32 := Host.absf main_arg5
  let main_cst_8 : FVec F S_ .f32 := constant S_ .f32 0x7F800000#32
  let main_v27 : FVec F S1x4x1024 .f32 := broadcastInDim S1x4x1024 ![] bcast_S_S1x4x1024 main_cst_8
  let main_v28 : IVec S1x4x1024 1 := cmpf .olt main_v26 main_v27
  let main_c_9 : IVec S_ 1 := constantI S_ 1 1#1
  let main_v29 : IVec S_ 1 := (fun x v => Host.reduce IntOp.andi x v reducesTo_S1x4x1024_S_d0_1_2 h_S_) main_v28 main_c_9
  let main_v30 : IVec S_ 1 := andi main_v25 main_v29
  let main_v31 : FVec F S1x1024 .f32 := Host.absf main_arg6
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_arg7 main_arg8 main_arg9 main_arg10 main_arg11 main_arg12 main_arg13 main_v30 main_v33 main_c_11

def fn {F : FTy → Type} [FloatOps F] (main_arg0 : FVec F S8x4096x1024 .f32) (main_arg1 : FVec F S8x512x256 .bf16) (main_arg2 : FVec F S8x256x512 .bf16) (main_arg3 : FVec F S1x1024 .f32) (main_arg4 : FVec F S1x1024x4624 .f32) (main_arg5 : FVec F S1x4x1024 .f32) (main_arg6 : FVec F S1x1024 .f32) (main_arg7 : FVec F S1x8x128x128 .f32) (main_arg8 : FVec F S1x8x128 .f32) (main_arg9 : FVec F S1x8x128x128 .f32) (main_arg10 : FVec F S1x8x128 .f32) (main_arg11 : FVec F S1x1024 .f32) (main_arg12 : FVec F S1x16x256 .f32) (main_arg13 : FVec F S1x256 .f32) (main_arg14 : FVec F S1x512 .f32) (main_arg15 : FVec F S1x2048x1024 .f32) (main_arg16 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x512x256 .f32 := (extf .f32 · bitsLt_bf16_f32) main_arg1
  let main_v5 : FVec F S8x512x256 .f32 := Host.absf main_v4
  let main_cst_0 : FVec F S_ .f32 := constant S_ .f32 0x7F800000#32
  let main_v6 : FVec F S8x512x256 .f32 := broadcastInDim S8x512x256 ![] bcast_S_S8x512x256 main_cst_0
  let main_v7 : IVec S8x512x256 1 := cmpf .olt main_v5 main_v6
  let main_c_1 : IVec S_ 1 := constantI S_ 1 1#1
  let main_v8 : IVec S_ 1 := (fun x v => Host.reduce IntOp.andi x v reducesTo_S8x512x256_S_d0_1_2 h_S_) main_v7 main_c_1
  let main_v9 : IVec S_ 1 := andi main_v3 main_v8
  let main_v10 : FVec F S8x256x512 .f32 := (extf .f32 · bitsLt_bf16_f32) main_arg2
  let main_v11 : FVec F S8x256x512 .f32 := Host.absf main_v10
  let main_cst_2 : FVec F S_ .f32 := constant S_ .f32 0x7F800000#32
  let main_v12 : FVec F S8x256x512 .f32 := broadcastInDim S8x256x512 ![] bcast_S_S8x256x512 main_cst_2
  let main_v13 : IVec S8x256x512 1 := cmpf .olt main_v11 main_v12
  let main_c_3 : IVec S_ 1 := constantI S_ 1 1#1
  let main_v14 : IVec S_ 1 := (fun x v => Host.reduce IntOp.andi x v reducesTo_S8x256x512_S_d0_1_2 h_S_) main_v13 main_c_3
  let main_v15 : IVec S_ 1 := andi main_v9 main_v14
  let main_v16 : FVec F S1x1024 .f32 := Host.absf main_arg3
  let main_cst_4 : FVec F S_ .f32 := constant S_ .f32 0x7F800000#32
  fn_part1 (F := F) main_arg4 main_arg5 main_arg6 main_arg7 main_arg8 main_arg9 main_arg10 main_arg11 main_arg12 main_arg13 main_v15 main_v16 main_cst_4
-- ==== Kernel.lean ====
abbrev S8x4096x1024 : Shape := ⟨3, ![8, 4096, 1024]⟩
abbrev S8x512x256 : Shape := ⟨3, ![8, 512, 256]⟩
abbrev S8x256x512 : Shape := ⟨3, ![8, 256, 512]⟩
abbrev S1x1024 : Shape := ⟨2, ![1, 1024]⟩
abbrev S1x1024x4624 : Shape := ⟨3, ![1, 1024, 4624]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x16x256 : Shape := ⟨3, ![1, 16, 256]⟩
abbrev S1x256 : Shape := ⟨2, ![1, 256]⟩
abbrev S1x512 : Shape := ⟨2, ![1, 512]⟩
abbrev S1x2048x1024 : Shape := ⟨3, ![1, 2048, 1024]⟩
abbrev S1024 : Shape := ⟨1, ![1024]⟩
abbrev S1024x4624 : Shape := ⟨2, ![1024, 4624]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S1024x2048 : Shape := ⟨2, ![1024, 2048]⟩
abbrev S1024x3712 : Shape := ⟨2, ![1024, 3712]⟩
abbrev S8x128x128 : Shape := ⟨3, ![8, 128, 128]⟩
abbrev S8x128x256 : Shape := ⟨3, ![8, 128, 256]⟩
abbrev S16x256 : Shape := ⟨2, ![16, 256]⟩
abbrev S128x256 : Shape := ⟨2, ![128, 256]⟩
abbrev S8x128 : Shape := ⟨2, ![8, 128]⟩
abbrev S4x1024 : Shape := ⟨2, ![4, 1024]⟩
abbrev S256 : Shape := ⟨1, ![256]⟩
abbrev S512 : Shape := ⟨1, ![512]⟩
abbrev S2048x1024 : Shape := ⟨2, ![2048, 1024]⟩
abbrev S1x512x1024 : Shape := ⟨3, ![1, 512, 1024]⟩
abbrev S1x512x256 : Shape := ⟨3, ![1, 512, 256]⟩
abbrev S1x256x512 : Shape := ⟨3, ![1, 256, 512]⟩
abbrev S512x1024 : Shape := ⟨2, ![512, 1024]⟩
abbrev S520x1024 : Shape := ⟨2, ![520, 1024]⟩
abbrev S512x3712 : Shape := ⟨2, ![512, 3712]⟩
abbrev S512x2048 : Shape := ⟨2, ![512, 2048]⟩
abbrev S8x1024 : Shape := ⟨2, ![8, 1024]⟩
abbrev S512x256 : Shape := ⟨2, ![512, 256]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S40x1024 : Shape := ⟨2, ![40, 1024]⟩
abbrev S512x128 : Shape := ⟨2, ![512, 128]⟩
abbrev S1x128x256 : Shape := ⟨3, ![1, 128, 256]⟩
abbrev S8x2048 : Shape := ⟨2, ![8, 2048]⟩
abbrev S1x128 : Shape := ⟨2, ![1, 128]⟩
abbrev S64x64 : Shape := ⟨2, ![64, 64]⟩
abbrev S64x256 : Shape := ⟨2, ![64, 256]⟩
abbrev S256x256 : Shape := ⟨2, ![256, 256]⟩
abbrev S256x512 : Shape := ⟨2, ![256, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩
abbrev S128x128 : Shape := ⟨2, ![128, 128]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S128x512 : Shape := ⟨2, ![128, 512]⟩
abbrev S32x2048 : Shape := ⟨2, ![32, 2048]⟩

abbrev nBuf : Space → Nat
  | .hbm => 57
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x512x256, .bf16⟩
  | .hbm, ⟨2, _⟩ => ⟨S8x256x512, .bf16⟩
  | .hbm, ⟨3, _⟩ => ⟨S1x1024, .f32⟩
  | .hbm, ⟨4, _⟩ => ⟨S1x1024x4624, .f32⟩
  | .hbm, ⟨5, _⟩ => ⟨S1x4x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S1x8x128x128, .f32⟩
  | .hbm, ⟨10, _⟩ => ⟨S1x8x128, .f32⟩
  | .hbm, ⟨11, _⟩ => ⟨S1x1024, .f32⟩
  | .hbm, ⟨12, _⟩ => ⟨S1x16x256, .f32⟩
  | .hbm, ⟨13, _⟩ => ⟨S1x256, .f32⟩
  | .hbm, ⟨14, _⟩ => ⟨S1x512, .f32⟩
  | .hbm, ⟨15, _⟩ => ⟨S1x2048x1024, .f32⟩
  | .hbm, ⟨16, _⟩ => ⟨S1024, .f32⟩
  | .hbm, ⟨17, _⟩ => ⟨S1024x4624, .f32⟩
  | .hbm, ⟨18, _⟩ => ⟨S1024x1024, .f32⟩
  | .hbm, ⟨19, _⟩ => ⟨S1024x1024, .bf16⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x1024, .f32⟩
  | .hbm, ⟨25, _⟩ => ⟨S1024x512, .f32⟩
  | .hbm, ⟨26, _⟩ => ⟨S1024x2048, .f32⟩
  | .hbm, ⟨27, _⟩ => ⟨S1024x3712, .f32⟩
  | .hbm, ⟨28, _⟩ => ⟨S1024x3712, .bf16⟩
  | .hbm, ⟨29, _⟩ => ⟨S8x128x128, .f32⟩
  | .hbm, ⟨30, _⟩ => ⟨S8x128x128, .f32⟩
  | .hbm, ⟨31, _⟩ => ⟨S8x128x256, .f32⟩
  | .hbm, ⟨32, _⟩ => ⟨S8x128x256, .bf16⟩
  | .hbm, ⟨33, _⟩ => ⟨S16x256, .f32⟩
  | .hbm, ⟨34, _⟩ => ⟨S_, .i32⟩
  | .hbm, ⟨35, _⟩ => ⟨S_, .f32⟩
  | .hbm, ⟨36, _⟩ => ⟨S128x256, .f32⟩
  | .hbm, ⟨37, _⟩ => ⟨S128x256, .bf16⟩
  | .hbm, ⟨38, _⟩ => ⟨S8x128, .f32⟩
  | .hbm, ⟨39, _⟩ => ⟨S1x1024, .f32⟩
  | .hbm, ⟨40, _⟩ => ⟨S8x128, .f32⟩
  | .hbm, ⟨41, _⟩ => ⟨S1x1024, .f32⟩
  | .hbm, ⟨42, _⟩ => ⟨S4x1024, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S256, .f32⟩
  | .hbm, ⟨48, _⟩ => ⟨S1x256, .f32⟩
  | .hbm, ⟨49, _⟩ => ⟨S512, .f32⟩
  | .hbm, ⟨50, _⟩ => ⟨S1x512, .f32⟩
  | .hbm, ⟨51, _⟩ => ⟨S2048x1024, .f32⟩
  | .hbm, ⟨52, _⟩ => ⟨S2048x1024, .bf16⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x3712, .bf16⟩
  | .local _ .vmem, ⟨4, _⟩ => ⟨S8x128x256, .bf16⟩
  | .local _ .vmem, ⟨5, _⟩ => ⟨S1x1024, .f32⟩
  | .local _ .vmem, ⟨6, _⟩ => ⟨S1x1024, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S128x256, .bf16⟩
  | .local _ .vmem, ⟨11, _⟩ => ⟨S1x256, .f32⟩
  | .local _ .vmem, ⟨12, _⟩ => ⟨S1x512, .f32⟩
  | .local _ .vmem, ⟨13, _⟩ => ⟨S1x512x256, .bf16⟩
  | .local _ .vmem, ⟨14, _⟩ => ⟨S1x512x256, .bf16⟩
  | .local _ .vmem, ⟨15, _⟩ => ⟨S1x256x512, .bf16⟩
  | .local _ .vmem, ⟨16, _⟩ => ⟨S1x256x512, .bf16⟩
  | .local _ .vmem, ⟨17, _⟩ => ⟨S2048x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x1024, .bf16⟩
  | .local _ .vmem, ⟨23, _⟩ => ⟨S520x1024, .f32⟩
  | .local _ .vmem, ⟨24, _⟩ => ⟨S512x3712, .f32⟩
  | .local _ .vmem, ⟨25, _⟩ => ⟨S512x1024, .bf16⟩
  | .local _ .vmem, ⟨26, _⟩ => ⟨S512x2048, .f32⟩
  | .local _ .vmem, ⟨27, _⟩ => ⟨S512x2048, .f32⟩
  | .local _ .vmem, ⟨28, _⟩ => ⟨S512x2048, .bf16⟩
  | .local _ .vmem, ⟨29, _⟩ => ⟨S8x1024, .f32⟩
  | .local _ .vmem, ⟨30, _⟩ => ⟨S1x1024, .f32⟩
  | .local _ .vmem, ⟨31, _⟩ => ⟨S512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_call1_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg30 : BitVec 32 := Scf.iv c0_i32_2 c1_i32 k0_t1
  let c32_i32 : BitVec 32 := 32#32
  let v298 : BitVec 32 := Scalar.muli arg30 c32_i32
  v298
def k0_off1 (k0_t1 : Fin k0_t1_loop.trips) : Fin 3 → Nat :=
  let c0_168 : Index := 0#32
  let c0_i32_2 : BitVec 32 := 0#32
  let c1_i32 : BitVec 32 := 1#32
  let arg30 : BitVec 32 := Scf.iv c0_i32_2 c1_i32 k0_t1
  let c32_i32 : BitVec 32 := 32#32
  let v298 : BitVec 32 := Scalar.muli arg30 c32_i32
  let v299 : BitVec 32 := v298
  let v300 : Index := Scalar.indexCast v299
  let c0_169 : Index := 0#32
  ![0, v300.toNat, 0]
def k0_off2 (k0_t1 : Fin k0_t1_loop.trips) : Fin 2 → Nat :=
  let c0_i32_2 : BitVec 32 := 0#32
  let c1_i32 : BitVec 32 := 1#32
  let arg30 : BitVec 32 := Scf.iv c0_i32_2 c1_i32 k0_t1
  let c32_i32 : BitVec 32 := 32#32
  let v298 : BitVec 32 := Scalar.muli arg30 c32_i32
  let v299 : BitVec 32 := v298
  let v316 : Index := Scalar.indexCast v299
  let c0_173 : Index := 0#32
  ![v316.toNat, 0]
@[reducible] def k0_t2_loop : Scf.Loop 32 :=
  let c0_i32_23 : BitVec 32 := 0#32
  let c16_i32_24 : BitVec 32 := 16#32
  let v28 : BitVec 32 := Scalar.addi c0_i32_23 c16_i32_24
  let c1_i32_25 : BitVec 32 := 1#32
  ⟨c0_i32_23, v28, c1_i32_25⟩
def k0_mult2 (k0_t2 : Fin k0_t2_loop.trips) : BitVec 32 :=
  let c15_i32 : BitVec 32 := 15#32
  let c0_i32_23 : BitVec 32 := 0#32
  let c1_i32_25 : BitVec 32 := 1#32
  let arg30 : BitVec 32 := Scf.iv c0_i32_23 c1_i32_25 k0_t2
  let v298 : BitVec 32 := Scalar.subi c15_i32 arg30
  let c32_i32 : BitVec 32 := 32#32
  let v299 : BitVec 32 := Scalar.muli v298 c32_i32
  v299
def k0_off3 (k0_t2 : Fin k0_t2_loop.trips) : Fin 2 → Nat :=
  let c15_i32 : BitVec 32 := 15#32
  let c0_i32_23 : BitVec 32 := 0#32
  let c1_i32_25 : BitVec 32 := 1#32
  let arg30 : BitVec 32 := Scf.iv c0_i32_23 c1_i32_25 k0_t2
  let v298 : BitVec 32 := Scalar.subi c15_i32 arg30
  let c32_i32 : BitVec 32 := 32#32
  let v299 : BitVec 32 := Scalar.muli v298 c32_i32
  let v300 : BitVec 32 := v299
  let v301 : Index := Scalar.indexCast v300
  let c0_168 : Index := 0#32
  ![v301.toNat, 0]
def k0_off4 (k0_t2 : Fin k0_t2_loop.trips) : Fin 2 → Nat :=
  let c8_i32_169 : BitVec 32 := 8#32
  let c15_i32 : BitVec 32 := 15#32
  let c0_i32_23 : BitVec 32 := 0#32
  let c1_i32_25 : BitVec 32 := 1#32
  let arg30 : BitVec 32 := Scf.iv c0_i32_23 c1_i32_25 k0_t2
  let v298 : BitVec 32 := Scalar.subi c15_i32 arg30
  let c32_i32 : BitVec 32 := 32#32
  let v299 : BitVec 32 := Scalar.muli v298 c32_i32
  let v300 : BitVec 32 := v299
  let v324 : BitVec 32 := Scalar.addi c8_i32_169 v300
  let v325 : Index := Scalar.indexCast v324
  let c0_170 : Index := 0#32
  ![v325.toNat, 0]
def k0_off5 (k0_t2 : Fin k0_t2_loop.trips) : Fin 2 → Nat :=
  let c15_i32 : BitVec 32 := 15#32
  let c0_i32_23 : BitVec 32 := 0#32
  let c1_i32_25 : BitVec 32 := 1#32
  let arg30 : BitVec 32 := Scf.iv c0_i32_23 c1_i32_25 k0_t2
  let v298 : BitVec 32 := Scalar.subi c15_i32 arg30
  let c32_i32 : BitVec 32 := 32#32
  let v299 : BitVec 32 := Scalar.muli v298 c32_i32
  let v300 : BitVec 32 := v299
  let v330 : Index := Scalar.indexCast v300
  let c0_171 : Index := 0#32
  ![v330.toNat, 0]
@[reducible] def k0_t3_loop : Scf.Loop 32 :=
  let c0_i32_90 : BitVec 32 := 0#32
  let c64_i32 : BitVec 32 := 64#32
  let v109 : BitVec 32 := Scalar.addi c0_i32_90 c64_i32
  let c1_i32_91 : BitVec 32 := 1#32
  ⟨c0_i32_90, v109, c1_i32_91⟩
def k0_mult3 (k0_t3 : Fin k0_t3_loop.trips) : BitVec 32 :=
  let c0_i32_90 : BitVec 32 := 0#32
  let c1_i32_91 : BitVec 32 := 1#32
  let arg30 : BitVec 32 := Scf.iv c0_i32_90 c1_i32_91 k0_t3
  let c8_i32_168 : BitVec 32 := 8#32
  let v298 : BitVec 32 := Scalar.muli arg30 c8_i32_168
  v298
def k0_off6 (k0_t3 : Fin k0_t3_loop.trips) : Fin 2 → Nat :=
  let c0_i32_90 : BitVec 32 := 0#32
  let c1_i32_91 : BitVec 32 := 1#32
  let arg30 : BitVec 32 := Scf.iv c0_i32_90 c1_i32_91 k0_t3
  let c8_i32_168 : BitVec 32 := 8#32
  let v298 : BitVec 32 := Scalar.muli arg30 c8_i32_168
  let v299 : BitVec 32 := v298
  let v300 : Index := Scalar.indexCast v299
  let c0_169 : Index := 0#32
  ![v300.toNat, 0]
def k0_off7 (k0_t3 : Fin k0_t3_loop.trips) : Fin 2 → Nat :=
  let c8_i32_170 : BitVec 32 := 8#32
  let c0_i32_90 : BitVec 32 := 0#32
  let c1_i32_91 : BitVec 32 := 1#32
  let arg30 : BitVec 32 := Scf.iv c0_i32_90 c1_i32_91 k0_t3
  let c8_i32_168 : BitVec 32 := 8#32
  let v298 : BitVec 32 := Scalar.muli arg30 c8_i32_168
  let v299 : BitVec 32 := v298
  let v302 : BitVec 32 := Scalar.addi c8_i32_170 v299
  let v303 : Index := Scalar.indexCast v302
  let c0_171 : Index := 0#32
  ![v303.toNat, 0]
def k0_off8 (k0_t3 : Fin k0_t3_loop.trips) : Fin 2 → Nat :=
  let c0_i32_90 : BitVec 32 := 0#32
  let c1_i32_91 : BitVec 32 := 1#32
  let arg30 : BitVec 32 := Scf.iv c0_i32_90 c1_i32_91 k0_t3
  let c8_i32_168 : BitVec 32 := 8#32
  let v298 : BitVec 32 := Scalar.muli arg30 c8_i32_168
  let v299 : BitVec 32 := v298
  let v858 : Index := Scalar.indexCast v299
  let c0_307 : Index := 0#32
  ![v858.toNat, 0]
@[reducible] def k0_t4_loop : Scf.Loop 32 :=
  let c0_i32_144 : BitVec 32 := 0#32
  let c8_i32 : BitVec 32 := 8#32
  let v285 : BitVec 32 := Scalar.addi c0_i32_144 c8_i32
  let c1_i32_145 : BitVec 32 := 1#32
  ⟨c0_i32_144, v285, c1_i32_145⟩
def k0_mult4 (k0_t4 : Fin k0_t4_loop.trips) : BitVec 32 :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  v298
def k0_off9 (k0_t4 : Fin k0_t4_loop.trips) : Fin 2 → Nat :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  let v299 : BitVec 32 := v298
  let v300 : Index := Scalar.indexCast v299
  let c0_169 : Index := 0#32
  ![v300.toNat, 0]
def k0_off10 (k0_t4 : Fin k0_t4_loop.trips) : Fin 2 → Nat :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  let v299 : BitVec 32 := v298
  let v302 : Index := Scalar.indexCast v299
  let c256_170 : Index := 256#32
  ![v302.toNat, 256]
def k0_off11 (k0_t4 : Fin k0_t4_loop.trips) : Fin 2 → Nat :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  let v299 : BitVec 32 := v298
  let v304 : Index := Scalar.indexCast v299
  let c512_171 : Index := 512#32
  ![v304.toNat, 512]
def k0_off12 (k0_t4 : Fin k0_t4_loop.trips) : Fin 2 → Nat :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  let v299 : BitVec 32 := v298
  let v307 : Index := Scalar.indexCast v299
  let c3584 : Index := 3584#32
  ![v307.toNat, 3584]
def k0_off13 (k0_t4 : Fin k0_t4_loop.trips) : Fin 2 → Nat :=
  let c0_i32_144 : BitVec 32 := 0#32
  let c1_i32_145 : BitVec 32 := 1#32
  let arg30 : BitVec 32 := Scf.iv c0_i32_144 c1_i32_145 k0_t4
  let c64_i32_168 : BitVec 32 := 64#32
  let v298 : BitVec 32 := Scalar.muli arg30 c64_i32_168
  let v299 : BitVec 32 := v298
  let v434 : Index := Scalar.indexCast v299
  let c1024_206 : Index := 1024#32
  ![v434.toNat, 1024]
@[reducible] def k0_t5_loop : Scf.Loop 32 :=
  let c0_i32_147 : BitVec 32 := 0#32
  let c4_i32 : BitVec 32 := 4#32
  let v286 : BitVec 32 := Scalar.addi c0_i32_147 c4_i32
  let c1_i32_148 : BitVec 32 := 1#32
  ⟨c0_i32_147, v286, c1_i32_148⟩
def k0_mult5 (k0_t5 : Fin k0_t5_loop.trips) : BitVec 32 :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  v298
def k0_off14 (k0_t5 : Fin k0_t5_loop.trips) : Fin 2 → Nat :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  let v299 : BitVec 32 := v298
  let v300 : Index := Scalar.indexCast v299
  let c1024_169 : Index := 1024#32
  ![v300.toNat, 1024]
def k0_off15 (k0_t5 : Fin k0_t5_loop.trips) : Fin 2 → Nat :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  let v299 : BitVec 32 := v298
  let v323 : Index := Scalar.indexCast v299
  let c1152 : Index := 1152#32
  ![v323.toNat, 1152]
def k0_off16 (k0_t5 : Fin k0_t5_loop.trips) : Fin 2 → Nat :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  let v299 : BitVec 32 := v298
  let v346 : Index := Scalar.indexCast v299
  let c1280_194 : Index := 1280#32
  ![v346.toNat, 1280]
def k0_off17 (k0_t5 : Fin k0_t5_loop.trips) : Fin 2 → Nat :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  let v299 : BitVec 32 := v298
  let v369 : Index := Scalar.indexCast v299
  let c1408 : Index := 1408#32
  ![v369.toNat, 1408]
def k0_off18 (k0_t5 : Fin k0_t5_loop.trips) : Fin 2 → Nat :=
  let c0_i32_147 : BitVec 32 := 0#32
  let c1_i32_148 : BitVec 32 := 1#32
  let arg30 : BitVec 32 := Scf.iv c0_i32_147 c1_i32_148 k0_t5
  let c128_i32_168 : BitVec 32 := 128#32
  let v298 : BitVec 32 := Scalar.muli arg30 c128_i32_168
  let v299 : BitVec 32 := v298
  let v393 : Index := Scalar.indexCast v299
  let c1536_219 : Index := 1536#32
  ![v393.toNat, 1536]
@[reducible] def k0_t6_loop : Scf.Loop 32 :=
  let c0_i32_150 : BitVec 32 := 0#32
  let c16_i32_151 : BitVec 32 := 16#32
  let v287 : BitVec 32 := Scalar.addi c0_i32_150 c16_i32_151
  let c1_i32_152 : BitVec 32 := 1#32
  ⟨c0_i32_150, v287, c1_i32_152⟩
def k0_mult6 (k0_t6 : Fin k0_t6_loop.trips) : BitVec 32 :=
  let c0_i32_150 : BitVec 32 := 0#32
  let c1_i32_152 : BitVec 32 := 1#32
  let arg30 : BitVec 32 := Scf.iv c0_i32_150 c1_i32_152 k0_t6
  let c32_i32 : BitVec 32 := 32#32
  let v298 : BitVec 32 := Scalar.muli arg30 c32_i32
  v298
def k0_off19 (k0_t6 : Fin k0_t6_loop.trips) : Fin 2 → Nat :=
  let c0_i32_150 : BitVec 32 := 0#32
  let c1_i32_152 : BitVec 32 := 1#32
  let arg30 : BitVec 32 := Scf.iv c0_i32_150 c1_i32_152 k0_t6
  let c32_i32 : BitVec 32 := 32#32
  let v298 : BitVec 32 := Scalar.muli arg30 c32_i32
  let v299 : BitVec 32 := v298
  let v300 : Index := Scalar.indexCast v299
  let c1536_168 : Index := 1536#32
  ![v300.toNat, 1536]
def k0_off20 (k0_t6 : Fin k0_t6_loop.trips) : Fin 2 → Nat :=
  let c0_i32_150 : BitVec 32 := 0#32
  let c1_i32_152 : BitVec 32 := 1#32
  let arg30 : BitVec 32 := Scf.iv c0_i32_150 c1_i32_152 k0_t6
  let c32_i32 : BitVec 32 := 32#32
  let v298 : BitVec 32 := Scalar.muli arg30 c32_i32
  let v299 : BitVec 32 := v298
  let v307 : Index := Scalar.indexCast v299
  let c0_170 : Index := 0#32
  ![v307.toNat, 0]
@[reducible] def k0_t7_loop : Scf.Loop 32 :=
  let c0_i32_164 : BitVec 32 := 0#32
  let c16_i32_165 : BitVec 32 := 16#32
  let v297 : BitVec 32 := Scalar.addi c0_i32_164 c16_i32_165
  let c1_i32_166 : BitVec 32 := 1#32
  ⟨c0_i32_164, v297, c1_i32_166⟩
def k0_mult7 (k0_t7 : Fin k0_t7_loop.trips) : BitVec 32 :=
  let c0_i32_164 : BitVec 32 := 0#32
  let c1_i32_166 : BitVec 32 := 1#32
  let arg30 : BitVec 32 := Scf.iv c0_i32_164 c1_i32_166 k0_t7
  let c32_i32 : BitVec 32 := 32#32
  let v298 : BitVec 32 := Scalar.muli arg30 c32_i32
  v298
def k0_off21 (k0_t7 : Fin k0_t7_loop.trips) : Fin 3 → Nat :=
  let c0_168 : Index := 0#32
  let c0_i32_164 : BitVec 32 := 0#32
  let c1_i32_166 : BitVec 32 := 1#32
  let arg30 : BitVec 32 := Scf.iv c0_i32_164 c1_i32_166 k0_t7
  let c32_i32 : BitVec 32 := 32#32
  let v298 : BitVec 32 := Scalar.muli arg30 c32_i32
  let v299 : BitVec 32 := v298
  let v300 : Index := Scalar.indexCast v299
  let c0_169 : Index := 0#32
  ![0, v300.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x4096x1024 : Shape := ⟨3, ![8, 4096, 1024]⟩
abbrev S8x512x256 : Shape := ⟨3, ![8, 512, 256]⟩
abbrev S8x256x512 : Shape := ⟨3, ![8, 256, 512]⟩
abbrev S1x1024 : Shape := ⟨2, ![1, 1024]⟩
abbrev S1x1024x4624 : Shape := ⟨3, ![1, 1024, 4624]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x16x256 : Shape := ⟨3, ![1, 16, 256]⟩
abbrev S1x256 : Shape := ⟨2, ![1, 256]⟩
abbrev S1x512 : Shape := ⟨2, ![1, 512]⟩
abbrev S1x2048x1024 : Shape := ⟨3, ![1, 2048, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4624 : Shape := ⟨2, ![1024, 4624]⟩
abbrev S8x4096x4624 : Shape := ⟨3, ![8, 4096, 4624]⟩
abbrev S8x4096x256 : Shape := ⟨3, ![8, 4096, 256]⟩
abbrev S8x4096x512 : Shape := ⟨3, ![8, 4096, 512]⟩
abbrev S8x4096x16 : Shape := ⟨3, ![8, 4096, 16]⟩
abbrev S8x4096x2048 : Shape := ⟨3, ![8, 4096, 2048]⟩
abbrev S8x3x1024 : Shape := ⟨3, ![8, 3, 1024]⟩
abbrev S8x4099x1024 : Shape := ⟨3, ![8, 4099, 1024]⟩
abbrev S4x1024 : Shape := ⟨2, ![4, 1024]⟩
abbrev S8x4096x8x128 : Shape := ⟨4, ![8, 4096, 8, 128]⟩
abbrev S8x128x128 : Shape := ⟨3, ![8, 128, 128]⟩
abbrev S8x128x8x4096 : Shape := ⟨4, ![8, 128, 8, 4096]⟩
abbrev S8x128 : Shape := ⟨2, ![8, 128]⟩
abbrev S1x1x8x128 : Shape := ⟨4, ![1, 1, 8, 128]⟩
abbrev S4096x4096 : Shape := ⟨2, ![4096, 4096]⟩
abbrev S8x1024x4096 : Shape := ⟨3, ![8, 1024, 4096]⟩
abbrev S8x64x64x4x64 : Shape := ⟨5, ![8, 64, 64, 4, 64]⟩
abbrev S8x64x64x4x128 : Shape := ⟨5, ![8, 64, 64, 4, 128]⟩
abbrev S16x256 : Shape := ⟨2, ![16, 256]⟩
abbrev S256 : Shape := ⟨1, ![256]⟩
abbrev S1x1x256 : Shape := ⟨3, ![1, 1, 256]⟩
abbrev S64x64 : Shape := ⟨2, ![64, 64]⟩
abbrev S8x64x4x64x64 : Shape := ⟨5, ![8, 64, 4, 64, 64]⟩
abbrev S8x64x1x4x64 : Shape := ⟨5, ![8, 64, 1, 4, 64]⟩
abbrev S8x64x4x128x64 : Shape := ⟨5, ![8, 64, 4, 128, 64]⟩
abbrev S8x64x4x64x128 : Shape := ⟨5, ![8, 64, 4, 64, 128]⟩
abbrev S8x64x4x64 : Shape := ⟨4, ![8, 64, 4, 64]⟩
abbrev S8x4x64x64 : Shape := ⟨4, ![8, 4, 64, 64]⟩
abbrev S8x64x4x64x1 : Shape := ⟨5, ![8, 64, 4, 64, 1]⟩
abbrev S8x4x64x128x64 : Shape := ⟨5, ![8, 4, 64, 128, 64]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S512 : Shape := ⟨1, ![512]⟩
abbrev S4x128 : Shape := ⟨2, ![4, 128]⟩
abbrev S1x1x4x128 : Shape := ⟨4, ![1, 1, 4, 128]⟩
abbrev S8x4x128x256 : Shape := ⟨4, ![8, 4, 128, 256]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S2048x1024 : Shape := ⟨2, ![2048, 1024]⟩

abbrev nBuf : Space → Nat
  | .hbm => 342
  | .vmem => 0
  | .smem => 0
  | _ => 0

abbrev hbmTy0_0 (i : Nat) : BufTy := match i % 128 with
  | 0 => ⟨S8x4096x1024, .f32⟩
  | 1 => ⟨S8x512x256, .bf16⟩
  | 2 => ⟨S8x256x512, .bf16⟩
  | 3 => ⟨S1x1024, .f32⟩
  | 4 => ⟨S1x1024x4624, .f32⟩
  | 5 => ⟨S1x4x1024, .f32⟩
  | 6 => ⟨S1x1024, .f32⟩
  | 7 => ⟨S1x8x128x128, .f32⟩
  | 8 => ⟨S1x8x128, .f32⟩
  | 9 => ⟨S1x8x128x128, .f32⟩
  | 10 => ⟨S1x8x128, .f32⟩
  | 11 => ⟨S1x1024, .f32⟩
  | 12 => ⟨S1x16x256, .f32⟩
  | 13 => ⟨S1x256, .f32⟩
  | 14 => ⟨S1x512, .f32⟩
  | 15 => ⟨S1x2048x1024, .f32⟩
  | 16 => ⟨S1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S1024x4624, .f32⟩
  | 35 => ⟨S8x4096x4624, .f32⟩
  | 36 => ⟨S8x4096x1024, .f32⟩
  | 37 => ⟨S8x4096x256, .f32⟩
  | 38 => ⟨S8x4096x256, .f32⟩
  | 39 => ⟨S8x4096x512, .f32⟩
  | 40 => ⟨S8x4096x16, .f32⟩
  | 41 => ⟨S8x4096x512, .f32⟩
  | 42 => ⟨S8x4096x2048, .f32⟩
  | 43 => ⟨S_, .f32⟩
  | 44 => ⟨S8x3x1024, .f32⟩
  | 45 => ⟨S8x4099x1024, .f32⟩
  | 46 => ⟨S4x1024, .f32⟩
  | 47 => ⟨S8x4096x1024, .f32⟩
  | 48 => ⟨S1x1024, .f32⟩
  | 49 => ⟨S1024, .f32⟩
  | 50 => ⟨S1x1x1024, .f32⟩
  | 51 => ⟨S8x4096x1024, .f32⟩
  | 52 => ⟨S8x4096x1024, .f32⟩
  | 53 => ⟨S8x4096x1024, .f32⟩
  | 54 => ⟨S1x1024, .f32⟩
  | 55 => ⟨S1024, .f32⟩
  | 56 => ⟨S1x1x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S1x1024, .f32⟩
  | 62 => ⟨S1024, .f32⟩
  | 63 => ⟨S1x1x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S1x1024, .f32⟩
  | 69 => ⟨S1024, .f32⟩
  | 70 => ⟨S1x1x1024, .f32⟩
  | 71 => ⟨S8x4096x1024, .f32⟩
  | 72 => ⟨S8x4096x1024, .f32⟩
  | 73 => ⟨S8x4096x1024, .f32⟩
  | 74 => ⟨S1024, .f32⟩
  | 75 => ⟨S1x1x1024, .f32⟩
  | 76 => ⟨S8x4096x1024, .f32⟩
  | 77 => ⟨S8x4096x1024, .f32⟩
  | 78 => ⟨S8x4096x8x128, .f32⟩
  | 79 => ⟨S8x128x128, .f32⟩
  | 80 => ⟨S8x128x8x4096, .f32⟩
  | 81 => ⟨S8x4096x8x128, .f32⟩
  | 82 => ⟨S8x128, .f32⟩
  | 83 => ⟨S1x1x8x128, .f32⟩
  | 84 => ⟨S8x4096x8x128, .f32⟩
  | 85 => ⟨S8x4096x8x128, .f32⟩
  | 86 => ⟨S8x4096x8x128, .f32⟩
  | 87 => ⟨S8x4096x8x128, .f32⟩
  | 88 => ⟨S_, .f32⟩
  | 89 => ⟨S8x4096x8x128, .f32⟩
  | 90 => ⟨S8x4096x8x128, .f32⟩
  | 91 => ⟨S_, .f32⟩
  | 92 => ⟨S8x4096x8x128, .f32⟩
  | 93 => ⟨S8x4096x8x128, .f32⟩
  | 94 => ⟨S8x4096x1024, .f32⟩
  | 95 => ⟨S8x128x128, .f32⟩
  | 96 => ⟨S8x128x8x4096, .f32⟩
  | 97 => ⟨S8x4096x8x128, .f32⟩
  | 98 => ⟨S8x128, .f32⟩
  | 99 => ⟨S1x1x8x128, .f32⟩
  | 100 => ⟨S8x4096x8x128, .f32⟩
  | 101 => ⟨S8x4096x8x128, .f32⟩
  | 102 => ⟨S8x4096x8x128, .f32⟩
  | 103 => ⟨S8x4096x8x128, .f32⟩
  | 104 => ⟨S_, .f32⟩
  | 105 => ⟨S8x4096x8x128, .f32⟩
  | 106 => ⟨S8x4096x8x128, .f32⟩
  | 107 => ⟨S_, .f32⟩
  | 108 => ⟨S8x4096x8x128, .f32⟩
  | 109 => ⟨S8x4096x8x128, .f32⟩
  | 110 => ⟨S8x4096x1024, .f32⟩
  | 111 => ⟨S_, .f32⟩
  | 112 => ⟨S8x4096x1024, .f32⟩
  | 113 => ⟨S8x4096x1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S1024, .f32⟩
  | 121 => ⟨S1024, .i1⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S8x4096x1024, .f32⟩

abbrev hbmTy0_1 (i : Nat) : BufTy := match i % 128 with
  | 0 => ⟨S1024, .f32⟩
  | 1 => ⟨S1024, .f32⟩
  | 2 => ⟨S1x1x1024, .f32⟩
  | 3 => ⟨S8x4096x1024, .f32⟩
  | 4 => ⟨S8x4096x1024, .f32⟩
  | 5 => ⟨S_, .f32⟩
  | 6 => ⟨S8x4096x1024, .f32⟩
  | 7 => ⟨S8x4096x1024, .f32⟩
  | 8 => ⟨S8x4096x1024, .f32⟩
  | 9 => ⟨S8x4096x1024, .f32⟩
  | 10 => ⟨S8x4096x1024, .f32⟩
  | 11 => ⟨S8x4096x1024, .f32⟩
  | 12 => ⟨S8x4096x1024, .f32⟩
  | 13 => ⟨S_, .f32⟩
  | 14 => ⟨S4096x4096, .f32⟩
  | 15 => ⟨S4096x4096, .i32⟩
  | 16 => ⟨S_, .i32⟩
  | 17 => ⟨S4096x4096, .i32⟩
  | 18 => ⟨S4096x4096, .i32⟩
  | 19 => ⟨S4096x4096, .i32⟩
  | 20 => ⟨S4096x4096, .i1⟩
  | 21 => ⟨S_, .f32⟩
  | 22 => ⟨S4096x4096, .f32⟩
  | 23 => ⟨S4096x4096, .f32⟩
  | 24 => ⟨S8x1024x4096, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x1024x4096, .f32⟩
  | 31 => ⟨S8x4096x1024, .f32⟩
  | 32 => ⟨S8x4096x1024, .f32⟩
  | 33 => ⟨S8x64x64x4x64, .f32⟩
  | 34 => ⟨S_, .f32⟩
  | 35 => ⟨S8x64x64x4x64, .f32⟩
  | 36 => ⟨S8x64x64x4x64, .f32⟩
  | 37 => ⟨S8x64x64x4x64, .f32⟩
  | 38 => ⟨S8x64x64x4x128, .f32⟩
  | 39 => ⟨S16x256, .f32⟩
  | 40 => ⟨S8x4096x256, .f32⟩
  | 41 => ⟨S256, .f32⟩
  | 42 => ⟨S1x1x256, .f32⟩
  | 43 => ⟨S8x4096x256, .f32⟩
  | 44 => ⟨S8x4096x256, .f32⟩
  | 45 => ⟨S8x4096x256, .f32⟩
  | 46 => ⟨S_, .f32⟩
  | 47 => ⟨S8x4096x256, .f32⟩
  | 48 => ⟨S8x4096x256, .f32⟩
  | 49 => ⟨S8x4096x256, .f32⟩
  | 50 => ⟨S8x4096x256, .f32⟩
  | 51 => ⟨S8x4096x256, .i1⟩
  | 52 => ⟨S8x4096x256, .f32⟩
  | 53 => ⟨S8x4096x256, .f32⟩
  | 54 => ⟨S8x4096x256, .f32⟩
  | 55 => ⟨S8x4096x256, .f32⟩
  | 56 => ⟨S8x4096x256, .f32⟩
  | 57 => ⟨S8x4096x256, .f32⟩
  | 58 => ⟨S8x4096x256, .f32⟩
  | 59 => ⟨S8x4096x256, .f32⟩
  | 60 => ⟨S8x4096x256, .f32⟩
  | 61 => ⟨S_, .f32⟩
  | 62 => ⟨S8x4096x256, .f32⟩
  | 63 => ⟨S8x4096x256, .f32⟩
  | 64 => ⟨S8x64x64x4x64, .f32⟩
  | 65 => ⟨S_, .f32⟩
  | 66 => ⟨S64x64, .f32⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .f32⟩
  | 74 => ⟨S64x64, .f32⟩
  | 75 => ⟨S64x64, .f32⟩
  | 76 => ⟨S_, .f32⟩
  | 77 => ⟨S64x64, .f32⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i1⟩
  | 84 => ⟨S_, .f32⟩
  | 85 => ⟨S64x64, .f32⟩
  | 86 => ⟨S64x64, .f32⟩
  | 87 => ⟨S8x64x4x64x64, .f32⟩
  | 88 => ⟨S8x64x64x4x64, .f32⟩
  | 89 => ⟨S8x64x1x4x64, .f32⟩
  | 90 => ⟨S8x64x64x4x64, .f32⟩
  | 91 => ⟨S8x64x64x4x64, .f32⟩
  | 92 => ⟨S8x64x64x4x64, .f32⟩
  | 93 => ⟨S8x64x64x4x64, .f32⟩
  | 94 => ⟨S8x64x64x4x64, .f32⟩
  | 95 => ⟨S8x64x4x64x64, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S_, .f32⟩
  | 108 => ⟨S_, .f32⟩
  | 109 => ⟨S8x64x4x64x64, .i1⟩
  | 110 => ⟨S8x64x4x64x64, .f32⟩
  | 111 => ⟨S8x64x4x64x64, .f32⟩
  | 112 => ⟨S8x64x4x128x64, .f32⟩
  | 113 => ⟨S8x64x64x4x128, .f32⟩
  | 114 => ⟨S8x64x64x4x64, .f32⟩
  | 115 => ⟨S8x64x64x4x64, .f32⟩
  | 116 => ⟨S8x64x64x4x64, .f32⟩
  | 117 => ⟨S8x64x64x4x64, .f32⟩
  | 118 => ⟨S8x64x4x64x128, .f32⟩
  | 119 => ⟨S8x64x4x64, .f32⟩
  | 120 => ⟨S8x4x64x64, .f32⟩
  | 121 => ⟨S8x64x4x64, .f32⟩
  | 122 => ⟨S8x4x64x64, .f32⟩
  | 123 => ⟨S8x64x4x64, .f32⟩
  | 124 => ⟨S8x64x4x64, .f32⟩
  | 125 => ⟨S8x64x4x64x1, .f32⟩
  | 126 => ⟨S8x64x4x64, .f32⟩
  | 127 => ⟨S8x64x4x64, .f32⟩
  | _ => ⟨S8x4096x1024, .f32⟩

abbrev hbmTy0_2 (i : Nat) : BufTy := match i % 128 with
  | 0 => ⟨S8x64x4x64x1, .f32⟩
  | 1 => ⟨S8x64x4x64x128, .f32⟩
  | 2 => ⟨S8x64x4x64x128, .f32⟩
  | 3 => ⟨S8x4x64x128x64, .f32⟩
  | 4 => ⟨S8x64x4x64x128, .f32⟩
  | 5 => ⟨S8x64x4x64x128, .f32⟩
  | 6 => ⟨S8x64x4x64x128, .f32⟩
  | 7 => ⟨S8x64x4x128x64, .f32⟩
  | 8 => ⟨S8x64x64x4x128, .f32⟩
  | 9 => ⟨S8x64x64x4x128, .f32⟩
  | 10 => ⟨S8x4096x4x128, .f32⟩
  | 11 => ⟨S8x4096x4x128, .f32⟩
  | 12 => ⟨S_, .f32⟩
  | 13 => ⟨S8x4096x4, .f32⟩
  | 14 => ⟨S8x4096x4x1, .f32⟩
  | 15 => ⟨S_, .f32⟩
  | 16 => ⟨S8x4096x4x1, .f32⟩
  | 17 => ⟨S8x4096x4x1, .f32⟩
  | 18 => ⟨S_, .f32⟩
  | 19 => ⟨S8x4096x4x1, .f32⟩
  | 20 => ⟨S8x4096x4x1, .f32⟩
  | 21 => ⟨S8x4096x4x1, .f32⟩
  | 22 => ⟨S8x4096x4x128, .f32⟩
  | 23 => ⟨S8x4096x4x128, .f32⟩
  | 24 => ⟨S512, .f32⟩
  | 25 => ⟨S4x128, .f32⟩
  | 26 => ⟨S1x1x4x128, .f32⟩
  | 27 => ⟨S8x4096x4x128, .f32⟩
  | 28 => ⟨S8x4096x4x128, .f32⟩
  | 29 => ⟨S8x4096x512, .f32⟩
  | 30 => ⟨S8x4096x4x128, .f32⟩
  | 31 => ⟨S8x512x256, .f32⟩
  | 32 => ⟨S8x4x128x256, .f32⟩
  | 33 => ⟨S8x256x512, .f32⟩
  | 34 => ⟨S8x256x4x128, .f32⟩
  | 35 => ⟨S8x4x4096x256, .f32⟩
  | 36 => ⟨S_, .f32⟩
  | 37 => ⟨S8x4x4096x256, .f32⟩
  | 38 => ⟨S8x4x4096x256, .f32⟩
  | 39 => ⟨S_, .f32⟩
  | 40 => ⟨S8x4x4096, .f32⟩
  | 41 => ⟨S_, .f32⟩
  | 42 => ⟨S8x4x4096, .f32⟩
  | 43 => ⟨S8x4x4096, .f32⟩
  | 44 => ⟨S8x4x4096x1, .f32⟩
  | 45 => ⟨S8x4x4096x256, .f32⟩
  | 46 => ⟨S8x4x4096x256, .f32⟩
  | 47 => ⟨S8x4x4096x256, .f32⟩
  | 48 => ⟨S_, .f32⟩
  | 49 => ⟨S8x4x4096, .f32⟩
  | 50 => ⟨S8x4x4096x1, .f32⟩
  | 51 => ⟨S8x4x4096x256, .f32⟩
  | 52 => ⟨S8x4x4096x256, .f32⟩
  | 53 => ⟨S8x4x128x4096, .f32⟩
  | 54 => ⟨S8x4096x4x128, .f32⟩
  | 55 => ⟨S8x4096x512, .f32⟩
  | 56 => ⟨S8x4096x2048, .f32⟩
  | 57 => ⟨S8x4096x2048, .f32⟩
  | 58 => ⟨S8x4096x2048, .f32⟩
  | 59 => ⟨S_, .f32⟩
  | 60 => ⟨S8x4096x2048, .f32⟩
  | 61 => ⟨S8x4096x2048, .f32⟩
  | 62 => ⟨S_, .f32⟩
  | 63 => ⟨S8x4096x2048, .f32⟩
  | 64 => ⟨S8x4096x2048, .f32⟩
  | 65 => ⟨S8x4096x2048, .f32⟩
  | 66 => ⟨S8x4096x2048, .f32⟩
  | 67 => ⟨S2048x1024, .f32⟩
  | 68 => ⟨S8x4096x1024, .f32⟩
  | 69 => ⟨S8x4096x1024, .f32⟩
  | 70 => ⟨S8x4096x1024, .f32⟩
  | 71 => ⟨S_, .f32⟩
  | 72 => ⟨S8x4096, .f32⟩
  | 73 => ⟨S8x4096x1, .f32⟩
  | 74 => ⟨S_, .f32⟩
  | 75 => ⟨S8x4096x1, .f32⟩
  | 76 => ⟨S8x4096x1, .f32⟩
  | 77 => ⟨S_, .f32⟩
  | 78 => ⟨S8x4096x1, .f32⟩
  | 79 => ⟨S8x4096x1, .f32⟩
  | 80 => ⟨S8x4096x1, .f32⟩
  | 81 => ⟨S8x4096x1024, .f32⟩
  | 82 => ⟨S8x4096x1024, .f32⟩
  | 83 => ⟨S1x1x1024, .f32⟩
  | 84 => ⟨S8x4096x1024, .f32⟩
  | 85 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_3 : Ref sig .tc := ⟨.hbm, 88, rfl⟩
abbrev main_v67 : Ref sig .tc := ⟨.hbm, 89, rfl⟩
abbrev main_v68 : Ref sig .tc := ⟨.hbm, 90, rfl⟩
abbrev main_cst_4 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_5 : Ref sig .tc := ⟨.hbm, 104, rfl⟩
abbrev main_v81 : Ref sig .tc := ⟨.hbm, 105, rfl⟩
abbrev main_v82 : Ref sig .tc := ⟨.hbm, 106, rfl⟩
abbrev main_cst_6 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_7 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call0_cst : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_v5 : Ref sig .tc := ⟨.hbm, 122, rfl⟩
abbrev main_call0_v6 : Ref sig .tc := ⟨.hbm, 123, rfl⟩
abbrev main_call0_v7 : Ref sig .tc := ⟨.hbm, 124, rfl⟩
abbrev main_call0_v8 : Ref sig .tc := ⟨.hbm, 125, rfl⟩
abbrev main_call0_v9 : Ref sig .tc := ⟨.hbm, 126, rfl⟩
abbrev main_call0_v10 : Ref sig .tc := ⟨.hbm, 127, rfl⟩
abbrev main_call0_v11 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_8 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_9 : Ref sig .tc := ⟨.hbm, 141, rfl⟩
abbrev main_v101 : Ref sig .tc := ⟨.hbm, 142, rfl⟩
abbrev main_call1_v0 : Ref sig .tc := ⟨.hbm, 143, rfl⟩
abbrev main_call1_c : Ref sig .tc := ⟨.hbm, 144, rfl⟩
abbrev main_call1_v1 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_call1_cst : Ref sig .tc := ⟨.hbm, 149, rfl⟩
abbrev main_call1_v5 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_10 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_call2_v0 : Ref sig .tc := ⟨.hbm, 173, rfl⟩
abbrev main_call2_call0_cst : Ref sig .tc := ⟨.hbm, 174, rfl⟩
abbrev main_call2_call0_v0 : Ref sig .tc := ⟨.hbm, 175, rfl⟩
abbrev main_call2_call0_v1 : Ref sig .tc := ⟨.hbm, 176, rfl⟩
abbrev main_call2_call0_v2 : Ref sig .tc := ⟨.hbm, 177, rfl⟩
abbrev main_call2_call0_v3 : Ref sig .tc := ⟨.hbm, 178, rfl⟩
abbrev main_call2_call0_v4 : Ref sig .tc := ⟨.hbm, 179, rfl⟩
abbrev main_call2_call0_v5 : Ref sig .tc := ⟨.hbm, 180, rfl⟩
abbrev main_call2_call0_v6 : Ref sig .tc := ⟨.hbm, 181, rfl⟩
abbrev main_call2_call0_v7 : Ref sig .tc := ⟨.hbm, 182, rfl⟩
abbrev main_call2_call0_v8 : Ref sig .tc := ⟨.hbm, 183, rfl⟩
abbrev main_call2_call0_v9 : Ref sig .tc := ⟨.hbm, 184, rfl⟩
abbrev main_call2_call0_v10 : Ref sig .tc := ⟨.hbm, 185, rfl⟩
abbrev main_call2_call0_v11 : Ref sig .tc := ⟨.hbm, 186, rfl⟩
abbrev main_call2_v1 : Ref sig .tc := ⟨.hbm, 187, rfl⟩
abbrev main_v123 : Ref sig .tc := ⟨.hbm, 188, rfl⟩
abbrev main_cst_11 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_12 : Ref sig .tc := ⟨.hbm, 193, rfl⟩
abbrev main_v127 : Ref sig .tc := ⟨.hbm, 194, rfl⟩
abbrev main_call3_v0 : Ref sig .tc := ⟨.hbm, 195, rfl⟩
abbrev main_call3_c : Ref sig .tc := ⟨.hbm, 196, rfl⟩
abbrev main_call3_v1 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_cst : Ref sig .tc := ⟨.hbm, 201, rfl⟩
abbrev main_call3_v5 : Ref sig .tc := ⟨.hbm, 202, rfl⟩
abbrev main_v128 : Ref sig .tc := ⟨.hbm, 203, rfl⟩
abbrev main_cst_13 : Ref sig .tc := ⟨.hbm, 204, rfl⟩
abbrev main_v129 : Ref sig .tc := ⟨.hbm, 205, rfl⟩
abbrev main_call4_v0 : Ref sig .tc := ⟨.hbm, 206, rfl⟩
abbrev main_call4_c : Ref sig .tc := ⟨.hbm, 207, rfl⟩
abbrev main_call4_v1 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_call4_cst : Ref sig .tc := ⟨.hbm, 212, rfl⟩
abbrev main_call4_v5 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_c : Ref sig .tc := ⟨.hbm, 224, rfl⟩
abbrev main_v140 : Ref sig .tc := ⟨.hbm, 225, rfl⟩
abbrev main_call5_v0 : Ref sig .tc := ⟨.hbm, 226, rfl⟩
abbrev main_call5_c : Ref sig .tc := ⟨.hbm, 227, rfl⟩
abbrev main_call5_v1 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_c_0 : Ref sig .tc := ⟨.hbm, 232, rfl⟩
abbrev main_call5_v5 : Ref sig .tc := ⟨.hbm, 233, rfl⟩
abbrev main_v141 : Ref sig .tc := ⟨.hbm, 234, rfl⟩
abbrev main_cst_14 : Ref sig .tc := ⟨.hbm, 235, rfl⟩
abbrev main_call6_v0 : Ref sig .tc := ⟨.hbm, 236, rfl⟩
abbrev main_call6_v1 : Ref sig .tc := ⟨.hbm, 237, rfl⟩
abbrev main_call6_v2 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_cst_15 : Ref sig .tc := ⟨.hbm, 268, rfl⟩
abbrev main_v171 : Ref sig .tc := ⟨.hbm, 269, rfl⟩
abbrev main_v172 : Ref sig .tc := ⟨.hbm, 270, rfl⟩
abbrev main_cst_16 : Ref sig .tc := ⟨.hbm, 271, rfl⟩
abbrev main_v173 : Ref sig .tc := ⟨.hbm, 272, rfl⟩
abbrev main_v174 : Ref sig .tc := ⟨.hbm, 273, rfl⟩
abbrev main_cst_17 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_cst_18 : Ref sig .tc := ⟨.hbm, 292, rfl⟩
abbrev main_v192 : Ref sig .tc := ⟨.hbm, 293, rfl⟩
abbrev main_v193 : Ref sig .tc := ⟨.hbm, 294, rfl⟩
abbrev main_cst_19 : Ref sig .tc := ⟨.hbm, 295, rfl⟩
abbrev main_v194 : Ref sig .tc := ⟨.hbm, 296, rfl⟩
abbrev main_cst_20 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_cst_21 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_call7_v0 : Ref sig .tc := ⟨.hbm, 313, rfl⟩
abbrev main_call7_v1 : Ref sig .tc := ⟨.hbm, 314, rfl⟩
abbrev main_call7_cst : Ref sig .tc := ⟨.hbm, 315, rfl⟩
abbrev main_call7_v2 : Ref sig .tc := ⟨.hbm, 316, rfl⟩
abbrev main_call7_v3 : Ref sig .tc := ⟨.hbm, 317, rfl⟩
abbrev main_call7_cst_0 : Ref sig .tc := ⟨.hbm, 318, rfl⟩
abbrev main_call7_v4 : Ref sig .tc := ⟨.hbm, 319, rfl⟩
abbrev main_call7_v5 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_cst_22 : Ref sig .tc := ⟨.hbm, 327, rfl⟩
abbrev main_v215 : Ref sig .tc := ⟨.hbm, 328, rfl⟩
abbrev main_v216 : Ref sig .tc := ⟨.hbm, 329, rfl⟩
abbrev main_cst_23 : Ref sig .tc := ⟨.hbm, 330, rfl⟩
abbrev main_v217 : Ref sig .tc := ⟨.hbm, 331, rfl⟩
abbrev main_v218 : Ref sig .tc := ⟨.hbm, 332, rfl⟩
abbrev main_cst_24 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩

abbrev nD : Nat := 1
abbrev τ : Topo := Topo.v7x

variable {F : FTy → Type} [FloatOps F]
-- ==== Kernel2.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S8x512x256 : Shape := ⟨3, ![8, 512, 256]⟩
abbrev S8x256x512 : Shape := ⟨3, ![8, 256, 512]⟩
abbrev S1x256x1024 : Shape := ⟨3, ![1, 256, 1024]⟩
abbrev S1x512x256 : Shape := ⟨3, ![1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S8x512x256, .bf16⟩
  | .hbm, ⟨8, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S8x512x256 : Shape := ⟨3, ![8, 512, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S8x256x512, .f32⟩
  | .hbm, ⟨23, _⟩ => ⟨S8x256x512, .f32⟩
  | .hbm, ⟨24, _⟩ => ⟨S8x512x256, .f32⟩
  | .hbm, ⟨25, _⟩ => ⟨S8x512x256, .bf16⟩
  | .hbm, ⟨26, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Stages.lean ====
/- The stages of the layer kernel's body as functions of what its buffers hold: each reads windows of the arrays before it
   and fills blocks of rows of the array it makes. -/
module

public import proofs.«01_k».proof.Proof.Gen.KernelIdeal.Skeleton
public import Idealize.ShloMosaic.Lib.VecWindow
public import Idealize.ShloMosaic.Lib.ValueIdxCoords

@[expose] public section

noncomputable section

namespace Cert.KernelIdeal.Layer

open Idealize.ShloMosaic Idealize.SL.Sem Idealize.ShloMosaic.ValueIdx
open Cert.KernelIdeal.Gen

/-! ## Windows and fills -/

section Pure

variable {α : Type}

/-- The `n × m` window of `x` at row `o`, column `q` (positions past the end wrap around; none is used). -/
def win {R C : ℕ} [NeZero R] [NeZero C] (x : (⟨2, ![R, C]⟩ : Shape).Idx → α) (o q n m : ℕ) : (⟨2, ![n, m]⟩ : Shape).Idx → α :=
  fun j => x (ix2 (Fin.ofNat R (o + (j 0).val)) (Fin.ofNat C (q + (j 1).val)))

/-- The `a × n × m` window of `x` at `(p, o, q)`. -/
def win3 {A R C : ℕ} [NeZero A] [NeZero R] [NeZero C] (x : (⟨3, ![A, R, C]⟩ : Shape).Idx → α) (p o q a n m : ℕ) :
    (⟨3, ![a, n, m]⟩ : Shape).Idx → α :=
  fun j => x (ix3 (Fin.ofNat A (p + (j 0).val)) (Fin.ofNat R (o + (j 1).val)) (Fin.ofNat C (q + (j 2).val)))

/-- `x` with `w` over the window at row `o`, column `q`. -/
def put {R C n m : ℕ} [NeZero n] [NeZero m] (x : (⟨2, ![R, C]⟩ : Shape).Idx → α) (o q : ℕ) (w : (⟨2, ![n, m]⟩ : Shape).Idx → α) :
    (⟨2, ![R, C]⟩ : Shape).Idx → α :=
  fun y => if (o ≤ (y 0).val ∧ (y 0).val < o + n) ∧ (q ≤ (y 1).val ∧ (y 1).val < q + m) then
    w (ix2 (Fin.ofNat n ((y 0).val - o)) (Fin.ofNat m ((y 1).val - q))) else x y

/-- `x` with the first `k` blocks of `n` rows of columns `q, …, q + m - 1` filled: block `b` with `P b`. -/
def fill {R C : ℕ} (x : (⟨2, ![R, C]⟩ : Shape).Idx → α) (n q m : ℕ) [NeZero n] [NeZero m] (P : ℕ → (⟨2, ![n, m]⟩ : Shape).Idx → α) (k : ℕ) :
    (⟨2, ![R, C]⟩ : Shape).Idx → α :=
  fun y => if (y 0).val < n * k ∧ (q ≤ (y 1).val ∧ (y 1).val < q + m) then
    P ((y 0).val / n) (ix2 (Fin.ofNat n ((y 0).val % n)) (Fin.ofNat m ((y 1).val - q))) else x y

/-- All rows filled, `n` at a time. -/
def blocks {R C : ℕ} (n : ℕ) [NeZero n] (P : ℕ → (⟨2, ![n, C]⟩ : Shape).Idx → α) : (⟨2, ![R, C]⟩ : Shape).Idx → α :=
  fun y => P ((y 0).val / n) (ix2 (Fin.ofNat n ((y 0).val % n)) (y 1))

theorem fill_zero {R C : ℕ} (x : (⟨2, ![R, C]⟩ : Shape).Idx → α) (n q m : ℕ) [NeZero n] [NeZero m] (P : ℕ → (⟨2, ![n, m]⟩ : Shape).Idx → α) :
    fill x n q m P 0 = x := by
  funext y; exact if_neg (by omega)

theorem fill_succ {R C : ℕ} (x : (⟨2, ![R, C]⟩ : Shape).Idx → α) (n q m : ℕ) [NeZero n] [NeZero m] (P : ℕ → (⟨2, ![n, m]⟩ : Shape).Idx → α) (k : ℕ) :
    put (fill x n q m P k) (n * k) q (P k) = fill x n q m P (k + 1) := by
  funext y
  have hn : 0 < n := Nat.pos_of_ne_zero (NeZero.ne n)
  unfold put fill
  rw [Nat.mul_succ]
  by_cases hq : q ≤ (y 1).val ∧ (y 1).val < q + m
  · by_cases h1 : (y 0).val < n * k
    · rw [if_neg (by omega), if_pos ⟨h1, hq⟩, if_pos ⟨by omega, hq⟩]
    · by_cases h2 : (y 0).val < n * k + n
      · rw [if_pos ⟨⟨by omega, h2⟩, hq⟩, if_pos ⟨h2, hq⟩]
        have e : (y 0).val = n * k + ((y 0).val - n * k) := by omega
        have hd : (y 0).val / n = k := by
          rw [e, Nat.mul_add_div hn, Nat.div_eq_of_lt (by omega), Nat.add_zero]
        have hm : (y 0).val % n = (y 0).val - n * k := by
          conv_lhs => rw [e, Nat.mul_add_mod, Nat.mod_eq_of_lt (by omega)]
        rw [hd, hm]
      · rw [if_neg (by omega), if_neg (by omega), if_neg (by omega)]
  · rw [if_neg (fun h => hq h.2), if_neg (fun h => hq h.2), if_neg (fun h => hq h.2)]

theorem fill_all {R C : ℕ} (x : (⟨2, ![R, C]⟩ : Shape).Idx → α) (n : ℕ) [NeZero n] [NeZero C] (P : ℕ → (⟨2, ![n, C]⟩ : Shape).Idx → α) (k : ℕ) (h : R ≤ n * k) :
    fill x n 0 C P k = blocks n P := by
  funext y
  have h0 := idx2_lt0 y
  have h1 := idx2_lt1 y
  unfold fill blocks
  rw [if_pos (by omega)]
  congr 2
  exact Fin.ext (by show ((y 1).val - 0) % C = (y 1).val; rw [Nat.sub_zero, Nat.mod_eq_of_lt h1])

/-- The array with a leading axis of size 1 filled by blocks of rows, the rest as in `x`. -/
def fill3 {R C : ℕ} (x : (⟨3, ![1, R, C]⟩ : Shape).Idx → α) (n : ℕ) [NeZero n] (P : ℕ → (⟨3, ![1, n, C]⟩ : Shape).Idx → α) (k : ℕ) :
    (⟨3, ![1, R, C]⟩ : Shape).Idx → α :=
  fun y => if (y 1).val < n * k then P ((y 1).val / n) (ix3 0 (Fin.ofNat n ((y 1).val % n)) (y 2)) else x y

def put3 {R C n : ℕ} [NeZero n] (x : (⟨3, ![1, R, C]⟩ : Shape).Idx → α) (o : ℕ) (w : (⟨3, ![1, n, C]⟩ : Shape).Idx → α) :
    (⟨3, ![1, R, C]⟩ : Shape).Idx → α :=
  fun y => if o ≤ (y 1).val ∧ (y 1).val < o + n then w (ix3 0 (Fin.ofNat n ((y 1).val - o)) (y 2)) else x y

theorem fill3_succ {R C : ℕ} (x : (⟨3, ![1, R, C]⟩ : Shape).Idx → α) (n : ℕ) [NeZero n] (P : ℕ → (⟨3, ![1, n, C]⟩ : Shape).Idx → α) (k : ℕ) :
    put3 (fill3 x n P k) (n * k) (P k) = fill3 x n P (k + 1) := by
  funext y
  have hn : 0 < n := Nat.pos_of_ne_zero (NeZero.ne n)
  unfold put3 fill3
  rw [Nat.mul_succ]
  by_cases h1 : (y 1).val < n * k
  · rw [if_neg (by omega), if_pos h1, if_pos (by omega)]
  · by_cases h2 : (y 1).val < n * k + n
    · rw [if_pos ⟨by omega, h2⟩, if_pos h2]
      have e : (y 1).val = n * k + ((y 1).val - n * k) := by omega
      have hd : (y 1).val / n = k := by
        rw [e, Nat.mul_add_div hn, Nat.div_eq_of_lt (by omega), Nat.add_zero]
      have hm : (y 1).val % n = (y 1).val - n * k := by
        conv_lhs => rw [e, Nat.mul_add_mod, Nat.mod_eq_of_lt (by omega)]
      rw [hd, hm]
    · rw [if_neg (by omega), if_neg (by omega), if_neg (by omega)]

theorem fill3_zero {R C : ℕ} (x : (⟨3, ![1, R, C]⟩ : Shape).Idx → α) (n : ℕ) [NeZero n] (P : ℕ → (⟨3, ![1, n, C]⟩ : Shape).Idx → α) :
    fill3 x n P 0 = x := by
  funext y; exact if_neg (by omega)

/-- `x` with its last `k` blocks of 32 rows filled, block `b` (counted from row `d`) with `P b`. -/
def fillDn {R C : ℕ} (d : ℕ) (x : (⟨2, ![R, C]⟩ : Shape).Idx → α) (P : ℕ → (⟨2, ![32, C]⟩ : Shape).Idx → α) (k : ℕ) :
    (⟨2, ![R, C]⟩ : Shape).Idx → α :=
  fun y => if d + 512 - 32 * k ≤ (y 0).val then P (((y 0).val - d) / 32) (ix2 (Fin.ofNat 32 (((y 0).val - d) % 32)) (y 1)) else x y

theorem fillDn_zero {C : ℕ} (d : ℕ) (x : (⟨2, ![d + 512, C]⟩ : Shape).Idx → α) (P : ℕ → (⟨2, ![32, C]⟩ : Shape).Idx → α) :
    fillDn d x P 0 = x := by
  funext y
  have h0 := idx2_lt0 y
  exact if_neg (by omega)

theorem fillDn_succ {C : ℕ} [NeZero C] (d : ℕ) (x : (⟨2, ![d + 512, C]⟩ : Shape).Idx → α) (P : ℕ → (⟨2, ![32, C]⟩ : Shape).Idx → α) (k : ℕ) (hk : k < 16) :
    put (fillDn d x P k) (d + 480 - 32 * k) 0 (P (15 - k)) = fillDn d x P (k + 1) := by
  funext y
  have h0 := idx2_lt0 y
  have h1 := idx2_lt1 y
  unfold put fillDn
  by_cases a : d + 512 - 32 * k ≤ (y 0).val
  · rw [if_neg (by omega), if_pos a, if_pos (by omega)]
  · by_cases b : d + 480 - 32 * k ≤ (y 0).val
    · rw [if_pos (by omega), if_pos (by omega), show ((y 0).val - d) / 32 = 15 - k by omega,
        show ((y 0).val - d) % 32 = (y 0).val - (d + 480 - 32 * k) by omega]
      congr 2
      exact Fin.ext (by show ((y 1).val - 0) % C = (y 1).val; rw [Nat.sub_zero, Nat.mod_eq_of_lt h1])
    · rw [if_neg (by omega), if_neg a, if_neg (by omega)]

theorem fillDn_win {C : ℕ} [NeZero C] (x : (⟨2, ![520, C]⟩ : Shape).Idx → α) (P : ℕ → (⟨2, ![32, C]⟩ : Shape).Idx → α) (k : ℕ) (hk : k < 16) :
    win (fillDn (R := 520) 8 x P k) (480 - 32 * k) 0 40 C = win x (32 * (15 - k)) 0 40 C := by
  funext j
  have j0 := idx2_lt0 j
  refine (if_neg (show ¬ (8 + 512 - 32 * k ≤ (480 - 32 * k + (j 0).val) % 520) by omega)).trans ?_
  rw [show 480 - 32 * k = 32 * (15 - k) by omega]
  rfl

theorem fillDn_all {C : ℕ} (x : (⟨2, ![512, C]⟩ : Shape).Idx → α) (P : ℕ → (⟨2, ![32, C]⟩ : Shape).Idx → α) :
    fillDn (R := 512) 0 x P 16 = blocks 32 P := by
  funext y
  exact if_pos (by omega)

theorem fill3_win {C : ℕ} [NeZero C] (x : (⟨3, ![1, 512, C]⟩ : Shape).Idx → α) (P : ℕ → (⟨3, ![1, 32, C]⟩ : Shape).Idx → α) (k : ℕ) (hk : k < 16) :
    win3 (fill3 x 32 P k) 0 (32 * k) 0 1 32 C = win3 x 0 (32 * k) 0 1 32 C := by
  funext j
  have j1 : (j 1).val < 32 := (j 1).isLt
  exact if_neg (show ¬ ((32 * k + (j 1).val) % 512 < 32 * k) by omega)

theorem fill3_all {C : ℕ} (x : (⟨3, ![1, 512, C]⟩ : Shape).Idx → α) (P : ℕ → (⟨3, ![1, 32, C]⟩ : Shape).Idx → α) :
    fill3 x 32 P 16 = fun y => P ((y 1).val / 32) (ix3 0 (Fin.ofNat 32 ((y 1).val % 32)) (y 2)) := by
  funext y
  have h : (y 1).val < 512 := (y 1).isLt
  exact if_pos (by omega)

theorem win_full {R C : ℕ} [NeZero R] [NeZero C] (x : (⟨2, ![R, C]⟩ : Shape).Idx → α) : win x 0 0 R C = x := by
  funext j
  refine congrArg x ?_
  have j0 := idx2_lt0 j
  have j1 := idx2_lt1 j
  funext a
  match a with
  | ⟨0, _⟩ => exact Fin.ext (by show (0 + (j 0).val) % R = (j 0).val; rw [Nat.zero_add, Nat.mod_eq_of_lt j0])
  | ⟨1, _⟩ => exact Fin.ext (by show (0 + (j 1).val) % C = (j 1).val; rw [Nat.zero_add, Nat.mod_eq_of_lt j1])

theorem win3_full {A R C : ℕ} [NeZero A] [NeZero R] [NeZero C] (x : (⟨3, ![A, R, C]⟩ : Shape).Idx → α) : win3 x 0 0 0 A R C = x := by
  funext j
  refine congrArg x ?_
  have j0 : (j 0).val < A := (j 0).isLt
  have j1 : (j 1).val < R := (j 1).isLt
  have j2 : (j 2).val < C := (j 2).isLt
  funext a
  match a with
  | ⟨0, _⟩ => exact Fin.ext (by show (0 + (j 0).val) % A = (j 0).val; rw [Nat.zero_add, Nat.mod_eq_of_lt j0])
  | ⟨1, _⟩ => exact Fin.ext (by show (0 + (j 1).val) % R = (j 1).val; rw [Nat.zero_add, Nat.mod_eq_of_lt j1])
  | ⟨2, _⟩ => exact Fin.ext (by show (0 + (j 2).val) % C = (j 2).val; rw [Nat.zero_add, Nat.mod_eq_of_lt j2])

theorem put_full {R C : ℕ} [NeZero R] [NeZero C] (x w : (⟨2, ![R, C]⟩ : Shape).Idx → α) : put x 0 0 w = w := by
  funext j
  have j0 := idx2_lt0 j
  have j1 := idx2_lt1 j
  refine (if_pos (by omega)).trans (congrArg w ?_)
  funext a
  match a with
  | ⟨0, _⟩ => exact Fin.ext (by show ((j 0).val - 0) % R = (j 0).val; rw [Nat.sub_zero, Nat.mod_eq_of_lt j0])
  | ⟨1, _⟩ => exact Fin.ext (by show ((j 1).val - 0) % C = (j 1).val; rw [Nat.sub_zero, Nat.mod_eq_of_lt j1])

theorem put3_full {R C : ℕ} [NeZero R] (x w : (⟨3, ![1, R, C]⟩ : Shape).Idx → α) : put3 x 0 w = w := by
  funext j
  have j0 : (j 0).val < 1 := (j 0).isLt
  have j1 : (j 1).val < R := (j 1).isLt
  refine (if_pos (by omega)).trans (congrArg w ?_)
  funext a
  match a with
  | ⟨0, _⟩ => exact Fin.ext (by show 0 = (j 0).val; omega)
  | ⟨1, _⟩ => exact Fin.ext (by show ((j 1).val - 0) % R = (j 1).val; rw [Nat.sub_zero, Nat.mod_eq_of_lt j1])
  | ⟨2, _⟩ => rfl

end Pure

/-! ## Loads and stores as windows and puts -/

section Views

variable {sig : RefSig} {κ : Kind} {sp : Space} {e : EltTy} {Val : EltTy → Type}

theorem readAt_win {R C n m : ℕ} [NeZero R] [NeZero C] (v : View sig κ sp (⟨2, ![R, C]⟩ : Shape) e) (f : v.ty.Contents Val) {off : Fin 2 → ℕ} {o q : ℕ}
    (inb : ∀ a, off a + (![n, m] : Fin 2 → ℕ) a ≤ (⟨2, ![R, C]⟩ : Shape).size a) (h : off = ![o, q]) :
    v.readAt Val (Rect.unit (s := ⟨2, ![R, C]⟩) off ![n, m] inb).toLoadRect f = win (v.read Val f) o q n m := by
  subst h
  funext j
  have b0 : o + n ≤ R := inb 0
  have b1 : q + m ≤ C := inb 1
  have j0 : (j 0).val < n := (j 0).isLt
  have j1 : (j 1).val < m := (j 1).isLt
  refine congrArg (v.read Val f) ?_
  funext a
  match a with
  | ⟨0, _⟩ => exact Fin.ext (by
      show o + 1 * (j 0).val = (o + (j 0).val) % R
      rw [Nat.mod_eq_of_lt (by omega), Nat.one_mul])
  | ⟨1, _⟩ => exact Fin.ext (by
      show q + 1 * (j 1).val = (q + (j 1).val) % C
      rw [Nat.mod_eq_of_lt (by omega), Nat.one_mul])

theorem readAt_win3 {A R C a n m : ℕ} [NeZero A] [NeZero R] [NeZero C] (v : View sig κ sp (⟨3, ![A, R, C]⟩ : Shape) e) (f : v.ty.Contents Val) {off : Fin 3 → ℕ} {p o q : ℕ}
    (inb : ∀ d, off d + (![a, n, m] : Fin 3 → ℕ) d ≤ (⟨3, ![A, R, C]⟩ : Shape).size d) (h : off = ![p, o, q]) :
    v.readAt Val (Rect.unit (s := ⟨3, ![A, R, C]⟩) off ![a, n, m] inb).toLoadRect f = win3 (v.read Val f) p o q a n m := by
  subst h
  funext j
  have b0 : p + a ≤ A := inb 0
  have b1 : o + n ≤ R := inb 1
  have b2 : q + m ≤ C := inb 2
  have j0 : (j 0).val < a := (j 0).isLt
  have j1 : (j 1).val < n := (j 1).isLt
  have j2 : (j 2).val < m := (j 2).isLt
  refine congrArg (v.read Val f) ?_
  funext d
  match d with
  | ⟨0, _⟩ => exact Fin.ext (by
      show p + 1 * (j 0).val = (p + (j 0).val) % A
      rw [Nat.mod_eq_of_lt (by omega), Nat.one_mul])
  | ⟨1, _⟩ => exact Fin.ext (by
      show o + 1 * (j 1).val = (o + (j 1).val) % R
      rw [Nat.mod_eq_of_lt (by omega), Nat.one_mul])
  | ⟨2, _⟩ => exact Fin.ext (by
      show q + 1 * (j 2).val = (q + (j 2).val) % C
      rw [Nat.mod_eq_of_lt (by omega), Nat.one_mul])

theorem read_put {R C n m : ℕ} [NeZero n] [NeZero m] (v : View sig κ sp (⟨2, ![R, C]⟩ : Shape) e) (f : v.ty.Contents Val) {off : Fin 2 → ℕ} {o q : ℕ}
    (inb : ∀ a, off a + (![n, m] : Fin 2 → ℕ) a ≤ (⟨2, ![R, C]⟩ : Shape).size a)
    (w : (⟨2, ![n, m]⟩ : Shape).Idx → Val e) (L : List (View.Piece Val (⟨2, ![R, C]⟩ : Shape) e)) (h : off = ![o, q]) :
    v.read Val (v.writes Val f ((⟨Rect.unit (s := ⟨2, ![R, C]⟩) off ![n, m] inb, w⟩ : View.Piece Val (⟨2, ![R, C]⟩ : Shape) e) :: L))
      = put (v.read Val (v.writes Val f L)) o q w := by
  funext y
  unfold put
  by_cases hc : (o ≤ (y 0).val ∧ (y 0).val < o + n) ∧ (q ≤ (y 1).val ∧ (y 1).val < q + m)
  · rw [if_pos hc]
    refine View.read_writes_cons_unit_of_mem v f inb w L y _ h ?_
    intro a
    match a with
    | ⟨0, _⟩ =>
      show (y 0).val = o + ((y 0).val - o) % n
      rw [Nat.mod_eq_of_lt (by omega)]; omega
    | ⟨1, _⟩ =>
      show (y 1).val = q + ((y 1).val - q) % m
      rw [Nat.mod_eq_of_lt (by omega)]; omega
  · rw [if_neg hc]
    by_cases h0 : o ≤ (y 0).val ∧ (y 0).val < o + n
    · exact View.read_writes_cons_unit_of_not_mem v f inb w L y h 1 (by show (y 1).val < q ∨ q + m ≤ (y 1).val; omega)
    · exact View.read_writes_cons_unit_of_not_mem v f inb w L y h 0 (by show (y 0).val < o ∨ o + n ≤ (y 0).val; omega)

theorem read_put3 {R C n : ℕ} [NeZero n] (v : View sig κ sp (⟨3, ![1, R, C]⟩ : Shape) e) (f : v.ty.Contents Val) {off : Fin 3 → ℕ} {o : ℕ}
    (inb : ∀ a, off a + (![1, n, C] : Fin 3 → ℕ) a ≤ (⟨3, ![1, R, C]⟩ : Shape).size a)
    (w : (⟨3, ![1, n, C]⟩ : Shape).Idx → Val e) (L : List (View.Piece Val (⟨3, ![1, R, C]⟩ : Shape) e)) (h : off = ![0, o, 0]) :
    v.read Val (v.writes Val f ((⟨Rect.unit (s := ⟨3, ![1, R, C]⟩) off ![1, n, C] inb, w⟩ : View.Piece Val (⟨3, ![1, R, C]⟩ : Shape) e) :: L))
      = put3 (v.read Val (v.writes Val f L)) o w := by
  funext y
  have h0 : (y 0).val < 1 := (y 0).isLt
  unfold put3
  by_cases hc : o ≤ (y 1).val ∧ (y 1).val < o + n
  · rw [if_pos hc]
    refine View.read_writes_cons_unit_of_mem v f inb w L y _ h ?_
    intro a
    match a with
    | ⟨0, _⟩ => show (y 0).val = 0 + 0; omega
    | ⟨1, _⟩ =>
      show (y 1).val = o + ((y 1).val - o) % n
      rw [Nat.mod_eq_of_lt (by omega)]; omega
    | ⟨2, _⟩ => show (y 2).val = 0 + (y 2).val; omega
  · rw [if_neg hc]
    exact View.read_writes_cons_unit_of_not_mem v f inb w L y h 1 (by show (y 1).val < o ∨ o + n ≤ (y 1).val; omega)

end Views

/-! ## The stages -/

variable {F : FTy → Type} [FloatOps F]

/-- Block `b` (32 rows) of the normalised rows. -/
def hBlk (g : Vec F S1x1024 .f32) (x : Vec F S1x512x1024 .f32) (b : ℕ) : Vec F S32x1024 .bf16 := k0_pay87 g (win3 x 0 (32 * b) 0 1 32 1024)

/-- The normalised rows. -/
def hN (g : Vec F S1x1024 .f32) (x : Vec F S1x512x1024 .f32) : Vec F S512x1024 .bf16 := blocks 32 (hBlk g x)

/-- The 8 rows before the block, and the block under them. -/
def upad (T : Vec F S8x1024 .f32) (u : Vec F S512x1024 .f32) : Vec F S520x1024 .f32 :=
  fun y => if (y 0).val < 8 then T (ix2 (Fin.ofNat 8 (y 0).val) (y 1)) else u (ix2 (Fin.ofNat 512 ((y 0).val - 8)) (y 1))

/-- Block `b` (32 rows) of the causal convolution, in both formats. -/
def cBlk (w : Vec F S4x1024 .f32) (b : Vec F S1x1024 .f32) (up : Vec F S520x1024 .f32) (k : ℕ) : Vec F S32x1024 .f32 := k0_pay92 w b (win up (32 * k) 0 40 1024)
def cBlkB (w : Vec F S4x1024 .f32) (b : Vec F S1x1024 .f32) (up : Vec F S520x1024 .f32) (k : ℕ) : Vec F S32x1024 .bf16 := k0_pay93 w b (win up (32 * k) 0 40 1024)

def uC (w : Vec F S4x1024 .f32) (b : Vec F S1x1024 .f32) (up : Vec F S520x1024 .f32) : Vec F S512x1024 .f32 := blocks 32 (cBlk w b up)
def uB (w : Vec F S4x1024 .f32) (b : Vec F S1x1024 .f32) (up : Vec F S520x1024 .f32) : Vec F S512x1024 .bf16 := blocks 32 (cBlkB w b up)

/-- The gates' products, one block of 256 columns per head. -/
def riOf (ub : Vec F S512x1024 .bf16) (w : Vec F S8x128x256 .bf16) : Vec F S512x2048 .f32 :=
  fun y => k0_pay95 (win ub 0 (128 * ((y 1).val / 256)) 512 128) (win3 w ((y 1).val / 256) 0 0 1 128 256)
    (ix2 (y 0) (Fin.ofNat 256 ((y 1).val % 256)))

/-- One trip of the scan (8 rows): what it writes and the row it hands on. -/
def scanTrip (v102 v104 v106 : FVec F S1x1024 .f32) (acc : Vec F S1x1024 .f32) (v301 : Vec F S8x2048 .f32) (v304 : Vec F S8x1024 .f32) :
    Vec F S8x1024 .f32 × Vec F S1x1024 .f32 :=
  let v107 : IVec S8x128 32 := iota .tc S8x128 32 [0] iota_S8x128_d0_w32
  let v330 := k0_pay6 v102 v104 v301
  let v341 := k0_pay7 v102 v104 v106 v301 v304
  let v343 := k0_pay8 v107
  let v384 := k0_pay11 v104 v301
  let v391 := k0_pay12 v106 v301
  let v435 := k0_pay20 v102 v107 v304 v384 v391
  let v437 := k0_pay21 v102 v107 v384
  let v438 := k0_pay22 acc
  let v468 := k0_pay26 v102 v104 v301
  let v481 := k0_pay27 v107
  let v486 := k0_pay28 v102 v104 v106 v107 v301 v304
  let v487 := k0_pay29 v102 v104 v301
  let v522 := k0_pay32 v104 v301
  let v533 := k0_pay33 v106 v301
  let v535 := k0_pay34 v102
  let v584 := k0_pay37 v104 v301
  let v624 := k0_pay41 v102 v106 v107 v301 v304 v584
  let v626 := k0_pay42 v102 v107 v584
  let v628 := k0_pay43 v107
  let v629 := k0_pay44 v102 v107 v584
  let v630 := k0_pay45 v102 v106 v107 v301 v304 v584
  let v671 := k0_pay48 v106 v301
  let v674 := k0_pay49 v102 v104 v301
  let v675 := k0_pay50 v102 v104 v301
  let v678 := k0_pay51 v102 v104 v301
  let v679 := k0_pay52 (F := F)
  let v727 := k0_pay55 v104 v301
  let cst : F .f32 := Scalar.ofBits .f32 0x3F000000#32
  let v771 := k0_pay61 v102 v106 v107 v301 v304 v727 cst
  let v773 := k0_pay62 v102 v107 v727 cst
  let v775 := k0_pay63 v107
  let v813 := k0_pay67 v102 v104 v301
  let v824 := k0_pay68 v102 v104 v106 v301 v304
  (k0_pay108 v107 acc (k0_pay9 v107 acc v330 v341 v343) (k0_pay23 v435 v437 v438) (k0_pay30 v107 acc v468 v481 v486 v487)
      (k0_pay35 v107 acc v304 v522 v533 v535) (k0_pay46 v107 acc v624 v626 v628 v629 v630) (k0_pay53 v107 acc v304 v671 v674 v675 v678 v679)
      (k0_pay64 acc v771 v773 v775) v813 v824 1#32,
    k0_pay109 v107 acc (k0_pay10 v107 acc v330 v341 v343) (k0_pay24 v435 v437 v438) (k0_pay31 v107 acc v468 v481 v486 v487)
      (k0_pay36 v107 acc v304 v522 v533 v535) (k0_pay47 v107 acc v624 v626 v628 v629 v630) (k0_pay54 v107 acc v304 v671 v674 v675 v678 v679)
      (k0_pay65 acc v771 v773 v775) v813 v824 1#32)

/-- The scan's trip `k` on the gates `ri` and the convolved rows (under 8 rows not read here). -/
def scanAt (lam ba bi : Vec F S1x1024 .f32) (ri : Vec F S512x2048 .f32) (up : Vec F S520x1024 .f32) (acc : Vec F S1x1024 .f32) (k : ℕ) :
    Vec F S8x1024 .f32 × Vec F S1x1024 .f32 :=
  scanTrip (k0_pay104 lam) (k0_pay105 ba) (k0_pay106 bi) acc (win ri (8 * k) 0 8 2048) (win up (8 * k + 8) 0 8 1024)

/-- The row handed to trip `k`. -/
def scanCarry (lam ba bi : Vec F S1x1024 .f32) (ri : Vec F S512x2048 .f32) (up : Vec F S520x1024 .f32) (h0 : Vec F S1x1024 .f32) : ℕ → Vec F S1x1024 .f32
  | 0 => h0
  | k + 1 => (scanAt lam ba bi ri up (scanCarry lam ba bi ri up h0 k) k).2

/-- What trip `k` writes. -/
def scanBlk (lam ba bi : Vec F S1x1024 .f32) (ri : Vec F S512x2048 .f32) (up : Vec F S520x1024 .f32) (h0 : Vec F S1x1024 .f32) (k : ℕ) : Vec F S8x1024 .f32 :=
  (scanAt lam ba bi ri up (scanCarry lam ba bi ri up h0 k) k).1

def mKbd : IVec S256x256 1 :=
  k0_pay118 (iota .tc S256x256 32 [0] iota_S256x256_d0_w32) (iota .tc S256x256 32 [1] iota_S256x256_d1_w32) 64#32 k0_pay116 k0_pay117
    (Scalar.subi (Scalar.extui (Scalar.cmpi .sgt 64#32 0#32)) (Scalar.extui (Scalar.cmpi .slt 64#32 0#32)))
def mVbd : IVec S256x512 1 :=
  k0_pay121 (iota .tc S256x512 32 [0] iota_S256x512_d0_w32) (iota .tc S256x512 32 [1] iota_S256x512_d1_w32) 64#32 k0_pay119 k0_pay120
    (Scalar.cmpi .sgt 64#32 0#32)
def mSbd : IVec S512x256 1 :=
  k0_pay125 (iota .tc S512x256 32 [0] iota_S512x256_d0_w32) (iota .tc S512x256 32 [1] iota_S512x256_d1_w32) 128#32 k0_pay122 k0_pay123 k0_pay124

/-- One trip of the gated linear attention (64 rows): what it writes and the state it leaves. -/
def glaTrip (wg : Vec F S128x256 .bf16) (bg : Vec F S1x256 .f32) (gg : Vec F S1x512 .f32) (v301 v303 : Vec F S64x256 .f32) (v305 : Vec F S64x512 .f32) (v308 : Vec F S64x128 .f32)
    (S : Vec F S512x256 .f32) : Vec F S64x512 .f32 × Vec F S512x256 .f32 :=
  let v115 := k0_pay111 wg
  let v117 := k0_pay112 bg
  let v119 := k0_pay113 gg
  let v126 := k0_pay114 (F := F)
  let v131 := k0_pay115
  let v306 := k0_pay69 v305
  let v333 := k0_pay70 v115 v117 v126 v308
  let v334 := k0_pay71 v115 v117 v126 v308
  let v339 := k0_pay72 v115 v117 v126 v301 v308
  let v341 := k0_pay73 v115 v117 v126 v308
  (k0_pay126 (k0_pay78 v119 (k0_pay74 v131 mKbd mVbd v303 v306 v339 v341 S) (k0_pay76 v131 mKbd mVbd v303 v306 v339 v341 S) (k0_pay77 v131 mKbd mVbd v303 v306 v339 v341 S)),
    k0_pay75 mSbd v303 v306 v333 v334 S)

def glaAt (wg : Vec F S128x256 .bf16) (bg : Vec F S1x256 .f32) (gg : Vec F S1x512 .f32) (pr : Vec F S512x3712 .f32) (S : Vec F S512x256 .f32) (k : ℕ) :
    Vec F S64x512 .f32 × Vec F S512x256 .f32 :=
  glaTrip wg bg gg (win pr (64 * k) 0 64 256) (win pr (64 * k) 256 64 256) (win pr (64 * k) 512 64 512) (win pr (64 * k) 3584 64 128) S

def glaState (wg : Vec F S128x256 .bf16) (bg : Vec F S1x256 .f32) (gg : Vec F S1x512 .f32) (pr : Vec F S512x3712 .f32) (S0 : Vec F S512x256 .f32) : ℕ → Vec F S512x256 .f32
  | 0 => S0
  | k + 1 => (glaAt wg bg gg pr (glaState wg bg gg pr S0 k) k).2

def glaBlk (wg : Vec F S128x256 .bf16) (bg : Vec F S1x256 .f32) (gg : Vec F S1x512 .f32) (pr : Vec F S512x3712 .f32) (S0 : Vec F S512x256 .f32) (k : ℕ) : Vec F S64x512 .f32 :=
  (glaAt wg bg gg pr (glaState wg bg gg pr S0 k) k).1

/-- Block `k` (128 rows) of the cross-attention. -/
def xaBlk (kt : Vec F S1x512x256 .bf16) (vm : Vec F S1x256x512 .bf16) (pr : Vec F S512x3712 .f32) (k : ℕ) : Vec F S128x512 .f32 :=
  k0_pay1 (k0_pay79 (win pr (128 * k) 1024 128 128) (win3 kt 0 0 0 1 128 256) (win3 vm 0 0 0 1 256 128))
    (k0_pay81 (k0_pay80 (win pr (128 * k) 1152 128 128) (win3 kt 0 128 0 1 128 256)) (win3 vm 0 0 128 1 256 128))
    (k0_pay82 (win pr (128 * k) 1280 128 128) (win3 kt 0 256 0 1 128 256) (win3 vm 0 0 256 1 256 128))
    (k0_pay83 (win pr (128 * k) 1408 128 128)) (win3 kt 0 384 0 1 128 256) (win3 vm 0 0 384 1 256 128)

/-- The three groups' rows side by side. -/
def ymix (Y : ℕ → Vec F S8x1024 .f32) (O : ℕ → Vec F S64x512 .f32) (A : ℕ → Vec F S128x512 .f32) : Vec F S512x2048 .f32 :=
  fun y => if (y 1).val < 1024 then Y ((y 0).val / 8) (ix2 (Fin.ofNat 8 ((y 0).val % 8)) (Fin.ofNat 1024 (y 1).val))
    else if (y 1).val < 1536 then O ((y 0).val / 64) (ix2 (Fin.ofNat 64 ((y 0).val % 64)) (Fin.ofNat 512 ((y 1).val - 1024)))
    else A ((y 0).val / 128) (ix2 (Fin.ofNat 128 ((y 0).val % 128)) (Fin.ofNat 512 ((y 1).val - 1536)))

theorem upad_eq (x : Vec F S520x1024 .f32) (T : Vec F S8x1024 .f32) (P : ℕ → Vec F S32x1024 .f32) :
    put (fillDn (R := 520) (C := 1024) 8 x P 16) 0 0 T = upad T (blocks 32 P) := by
  funext y
  have h0 := idx2_lt0 y
  have h1 := idx2_lt1 y
  unfold upad put fillDn blocks
  by_cases a : (y 0).val < 8
  · rw [if_pos (by omega), if_pos a]
    congr 2
    exact Fin.ext (by show ((y 1).val - 0) % 1024 = (y 1).val; omega)
  · rw [if_neg (by omega), if_neg a, if_pos (by omega)]
    have e : ((y 0).val - 8) % 512 = (y 0).val - 8 := by omega
    show _ = P ((((y 0).val - 8) % 512) / 32) (ix2 (Fin.ofNat 32 ((((y 0).val - 8) % 512) % 32)) (y 1))
    rw [e]

theorem win_put (x : Vec F S520x1024 .f32) (T : Vec F S8x1024 .f32) : win (put x 0 0 T) 0 0 8 1024 = T := by
  funext j
  have j0 := idx2_lt0 j
  have j1 := idx2_lt1 j
  refine (if_pos (show (0 ≤ (0 + (j 0).val) % 520 ∧ (0 + (j 0).val) % 520 < 0 + 8) ∧ (0 ≤ (0 + (j 1).val) % 1024 ∧ (0 + (j 1).val) % 1024 < 0 + 1024) by omega)).trans (congrArg T ?_)
  funext a
  match a with
  | ⟨0, _⟩ => exact Fin.ext (by show ((0 + (j 0).val) % 520 - 0) % 8 = (j 0).val; omega)
  | ⟨1, _⟩ => exact Fin.ext (by show ((0 + (j 1).val) % 1024 - 0) % 1024 = (j 1).val; omega)

theorem upad_put (x : Vec F S520x1024 .f32) (u : Vec F S512x1024 .f32) : put x 8 0 u = upad (win x 0 0 8 1024) u := by
  funext y
  have h0 := idx2_lt0 y
  have h1 := idx2_lt1 y
  unfold put upad
  by_cases a : (y 0).val < 8
  · rw [if_neg (by omega), if_pos a]
    refine congrArg x ?_
    funext d
    match d with
    | ⟨0, _⟩ => exact Fin.ext (by show (y 0).val = (0 + (y 0).val % 8) % 520; omega)
    | ⟨1, _⟩ => exact Fin.ext (by show (y 1).val = (0 + (y 1).val) % 1024; omega)
  · rw [if_pos (by omega), if_neg a]
    congr 2
    exact Fin.ext (by show ((y 1).val - 0) % 1024 = (y 1).val; omega)

theorem win_upad (T : Vec F S8x1024 .f32) (u : Vec F S512x1024 .f32) : win (upad T u) 0 0 8 1024 = T := by
  funext j
  have j0 := idx2_lt0 j
  have j1 := idx2_lt1 j
  refine (if_pos (show (0 + (j 0).val) % 520 < 8 by omega)).trans (congrArg T ?_)
  funext a
  match a with
  | ⟨0, _⟩ => exact Fin.ext (by show (0 + (j 0).val) % 520 % 8 = (j 0).val; omega)
  | ⟨1, _⟩ => exact Fin.ext (by show (0 + (j 1).val) % 1024 = (j 1).val; omega)

/-- The heads' products, stored one block of columns after another. -/
theorem riOf_eq (x : Vec F S512x2048 .f32) (ub : Vec F S512x1024 .bf16) (w : Vec F S8x128x256 .bf16) :
    put (put (put (put (put (put (put (put x 0 0 (k0_pay95 (win ub 0 0 512 128) (win3 w 0 0 0 1 128 256)))
      0 256 (k0_pay95 (win ub 0 128 512 128) (win3 w 1 0 0 1 128 256))) 0 512 (k0_pay95 (win ub 0 256 512 128) (win3 w 2 0 0 1 128 256)))
      0 768 (k0_pay95 (win ub 0 384 512 128) (win3 w 3 0 0 1 128 256))) 0 1024 (k0_pay95 (win ub 0 512 512 128) (win3 w 4 0 0 1 128 256)))
      0 1280 (k0_pay95 (win ub 0 640 512 128) (win3 w 5 0 0 1 128 256))) 0 1536 (k0_pay95 (win ub 0 768 512 128) (win3 w 6 0 0 1 128 256)))
      0 1792 (k0_pay95 (win ub 0 896 512 128) (win3 w 7 0 0 1 128 256)) = riOf ub w := by
  funext y
  have h0 := idx2_lt0 y
  have h1 := idx2_lt1 y
  have key : ∀ h : ℕ, (y 1).val / 256 = h → riOf ub w y = k0_pay95 (win ub 0 (128 * h) 512 128) (win3 w h 0 0 1 128 256)
      (ix2 (Fin.ofNat 512 ((y 0).val - 0)) (Fin.ofNat 256 ((y 1).val - 256 * h))) := by
    intro h e
    subst e
    unfold riOf
    congr 2
    · exact Fin.ext (by show (y 0).val = ((y 0).val - 0) % 512; omega)
    · exact Fin.ext (by show (y 1).val % 256 % 256 = ((y 1).val - 256 * ((y 1).val / 256)) % 256; omega)
  unfold put
  by_cases a7 : 1792 ≤ (y 1).val
  · rw [if_pos (by omega)]; exact (key 7 (by omega)).symm
  rw [if_neg (by omega)]
  by_cases a6 : 1536 ≤ (y 1).val
  · rw [if_pos (by omega)]; exact (key 6 (by omega)).symm
  rw [if_neg (by omega)]
  by_cases a5 : 1280 ≤ (y 1).val
  · rw [if_pos (by omega)]; exact (key 5 (by omega)).symm
  rw [if_neg (by omega)]
  by_cases a4 : 1024 ≤ (y 1).val
  · rw [if_pos (by omega)]; exact (key 4 (by omega)).symm
  rw [if_neg (by omega)]
  by_cases a3 : 768 ≤ (y 1).val
  · rw [if_pos (by omega)]; exact (key 3 (by omega)).symm
  rw [if_neg (by omega)]
  by_cases a2 : 512 ≤ (y 1).val
  · rw [if_pos (by omega)]; exact (key 2 (by omega)).symm
  rw [if_neg (by omega)]
  by_cases a1 : 256 ≤ (y 1).val
  · rw [if_pos (by omega)]; exact (key 1 (by omega)).symm
  rw [if_neg (by omega), if_pos (by omega)]
  exact (key 0 (by omega)).symm

theorem ymix_eq (x : Vec F S512x2048 .f32) (Y : ℕ → Vec F S8x1024 .f32) (O : ℕ → Vec F S64x512 .f32) (A : ℕ → Vec F S128x512 .f32) :
    fill (R := 512) (C := 2048) (fill (R := 512) (C := 2048) (fill (R := 512) (C := 2048) x 8 0 1024 Y 64) 64 1024 512 O 8) 128 1536 512 A 4 = ymix Y O A := by
  funext y
  have h0 := idx2_lt0 y
  have h1 := idx2_lt1 y
  unfold ymix fill
  by_cases a : (y 1).val < 1024
  · rw [if_neg (by omega), if_neg (by omega), if_pos (by omega), if_pos a, Nat.sub_zero]
  · rw [if_neg a]
    by_cases b : (y 1).val < 1536
    · rw [if_neg (by omega), if_pos (by omega), if_pos b]
    · rw [if_pos (by omega), if_neg b]

/-- Block `k` (32 rows) of the gated rows. -/
def gBlk (pr : Vec F S512x3712 .f32) (ym : Vec F S512x2048 .f32) (k : ℕ) : Vec F S32x2048 .bf16 := k0_pay2 (win pr (32 * k) 1536 32 2048) (win ym (32 * k) 0 32 2048)

def yB (pr : Vec F S512x3712 .f32) (ym : Vec F S512x2048 .f32) : Vec F S512x2048 .bf16 := blocks 32 (gBlk pr ym)

/-- Block `k` (32 rows) of the result. -/
def zBlk (fg : Vec F S1x1024 .f32) (x o : Vec F S1x512x1024 .f32) (k : ℕ) : Vec F S1x32x1024 .f32 :=
  k0_pay4 fg (win3 x 0 (32 * k) 0 1 32 1024) (win3 o 0 (32 * k) 0 1 32 1024)

def zOut (fg : Vec F S1x1024 .f32) (x o : Vec F S1x512x1024 .f32) : Vec F S1x512x1024 .f32 :=
  fun y => zBlk fg x o ((y 1).val / 32) (ix3 0 (Fin.ofNat 32 ((y 1).val % 32)) (y 2))

/-! ## The whole body -/

/-- What the body reads of its operands at one point of the grid. -/
structure Ins (F : FTy → Type) where
  x : Vec F S1x512x1024 .f32
  wl : Vec F S1024x1024 .bf16
  wr : Vec F S1024x3712 .bf16
  wai : Vec F S8x128x256 .bf16
  ba : Vec F S1x1024 .f32
  bi : Vec F S1x1024 .f32
  cw : Vec F S4x1024 .f32
  cb : Vec F S1x1024 .f32
  lam : Vec F S1x1024 .f32
  wg : Vec F S128x256 .bf16
  bg : Vec F S1x256 .f32
  gg : Vec F S1x512 .f32
  kt : Vec F S1x512x256 .bf16
  vm : Vec F S1x256x512 .bf16
  wo : Vec F S2048x1024 .bf16
  ng : Vec F S1x1024 .f32
  fg : Vec F S1x1024 .f32

/-- What one point of the grid hands the next: the last 8 rows before the convolution, the scan's row, the attention state. -/
structure Carry (F : FTy → Type) where
  t : Vec F S8x1024 .f32
  h : Vec F S1x1024 .f32
  s : Vec F S512x256 .f32

namespace Ins

variable (I : Ins F) (K : Carry F)

def hn : Vec F S512x1024 .bf16 := hN I.ng I.x
def u : Vec F S512x1024 .f32 := k0_pay88 I.hn I.wl
def pr : Vec F S512x3712 .f32 := k0_pay89 I.hn I.wr
def up : Vec F S520x1024 .f32 := upad K.t I.u
def tail : Vec F S8x1024 .f32 := k0_pay90 (win (I.up K) 512 0 8 1024)
/-- the convolved rows under the new 8 rows -/
def cu : Vec F S520x1024 .f32 := upad (k0_pay94 (I.tail K)) (uC I.cw I.cb (I.up K))
def ri : Vec F S512x2048 .f32 := riOf (uB I.cw I.cb (I.up K)) I.wai
def yl : ℕ → Vec F S8x1024 .f32 := scanBlk I.lam I.ba I.bi (I.ri K) (I.cu K) K.h
def og : ℕ → Vec F S64x512 .f32 := glaBlk I.wg I.bg I.gg I.pr K.s
def xa : ℕ → Vec F S128x512 .f32 := xaBlk I.kt I.vm I.pr
def ym : Vec F S512x2048 .f32 := ymix (I.yl K) (I.og K) I.xa
def yo : Vec F S1x512x1024 .f32 := k0_pay3 (yB I.pr (I.ym K)) I.wo
/-- the block of the result -/
def out : Vec F S1x512x1024 .f32 := zOut I.fg I.x (I.yo K)
/-- what is handed on -/
def next : Carry F := ⟨k0_pay94 (I.tail K), k0_pay110 (scanCarry I.lam I.ba I.bi (I.ri K) (I.cu K) K.h 64), glaState I.wg I.bg I.gg I.pr K.s 8⟩

end Ins

/-- The carry at the start of a row of the batch. -/
def Carry.zero : Carry F := ⟨k0_pay84, k0_pay85, k0_pay86⟩

end Cert.KernelIdeal.Layer

end
-- ==== Proof.Run1.lean ====
/- The loops of the layer kernel's body: what each leaves in the buffers it writes. -/
module

public import proofs.«01_k».proof.Proof.Stages
public import proofs.«01_k».proof.Proof.Gen.KernelIdeal.Frame
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x3712 .bf16) (harg4 : arg4.IsWhole) (arg5 : Memref sig .tc .vmem S8x128x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x512 .f32) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S520x1024 .f32) (harg21 : arg21.IsWhole) (arg22 : Memref sig .tc .vmem S512x3712 .f32) (harg22 : arg22.IsWhole) (arg23 : Memref sig .tc .vmem S512x1024 .bf16) (harg23 : arg23.IsWhole) (arg24 : Memref sig .tc .vmem S512x2048 .f32) (harg24 : arg24.IsWhole) (arg25 : Memref sig .tc .vmem S512x2048 .f32) (harg25 : arg25.IsWhole) (arg26 : Memref sig .tc .vmem S512x2048 .bf16) (harg26 : arg26.IsWhole) (arg27 : Memref sig .tc .vmem S8x1024 .f32) (harg27 : arg27.IsWhole) (arg28 : Memref sig .tc .vmem S1x1024 .f32) (harg28 : arg28.IsWhole) (arg29 : Memref sig .tc .vmem S512x256 .f32) (harg29 : arg29.IsWhole)

theorem trip1 (v3 : Vec F S1x1024 .f32) (X2 : Vec F S1x512x1024 .f32) (G : Vec F S512x1024 .bf16) (k : Fin k0_t1_loop.trips) :
    (iprop(owns (c : Thread nD τ) arg2 fullShare (X2) ∗ owns (c : Thread nD τ) arg20 fullShare (fill G 32 0 1024 (hBlk v3 X2) k.val)) : sProp 𝕄G) ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 k PUnit.unit)
      (fun _ => iprop(owns (c : Thread nD τ) arg2 fullShare (X2) ∗ owns (c : Thread nD τ) arg20 fullShare (fill G 32 0 1024 (hBlk v3 X2) (k.val + 1)))) := by
  unfold k0_t1_body owns
  iintro ⟨⟨%f2, %h2, H2⟩, ⟨%f20, %h20, H20⟩⟩
  sl_exec
  sl_step
  isplitl [H2]
  · iexists f2; isplitr
    · ipureintro; exact h2
    · iexact H2
  iexists _; isplitr; swap; · iexact H20
  ipureintro
  rw [readAt_win3 _ _ _ (k0_off1_eq k), read_put _ _ _ _ _ (k0_off2_eq k), View.writes_nil, h20, h2]
  exact fill_succ _ _ _ _ _ _

theorem loop1 (v3 : Vec F S1x1024 .f32) (X2 : Vec F S1x512x1024 .f32) (G : Vec F S512x1024 .bf16) :
    (iprop(owns (c : Thread nD τ) arg2 fullShare (X2) ∗ owns (c : Thread nD τ) arg20 fullShare (G)) : sProp 𝕄G) ⊢ wp frame (wpE (defs₀ (F := F)) 𝒱 (c : Thread nD τ) bd) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3))
      (fun _ => iprop(owns (c : Thread nD τ) arg2 fullShare (X2) ∗ owns (c : Thread nD τ) arg20 fullShare (hN v3 X2))) := by
  iintro H
  iapply (Scf.wp_for frame _ _ _ _ _ _ _ _ (fun k _ => iprop(owns (c : Thread nD τ) arg2 fullShare (X2) ∗ owns (c : Thread nD τ) arg20 fullShare (fill G 32 0 1024 (hBlk v3 X2) k))) (fun k _ => trip1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 X2 G k))
  isplitl [H]
  · rw [fill_zero]; iexact H
  · iintro %_ H
    rw [fill_all _ _ _ _ (by decide)]
    iexact H

theorem trip2 (w : Vec F S4x1024 .f32) (b : Vec F S1x1024 .f32) (X : Vec F S520x1024 .f32) (G : Vec F S512x1024 .bf16) (k : Fin k0_t2_loop.trips) :
    (iprop(owns (c : Thread nD τ) arg21 fullShare (fillDn (R := 520) 8 X (cBlk w b X) k.val) ∗ owns (c : Thread nD τ) arg23 fullShare (fillDn (R := 512) 0 G (cBlkB w b X) k.val)) : sProp 𝕄G) ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 w b k PUnit.unit)
      (fun _ => iprop(owns (c : Thread nD τ) arg21 fullShare (fillDn (R := 520) 8 X (cBlk w b X) (k.val + 1)) ∗ owns (c : Thread nD τ) arg23 fullShare (fillDn (R := 512) 0 G (cBlkB w b X) (k.val + 1)))) := by
  have hk : k.val < 16 := Nat.lt_of_lt_of_le k.isLt k0_t2_abs.2.1
  unfold k0_t2_body owns
  iintro ⟨⟨%f21, %h21, H21⟩, ⟨%f23, %h23, H23⟩⟩
  sl_exec
  sl_step
  isplitl [H21]
  · iexists _; isplitr; swap; · iexact H21
    ipureintro
    rw [readAt_win _ _ _ (k0_off3_eq k), read_put _ _ _ _ _ (k0_off4_eq k), View.writes_nil, h21, fillDn_win _ _ _ hk]
    exact fillDn_succ 8 _ _ _ hk
  · iexists _; isplitr; swap; · iexact H23
    ipureintro
    rw [readAt_win _ _ _ (k0_off3_eq k), read_put _ _ _ _ _ (k0_off5_eq k), View.writes_nil, h21, h23, fillDn_win _ _ _ hk]
    exact fillDn_succ 0 G (cBlkB w b X) _ hk

theorem loop2 (w : Vec F S4x1024 .f32) (b : Vec F S1x1024 .f32) (X : Vec F S520x1024 .f32) (G : Vec F S512x1024 .bf16) :
    (iprop(owns (c : Thread nD τ) arg21 fullShare (X) ∗ owns (c : Thread nD τ) arg23 fullShare (G)) : sProp 𝕄G) ⊢ wp frame (wpE (defs₀ (F := F)) 𝒱 (c : Thread nD τ) bd) E (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 w b))
      (fun _ => iprop(owns (c : Thread nD τ) arg21 fullShare (fillDn (R := 520) 8 X (cBlk w b X) 16) ∗ owns (c : Thread nD τ) arg23 fullShare (uB w b X))) := by
  iintro H
  iapply (Scf.wp_for frame _ _ _ _ _ _ _ _ (fun k _ => iprop(owns (c : Thread nD τ) arg21 fullShare (fillDn (R := 520) 8 X (cBlk w b X) k) ∗ owns (c : Thread nD τ) arg23 fullShare (fillDn (R := 512) 0 G (cBlkB w b X) k))) (fun k _ => trip2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 w b X G k))
  isplitl [H]
  · rw [fillDn_zero 8, fillDn_zero 0]; iexact H
  · iintro %_ H
    have e : Scf.trips k0_t2_loop.lb k0_t2_loop.ub k0_t2_loop.st = 16 := by decide
    rw [e, fillDn_all]
    iexact H

theorem trip3_acc (lam ba bi : Vec F S1x1024 .f32) (RI : Vec F S512x2048 .f32) (U : Vec F S520x1024 .f32) (h0 : Vec F S1x1024 .f32) (k : Fin k0_t3_loop.trips)
    (v301 : Vec F S8x2048 .f32) (v304 : Vec F S8x1024 .f32) (h301 : v301 = win RI (8 * k.val) 0 8 2048) (h304 : v304 = win U (8 * k.val + 8) 0 8 1024) :
    (scanTrip (k0_pay104 lam) (k0_pay105 ba) (k0_pay106 bi) (scanCarry lam ba bi RI U h0 k.val) v301 v304).2 = scanCarry lam ba bi RI U h0 (k.val + 1) := by
  rw [h301, h304]; rfl

theorem trip3_out (lam ba bi : Vec F S1x1024 .f32) (RI : Vec F S512x2048 .f32) (U : Vec F S520x1024 .f32) (Y : Vec F S512x2048 .f32) (h0 : Vec F S1x1024 .f32) (k : Fin k0_t3_loop.trips)
    (f25 : BufTy.Contents (Elt F) arg25.view.ty) (h25 : arg25.view.read (Elt F) f25 = fill Y 8 0 1024 (scanBlk lam ba bi RI U h0) k.val)
    (v301 : Vec F S8x2048 .f32) (v304 : Vec F S8x1024 .f32) (h301 : v301 = win RI (8 * k.val) 0 8 2048) (h304 : v304 = win U (8 * k.val + 8) 0 8 1024) :
    arg25.view.read (Elt F) (arg25.view.writes (Elt F) f25 [(⟨Rect.unit (s := S512x2048) (k0_off8 k) S8x1024.size (k0_off8_inb k),
      (scanTrip (k0_pay104 lam) (k0_pay105 ba) (k0_pay106 bi) (scanCarry lam ba bi RI U h0 k.val) v301 v304).1⟩ : View.Piece (Elt F) S512x2048 .f32)])
      = fill Y 8 0 1024 (scanBlk lam ba bi RI U h0) (k.val + 1) := by
  rw [read_put _ _ _ _ _ (k0_off8_eq k), View.writes_nil, h25, h301, h304]
  exact fill_succ _ _ _ _ _ _

theorem trip3 (lam ba bi : Vec F S1x1024 .f32) (RI : Vec F S512x2048 .f32) (U : Vec F S520x1024 .f32) (Y : Vec F S512x2048 .f32) (h0 : Vec F S1x1024 .f32) (k : Fin k0_t3_loop.trips) :
    (iprop(owns (c : Thread nD τ) arg24 fullShare (RI) ∗ owns (c : Thread nD τ) arg21 fullShare (U) ∗ owns (c : Thread nD τ) arg25 fullShare (fill Y 8 0 1024 (scanBlk lam ba bi RI U h0) k.val)) : sProp 𝕄G) ⊢
      wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay104 lam) (k0_pay105 ba) (k0_pay106 bi) (iota .tc S8x128 32 [0] iota_S8x128_d0_w32) h0 k (scanCarry lam ba bi RI U h0 k.val))
      (fun acc => iprop(owns (c : Thread nD τ) arg24 fullShare (RI) ∗ owns (c : Thread nD τ) arg21 fullShare (U) ∗ owns (c : Thread nD τ) arg25 fullShare (fill Y 8 0 1024 (scanBlk lam ba bi RI U h0) (k.val + 1)) ∗ ⌜acc = scanCarry lam ba bi RI U h0 (k.val + 1)⌝)) := by
  have hk : k.val < 64 := Nat.lt_of_lt_of_le k.isLt k0_t3_abs.2.1
  unfold k0_t3_body owns
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  iintro ⟨⟨%f24, %h24, H24⟩, ⟨%f21, %h21, H21⟩, ⟨%f25, %h25, H25⟩⟩
  simp only [bind_assoc, pure_bind]
  sl_exec
  sl_step
  isplitl [H24]
  · iexists f24; isplitr
    · ipureintro; exact h24
    · iexact H24
  isplitl [H21]
  · iexists f21; isplitr
    · ipureintro; exact h21
    · iexact H21
  isplitl [H25]
  · iexists _; isplitr; swap; · iexact H25
    ipureintro
    have e1 := (readAt_win arg24.view f24 (k0_off6_inb k) (k0_off6_eq k)).trans (congrArg (fun x => win x (8 * k.val) 0 8 2048) h24)
    have e2 := (readAt_win arg21.view f21 (k0_off7_inb k) (k0_off7_eq k)).trans (congrArg (fun x => win x (8 * k.val + 8) 0 8 1024) h21)
    exact trip3_out arg25 lam ba bi RI U Y h0 k f25 h25 _ _ e1 e2
  · ipureintro
    have e1 := (readAt_win arg24.view f24 (k0_off6_inb k) (k0_off6_eq k)).trans (congrArg (fun x => win x (8 * k.val) 0 8 2048) h24)
    have e2 := (readAt_win arg21.view f21 (k0_off7_inb k) (k0_off7_eq k)).trans (congrArg (fun x => win x (8 * k.val + 8) 0 8 1024) h21)
    exact trip3_acc lam ba bi RI U h0 k _ _ e1 e2

end Cert.KernelIdeal.Layer

end
-- ==== Proof.Run2.lean ====
/- The later loops of the layer kernel's body: what each leaves in the buffers it writes. -/
module

public import proofs.«01_k».proof.Proof.Run1
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x3712 .bf16) (harg4 : arg4.IsWhole) (arg5 : Memref sig .tc .vmem S8x128x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x512 .f32) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S520x1024 .f32) (harg21 : arg21.IsWhole) (arg22 : Memref sig .tc .vmem S512x3712 .f32) (harg22 : arg22.IsWhole) (arg23 : Memref sig .tc .vmem S512x1024 .bf16) (harg23 : arg23.IsWhole) (arg24 : Memref sig .tc .vmem S512x2048 .f32) (harg24 : arg24.IsWhole) (arg25 : Memref sig .tc .vmem S512x2048 .f32) (harg25 : arg25.IsWhole) (arg26 : Memref sig .tc .vmem S512x2048 .bf16) (harg26 : arg26.IsWhole) (arg27 : Memref sig .tc .vmem S8x1024 .f32) (harg27 : arg27.IsWhole) (arg28 : Memref sig .tc .vmem S1x1024 .f32) (harg28 : arg28.IsWhole) (arg29 : Memref sig .tc .vmem S512x256 .f32) (harg29 : arg29.IsWhole)

theorem loop3 (lam ba bi : Vec F S1x1024 .f32) (RI : Vec F S512x2048 .f32) (U : Vec F S520x1024 .f32) (Y : Vec F S512x2048 .f32) (h0 : Vec F S1x1024 .f32) :
    (iprop(owns (c : Thread nD τ) arg24 fullShare (RI) ∗ owns (c : Thread nD τ) arg21 fullShare (U) ∗ owns (c : Thread nD τ) arg25 fullShare (Y)) : sProp 𝕄G) ⊢
      wp frame (wpE (defs₀ (F := F)) 𝒱 (c : Thread nD τ) bd) E (Scf.Loop.for k0_t3_loop k0_t3_ok h0 (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay104 lam) (k0_pay105 ba) (k0_pay106 bi) (iota .tc S8x128 32 [0] iota_S8x128_d0_w32) h0))
      (fun acc => iprop(owns (c : Thread nD τ) arg24 fullShare (RI) ∗ owns (c : Thread nD τ) arg21 fullShare (U) ∗ owns (c : Thread nD τ) arg25 fullShare (fill Y 8 0 1024 (scanBlk lam ba bi RI U h0) 64) ∗ ⌜acc = scanCarry lam ba bi RI U h0 64⌝)) := by
  iintro H
  iapply (Scf.wp_for frame _ _ _ _ _ _ _ _ (fun k acc => iprop(owns (c : Thread nD τ) arg24 fullShare (RI) ∗ owns (c : Thread nD τ) arg21 fullShare (U) ∗ owns (c : Thread nD τ) arg25 fullShare (fill Y 8 0 1024 (scanBlk lam ba bi RI U h0) k) ∗ ⌜acc = scanCarry lam ba bi RI U h0 k⌝)) (fun k acc => by
    iintro ⟨H24, H21, H25, %ha⟩
    subst ha
    iapply (trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 lam ba bi RI U Y h0 k)
    isplitl [H24]; · iexact H24
    isplitl [H21]; · iexact H21
    iexact H25))
  isplitl [H]
  · rw [fill_zero]
    icases H with ⟨H24, H21, H25⟩
    isplitl [H24]; · iexact H24
    isplitl [H21]; · iexact H21
    isplitl [H25]; · iexact H25
    ipureintro; rfl
  · iintro %_ H
    have e : Scf.trips k0_t3_loop.lb k0_t3_loop.ub k0_t3_loop.st = 64 := by decide
    rw [e]
    iexact H

theorem trip4_out (wg : Vec F S128x256 .bf16) (bg : Vec F S1x256 .f32) (gg : Vec F S1x512 .f32) (PR : Vec F S512x3712 .f32) (Y : Vec F S512x2048 .f32) (S0 : Vec F S512x256 .f32) (k : Fin k0_t4_loop.trips)
    (f25 : BufTy.Contents (Elt F) arg25.view.ty) (h25 : arg25.view.read (Elt F) f25 = fill Y 64 1024 512 (glaBlk wg bg gg PR S0) k.val)
    (v301 v303 : Vec F S64x256 .f32) (v305 : Vec F S64x512 .f32) (v308 : Vec F S64x128 .f32) (v363 : Vec F S512x256 .f32)
    (h301 : v301 = win PR (64 * k.val) 0 64 256) (h303 : v303 = win PR (64 * k.val) 256 64 256) (h305 : v305 = win PR (64 * k.val) 512 64 512)
    (h308 : v308 = win PR (64 * k.val) 3584 64 128) (h363 : v363 = glaState wg bg gg PR S0 k.val) :
    arg25.view.read (Elt F) (arg25.view.writes (Elt F) f25 [(⟨Rect.unit (s := S512x2048) (k0_off13 k) S64x512.size (k0_off13_inb k),
      (glaTrip wg bg gg v301 v303 v305 v308 v363).1⟩ : View.Piece (Elt F) S512x2048 .f32)])
      = fill Y 64 1024 512 (glaBlk wg bg gg PR S0) (k.val + 1) := by
  rw [read_put _ _ _ _ _ (k0_off13_eq k), View.writes_nil, h25, h301, h303, h305, h308, h363]
  exact fill_succ _ _ _ _ _ _

theorem trip4_st (wg : Vec F S128x256 .bf16) (bg : Vec F S1x256 .f32) (gg : Vec F S1x512 .f32) (PR : Vec F S512x3712 .f32) (S0 : Vec F S512x256 .f32) (k : Fin k0_t4_loop.trips)
    (f29 : BufTy.Contents (Elt F) arg29.view.ty)
    (v301 v303 : Vec F S64x256 .f32) (v305 : Vec F S64x512 .f32) (v308 : Vec F S64x128 .f32) (v363 : Vec F S512x256 .f32)
    (h301 : v301 = win PR (64 * k.val) 0 64 256) (h303 : v303 = win PR (64 * k.val) 256 64 256) (h305 : v305 = win PR (64 * k.val) 512 64 512)
    (h308 : v308 = win PR (64 * k.val) 3584 64 128) (h363 : v363 = glaState wg bg gg PR S0 k.val) (inb : _) :
    arg29.view.read (Elt F) (arg29.view.writes (Elt F) f29 [(⟨Rect.unit (s := S512x256) ![0, 0] S512x256.size inb,
      (glaTrip wg bg gg v301 v303 v305 v308 v363).2⟩ : View.Piece (Elt F) S512x256 .f32)])
      = glaState wg bg gg PR S0 (k.val + 1) := by
  rw [read_put _ _ _ _ _ rfl, put_full, h301, h303, h305, h308, h363]
  rfl

theorem trip4 (wg : Vec F S128x256 .bf16) (bg : Vec F S1x256 .f32) (gg : Vec F S1x512 .f32) (PR : Vec F S512x3712 .f32) (Y : Vec F S512x2048 .f32) (S0 : Vec F S512x256 .f32) (k : Fin k0_t4_loop.trips) :
    (iprop(owns (c : Thread nD τ) arg22 fullShare (PR) ∗ owns (c : Thread nD τ) arg29 fullShare (glaState wg bg gg PR S0 k.val) ∗ owns (c : Thread nD τ) arg25 fullShare (fill Y 64 1024 512 (glaBlk wg bg gg PR S0) k.val)) : sProp 𝕄G) ⊢
      wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay111 wg) (k0_pay112 bg) (k0_pay113 gg) k0_pay114 k0_pay115 mKbd mVbd (iota .tc S512x256 32 [0] iota_S512x256_d0_w32) (iota .tc S512x256 32 [1] iota_S512x256_d1_w32) 128#32 k0_pay122 k0_pay123 k0_pay124 k PUnit.unit)
      (fun _ => iprop(owns (c : Thread nD τ) arg22 fullShare (PR) ∗ owns (c : Thread nD τ) arg29 fullShare (glaState wg bg gg PR S0 (k.val + 1)) ∗ owns (c : Thread nD τ) arg25 fullShare (fill Y 64 1024 512 (glaBlk wg bg gg PR S0) (k.val + 1)))) := by
  have hk : k.val < 8 := Nat.lt_of_lt_of_le k.isLt k0_t4_abs.2.1
  unfold k0_t4_body owns
  simp only [k0_part12_eq_skeleton, k0_part13_eq_skeleton, k0_part14_eq_skeleton]
  unfold k0_part12_skel k0_part13_skel k0_part14_skel
  iintro ⟨⟨%f22, %h22, H22⟩, ⟨%f29, %h29, H29⟩, ⟨%f25, %h25, H25⟩⟩
  simp only [bind_assoc, pure_bind]
  sl_exec
  sl_step
  have e1 := (readAt_win arg22.view f22 (k0_off9_inb k) (k0_off9_eq k)).trans (congrArg (fun x => win x (64 * k.val) 0 64 256) h22)
  have e2 := (readAt_win arg22.view f22 (k0_off10_inb k) (k0_off10_eq k)).trans (congrArg (fun x => win x (64 * k.val) 256 64 256) h22)
  have e3 := (readAt_win arg22.view f22 (k0_off11_inb k) (k0_off11_eq k)).trans (congrArg (fun x => win x (64 * k.val) 512 64 512) h22)
  have e4 := (readAt_win arg22.view f22 (k0_off12_inb k) (k0_off12_eq k)).trans (congrArg (fun x => win x (64 * k.val) 3584 64 128) h22)
  have e5 := (readAt_win arg29.view f29 (n := 512) (m := 256) (off := ![0, 0]) inb_S512x256_S512x256_0_0 rfl).trans ((win_full _).trans h29)
  isplitl [H22]
  · iexists f22; isplitr
    · ipureintro; exact h22
    · iexact H22
  isplitl [H29]
  · iexists _; isplitr; swap; · iexact H29
    ipureintro
    exact trip4_st arg29 wg bg gg PR S0 k f29 _ _ _ _ _ e1 e2 e3 e4 e5 _
  · iexists _; isplitr; swap; · iexact H25
    ipureintro
    exact trip4_out arg25 wg bg gg PR Y S0 k f25 h25 _ _ _ _ _ e1 e2 e3 e4 e5

theorem loop4 (wg : Vec F S128x256 .bf16) (bg : Vec F S1x256 .f32) (gg : Vec F S1x512 .f32) (PR : Vec F S512x3712 .f32) (Y : Vec F S512x2048 .f32) (S0 : Vec F S512x256 .f32) :
    (iprop(owns (c : Thread nD τ) arg22 fullShare (PR) ∗ owns (c : Thread nD τ) arg29 fullShare (S0) ∗ owns (c : Thread nD τ) arg25 fullShare (Y)) : sProp 𝕄G) ⊢
      wp frame (wpE (defs₀ (F := F)) 𝒱 (c : Thread nD τ) bd) E (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay111 wg) (k0_pay112 bg) (k0_pay113 gg) k0_pay114 k0_pay115 mKbd mVbd (iota .tc S512x256 32 [0] iota_S512x256_d0_w32) (iota .tc S512x256 32 [1] iota_S512x256_d1_w32) 128#32 k0_pay122 k0_pay123 k0_pay124))
      (fun _ => iprop(owns (c : Thread nD τ) arg22 fullShare (PR) ∗ owns (c : Thread nD τ) arg29 fullShare (glaState wg bg gg PR S0 8) ∗ owns (c : Thread nD τ) arg25 fullShare (fill Y 64 1024 512 (glaBlk wg bg gg PR S0) 8))) := by
  iintro H
  iapply (Scf.wp_for frame _ _ _ _ _ _ _ _ (fun k _ => iprop(owns (c : Thread nD τ) arg22 fullShare (PR) ∗ owns (c : Thread nD τ) arg29 fullShare (glaState wg bg gg PR S0 k) ∗ owns (c : Thread nD τ) arg25 fullShare (fill Y 64 1024 512 (glaBlk wg bg gg PR S0) k))) (fun k _ => trip4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 wg bg gg PR Y S0 k))
  isplitl [H]
  · rw [fill_zero]; iexact H
  · iintro %_ H
    have e : Scf.trips k0_t4_loop.lb k0_t4_loop.ub k0_t4_loop.st = 8 := by decide
    rw [e]
    iexact H

theorem trip5_out (kt : Vec F S1x512x256 .bf16) (vm : Vec F S1x256x512 .bf16) (PR : Vec F S512x3712 .f32) (Y : Vec F S512x2048 .f32) (k : Fin k0_t5_loop.trips)
    (f25 : BufTy.Contents (Elt F) arg25.view.ty) (h25 : arg25.view.read (Elt F) f25 = fill Y 128 1536 512 (xaBlk kt vm PR) k.val)
    (q0 q1 q2 q3 : Vec F S128x128 .f32) (k0' k1 k2 k3 : Vec F S1x128x256 .bf16) (v0 v1 v2 v3 : Vec F S1x256x128 .bf16)
    (hq0 : q0 = win PR (128 * k.val) 1024 128 128) (hq1 : q1 = win PR (128 * k.val) 1152 128 128) (hq2 : q2 = win PR (128 * k.val) 1280 128 128) (hq3 : q3 = win PR (128 * k.val) 1408 128 128)
    (hk0 : k0' = win3 kt 0 0 0 1 128 256) (hk1 : k1 = win3 kt 0 128 0 1 128 256) (hk2 : k2 = win3 kt 0 256 0 1 128 256) (hk3 : k3 = win3 kt 0 384 0 1 128 256)
    (hv0 : v0 = win3 vm 0 0 0 1 256 128) (hv1 : v1 = win3 vm 0 0 128 1 256 128) (hv2 : v2 = win3 vm 0 0 256 1 256 128) (hv3 : v3 = win3 vm 0 0 384 1 256 128) :
    arg25.view.read (Elt F) (arg25.view.writes (Elt F) f25 [(⟨Rect.unit (s := S512x2048) (k0_off18 k) S128x512.size (k0_off18_inb k),
      k0_pay1 (k0_pay79 q0 k0' v0) (k0_pay81 (k0_pay80 q1 k1) v1) (k0_pay82 q2 k2 v2) (k0_pay83 q3) k3 v3⟩ : View.Piece (Elt F) S512x2048 .f32)])
      = fill Y 128 1536 512 (xaBlk kt vm PR) (k.val + 1) := by
  rw [read_put _ _ _ _ _ (k0_off18_eq k), View.writes_nil, h25, hq0, hq1, hq2, hq3, hk0, hk1, hk2, hk3, hv0, hv1, hv2, hv3]
  exact fill_succ _ _ _ _ _ _

theorem trip5 (kt : Vec F S1x512x256 .bf16) (vm : Vec F S1x256x512 .bf16) (PR : Vec F S512x3712 .f32) (Y : Vec F S512x2048 .f32) (k : Fin k0_t5_loop.trips) :
    (iprop(owns (c : Thread nD τ) arg22 fullShare (PR) ∗ owns (c : Thread nD τ) arg14 fullShare (kt) ∗ owns (c : Thread nD τ) arg15 fullShare (vm) ∗ owns (c : Thread nD τ) arg25 fullShare (fill Y 128 1536 512 (xaBlk kt vm PR) k.val)) : sProp 𝕄G) ⊢
      wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k PUnit.unit)
      (fun _ => iprop(owns (c : Thread nD τ) arg22 fullShare (PR) ∗ owns (c : Thread nD τ) arg14 fullShare (kt) ∗ owns (c : Thread nD τ) arg15 fullShare (vm) ∗ owns (c : Thread nD τ) arg25 fullShare (fill Y 128 1536 512 (xaBlk kt vm PR) (k.val + 1)))) := by
  have hk : k.val < 4 := Nat.lt_of_lt_of_le k.isLt k0_t5_abs.2.1
  unfold k0_t5_body owns
  simp only [k0_part15_eq_skeleton, k0_part16_eq_skeleton]
  unfold k0_part15_skel k0_part16_skel
  iintro ⟨⟨%f22, %h22, H22⟩, ⟨%f14, %h14, H14⟩, ⟨%f15, %h15, H15⟩, ⟨%f25, %h25, H25⟩⟩
  simp only [bind_assoc, pure_bind]
  sl_exec
  sl_step
  isplitl [H22]
  · iexists f22; isplitr
    · ipureintro; exact h22
    · iexact H22
  isplitl [H14]
  · iexists f14; isplitr
    · ipureintro; exact h14
    · iexact H14
  isplitl [H15]
  · iexists f15; isplitr
    · ipureintro; exact h15
    · iexact H15
  iexists _; isplitr; swap; · iexact H25
  ipureintro
  have q0 := (readAt_win arg22.view f22 (k0_off14_inb k) (k0_off14_eq k)).trans (congrArg (fun x => win x (128 * k.val) 1024 128 128) h22)
  have q1 := (readAt_win arg22.view f22 (k0_off15_inb k) (k0_off15_eq k)).trans (congrArg (fun x => win x (128 * k.val) 1152 128 128) h22)
  have q2 := (readAt_win arg22.view f22 (k0_off16_inb k) (k0_off16_eq k)).trans (congrArg (fun x => win x (128 * k.val) 1280 128 128) h22)
  have q3 := (readAt_win arg22.view f22 (k0_off17_inb k) (k0_off17_eq k)).trans (congrArg (fun x => win x (128 * k.val) 1408 128 128) h22)
  exact trip5_out arg25 kt vm PR Y k f25 h25 _ _ _ _ _ _ _ _ _ _ _ _ q0 q1 q2 q3
    ((readAt_win3 arg14.view f14 _ rfl).trans (congrArg (fun x => win3 x 0 0 0 1 128 256) h14))
    ((readAt_win3 arg14.view f14 _ rfl).trans (congrArg (fun x => win3 x 0 128 0 1 128 256) h14))
    ((readAt_win3 arg14.view f14 _ rfl).trans (congrArg (fun x => win3 x 0 256 0 1 128 256) h14))
    ((readAt_win3 arg14.view f14 _ rfl).trans (congrArg (fun x => win3 x 0 384 0 1 128 256) h14))
    ((readAt_win3 arg15.view f15 _ rfl).trans (congrArg (fun x => win3 x 0 0 0 1 256 128) h15))
    ((readAt_win3 arg15.view f15 _ rfl).trans (congrArg (fun x => win3 x 0 0 128 1 256 128) h15))
    ((readAt_win3 arg15.view f15 _ rfl).trans (congrArg (fun x => win3 x 0 0 256 1 256 128) h15))
    ((readAt_win3 arg15.view f15 _ rfl).trans (congrArg (fun x => win3 x 0 0 384 1 256 128) h15))

theorem loop5 (kt : Vec F S1x512x256 .bf16) (vm : Vec F S1x256x512 .bf16) (PR : Vec F S512x3712 .f32) (Y : Vec F S512x2048 .f32) :
    (iprop(owns (c : Thread nD τ) arg22 fullShare (PR) ∗ owns (c : Thread nD τ) arg14 fullShare (kt) ∗ owns (c : Thread nD τ) arg15 fullShare (vm) ∗ owns (c : Thread nD τ) arg25 fullShare (Y)) : sProp 𝕄G) ⊢
      wp frame (wpE (defs₀ (F := F)) 𝒱 (c : Thread nD τ) bd) E (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29))
      (fun _ => iprop(owns (c : Thread nD τ) arg22 fullShare (PR) ∗ owns (c : Thread nD τ) arg14 fullShare (kt) ∗ owns (c : Thread nD τ) arg15 fullShare (vm) ∗ owns (c : Thread nD τ) arg25 fullShare (fill Y 128 1536 512 (xaBlk kt vm PR) 4))) := by
  iintro H
  iapply (Scf.wp_for frame _ _ _ _ _ _ _ _ (fun k _ => iprop(owns (c : Thread nD τ) arg22 fullShare (PR) ∗ owns (c : Thread nD τ) arg14 fullShare (kt) ∗ owns (c : Thread nD τ) arg15 fullShare (vm) ∗ owns (c : Thread nD τ) arg25 fullShare (fill Y 128 1536 512 (xaBlk kt vm PR) k))) (fun k _ => trip5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kt vm PR Y k))
  isplitl [H]
  · rw [fill_zero]; iexact H
  · iintro %_ H
    have e : Scf.trips k0_t5_loop.lb k0_t5_loop.ub k0_t5_loop.st = 4 := by decide
    rw [e]
    iexact H

theorem trip6 (PR : Vec F S512x3712 .f32) (YM : Vec F S512x2048 .f32) (G : Vec F S512x2048 .bf16) (k : Fin k0_t6_loop.trips) :
    (iprop(owns (c : Thread nD τ) arg22 fullShare (PR) ∗ owns (c : Thread nD τ) arg25 fullShare (YM) ∗ owns (c : Thread nD τ) arg26 fullShare (fill G 32 0 2048 (gBlk PR YM) k.val)) : sProp 𝕄G) ⊢
      wp frame (wpE (defs₀ (F := F)) 𝒱 (c : Thread nD τ) bd) E (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k PUnit.unit)
      (fun _ => iprop(owns (c : Thread nD τ) arg22 fullShare (PR) ∗ owns (c : Thread nD τ) arg25 fullShare (YM) ∗ owns (c : Thread nD τ) arg26 fullShare (fill G 32 0 2048 (gBlk PR YM) (k.val + 1)))) := by
  have hk : k.val < 16 := Nat.lt_of_lt_of_le k.isLt k0_t6_abs.2.1
  unfold k0_t6_body owns
  iintro ⟨⟨%f22, %h22, H22⟩, ⟨%f25, %h25, H25⟩, ⟨%f26, %h26, H26⟩⟩
  sl_exec
  sl_step
  isplitl [H22]
  · iexists f22; isplitr
    · ipureintro; exact h22
    · iexact H22
  isplitl [H25]
  · iexists f25; isplitr
    · ipureintro; exact h25
    · iexact H25
  iexists _; isplitr; swap; · iexact H26
  ipureintro
  rw [readAt_win arg22.view _ _ (k0_off19_eq k), readAt_win arg25.view _ _ (k0_off20_eq k), read_put _ _ _ _ _ (k0_off20_eq k), View.writes_nil, h22, h25, h26]
  exact fill_succ _ _ _ _ _ _

theorem loop6 (PR : Vec F S512x3712 .f32) (YM : Vec F S512x2048 .f32) (G : Vec F S512x2048 .bf16) :
    (iprop(owns (c : Thread nD τ) arg22 fullShare (PR) ∗ owns (c : Thread nD τ) arg25 fullShare (YM) ∗ owns (c : Thread nD τ) arg26 fullShare (G)) : sProp 𝕄G) ⊢
      wp frame (wpE (defs₀ (F := F)) 𝒱 (c : Thread nD τ) bd) E (Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29))
      (fun _ => iprop(owns (c : Thread nD τ) arg22 fullShare (PR) ∗ owns (c : Thread nD τ) arg25 fullShare (YM) ∗ owns (c : Thread nD τ) arg26 fullShare (yB PR YM))) := by
  iintro H
  iapply (Scf.wp_for frame _ _ _ _ _ _ _ _ (fun k _ => iprop(owns (c : Thread nD τ) arg22 fullShare (PR) ∗ owns (c : Thread nD τ) arg25 fullShare (YM) ∗ owns (c : Thread nD τ) arg26 fullShare (fill G 32 0 2048 (gBlk PR YM) k))) (fun k _ => trip6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 PR YM G k))
  isplitl [H]
  · rw [fill_zero]; iexact H
  · iintro %_ H
    rw [fill_all _ _ _ _ (by decide)]
    iexact H

theorem trip7 (fg : Vec F S1x1024 .f32) (X O : Vec F S1x512x1024 .f32) (k : Fin k0_t7_loop.trips) :
    (iprop(owns (c : Thread nD τ) arg2 fullShare (X) ∗ owns (c : Thread nD τ) arg19 fullShare (fill3 O 32 (zBlk fg X O) k.val)) : sProp 𝕄G) ⊢
      wp frame (wpE (defs₀ (F := F)) 𝒱 (c : Thread nD τ) bd) E (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 fg k PUnit.unit)
      (fun _ => iprop(owns (c : Thread nD τ) arg2 fullShare (X) ∗ owns (c : Thread nD τ) arg19 fullShare (fill3 O 32 (zBlk fg X O) (k.val + 1)))) := by
  have hk : k.val < 16 := Nat.lt_of_lt_of_le k.isLt k0_t7_abs.2.1
  unfold k0_t7_body owns
  iintro ⟨⟨%f2, %h2, H2⟩, ⟨%f19, %h19, H19⟩⟩
  sl_exec
  sl_step
  isplitl [H2]
  · iexists f2; isplitr
    · ipureintro; exact h2
    · iexact H2
  iexists _; isplitr; swap; · iexact H19
  ipureintro
  rw [readAt_win3 arg2.view _ _ (k0_off21_eq k), readAt_win3 arg19.view _ _ (k0_off21_eq k), read_put3 _ _ _ _ _ (k0_off21_eq k), View.writes_nil, h2, h19, fill3_win _ _ _ hk]
  exact fill3_succ _ _ _ _

theorem loop7 (fg : Vec F S1x1024 .f32) (X O : Vec F S1x512x1024 .f32) :
    (iprop(owns (c : Thread nD τ) arg2 fullShare (X) ∗ owns (c : Thread nD τ) arg19 fullShare (O)) : sProp 𝕄G) ⊢
      wp frame (wpE (defs₀ (F := F)) 𝒱 (c : Thread nD τ) bd) E (Scf.Loop.for k0_t7_loop k0_t7_ok ⟨⟩ (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 fg))
      (fun _ => iprop(owns (c : Thread nD τ) arg2 fullShare (X) ∗ owns (c : Thread nD τ) arg19 fullShare (zOut fg X O))) := by
  iintro H
  iapply (Scf.wp_for frame _ _ _ _ _ _ _ _ (fun k _ => iprop(owns (c : Thread nD τ) arg2 fullShare (X) ∗ owns (c : Thread nD τ) arg19 fullShare (fill3 O 32 (zBlk fg X O) k))) (fun k _ => trip7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 fg X O k))
  isplitl [H]
  · rw [fill3_zero]; iexact H
  · iintro %_ H
    have e : Scf.trips k0_t7_loop.lb k0_t7_loop.ub k0_t7_loop.st = 16 := by decide
    rw [e, fill3_all]
    iexact H

end Cert.KernelIdeal.Layer

end
-- ==== Proof.Run3.lean ====
/- The parts of the layer kernel's body between its loops, and the whole body. -/
module

public import proofs.«01_k».proof.Proof.Run2
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x3712 .bf16) (harg4 : arg4.IsWhole) (arg5 : Memref sig .tc .vmem S8x128x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x512 .f32) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S520x1024 .f32) (harg21 : arg21.IsWhole) (arg22 : Memref sig .tc .vmem S512x3712 .f32) (harg22 : arg22.IsWhole) (arg23 : Memref sig .tc .vmem S512x1024 .bf16) (harg23 : arg23.IsWhole) (arg24 : Memref sig .tc .vmem S512x2048 .f32) (harg24 : arg24.IsWhole) (arg25 : Memref sig .tc .vmem S512x2048 .f32) (harg25 : arg25.IsWhole) (arg26 : Memref sig .tc .vmem S512x2048 .bf16) (harg26 : arg26.IsWhole) (arg27 : Memref sig .tc .vmem S8x1024 .f32) (harg27 : arg27.IsWhole) (arg28 : Memref sig .tc .vmem S1x1024 .f32) (harg28 : arg28.IsWhole) (arg29 : Memref sig .tc .vmem S512x256 .f32) (harg29 : arg29.IsWhole)

theorem cond_pos (i : grid0.Coords) (h : (i 1).val = 0) :
    Scalar.cmpi .ne (Scalar.extui (Scalar.cmpi .eq (BitVec.ofNat 32 (i 1).val) 0#32) : BitVec 32) 0#32 = 1#1 := by
  rw [h]; decide

theorem cond_neg (i : grid0.Coords) (h : ¬ (i 1).val = 0) :
    ¬ Scalar.cmpi .ne (Scalar.extui (Scalar.cmpi .eq (BitVec.ofNat 32 (i 1).val) 0#32) : BitVec 32) 0#32 = 1#1 := by
  have H : ∀ a : Fin 8, ¬ a.val = 0 → ¬ Scalar.cmpi .ne (Scalar.extui (Scalar.cmpi .eq (BitVec.ofNat 32 a.val) 0#32) : BitVec 32) 0#32 = 1#1 := by decide
  exact H (i 1) h

/-- What a point of the grid starts from: nothing at the start of a row of the batch. -/
def start (i : grid0.Coords) (K : Carry F) : Carry F := if (i 1).val = 0 then Carry.zero else K

omit [FloatOps F] in
/-- A load of a whole array. -/
theorem full2 {R C : ℕ} [NeZero R] [NeZero C] {e : EltTy} (m : Memref sig .tc .vmem (⟨2, ![R, C]⟩ : Shape) e) {f : m.view.ty.Contents (Elt F)}
    {X : (⟨2, ![R, C]⟩ : Shape).Idx → Elt F e} (h : m.view.read (Elt F) f = X) (inb : ∀ a, (![0, 0] : Fin 2 → ℕ) a + (![R, C] : Fin 2 → ℕ) a ≤ (⟨2, ![R, C]⟩ : Shape).size a) :
    m.view.readAt (Elt F) (Rect.unit (s := ⟨2, ![R, C]⟩) ![0, 0] ![R, C] inb).toLoadRect f = X :=
  (readAt_win m.view f inb rfl).trans ((win_full _).trans h)

omit [FloatOps F] in
/-- A store over a whole array. -/
theorem store2 {R C : ℕ} [NeZero R] [NeZero C] {e : EltTy} (m : Memref sig .tc .vmem (⟨2, ![R, C]⟩ : Shape) e) (f : m.view.ty.Contents (Elt F))
    (X : (⟨2, ![R, C]⟩ : Shape).Idx → Elt F e) (inb : ∀ a, (![0, 0] : Fin 2 → ℕ) a + (![R, C] : Fin 2 → ℕ) a ≤ (⟨2, ![R, C]⟩ : Shape).size a) (L : List (View.Piece (Elt F) (⟨2, ![R, C]⟩ : Shape) e)) :
    m.view.read (Elt F) (m.view.writes (Elt F) f ((⟨Rect.unit (s := ⟨2, ![R, C]⟩) ![0, 0] ![R, C] inb, X⟩ : View.Piece (Elt F) (⟨2, ![R, C]⟩ : Shape) e) :: L)) = X :=
  (read_put m.view f inb X L rfl).trans (put_full _ _)

theorem tail_put (x : Vec F S520x1024 .f32) (T : Vec F S8x1024 .f32) (u : Vec F S512x1024 .f32) :
    win (put x 8 0 u) 512 0 8 1024 = win (upad T u) 512 0 8 1024 := by
  rw [upad_put]
  funext j
  have j0 := idx2_lt0 j
  have hn : ¬ (512 + (j 0).val) % 520 < 8 := by omega
  exact (if_neg hn).trans (if_neg hn).symm

theorem tail_cov (m : Memref sig .tc .vmem S520x1024 .f32) {v6 h : Vec F S512x1024 .bf16} {v7 w : Vec F S1024x1024 .bf16} (h6 : v6 = h) (h7 : v7 = w) (T : Vec F S8x1024 .f32) (L : List (View.Piece (Elt F) S520x1024 .f32))
    (inb : ∀ a, (![8, 0] : Fin 2 → ℕ) a + (![512, 1024] : Fin 2 → ℕ) a ≤ S520x1024.size a) (inb' : ∀ a, (![512, 0] : Fin 2 → ℕ) a + (![8, 1024] : Fin 2 → ℕ) a ≤ S520x1024.size a) :
    m.view.readCov ((⟨Rect.unit (s := S520x1024) ![8, 0] ![512, 1024] inb, k0_pay88 v6 v7⟩ : View.Piece (Elt F) S520x1024 .f32) :: L) (Rect.unit (s := S520x1024) ![512, 0] ![8, 1024] inb').toLoadRect
      = win (upad T (k0_pay88 h w)) 512 0 8 1024 := by
  subst h6 h7
  refine (readAt_win m.view _ inb' rfl).trans ?_
  rw [read_put _ _ _ _ _ rfl, tail_put _ T]

theorem up_writes (m : Memref sig .tc .vmem S520x1024 .f32) (f : m.view.ty.Contents (Elt F)) {v6 h : Vec F S512x1024 .bf16} {v7 w : Vec F S1024x1024 .bf16} (h6 : v6 = h) (h7 : v7 = w) (T : Vec F S8x1024 .f32) (L : List (View.Piece (Elt F) S520x1024 .f32))
    (inb : ∀ a, (![8, 0] : Fin 2 → ℕ) a + (![512, 1024] : Fin 2 → ℕ) a ≤ S520x1024.size a) (hT : win (m.view.read (Elt F) (m.view.writes (Elt F) f L)) 0 0 8 1024 = T) :
    m.view.read (Elt F) (m.view.writes (Elt F) f ((⟨Rect.unit (s := S520x1024) ![8, 0] ![512, 1024] inb, k0_pay88 v6 v7⟩ : View.Piece (Elt F) S520x1024 .f32) :: L))
      = upad T (k0_pay88 h w) := by
  subst h6 h7 hT
  rw [read_put _ _ _ _ _ rfl, upad_put]

/-- A step of a program whose own run is known. -/
theorem use {α β : Type} {P : sProp 𝕄G} {p : Prog (TpuEff nD τ sig (Elt F) Λ₀ .tc) α} {k : α → Prog (TpuEff nD τ sig (Elt F) Λ₀ .tc) β} {Q : α → sProp 𝕄G} {R : β → sProp 𝕄G}
    (h : P ⊢ wp frame (wpE (defs₀ (F := F)) 𝒱 (c : Thread nD τ) bd) E p Q) : (iprop(P ∗ (∀ a, Q a -∗ wp frame (wpE (defs₀ (F := F)) 𝒱 (c : Thread nD τ) bd) E (k a) R)) : sProp 𝕄G) ⊢ wp frame (wpE (defs₀ (F := F)) 𝒱 (c : Thread nD τ) bd) E (p >>= k) R := by
  rw [wp_bind]
  iintro ⟨HP, HK⟩
  iapply (wp_wand_r _ _ _)
  isplitl [HP]
  · iapply h; iexact HP
  · iexact HK

theorem part17 (I : Ins F) (K : Carry F) (G20 : Vec F S512x1024 .bf16) (X21 : Vec F S520x1024 .f32) (hX : win X21 0 0 8 1024 = K.t) (G22 : Vec F S512x3712 .f32) (G27 : Vec F S8x1024 .f32) :
    (iprop(owns (c : Thread nD τ) arg2 fullShare (I.x) ∗ owns (c : Thread nD τ) arg3 fullShare (I.wl) ∗ owns (c : Thread nD τ) arg4 fullShare (I.wr) ∗ owns (c : Thread nD τ) arg8 fullShare (I.cw) ∗ owns (c : Thread nD τ) arg17 fullShare (I.ng) ∗ owns (c : Thread nD τ) arg20 fullShare (G20) ∗ owns (c : Thread nD τ) arg21 fullShare (X21) ∗ owns (c : Thread nD τ) arg22 fullShare (G22) ∗ owns (c : Thread nD τ) arg27 fullShare (G27) ∗ owns (c : Thread nD τ) arg28 fullShare (K.h) ∗ owns (c : Thread nD τ) arg29 fullShare (K.s)) : sProp 𝕄G) ⊢
      wp frame (wpE (defs₀ (F := F)) 𝒱 (c : Thread nD τ) bd) E (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29)
      (fun r => iprop(owns (c : Thread nD τ) arg2 fullShare (I.x) ∗ owns (c : Thread nD τ) arg3 fullShare (I.wl) ∗ owns (c : Thread nD τ) arg4 fullShare (I.wr) ∗ owns (c : Thread nD τ) arg8 fullShare (I.cw) ∗ owns (c : Thread nD τ) arg17 fullShare (I.ng) ∗ owns (c : Thread nD τ) arg20 fullShare (I.hn) ∗ owns (c : Thread nD τ) arg21 fullShare (I.up (start i K)) ∗ owns (c : Thread nD τ) arg22 fullShare (I.pr) ∗ owns (c : Thread nD τ) arg27 fullShare (I.tail (start i K)) ∗ owns (c : Thread nD τ) arg28 fullShare ((start i K).h) ∗ owns (c : Thread nD τ) arg29 fullShare ((start i K).s) ∗ ⌜r = I.cw⌝)) := by
  rw [k0_part17_eq_skeleton]
  unfold k0_part17_skel owns start
  by_cases hi : (i 1).val = 0
  · have hc := cond_pos i hi
    rw [if_pos hi]
    simp only [bind_assoc, pure_bind]
    iintro ⟨⟨%f2, %h2, H2⟩, ⟨%f3, %h3, H3⟩, ⟨%f4, %h4, H4⟩, ⟨%f8, %h8, H8⟩, ⟨%f17, %h17, H17⟩, ⟨%f20, %h20, H20⟩, ⟨%f21, %h21, H21⟩, ⟨%f22, %h22, H22⟩, ⟨%f27, %h27, H27⟩, ⟨%f28, %h28, H28⟩, ⟨%f29, %h29, H29⟩⟩
    sl_exec (disch := exact hc)
    have hT : win (View.read (Elt F) arg21.view (arg21.view.writes (Elt F) f21 [(⟨Rect.unit (s := S520x1024) ![0, 0] ![8, 1024] inb_S520x1024_S8x1024_0_0, k0_pay84⟩ : View.Piece (Elt F) S520x1024 .f32)])) 0 0 8 1024 = k0_pay84 := by
      rw [read_put _ _ _ _ _ rfl, win_put]
    rw [full2 arg17 h17]
    iapply (use 𝒱 c bd E (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.ng I.x G20))
    unfold owns
    isplitl [H2 H20]
    · isplitl [H2]
      · iexists f2; isplitr
        · ipureintro; exact h2
        · iexact H2
      iexists f20; isplitr
      · ipureintro; exact h20
      · iexact H20
    iintro %_ ⟨⟨%g2, %k2, H2⟩, ⟨%g20, %k20, H20⟩⟩
    sl_exec
    sl_step
    isplitl [H2]
    · iexists g2; isplitr
      · ipureintro; exact k2
      · iexact H2
    isplitl [H3]
    · iexists f3; isplitr
      · ipureintro; exact h3
      · iexact H3
    isplitl [H4]
    · iexists f4; isplitr
      · ipureintro; exact h4
      · iexact H4
    isplitl [H8]
    · iexists f8; isplitr
      · ipureintro; exact h8
      · iexact H8
    isplitl [H17]
    · iexists f17; isplitr
      · ipureintro; exact h17
      · iexact H17
    isplitl [H20]
    · iexists g20; isplitr
      · ipureintro; exact k20
      · iexact H20
    isplitl [H21]
    · iexists _; isplitr; swap; · iexact H21
      ipureintro
      exact up_writes arg21 f21 (full2 arg20 k20 inb_S512x1024_S512x1024_0_0) (full2 arg3 h3 inb_S1024x1024_S1024x1024_0_0) _ [(⟨Rect.unit (s := S520x1024) ![0, 0] ![8, 1024] inb_S520x1024_S8x1024_0_0, k0_pay84⟩ : View.Piece (Elt F) S520x1024 .f32)] inb_S520x1024_S512x1024_8_0 hT
    isplitl [H22]
    · iexists _; isplitr; swap; · iexact H22
      ipureintro
      rw [full2 arg20 k20, full2 arg4 h4]
      exact store2 _ _ _ _ _
    isplitl [H27]
    · iexists _; isplitr; swap; · iexact H27
      ipureintro
      rw [store2]
      have e := tail_cov arg21 (full2 arg20 k20 inb_S512x1024_S512x1024_0_0) (full2 arg3 h3 inb_S1024x1024_S1024x1024_0_0) k0_pay84 [(⟨Rect.unit (s := S520x1024) ![0, 0] ![8, 1024] inb_S520x1024_S8x1024_0_0, k0_pay84⟩ : View.Piece (Elt F) S520x1024 .f32)] inb_S520x1024_S512x1024_8_0 inb_S520x1024_S8x1024_512_0
      exact congrArg k0_pay90 e
    isplitl [H28]
    · iexists _; isplitr; swap; · iexact H28
      ipureintro
      exact store2 _ _ _ _ _
    isplitl [H29]
    · iexists _; isplitr; swap; · iexact H29
      ipureintro
      exact store2 _ _ _ _ _
    ipureintro
    exact full2 arg8 h8 _
  · have hc := cond_neg i hi
    rw [if_neg hi]
    simp only [bind_assoc, pure_bind]
    iintro ⟨⟨%f2, %h2, H2⟩, ⟨%f3, %h3, H3⟩, ⟨%f4, %h4, H4⟩, ⟨%f8, %h8, H8⟩, ⟨%f17, %h17, H17⟩, ⟨%f20, %h20, H20⟩, ⟨%f21, %h21, H21⟩, ⟨%f22, %h22, H22⟩, ⟨%f27, %h27, H27⟩, ⟨%f28, %h28, H28⟩, ⟨%f29, %h29, H29⟩⟩
    sl_exec (disch := exact hc)
    have hT : win (View.read (Elt F) arg21.view f21) 0 0 8 1024 = K.t := by rw [h21, hX]
    rw [full2 arg17 h17]
    iapply (use 𝒱 c bd E (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.ng I.x G20))
    unfold owns
    isplitl [H2 H20]
    · isplitl [H2]
      · iexists f2; isplitr
        · ipureintro; exact h2
        · iexact H2
      iexists f20; isplitr
      · ipureintro; exact h20
      · iexact H20
    iintro %_ ⟨⟨%g2, %k2, H2⟩, ⟨%g20, %k20, H20⟩⟩
    sl_exec
    sl_step
    isplitl [H2]
    · iexists g2; isplitr
      · ipureintro; exact k2
      · iexact H2
    isplitl [H3]
    · iexists f3; isplitr
      · ipureintro; exact h3
      · iexact H3
    isplitl [H4]
    · iexists f4; isplitr
      · ipureintro; exact h4
      · iexact H4
    isplitl [H8]
    · iexists f8; isplitr
      · ipureintro; exact h8
      · iexact H8
    isplitl [H17]
    · iexists f17; isplitr
      · ipureintro; exact h17
      · iexact H17
    isplitl [H20]
    · iexists g20; isplitr
      · ipureintro; exact k20
      · iexact H20
    isplitl [H21]
    · iexists _; isplitr; swap; · iexact H21
      ipureintro
      exact up_writes arg21 f21 (full2 arg20 k20 inb_S512x1024_S512x1024_0_0) (full2 arg3 h3 inb_S1024x1024_S1024x1024_0_0) _ [] inb_S520x1024_S512x1024_8_0 hT
    isplitl [H22]
    · iexists _; isplitr; swap; · iexact H22
      ipureintro
      rw [full2 arg20 k20, full2 arg4 h4]
      exact store2 _ _ _ _ _
    isplitl [H27]
    · iexists _; isplitr; swap; · iexact H27
      ipureintro
      rw [store2]
      have e := tail_cov arg21 (full2 arg20 k20 inb_S512x1024_S512x1024_0_0) (full2 arg3 h3 inb_S1024x1024_S1024x1024_0_0) K.t [] inb_S520x1024_S512x1024_8_0 inb_S520x1024_S8x1024_512_0
      exact congrArg k0_pay90 e
    isplitl [H28]
    · iexists f28; isplitr
      · ipureintro; exact h28
      · iexact H28
    isplitl [H29]
    · iexists f29; isplitr
      · ipureintro; exact h29
      · iexact H29
    ipureintro
    exact full2 arg8 h8 _

end Cert.KernelIdeal.Layer

end
-- ==== Proof.Run4.lean ====
/- The parts of the layer kernel's body after its first products. -/
module

public import proofs.«01_k».proof.Proof.Run3
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x3712 .bf16) (harg4 : arg4.IsWhole) (arg5 : Memref sig .tc .vmem S8x128x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x512 .f32) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S520x1024 .f32) (harg21 : arg21.IsWhole) (arg22 : Memref sig .tc .vmem S512x3712 .f32) (harg22 : arg22.IsWhole) (arg23 : Memref sig .tc .vmem S512x1024 .bf16) (harg23 : arg23.IsWhole) (arg24 : Memref sig .tc .vmem S512x2048 .f32) (harg24 : arg24.IsWhole) (arg25 : Memref sig .tc .vmem S512x2048 .f32) (harg25 : arg25.IsWhole) (arg26 : Memref sig .tc .vmem S512x2048 .bf16) (harg26 : arg26.IsWhole) (arg27 : Memref sig .tc .vmem S8x1024 .f32) (harg27 : arg27.IsWhole) (arg28 : Memref sig .tc .vmem S1x1024 .f32) (harg28 : arg28.IsWhole) (arg29 : Memref sig .tc .vmem S512x256 .f32) (harg29 : arg29.IsWhole)

/-- One more head's products stored. -/
theorem put_head (m : Memref sig .tc .vmem S512x2048 .f32) (f : m.view.ty.Contents (Elt F)) (L : List (View.Piece (Elt F) S512x2048 .f32)) {Z : Vec F S512x2048 .f32} (hZ : m.view.read (Elt F) (m.view.writes (Elt F) f L) = Z)
    (q : ℕ) (inb : ∀ a, (![0, q] : Fin 2 → ℕ) a + (![512, 256] : Fin 2 → ℕ) a ≤ S512x2048.size a) {a a' : Vec F S512x128 .bf16} {w w' : Vec F S1x128x256 .bf16} (ha : a = a') (hw : w = w') :
    m.view.read (Elt F) (m.view.writes (Elt F) f ((⟨Rect.unit (s := S512x2048) ![0, q] ![512, 256] inb, k0_pay95 a w⟩ : View.Piece (Elt F) S512x2048 .f32) :: L)) = put Z 0 q (k0_pay95 a' w') := by
  subst ha hw hZ
  exact read_put _ _ _ _ _ rfl

theorem part18 (cw : Vec F S4x1024 .f32) (cb : Vec F S1x1024 .f32) (W : Vec F S8x128x256 .bf16) (U : Vec F S520x1024 .f32) (G23 : Vec F S512x1024 .bf16) (Z : Vec F S512x2048 .f32) (T : Vec F S8x1024 .f32)
    (UB : Vec F S512x1024 .bf16) (hUB : UB = uB cw cb U) :
    (iprop(owns (c : Thread nD τ) arg5 fullShare (W) ∗ owns (c : Thread nD τ) arg9 fullShare (cb) ∗ owns (c : Thread nD τ) arg21 fullShare (U) ∗ owns (c : Thread nD τ) arg23 fullShare (G23) ∗ owns (c : Thread nD τ) arg24 fullShare (Z) ∗ owns (c : Thread nD τ) arg27 fullShare (T)) : sProp 𝕄G) ⊢
      wp frame (wpE (defs₀ (F := F)) 𝒱 (c : Thread nD τ) bd) E (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cw)
      (fun r => iprop(owns (c : Thread nD τ) arg5 fullShare (W) ∗ owns (c : Thread nD τ) arg9 fullShare (cb) ∗ owns (c : Thread nD τ) arg21 fullShare (upad (k0_pay94 T) (uC cw cb U)) ∗ owns (c : Thread nD τ) arg23 fullShare (UB) ∗ owns (c : Thread nD τ) arg24 fullShare (put (put (Z) 0 0 (k0_pay95 (win UB 0 0 512 128) (win3 W 0 0 0 1 128 256))) 0 256 (k0_pay95 (win UB 0 128 512 128) (win3 W 1 0 0 1 128 256))) ∗ owns (c : Thread nD τ) arg27 fullShare (T) ∗ ⌜r = ⟨win UB 0 256 512 128, k0_pay97 (win3 W 2 0 0 1 128 256)⟩⌝)) := by
  rw [k0_part18_eq_skeleton]
  subst hUB
  unfold k0_part18_skel owns
  simp only [bind_assoc, pure_bind]
  iintro ⟨⟨%f5, %h5, H5⟩, ⟨%f9, %h9, H9⟩, ⟨%f21, %h21, H21⟩, ⟨%f23, %h23, H23⟩, ⟨%f24, %h24, H24⟩, ⟨%f27, %h27, H27⟩⟩
  sl_exec
  rw [full2 arg9 h9]
  iapply (use 𝒱 c bd E (loop2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cw cb U G23))
  unfold owns
  isplitl [H21 H23]
  · isplitl [H21]
    · iexists f21; isplitr
      · ipureintro; exact h21
      · iexact H21
    iexists f23; isplitr
    · ipureintro; exact h23
    · iexact H23
  iintro %_ ⟨⟨%g21, %k21, H21⟩, ⟨%g23, %k23, H23⟩⟩
  sl_exec
  sl_step
  isplitl [H5]
  · iexists f5; isplitr
    · ipureintro; exact h5
    · iexact H5
  isplitl [H9]
  · iexists f9; isplitr
    · ipureintro; exact h9
    · iexact H9
  isplitl [H21]
  · iexists _; isplitr; swap; · iexact H21
    ipureintro
    rw [full2 arg27 h27, read_put _ _ _ _ _ rfl, View.writes_nil, k21]
    exact upad_eq _ _ _
  isplitl [H23]
  · iexists g23; isplitr
    · ipureintro; exact k23
    · iexact H23
  isplitl [H24]
  · iexists _; isplitr; swap; · iexact H24
    ipureintro
    exact put_head arg24 f24 _ (put_head arg24 f24 [] h24 0 inb_S512x2048_S512x256_0_0 ((readAt_win arg23.view _ inb_S512x1024_S512x128_0_0 rfl).trans (congrArg (fun x => win x 0 0 512 128) k23)) ((readAt_win3 arg5.view _ inb_S8x128x256_S1x128x256_0_0_0 rfl).trans (congrArg (fun x => win3 x 0 0 0 1 128 256) h5))) 256 inb_S512x2048_S512x256_0_256 ((readAt_win arg23.view _ inb_S512x1024_S512x128_0_128 rfl).trans (congrArg (fun x => win x 0 128 512 128) k23)) ((readAt_win3 arg5.view _ inb_S8x128x256_S1x128x256_1_0_0 rfl).trans (congrArg (fun x => win3 x 1 0 0 1 128 256) h5))
  isplitl [H27]
  · iexists f27; isplitr
    · ipureintro; exact h27
    · iexact H27
  ipureintro
  rw [readAt_win arg23.view _ _ rfl, readAt_win3 arg5.view _ _ rfl, k23, h5]

theorem part19 (W : Vec F S8x128x256 .bf16) (UB : Vec F S512x1024 .bf16) (Z : Vec F S512x2048 .f32) :
    (iprop(owns (c : Thread nD τ) arg5 fullShare (W) ∗ owns (c : Thread nD τ) arg23 fullShare (UB) ∗ owns (c : Thread nD τ) arg24 fullShare (Z)) : sProp 𝕄G) ⊢
      wp frame (wpE (defs₀ (F := F)) 𝒱 (c : Thread nD τ) bd) E (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (win UB 0 256 512 128) (k0_pay97 (win3 W 2 0 0 1 128 256)))
      (fun r => iprop(owns (c : Thread nD τ) arg5 fullShare (W) ∗ owns (c : Thread nD τ) arg23 fullShare (UB) ∗ owns (c : Thread nD τ) arg24 fullShare (put (put (put (put (Z) 0 512 (k0_pay95 (win UB 0 256 512 128) (win3 W 2 0 0 1 128 256))) 0 768 (k0_pay95 (win UB 0 384 512 128) (win3 W 3 0 0 1 128 256))) 0 1024 (k0_pay95 (win UB 0 512 512 128) (win3 W 4 0 0 1 128 256))) 0 1280 (k0_pay95 (win UB 0 640 512 128) (win3 W 5 0 0 1 128 256))) ∗ ⌜r = win UB 0 768 512 128⌝)) := by
  rw [k0_part19_eq_skeleton]
  unfold k0_part19_skel owns
  simp only [bind_assoc, pure_bind]
  iintro ⟨⟨%f5, %h5, H5⟩, ⟨%f23, %h23, H23⟩, ⟨%f24, %h24, H24⟩⟩
  sl_exec
  sl_step
  isplitl [H5]
  · iexists f5; isplitr
    · ipureintro; exact h5
    · iexact H5
  isplitl [H23]
  · iexists f23; isplitr
    · ipureintro; exact h23
    · iexact H23
  isplitl [H24]
  · iexists _; isplitr; swap; · iexact H24
    ipureintro
    exact put_head arg24 f24 _ (put_head arg24 f24 _ (put_head arg24 f24 _ (put_head arg24 f24 [] h24 512 inb_S512x2048_S512x256_0_512 rfl rfl) 768 inb_S512x2048_S512x256_0_768 ((readAt_win arg23.view _ inb_S512x1024_S512x128_0_384 rfl).trans (congrArg (fun x => win x 0 384 512 128) h23)) ((readAt_win3 arg5.view _ inb_S8x128x256_S1x128x256_3_0_0 rfl).trans (congrArg (fun x => win3 x 3 0 0 1 128 256) h5))) 1024 inb_S512x2048_S512x256_0_1024 ((readAt_win arg23.view _ inb_S512x1024_S512x128_0_512 rfl).trans (congrArg (fun x => win x 0 512 512 128) h23)) ((readAt_win3 arg5.view _ inb_S8x128x256_S1x128x256_4_0_0 rfl).trans (congrArg (fun x => win3 x 4 0 0 1 128 256) h5))) 1280 inb_S512x2048_S512x256_0_1280 ((readAt_win arg23.view _ inb_S512x1024_S512x128_0_640 rfl).trans (congrArg (fun x => win x 0 640 512 128) h23)) ((readAt_win3 arg5.view _ inb_S8x128x256_S1x128x256_5_0_0 rfl).trans (congrArg (fun x => win3 x 5 0 0 1 128 256) h5))
  ipureintro
  rw [readAt_win arg23.view _ _ rfl, h23]

theorem part20 (W : Vec F S8x128x256 .bf16) (UB : Vec F S512x1024 .bf16) (Z : Vec F S512x2048 .f32) (lam ba bi h0 : Vec F S1x1024 .f32) :
    (iprop(owns (c : Thread nD τ) arg5 fullShare (W) ∗ owns (c : Thread nD τ) arg6 fullShare (ba) ∗ owns (c : Thread nD τ) arg7 fullShare (bi) ∗ owns (c : Thread nD τ) arg10 fullShare (lam) ∗ owns (c : Thread nD τ) arg23 fullShare (UB) ∗ owns (c : Thread nD τ) arg24 fullShare (Z) ∗ owns (c : Thread nD τ) arg28 fullShare (h0)) : sProp 𝕄G) ⊢
      wp frame (wpE (defs₀ (F := F)) 𝒱 (c : Thread nD τ) bd) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (win UB 0 768 512 128))
      (fun r => iprop(owns (c : Thread nD τ) arg5 fullShare (W) ∗ owns (c : Thread nD τ) arg6 fullShare (ba) ∗ owns (c : Thread nD τ) arg7 fullShare (bi) ∗ owns (c : Thread nD τ) arg10 fullShare (lam) ∗ owns (c : Thread nD τ) arg23 fullShare (UB) ∗ owns (c : Thread nD τ) arg24 fullShare (put (put (Z) 0 1536 (k0_pay95 (win UB 0 768 512 128) (win3 W 6 0 0 1 128 256))) 0 1792 (k0_pay95 (win UB 0 896 512 128) (win3 W 7 0 0 1 128 256))) ∗ owns (c : Thread nD τ) arg28 fullShare (h0) ∗
        ⌜r = ⟨k0_pay104 lam, k0_pay105 ba, k0_pay106 bi, iota .tc S8x128 32 [0] iota_S8x128_d0_w32, h0⟩⌝)) := by
  rw [k0_part20_eq_skeleton]
  unfold k0_part20_skel owns
  simp only [bind_assoc, pure_bind]
  iintro ⟨⟨%f5, %h5, H5⟩, ⟨%f6, %h6, H6⟩, ⟨%f7, %h7, H7⟩, ⟨%f10, %h10, H10⟩, ⟨%f23, %h23, H23⟩, ⟨%f24, %h24, H24⟩, ⟨%f28, %h28, H28⟩⟩
  sl_exec
  sl_step
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H10]
  · iexists f10; isplitr
    · ipureintro; exact h10
    · iexact H10
  isplitl [H23]
  · iexists f23; isplitr
    · ipureintro; exact h23
    · iexact H23
  isplitl [H24]
  · iexists _; isplitr; swap; · iexact H24
    ipureintro
    exact put_head arg24 f24 _ (put_head arg24 f24 [] h24 1536 inb_S512x2048_S512x256_0_1536 rfl ((readAt_win3 arg5.view _ inb_S8x128x256_S1x128x256_6_0_0 rfl).trans (congrArg (fun x => win3 x 6 0 0 1 128 256) h5))) 1792 inb_S512x2048_S512x256_0_1792 ((readAt_win arg23.view _ inb_S512x1024_S512x128_0_896 rfl).trans (congrArg (fun x => win x 0 896 512 128) h23)) ((readAt_win3 arg5.view _ inb_S8x128x256_S1x128x256_7_0_0 rfl).trans (congrArg (fun x => win3 x 7 0 0 1 128 256) h5))
  isplitl [H28]
  · iexists f28; isplitr
    · ipureintro; exact h28
    · iexact H28
  ipureintro
  rw [full2 arg10 h10, full2 arg6 h6, full2 arg7 h7, full2 arg28 h28]

theorem part21 (RI : Vec F S512x2048 .f32) (U : Vec F S520x1024 .f32) (Y : Vec F S512x2048 .f32) (lam ba bi h0 : Vec F S1x1024 .f32) (wg : Vec F S128x256 .bf16) (bg : Vec F S1x256 .f32) (gg : Vec F S1x512 .f32) :
    (iprop(owns (c : Thread nD τ) arg11 fullShare (wg) ∗ owns (c : Thread nD τ) arg12 fullShare (bg) ∗ owns (c : Thread nD τ) arg13 fullShare (gg) ∗ owns (c : Thread nD τ) arg21 fullShare (U) ∗ owns (c : Thread nD τ) arg24 fullShare (RI) ∗ owns (c : Thread nD τ) arg25 fullShare (Y) ∗ owns (c : Thread nD τ) arg28 fullShare (h0)) : sProp 𝕄G) ⊢
      wp frame (wpE (defs₀ (F := F)) 𝒱 (c : Thread nD τ) bd) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay104 lam) (k0_pay105 ba) (k0_pay106 bi) (iota .tc S8x128 32 [0] iota_S8x128_d0_w32) h0)
      (fun r => iprop(owns (c : Thread nD τ) arg11 fullShare (wg) ∗ owns (c : Thread nD τ) arg12 fullShare (bg) ∗ owns (c : Thread nD τ) arg13 fullShare (gg) ∗ owns (c : Thread nD τ) arg21 fullShare (U) ∗ owns (c : Thread nD τ) arg24 fullShare (RI) ∗ owns (c : Thread nD τ) arg25 fullShare (fill Y 8 0 1024 (scanBlk lam ba bi RI U h0) 64) ∗ owns (c : Thread nD τ) arg28 fullShare (k0_pay110 (scanCarry lam ba bi RI U h0 64)) ∗
        ⌜r = ⟨k0_pay111 wg, k0_pay112 bg, k0_pay113 gg, k0_pay114, k0_pay115, iota .tc S256x256 32 [0] iota_S256x256_d0_w32, iota .tc S256x256 32 [1] iota_S256x256_d1_w32, 64#32, k0_pay116, k0_pay117,
          Scalar.subi (Scalar.extui (Scalar.cmpi .sgt 64#32 0#32)) (Scalar.extui (Scalar.cmpi .slt 64#32 0#32))⟩⌝)) := by
  rw [k0_part21_eq_skeleton]
  unfold k0_part21_skel owns
  simp only [bind_assoc, pure_bind]
  iintro ⟨⟨%f11, %h11, H11⟩, ⟨%f12, %h12, H12⟩, ⟨%f13, %h13, H13⟩, ⟨%f21, %h21, H21⟩, ⟨%f24, %h24, H24⟩, ⟨%f25, %h25, H25⟩, ⟨%f28, %h28, H28⟩⟩
  iapply (use 𝒱 c bd E (loop3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 lam ba bi RI U Y h0))
  unfold owns
  isplitl [H24 H21 H25]
  · isplitl [H24]
    · iexists f24; isplitr
      · ipureintro; exact h24
      · iexact H24
    isplitl [H21]
    · iexists f21; isplitr
      · ipureintro; exact h21
      · iexact H21
    iexists f25; isplitr
    · ipureintro; exact h25
    · iexact H25
  iintro %acc ⟨⟨%g24, %k24, H24⟩, ⟨%g21, %k21, H21⟩, ⟨%g25, %k25, H25⟩, %hacc⟩
  subst hacc
  sl_exec
  sl_step
  isplitl [H11]
  · iexists f11; isplitr
    · ipureintro; exact h11
    · iexact H11
  isplitl [H12]
  · iexists f12; isplitr
    · ipureintro; exact h12
    · iexact H12
  isplitl [H13]
  · iexists f13; isplitr
    · ipureintro; exact h13
    · iexact H13
  isplitl [H21]
  · iexists g21; isplitr
    · ipureintro; exact k21
    · iexact H21
  isplitl [H24]
  · iexists g24; isplitr
    · ipureintro; exact k24
    · iexact H24
  isplitl [H25]
  · iexists g25; isplitr
    · ipureintro; exact k25
    · iexact H25
  isplitl [H28]
  · iexists _; isplitr; swap; · iexact H28
    ipureintro
    exact store2 _ _ _ _ _
  ipureintro
  rw [full2 arg11 h11, full2 arg12 h12, full2 arg13 h13]

theorem part24 (wg : Vec F S128x256 .bf16) (bg : Vec F S1x256 .f32) (gg : Vec F S1x512 .f32) (PR : Vec F S512x3712 .f32) (Y : Vec F S512x2048 .f32) (S0 : Vec F S512x256 .f32) :
    (iprop(owns (c : Thread nD τ) arg22 fullShare (PR) ∗ owns (c : Thread nD τ) arg29 fullShare (S0) ∗ owns (c : Thread nD τ) arg25 fullShare (Y)) : sProp 𝕄G) ⊢
      wp frame (wpE (defs₀ (F := F)) 𝒱 (c : Thread nD τ) bd) E (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay111 wg) (k0_pay112 bg) (k0_pay113 gg) k0_pay114 k0_pay115 mKbd mVbd (iota .tc S512x256 32 [0] iota_S512x256_d0_w32) (iota .tc S512x256 32 [1] iota_S512x256_d1_w32) 128#32 k0_pay122 k0_pay123 k0_pay124)
      (fun _ => iprop(owns (c : Thread nD τ) arg22 fullShare (PR) ∗ owns (c : Thread nD τ) arg29 fullShare (glaState wg bg gg PR S0 8) ∗ owns (c : Thread nD τ) arg25 fullShare (fill Y 64 1024 512 (glaBlk wg bg gg PR S0) 8))) := by
  rw [k0_part24_eq_skeleton]
  unfold k0_part24_skel
  iintro H
  iapply (use 𝒱 c bd E (loop4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 wg bg gg PR Y S0))
  isplitl [H]; · iexact H
  iintro %_ H
  sl_step
  iexact H

end Cert.KernelIdeal.Layer

end
-- ==== Proof.Run5.lean ====
/- The layer kernel's whole body. -/
module

public import proofs.«01_k».proof.Proof.Run4
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x3712 .bf16) (harg4 : arg4.IsWhole) (arg5 : Memref sig .tc .vmem S8x128x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x512 .f32) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S520x1024 .f32) (harg21 : arg21.IsWhole) (arg22 : Memref sig .tc .vmem S512x3712 .f32) (harg22 : arg22.IsWhole) (arg23 : Memref sig .tc .vmem S512x1024 .bf16) (harg23 : arg23.IsWhole) (arg24 : Memref sig .tc .vmem S512x2048 .f32) (harg24 : arg24.IsWhole) (arg25 : Memref sig .tc .vmem S512x2048 .f32) (harg25 : arg25.IsWhole) (arg26 : Memref sig .tc .vmem S512x2048 .bf16) (harg26 : arg26.IsWhole) (arg27 : Memref sig .tc .vmem S8x1024 .f32) (harg27 : arg27.IsWhole) (arg28 : Memref sig .tc .vmem S1x1024 .f32) (harg28 : arg28.IsWhole) (arg29 : Memref sig .tc .vmem S512x256 .f32) (harg29 : arg29.IsWhole)

theorem yo_writes (m : Memref sig .tc .vmem S1x512x1024 .f32) (f : m.view.ty.Contents (Elt F)) (L : List (View.Piece (Elt F) S1x512x1024 .f32))
    (inb : ∀ a, (![0, 0, 0] : Fin 3 → ℕ) a + (![1, 512, 1024] : Fin 3 → ℕ) a ≤ S1x512x1024.size a) {a a' : Vec F S512x2048 .bf16} {w w' : Vec F S2048x1024 .bf16} (ha : a = a') (hw : w = w') :
    m.view.read (Elt F) (m.view.writes (Elt F) f ((⟨Rect.unit (s := S1x512x1024) ![0, 0, 0] ![1, 512, 1024] inb, k0_pay3 a w⟩ : View.Piece (Elt F) S1x512x1024 .f32) :: L)) = k0_pay3 a' w' := by
  subst ha hw
  exact (read_put3 m.view f inb _ L rfl).trans (put3_full _ _)

theorem body (I : Ins F) (K : Carry F) (O19 : Vec F S1x512x1024 .f32) (G20 : Vec F S512x1024 .bf16) (X21 : Vec F S520x1024 .f32) (hX : win X21 0 0 8 1024 = K.t) (G22 : Vec F S512x3712 .f32)
    (G23 : Vec F S512x1024 .bf16) (Z24 : Vec F S512x2048 .f32) (Y25 : Vec F S512x2048 .f32) (G26 : Vec F S512x2048 .bf16) (G27 : Vec F S8x1024 .f32) :
    (iprop(owns (c : Thread nD τ) arg2 fullShare (I.x) ∗ owns (c : Thread nD τ) arg3 fullShare (I.wl) ∗ owns (c : Thread nD τ) arg4 fullShare (I.wr) ∗ owns (c : Thread nD τ) arg5 fullShare (I.wai) ∗ owns (c : Thread nD τ) arg6 fullShare (I.ba) ∗ owns (c : Thread nD τ) arg7 fullShare (I.bi) ∗ owns (c : Thread nD τ) arg8 fullShare (I.cw) ∗ owns (c : Thread nD τ) arg9 fullShare (I.cb) ∗ owns (c : Thread nD τ) arg10 fullShare (I.lam) ∗ owns (c : Thread nD τ) arg11 fullShare (I.wg) ∗ owns (c : Thread nD τ) arg12 fullShare (I.bg) ∗ owns (c : Thread nD τ) arg13 fullShare (I.gg) ∗ owns (c : Thread nD τ) arg14 fullShare (I.kt) ∗ owns (c : Thread nD τ) arg15 fullShare (I.vm) ∗ owns (c : Thread nD τ) arg16 fullShare (I.wo) ∗ owns (c : Thread nD τ) arg17 fullShare (I.ng) ∗ owns (c : Thread nD τ) arg18 fullShare (I.fg) ∗ owns (c : Thread nD τ) arg19 fullShare (O19) ∗ owns (c : Thread nD τ) arg20 fullShare (G20) ∗ owns (c : Thread nD τ) arg21 fullShare (X21) ∗ owns (c : Thread nD τ) arg22 fullShare (G22) ∗ owns (c : Thread nD τ) arg23 fullShare (G23) ∗ owns (c : Thread nD τ) arg24 fullShare (Z24) ∗ owns (c : Thread nD τ) arg25 fullShare (Y25) ∗ owns (c : Thread nD τ) arg26 fullShare (G26) ∗ owns (c : Thread nD τ) arg27 fullShare (G27) ∗ owns (c : Thread nD τ) arg28 fullShare (K.h) ∗ owns (c : Thread nD τ) arg29 fullShare (K.s)) : sProp 𝕄G) ⊢
      wp frame (wpE (defs₀ (F := F)) 𝒱 (c : Thread nD τ) bd) E (cc0_hybrid_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29)
      (fun _ => iprop(owns (c : Thread nD τ) arg2 fullShare (I.x) ∗ owns (c : Thread nD τ) arg3 fullShare (I.wl) ∗ owns (c : Thread nD τ) arg4 fullShare (I.wr) ∗ owns (c : Thread nD τ) arg5 fullShare (I.wai) ∗ owns (c : Thread nD τ) arg6 fullShare (I.ba) ∗ owns (c : Thread nD τ) arg7 fullShare (I.bi) ∗ owns (c : Thread nD τ) arg8 fullShare (I.cw) ∗ owns (c : Thread nD τ) arg9 fullShare (I.cb) ∗ owns (c : Thread nD τ) arg10 fullShare (I.lam) ∗ owns (c : Thread nD τ) arg11 fullShare (I.wg) ∗ owns (c : Thread nD τ) arg12 fullShare (I.bg) ∗ owns (c : Thread nD τ) arg13 fullShare (I.gg) ∗ owns (c : Thread nD τ) arg14 fullShare (I.kt) ∗ owns (c : Thread nD τ) arg15 fullShare (I.vm) ∗ owns (c : Thread nD τ) arg16 fullShare (I.wo) ∗ owns (c : Thread nD τ) arg17 fullShare (I.ng) ∗ owns (c : Thread nD τ) arg18 fullShare (I.fg) ∗ owns (c : Thread nD τ) arg19 fullShare (I.out (start i K)) ∗ owns (c : Thread nD τ) arg20 fullShare (I.hn) ∗ owns (c : Thread nD τ) arg21 fullShare (I.cu (start i K)) ∗ owns (c : Thread nD τ) arg22 fullShare (I.pr) ∗ owns (c : Thread nD τ) arg23 fullShare ((uB I.cw I.cb (I.up (start i K)))) ∗ owns (c : Thread nD τ) arg24 fullShare ((I.ri (start i K))) ∗ owns (c : Thread nD τ) arg25 fullShare (I.ym (start i K)) ∗ owns (c : Thread nD τ) arg26 fullShare (yB I.pr (I.ym (start i K))) ∗ owns (c : Thread nD τ) arg27 fullShare (I.tail (start i K)) ∗
        owns (c : Thread nD τ) arg28 fullShare ((I.next (start i K)).h) ∗ owns (c : Thread nD τ) arg29 fullShare ((I.next (start i K)).s))) := by
  rw [cc0_hybrid_layer_eq_skeleton]
  unfold cc0_hybrid_layer_skel
  simp only [k0_part22_eq_skeleton, k0_part23_eq_skeleton]
  unfold k0_part22_skel k0_part23_skel
  simp only [bind_assoc, pure_bind]
  iintro ⟨H2, H3, H4, H5, H6, H7, H8, H9, H10, H11, H12, H13, H14, H15, H16, H17, H18, H19, H20, H21, H22, H23, H24, H25, H26, H27, H28, H29⟩
  iapply (use 𝒱 c bd E (part17 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I K G20 X21 hX G22 G27))
  isplitl [H2 H3 H4 H8 H17 H20 H21 H22 H27 H28 H29]
  · isplitl [H2]; · iexact H2
    isplitl [H3]; · iexact H3
    isplitl [H4]; · iexact H4
    isplitl [H8]; · iexact H8
    isplitl [H17]; · iexact H17
    isplitl [H20]; · iexact H20
    isplitl [H21]; · iexact H21
    isplitl [H22]; · iexact H22
    isplitl [H27]; · iexact H27
    isplitl [H28]; · iexact H28
    iexact H29
  iintro %r ⟨H2, H3, H4, H8, H17, H20, H21, H22, H27, H28, H29, %hr⟩
  subst hr
  iapply (use 𝒱 c bd E (part18 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.cw I.cb I.wai (I.up (start i K)) G23 Z24 (I.tail (start i K)) _ rfl))
  isplitl [H5 H9 H21 H23 H24 H27]
  · isplitl [H5]; · iexact H5
    isplitl [H9]; · iexact H9
    isplitl [H21]; · iexact H21
    isplitl [H23]; · iexact H23
    isplitl [H24]; · iexact H24
    iexact H27
  iintro %r ⟨H5, H9, H21, H23, H24, H27, %hr⟩
  subst hr
  dsimp only
  iapply (use 𝒱 c bd E (part19 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.wai (uB I.cw I.cb (I.up (start i K))) (put (put Z24 0 0 (k0_pay95 (win (uB I.cw I.cb (I.up (start i K))) 0 0 512 128) (win3 I.wai 0 0 0 1 128 256))) 0 256 (k0_pay95 (win (uB I.cw I.cb (I.up (start i K))) 0 128 512 128) (win3 I.wai 1 0 0 1 128 256)))))
  isplitl [H5 H23 H24]
  · isplitl [H5]; · iexact H5
    isplitl [H23]; · iexact H23
    iexact H24
  iintro %r ⟨H5, H23, H24, %hr⟩
  subst hr
  dsimp only
  iapply (use 𝒱 c bd E (part20 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.wai (uB I.cw I.cb (I.up (start i K))) (put (put (put (put (put (put Z24 0 0 (k0_pay95 (win (uB I.cw I.cb (I.up (start i K))) 0 0 512 128) (win3 I.wai 0 0 0 1 128 256))) 0 256 (k0_pay95 (win (uB I.cw I.cb (I.up (start i K))) 0 128 512 128) (win3 I.wai 1 0 0 1 128 256))) 0 512 (k0_pay95 (win (uB I.cw I.cb (I.up (start i K))) 0 256 512 128) (win3 I.wai 2 0 0 1 128 256))) 0 768 (k0_pay95 (win (uB I.cw I.cb (I.up (start i K))) 0 384 512 128) (win3 I.wai 3 0 0 1 128 256))) 0 1024 (k0_pay95 (win (uB I.cw I.cb (I.up (start i K))) 0 512 512 128) (win3 I.wai 4 0 0 1 128 256))) 0 1280 (k0_pay95 (win (uB I.cw I.cb (I.up (start i K))) 0 640 512 128) (win3 I.wai 5 0 0 1 128 256))) I.lam I.ba I.bi (start i K).h))
  isplitl [H5 H6 H7 H10 H23 H24 H28]
  · isplitl [H5]; · iexact H5
    isplitl [H6]; · iexact H6
    isplitl [H7]; · iexact H7
    isplitl [H10]; · iexact H10
    isplitl [H23]; · iexact H23
    isplitl [H24]; · iexact H24
    iexact H28
  iintro %r ⟨H5, H6, H7, H10, H23, H24, H28, %hr⟩
  subst hr
  dsimp only
  rw [riOf_eq]
  iapply (use 𝒱 c bd E (part21 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (I.ri (start i K)) (I.cu (start i K)) Y25 I.lam I.ba I.bi (start i K).h I.wg I.bg I.gg))
  isplitl [H11 H12 H13 H21 H24 H25 H28]
  · isplitl [H11]; · iexact H11
    isplitl [H12]; · iexact H12
    isplitl [H13]; · iexact H13
    isplitl [H21]; · iexact H21
    isplitl [H24]; · iexact H24
    isplitl [H25]; · iexact H25
    iexact H28
  iintro %r ⟨H11, H12, H13, H21, H24, H25, H28, %hr⟩
  subst hr
  dsimp only
  iapply (use 𝒱 c bd E (part24 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.wg I.bg I.gg I.pr (fill Y25 8 0 1024 (I.yl (start i K)) 64) (start i K).s))
  isplitl [H22 H29 H25]
  · isplitl [H22]; · iexact H22
    isplitl [H29]; · iexact H29
    iexact H25
  iintro %_ ⟨H22, H29, H25⟩
  iapply (use 𝒱 c bd E (loop5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.kt I.vm I.pr (fill (fill Y25 8 0 1024 (I.yl (start i K)) 64) 64 1024 512 (I.og (start i K)) 8)))
  isplitl [H22 H14 H15 H25]
  · isplitl [H22]; · iexact H22
    isplitl [H14]; · iexact H14
    isplitl [H15]; · iexact H15
    iexact H25
  iintro %_ ⟨H22, H14, H15, H25⟩
  rw [show fill (fill (fill Y25 8 0 1024 (I.yl (start i K)) 64) 64 1024 512 (I.og (start i K)) 8) 128 1536 512 (xaBlk I.kt I.vm I.pr) 4 = I.ym (start i K) from ymix_eq _ _ _ _]
  iapply (use 𝒱 c bd E (loop6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.pr (I.ym (start i K)) G26))
  isplitl [H22 H25 H26]
  · isplitl [H22]; · iexact H22
    isplitl [H25]; · iexact H25
    iexact H26
  iintro %_ ⟨H22, H25, H26⟩
  unfold owns
  icases H26 with ⟨%f26, %h26, H26⟩
  icases H16 with ⟨%f16, %h16, H16⟩
  icases H19 with ⟨%f19, %h19, H19⟩
  icases H18 with ⟨%f18, %h18, H18⟩
  sl_exec
  rw [full2 arg18 h18]
  iapply (use 𝒱 c bd E (loop7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.fg I.x (I.yo (start i K))))
  unfold owns
  isplitl [H2 H19]
  · isplitl [H2]; · iexact H2
    iexists _; isplitr; swap; · iexact H19
    ipureintro
    exact yo_writes arg19 _ [] inb_S1x512x1024_S1x512x1024_0_0_0 (full2 arg26 h26 inb_S512x2048_S512x2048_0_0) (full2 arg16 h16 inb_S2048x1024_S2048x1024_0_0)
  iintro %_ ⟨H2, H19⟩
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists f16; isplitr
    · ipureintro; exact h16
    · iexact H16
  isplitl [H17]; · iexact H17
  isplitl [H18]
  · iexists f18; isplitr
    · ipureintro; exact h18
    · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · iexists f26; isplitr
    · ipureintro; exact h26
    · iexact H26
  isplitl [H27]; · iexact H27
  isplitl [H28]; · iexact H28
  iexact H29

end Cert.KernelIdeal.Layer

end
-- ==== Proof.Run6.lean ====
/- The layer call: what every point of the grid finds and leaves, and the run of the whole program. -/
module

public import proofs.«01_k».proof.Proof.Run5
public import proofs.«01_k».proof.Proof.Gen.KernelIdeal.Frame
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What point `t` finds in its windows. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- What the points before point `n` hand it. -/
def carry (c : Dev nD) : ℕ → Carry F
  | 0 => Carry.zero
  | n + 1 => if h : n < cfg0.N then (ins m c ⟨n, h⟩).next (start (grid0.coords ⟨n, h⟩) (carry c n)) else Carry.zero

theorem carry_succ (c : Dev nD) (t : Fin cfg0.N) :
    carry m c (t.val + 1) = (ins m c t).next (start (grid0.coords t) (carry m c t.val)) := by
  rw [carry, dif_pos t.isLt]

/-- The block of the result point `t` leaves. -/
def outAt (c : Dev nD) (t : Fin cfg0.N) : Vec F S1x512x1024 .f32 := (ins m c t).out (start (grid0.coords t) (carry m c t.val))

theorem coords_zero : ∀ t : Fin cfg0.N, t.val = 0 → (grid0.coords t 1).val = 0 := by decide

theorem start_eq (c : Dev nD) (t : Fin cfg0.N) (K : Carry F) (h : t.val ≠ 0 → K = carry m c t.val) :
    start (grid0.coords t) K = start (grid0.coords t) (carry m c t.val) := by
  by_cases hz : t.val = 0
  · unfold start; rw [if_pos (coords_zero t hz), if_pos (coords_zero t hz)]
  · rw [h hz]

/-- Between points: the rows carried at the head of the convolution's buffer, the scan's row and the attention state
    at what the points before leave, the other scratch at anything. -/
def inv (c : Dev nD) (n : ℕ) : sProp 𝕄G :=
  iprop(∃ K : Carry F, ⌜n ≠ 0 → K = carry m c n⌝
    ∗ (∃ X : Vec F S520x1024 .f32, ⌜win X 0 0 8 1024 = K.t⌝ ∗ owns (c : Thread nD τ) (Memref.whole cc0_scratch1) fullShare (X)) ∗ owns (c : Thread nD τ) (Memref.whole cc0_scratch8) fullShare (K.h) ∗ owns (c : Thread nD τ) (Memref.whole cc0_scratch9) fullShare (K.s)
    ∗ (∃ d, owns (c : Thread nD τ) (Memref.whole cc0_scratch0) fullShare (d)) ∗ (∃ d, owns (c : Thread nD τ) (Memref.whole cc0_scratch2) fullShare (d)) ∗ (∃ d, owns (c : Thread nD τ) (Memref.whole cc0_scratch3) fullShare (d)) ∗ (∃ d, owns (c : Thread nD τ) (Memref.whole cc0_scratch4) fullShare (d)) ∗ (∃ d, owns (c : Thread nD τ) (Memref.whole cc0_scratch5) fullShare (d)) ∗ (∃ d, owns (c : Thread nD τ) (Memref.whole cc0_scratch6) fullShare (d)) ∗ (∃ d, owns (c : Thread nD τ) (Memref.whole cc0_scratch7) fullShare (d)) ∗ (∃ r, prngReg c r))

theorem rest_eq (c : Dev nD) :
    (Pipeline.ΦA spec0 c : sProp 𝕄G) = iprop(iprop((∃ d, owns (c : Thread nD τ) (Memref.whole cc0_scratch0) fullShare (d)) ∗ (∃ d, owns (c : Thread nD τ) (Memref.whole cc0_scratch1) fullShare (d)) ∗ (∃ d, owns (c : Thread nD τ) (Memref.whole cc0_scratch2) fullShare (d)) ∗ (∃ d, owns (c : Thread nD τ) (Memref.whole cc0_scratch3) fullShare (d)) ∗ (∃ d, owns (c : Thread nD τ) (Memref.whole cc0_scratch4) fullShare (d)) ∗ (∃ d, owns (c : Thread nD τ) (Memref.whole cc0_scratch5) fullShare (d)) ∗ (∃ d, owns (c : Thread nD τ) (Memref.whole cc0_scratch6) fullShare (d)) ∗ (∃ d, owns (c : Thread nD τ) (Memref.whole cc0_scratch7) fullShare (d)) ∗ (∃ d, owns (c : Thread nD τ) (Memref.whole cc0_scratch8) fullShare (d)) ∗ (∃ d, owns (c : Thread nD τ) (Memref.whole cc0_scratch9) fullShare (d))) ∗ (∃ r, prngReg c r)) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val := by
  dsimp only [dats]; rfl

theorem inv_next (c : Dev nD) (t : Fin cfg0.N) : (dats m 0 c).Φ t.succ = inv m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)))

def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t) ∗ owns (c : Thread nD τ) (win0_16.stage (cfg0.slots t 16)) fullShare ((dats m 0 c).after 16 t) ∗ owns (c : Thread nD τ) (win0_17.stage (cfg0.slots t 17)) fullShare ((dats m 0 c).after 17 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).owesAt () t.succ = (dats m 0 c).owesAt () t.castSucc from rfl, inv_at, inv_next, after_0, after_1, after_2, after_3, after_4, after_5, after_6, after_7, after_8, after_9, after_10, after_11, after_12, after_13, after_14, after_15, after_16, after_17]
  unfold inv
  iintro ⟨⟨%K, %hK, ⟨%X, %hX, S1⟩, S8, S9, ⟨%g0, S0⟩, ⟨%g2, S2⟩, ⟨%g3, S3⟩, ⟨%g4, S4⟩, ⟨%g5, S5⟩, ⟨%g6, S6⟩, ⟨%g7, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (wp_wand_r frame (wpE (defs₀ (F := F)) Variants.none (c : Thread nD τ) none) Set.univ)
  isplitl [H0 H1 H2 H3 H4 H5 H6 H7 H8 H9 H10 H11 H12 H13 H14 H15 H16 H17 S0 S1 S2 S3 S4 S5 S6 S7 S8 S9]
  · iapply (body Variants.none c none Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (ins m c t) K _ g0 X hX g2 g3 g4 g5 g6 g7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %_ ⟨H0, H1, H2, H3, H4, H5, H6, H7, H8, H9, H10, H11, H12, H13, H14, H15, H16, H17, S0, S1, S2, S3, S4, S5, S6, S7, S8, S9⟩
  rw [start_eq m c t K hK]
  isplitl [S0 S1 S2 S3 S4 S5 S6 S7 S8 S9 Hg]
  · iexists ((ins m c t).next (start (grid0.coords t) (carry m c t.val)))
    isplitr; · ipureintro; exact fun _ => (carry_succ m c t).symm
    isplitl [S1]
    · iexists _; isplitr; swap; · iexact S1
      ipureintro; exact win_upad _ _
    isplitl [S8]; · iexact S8
    isplitl [S9]; · iexact S9
    isplitl [S0]; · iexists _; iexact S0
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 from by dsimp only [dats]; rfl, rest_eq]
  unfold inv
  iintro ⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩, ⟨%g9, S9⟩⟩, Hg⟩
  iexists (⟨win g1 0 0 8 1024, g8, g9⟩ : Carry F)
  isplitr; · ipureintro; exact fun h => absurd rfl h
  isplitl [S1]
  · iexists g1; isplitr; swap; · iexact S1
    ipureintro; rfl
  isplitl [S8]; · iexact S8
  isplitl [S9]; · iexact S9
  isplitl [S0]; · iexists _; iexact S0
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iexact Hg

theorem hout (c : Dev nD) : (dats m 0 c).Φ (Fin.last cfg0.N) ⊢ Pipeline.ΦA spec0 c := by
  rw [show (dats m 0 c).Φ (Fin.last cfg0.N) = inv m c cfg0.N from by dsimp only [dats]; rfl, rest_eq]
  unfold inv
  iintro ⟨%K, %hK, ⟨%X, %hX, S1⟩, S8, S9, S0, S2, S3, S4, S5, S6, S7, Hg⟩
  isplitl [S0 S1 S2 S3 S4 S5 S6 S7 S8 S9]
  · isplitl [S0]; · iexact S0
    isplitl [S1]; · iexists _; iexact S1
    isplitl [S2]; · iexact S2
    isplitl [S3]; · iexact S3
    isplitl [S4]; · iexact S4
    isplitl [S5]; · iexact S5
    isplitl [S6]; · iexact S6
    isplitl [S7]; · iexact S7
    isplitl [S8]; · iexists _; iexact S8
    iexists _; iexact S9
  iexact Hg

set_option backward.isDefEq.respectTransparency.types false in
/-- Every run ends, with the arrays as the proof data says and no counter held. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Layer

end
-- ==== Proof.Frames.lean ====
/- The frame: every run of the program ends, its argument arrays as launched, every counter at zero. -/
module

public import proofs.«01_k».proof.Proof.Run6
public import proofs.«01_k».proof.Proof.Gen.KernelIdeal.Frame
public import Idealize.ShloMosaic.Lib.Claim
public import Idealize.ShloMosaic.Lib.Exec
public import Idealize.ShloMosaic.Lib.Tactic

@[expose] public section

set_option maxHeartbeats 400000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Layer

end
-- ==== Proof.Same.lean ====
/- The kernel and the kernel idealized have the same text: what is proved of the one over any float values holds of the other. -/
module

public import proofs.«01_k».proof.Defs
public import proofs.«01_k».proof.Proof.Frames
public import proofs.«01_k».proof.Proof.Gen.Kernel
public import proofs.«01_k».proof.Proof.Gen.KernelIdeal

@[expose] public section
set_option maxRecDepth 65536
noncomputable section
namespace Cert.Proof
open Idealize.ShloMosaic Idealize.SL.Sem
variable {F : FTy → Type} [FloatOps F]

set_option maxHeartbeats 400000 in
theorem row_same (t : Fin Cert.Kernel.grid0.N) (s : (w : Fin 18) → Fin (Cert.Kernel.win0 w).nbuf) : (@Cert.KernelIdeal.defs₀ F _ _ .tc (0 : Fin 1) (t, s) : Prog (TpuEff Cert.Kernel.nD Cert.Kernel.τ Cert.Kernel.sig (Elt F) Cert.Kernel.Λ₀ .tc) PUnit) = @Cert.Kernel.defs₀ F _ _ .tc (0 : Fin 1) (t, s) := by
  rfl
set_option maxHeartbeats 400000 in
theorem rows_same : (@Cert.KernelIdeal.defs₀ F _ _ .tc : (ℓ : Cert.Kernel.Λ₀.Label) → Cert.Kernel.Λ₀.Args ℓ → Prog (TpuEff Cert.Kernel.nD Cert.Kernel.τ Cert.Kernel.sig (Elt F) Cert.Kernel.Λ₀ .tc) (Cert.Kernel.Λ₀.Result ℓ)) = @Cert.Kernel.defs₀ F _ _ .tc :=
  funext fun ℓ => Fin.cases (motive := fun (ℓ : Fin 1) => (@Cert.KernelIdeal.defs₀ F _ _ .tc ℓ : Cert.Kernel.Λ₀.Args ℓ → Prog (TpuEff Cert.Kernel.nD Cert.Kernel.τ Cert.Kernel.sig (Elt F) Cert.Kernel.Λ₀ .tc) (Cert.Kernel.Λ₀.Result ℓ)) = @Cert.Kernel.defs₀ F _ _ .tc ℓ) (funext fun a => row_same a.1 a.2) (fun k => k.elim0) ℓ
set_option maxHeartbeats 400000 in
theorem bodies_same : (@Cert.KernelIdeal.defs₀ F _ _ : Defs Cert.Kernel.nD Cert.Kernel.τ Cert.Kernel.sig (Elt F) Cert.Kernel.Λ₀) = @Cert.Kernel.defs₀ F _ _ := by
  funext π
  cases π with
  | tc => exact rows_same
  | scScalar _ => rfl
  | scVector _ _ => rfl
set_option maxHeartbeats 1000000 in
theorem defs_same : (@Cert.KernelIdeal.defs F _ _ : Defs Cert.Kernel.nD Cert.Kernel.τ Cert.Kernel.sig (Elt F) (Pipeline.Sig Cert.Kernel.Λ₀ (Fin 1) fun p => (Cert.Kernel.pcfgs (F := F) p).Adm)) = @Cert.Kernel.defs F _ _ := by
  unfold Cert.KernelIdeal.defs Cert.Kernel.defs
  rw [← bodies_same]
  rfl
set_option maxHeartbeats 2000000 in
theorem main_same : (@Cert.KernelIdeal.main F _ _ : Dev Cert.Kernel.nD → Prog (TpuEff Cert.Kernel.nD Cert.Kernel.τ Cert.Kernel.sig (Elt F) (Pipeline.Sig Cert.Kernel.Λ₀ (Fin 1) fun p => (Cert.Kernel.pcfgs (F := F) p).Adm) .tc) PUnit) = @Cert.Kernel.main F _ _ := by
  unfold Cert.KernelIdeal.main Cert.Kernel.main
  rfl
set_option maxHeartbeats 2000000 in
theorem frame_kernel : Cert.quiescent_Kernel := fun m ρ _ => by
  rw [← defs_same, ← main_same]
  exact Cert.KernelIdeal.Layer.frame (F := Bits) m ρ
end Cert.Proof
end
-- ==== Proof.MemKv.lean ====
/-
  The value of the memory call: what its payload computes and what the reference computes, read at an index, are the
  same sum of products of normalised memory entries and weights.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.Value
public import Idealize.ShloMosaic.Lib.Claim

@[expose] public section

noncomputable section

open Idealize.ShloMosaic Idealize.ShloMosaic.TcCoe Idealize.SL.Sem

namespace Cert.MemKv

/-- The mean's divisor and the small number added under the root, as the programs write them. -/
def width : EReal := Ideal.ofBits .f32 0x44800000#32
def eps : EReal := Ideal.ofBits .f32 0x358637BD#32

/-- A row's entry `k` normalised by the root mean square of the row, times the gain. -/
def normed (x g : Fin 1024 → EReal) (k : Fin 1024) : EReal :=
  x k * Ideal.rsqrt (Ideal.div (∑ k' : Fin 1024, x k' * x k') width + eps) * g k

/-- Entry `j` of the row's keys and values. -/
def kv (x g : Fin 1024 → EReal) (w : Fin 1024 → Fin 1024 → EReal) (j : Fin 1024) : EReal :=
  ∑ k : Fin 1024, normed x g k * w k j

namespace Kern
open Cert.Kernel2Ideal Cert.Kernel2Ideal.Gen

theorem pay_apply (P0 : Vec Ideal S1x256x1024 .f32) (P1 : Vec Ideal S1x1024 .f32) (P2 : Vec Ideal S1024x1024 .bf16)
    (r : Fin 256) (j : Fin 1024) :
    k0_pay1 P0 P1 P2 (ix2 r j)
      = kv (fun k => P0 (ix3 0 r k)) (fun k => P1 (ix2 0 k)) (fun k l => P2 (ix2 k l)) j := by
  pointwise [k0_pay1]
  rfl

variable (m : (ℓ : Loc nD τ sig) → Buf (Elt Ideal) ℓ)

/-- The arguments as arrays. -/
abbrev mem (c : Dev nD) : FVec Ideal S8x256x1024 .f32 := m ((c : Thread nD τ).loc main_arg0)
abbrev gain (c : Dev nD) : FVec Ideal S1x1024 .f32 := m ((c : Thread nD τ).loc main_arg1)
abbrev wts (c : Dev nD) : FVec Ideal S1x1024x1024 .f32 := m ((c : Thread nD τ).loc main_arg2)

/-- Batch `b`, memory row `r`, entry `j` of the keys and values. -/
def kvAt (a0 : FVec Ideal S8x256x1024 .f32) (a1 : FVec Ideal S1x1024 .f32) (a2 : FVec Ideal S1x1024x1024 .f32)
    (b : Fin 8) (r : Fin 256) (j : Fin 1024) : EReal :=
  kv (fun k => a0 (ix3 b r k)) (fun k => a1 (ix2 0 k)) (fun k l => a2 (ix3 0 k l)) j

/-- The keys, transposed, and the values. -/
def keys (a0 : FVec Ideal S8x256x1024 .f32) (a1 : FVec Ideal S1x1024 .f32) (a2 : FVec Ideal S1x1024x1024 .f32) :
    FVec Ideal S8x512x256 .bf16 :=
  fun i => kvAt a0 a1 a2 (i 0) (i 2) ⟨(i 1).val, by have : (i 1).val < 512 := (i 1).isLt; omega⟩
def vals (a0 : FVec Ideal S8x256x1024 .f32) (a1 : FVec Ideal S1x1024 .f32) (a2 : FVec Ideal S1x1024x1024 .f32) :
    FVec Ideal S8x256x512 .bf16 :=
  fun i => kvAt a0 a1 a2 (i 0) (i 1) ⟨(i 2).val + 512, by have : (i 2).val < 512 := (i 2).isLt; omega⟩

theorem V_gain (c : Dev nD) : V m c main_v1 = shapeCast S1x1024 (shapeCast S1024 (gain m c) shapeCasts_S1x1024_S1024) shapeCasts_S1024_S1x1024 := by
  show StableHlo.after hostOps0 (fun b => m (c, b)) (Proc.devRef .tc main_v1) = _
  after_results
  rfl

theorem V_wts (c : Dev nD) : V m c main_v3 = truncf (F := Ideal) .bf16 (shapeCast S1024x1024 (wts m c) shapeCasts_S1x1024x1024_S1024x1024) bitsLt_bf16_f32 := by
  show StableHlo.after hostOps0 (fun b => m (c, b)) (Proc.devRef .tc main_v3) = _
  after_results
  rfl

theorem idx0 : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

theorem lt8 (t : Fin cfg0.N) : t.val < 8 := t.isLt

theorem blk0 (c : Dev nD) (t : Fin cfg0.N) (r : Fin 256) (k : Fin 1024) :
    iblk m c 0 t (ix3 0 r k) = mem m c (ix3 ⟨t.val, lt8 t⟩ r k) := by
  refine (congrFun (V_main_arg0 m c) _).trans (congrArg (mem m c) ?_)
  funext a; apply Fin.ext
  have e := (idx0 t).1
  match a with
  | ⟨0, _⟩ => show win0_0.index t 0 * 1 + 1 * 0 = t.val; rw [e]; show t.val * 1 + 1 * 0 = t.val; omega
  | ⟨1, _⟩ => show win0_0.index t 1 * 256 + 1 * r.val = r.val; rw [e]; show 0 * 256 + 1 * r.val = r.val; omega
  | ⟨2, _⟩ => show win0_0.index t 2 * 1024 + 1 * k.val = k.val; rw [e]; show 0 * 1024 + 1 * k.val = k.val; omega

theorem blk1 (c : Dev nD) (t : Fin cfg0.N) (k : Fin 1024) :
    iblk m c 1 t (ix2 0 k) = gain m c (ix2 0 k) := by
  refine (congrFun (V_gain m c) _).trans ?_
  rw [shapeCast_shapeCast]
  refine congrArg (gain m c) ?_
  funext a; apply Fin.ext
  have e := (idx0 t).2.1
  match a with
  | ⟨0, _⟩ => show win0_1.index t 0 * 1 + 1 * 0 = 0; rw [e]; rfl
  | ⟨1, _⟩ => show win0_1.index t 1 * 1024 + 1 * k.val = k.val; rw [e]; show 0 * 1024 + 1 * k.val = k.val; omega

theorem blk2 (c : Dev nD) (t : Fin cfg0.N) (k l : Fin 1024) :
    iblk m c 2 t (ix2 k l) = wts m c (ix3 0 k l) := by
  have e := (idx0 t).2.2.1
  have h : ((cfg0.win 2).blk t).view.emb (ix2 k l) = (ix2 k l : S1024x1024.Idx) := by
    funext a; apply Fin.ext
    match a with
    | ⟨0, _⟩ => show win0_2.index t 0 * 1024 + 1 * k.val = k.val; rw [e]; show 0 * 1024 + 1 * k.val = k.val; omega
    | ⟨1, _⟩ => show win0_2.index t 1 * 1024 + 1 * l.val = l.val; rw [e]; show 0 * 1024 + 1 * l.val = l.val; omega
  refine (congrFun (V_wts m c) _).trans ?_
  rw [h]
  pointwise

theorem pay_blk (c : Dev nD) (t : Fin cfg0.N) (r : Fin 256) (j : Fin 1024) :
    k0_pay1 (iblk m c 0 t) (iblk m c 1 t) (iblk m c 2 t) (ix2 r j)
      = kvAt (mem m c) (gain m c) (wts m c) ⟨t.val, lt8 t⟩ r j := by
  refine (pay_apply _ _ _ r j).trans ?_
  unfold kvAt
  congr 1
  · funext k; exact blk0 m c t r k
  · funext k; exact blk1 m c t k
  · funext k l; exact blk2 m c t k l

theorem hz2 : (![0, 0] : Fin 2 → Nat) = fun _ => 0 := funext fun a => by fin_cases a <;> rfl
theorem hz3 : (![0, 0, 0] : Fin 3 → Nat) = fun _ => 0 := funext fun a => by fin_cases a <;> rfl

theorem flushed3_eq (c : Dev nD) (t : Fin cfg0.N) :
    (dats m 0 c).flushed 3 t = ((cfg0.win 3).blk t).view.read (Elt Ideal) (keys (mem m c) (gain m c) (wts m c)) := by
  rw [Value.flushed3]
  unfold out0_3
  simp only [View.ld_unit_zero (S := S1x256x1024) hz3, View.ld_unit_zero (S := S1x1024) hz2, View.ld_unit_zero (S := S1024x1024) hz2]
  have e := (idx0 t).2.2.2.1
  funext y
  refine (Value.canon3_eq _ _ _ y).trans ?_
  have h2 : Value.ix3_0 y = ix2 (y 2) ⟨(y 1).val, by have : (y 1).val < 512 := (y 1).isLt; omega⟩ := by
    funext a; match a with | ⟨0, _⟩ => rfl | ⟨1, _⟩ => rfl
  refine Eq.trans (b := k0_pay1 (iblk m c 0 t) (iblk m c 1 t) (iblk m c 2 t) (Value.ix3_0 y)) rfl ?_
  rw [h2]
  refine (pay_blk m c t _ _).trans ?_
  show _ = keys (mem m c) (gain m c) (wts m c) (((cfg0.win 3).blk t).view.emb y)
  have h : ((cfg0.win 3).blk t).view.emb y = (ix3 ⟨t.val, lt8 t⟩ (y 1) (y 2) : S8x512x256.Idx) := by
    have h0 : (y 0).val < 1 := (y 0).isLt
    funext a; apply Fin.ext
    match a with
    | ⟨0, _⟩ => show win0_3.index t 0 * 1 + 1 * (y 0).val = t.val; rw [e]; show t.val * 1 + 1 * (y 0).val = t.val; omega
    | ⟨1, _⟩ => show win0_3.index t 1 * 512 + 1 * (y 1).val = (y 1).val; rw [e]; show 0 * 512 + 1 * (y 1).val = (y 1).val; omega
    | ⟨2, _⟩ => show win0_3.index t 2 * 256 + 1 * (y 2).val = (y 2).val; rw [e]; show 0 * 256 + 1 * (y 2).val = (y 2).val; omega
  rw [h]
  rfl

theorem flushed4_eq (c : Dev nD) (t : Fin cfg0.N) :
    (dats m 0 c).flushed 4 t = ((cfg0.win 4).blk t).view.read (Elt Ideal) (vals (mem m c) (gain m c) (wts m c)) := by
  rw [Value.flushed4]
  unfold out0_4
  simp only [View.ld_unit_zero (S := S1x256x1024) hz3, View.ld_unit_zero (S := S1x1024) hz2, View.ld_unit_zero (S := S1024x1024) hz2]
  have e := (idx0 t).2.2.2.2
  funext y
  refine (Value.canon4_eq _ _ _ y).trans ?_
  have h2 : Value.ix4_0 y = ix2 (y 1) ⟨(y 2).val + 512, by have : (y 2).val < 512 := (y 2).isLt; omega⟩ := by
    funext a; match a with | ⟨0, _⟩ => rfl | ⟨1, _⟩ => rfl
  refine Eq.trans (b := k0_pay1 (iblk m c 0 t) (iblk m c 1 t) (iblk m c 2 t) (Value.ix4_0 y)) rfl ?_
  rw [h2]
  refine (pay_blk m c t _ _).trans ?_
  show _ = vals (mem m c) (gain m c) (wts m c) (((cfg0.win 4).blk t).view.emb y)
  have h : ((cfg0.win 4).blk t).view.emb y = (ix3 ⟨t.val, lt8 t⟩ (y 1) (y 2) : S8x256x512.Idx) := by
    have h0 : (y 0).val < 1 := (y 0).isLt
    funext a; apply Fin.ext
    match a with
    | ⟨0, _⟩ => show win0_4.index t 0 * 1 + 1 * (y 0).val = t.val; rw [e]; show t.val * 1 + 1 * (y 0).val = t.val; omega
    | ⟨1, _⟩ => show win0_4.index t 1 * 256 + 1 * (y 1).val = (y 1).val; rw [e]; show 0 * 256 + 1 * (y 1).val = (y 1).val; omega
    | ⟨2, _⟩ => show win0_4.index t 2 * 512 + 1 * (y 2).val = (y 2).val; rw [e]; show 0 * 512 + 1 * (y 2).val = (y 2).val; omega
  rw [h]
  rfl

theorem cover3 (i : S8x512x256.Idx) : ∃ t : Fin cfg0.N, (cfg0.win 3).flush t = true ∧ i ∈ ((cfg0.win 3).blk t).view.set := by
  have h0 : (i 0).val < 8 := (i 0).isLt
  have h1 : (i 1).val < 512 := (i 1).isLt
  have h2 : (i 2).val < 256 := (i 2).isLt
  refine ⟨⟨(i 0).val, h0⟩, flush0_3 _, ?_⟩
  have e := (idx0 ⟨(i 0).val, h0⟩).2.2.2.1
  show i ∈ ((View.whole main_v4_0).slice (win0_3.rect ⟨(i 0).val, h0⟩)).set
  rw [View.set_slice_whole, Rect.mem_set_unit]
  intro a
  show win0_3.index ⟨(i 0).val, h0⟩ a * S1x512x256.size a ≤ (i a).val ∧ (i a).val < win0_3.index ⟨(i 0).val, h0⟩ a * S1x512x256.size a + S1x512x256.size a
  rw [e]
  match a with
  | ⟨0, _⟩ => show (i 0).val * 1 ≤ (i 0).val ∧ (i 0).val < (i 0).val * 1 + 1; omega
  | ⟨1, _⟩ => show 0 * 512 ≤ (i 1).val ∧ (i 1).val < 0 * 512 + 512; omega
  | ⟨2, _⟩ => show 0 * 256 ≤ (i 2).val ∧ (i 2).val < 0 * 256 + 256; omega

theorem cover4 (i : S8x256x512.Idx) : ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 512 := (i 2).isLt
  refine ⟨⟨(i 0).val, h0⟩, flush0_4 _, ?_⟩
  have e := (idx0 ⟨(i 0).val, h0⟩).2.2.2.2
  show i ∈ ((View.whole main_v4_1).slice (win0_4.rect ⟨(i 0).val, h0⟩)).set
  rw [View.set_slice_whole, Rect.mem_set_unit]
  intro a
  show win0_4.index ⟨(i 0).val, h0⟩ a * S1x256x512.size a ≤ (i a).val ∧ (i a).val < win0_4.index ⟨(i 0).val, h0⟩ a * S1x256x512.size a + S1x256x512.size a
  rw [e]
  match a with
  | ⟨0, _⟩ => show (i 0).val * 1 ≤ (i 0).val ∧ (i 0).val < (i 0).val * 1 + 1; omega
  | ⟨1, _⟩ => show 0 * 256 ≤ (i 1).val ∧ (i 1).val < 0 * 256 + 256; omega
  | ⟨2, _⟩ => show 0 * 512 ≤ (i 2).val ∧ (i 2).val < 0 * 512 + 512; omega

theorem final3 (c : Dev nD) : (dats m 0 c).arrAt 3 cfg0.N = keys (mem m c) (gain m c) (wts m c) :=
  (dats m 0 c).arrAt_eq_of_cover 3 _ (fun t _ => flushed3_eq m c t) cover3

theorem final4 (c : Dev nD) : (dats m 0 c).arrAt 4 cfg0.N = vals (mem m c) (gain m c) (wts m c) :=
  (dats m 0 c).arrAt_eq_of_cover 4 _ (fun t _ => flushed4_eq m c t) cover4

end Kern

namespace Ref
open Cert.Reference2Ideal Cert.Reference2Ideal.Gen

/-- The reference's keys and values before they are split. -/
abbrev prod (a0 : FVec Ideal S8x256x1024 .f32) (a1 : FVec Ideal S1x1024 .f32) (a2 : FVec Ideal S1x1024x1024 .f32) :
    FVec Ideal S8x256x1024 .f32 :=
  Host.dotGeneral dot_S8x256x1024_S1024x1024_S8x256x1024_2_0_01_1_n_n none (mulf (mulf a0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf a0 a0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ a1 shapeCasts_S1x1024_S1024)))) (shapeCast _ a2 shapeCasts_S1x1024x1024_S1024x1024)

theorem prod_apply (a0 : FVec Ideal S8x256x1024 .f32) (a1 : FVec Ideal S1x1024 .f32) (a2 : FVec Ideal S1x1024x1024 .f32)
    (b : Fin 8) (r : Fin 256) (j : Fin 1024) :
    prod a0 a1 a2 (ix3 b r j)
      = kv (fun k => a0 (ix3 b r k)) (fun k => a1 (ix2 0 k)) (fun k l => a2 (ix3 0 k l)) j := by
  pointwise [prod]
  rfl

theorem keys_eq (a0 : FVec Ideal S8x256x1024 .f32) (a1 : FVec Ideal S1x1024 .f32) (a2 : FVec Ideal S1x1024x1024 .f32) :
    truncf (F := Ideal) .bf16 (transpose S8x512x256 [0, 2, 1] (extractStridedSlice S8x256x512 ![0, 0, 0] (prod a0 a1 a2)
        slices_S8x256x1024_S8x256x512_0_0_0) transposes_S8x256x512_S8x512x256_0_2_1) bitsLt_bf16_f32
      = Kern.keys a0 a1 a2 := by
  funext i
  rw [eq_ix3 i]
  have h : ∀ (p : FVec Ideal S8x256x1024 .f32), truncf (F := Ideal) .bf16 (transpose S8x512x256 [0, 2, 1] (extractStridedSlice S8x256x512 ![0, 0, 0] p
        slices_S8x256x1024_S8x256x512_0_0_0) transposes_S8x256x512_S8x512x256_0_2_1) bitsLt_bf16_f32 (ix3 (i 0) (i 1) (i 2) : S8x512x256.Idx)
      = p (ix3 (i 0) (i 2) ⟨(i 1).val, by have : (i 1).val < 512 := (i 1).isLt; omega⟩) := by
    intro p
    pointwise
  exact (h _).trans (prod_apply a0 a1 a2 _ _ _)

theorem vals_eq (a0 : FVec Ideal S8x256x1024 .f32) (a1 : FVec Ideal S1x1024 .f32) (a2 : FVec Ideal S1x1024x1024 .f32) :
    truncf (F := Ideal) .bf16 (extractStridedSlice S8x256x512 ![0, 0, 512] (prod a0 a1 a2)
        slices_S8x256x1024_S8x256x512_0_0_512) bitsLt_bf16_f32
      = Kern.vals a0 a1 a2 := by
  funext i
  rw [eq_ix3 i]
  have h : ∀ (p : FVec Ideal S8x256x1024 .f32), truncf (F := Ideal) .bf16 (extractStridedSlice S8x256x512 ![0, 0, 512] p
        slices_S8x256x1024_S8x256x512_0_0_512) bitsLt_bf16_f32 (ix3 (i 0) (i 1) (i 2) : S8x256x512.Idx)
      = p (ix3 (i 0) (i 1) ⟨(i 2).val + 512, by have : (i 2).val < 512 := (i 2).isLt; omega⟩) := by
    intro p
    pointwise
    congr 3
    omega
  exact (h _).trans (prod_apply a0 a1 a2 _ _ _)

end Ref

theorem algebraic : Cert.algebraic_Kernel2Ideal_Reference2Ideal := by
  pair_intro
  · run_from Cert.Kernel2Ideal.Value.run_blocks m g
  · run_from Cert.Reference2Ideal.Value.run m' g'
    · exact (Ref.keys_eq _ _ _).trans (Kern.final3 m c).symm
    · exact (Ref.vals_eq _ _ _).trans (Kern.final4 m c).symm

end Cert.MemKv
-- ==== Proof.Spec.lean ====
/-
  The layer's mathematics over the real numbers: the quantities that both programs compute, as functions of a batch row, a
  position and a column, and the identities between the two programs' ways of writing them.
-/
module

public import Idealize.ShloMosaic.Lib.Pointwise
public import Idealize.ShloMosaic.Lib.IdealHost

@[expose] public section

noncomputable section

open Idealize.ShloMosaic

namespace Cert.Layer

/-! ## The ideal operations at real numbers -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem w_half : Ideal.ofBits .f32 0x3F000000#32 = (((1 : ℝ) / 2 : ℝ) : EReal) := by
  simp [Ideal.ofBits, Ideal.ieee, -EReal.coe_mul]; norm_num
theorem w_eighth : Ideal.ofBits .f32 0x3E000000#32 = (((1 : ℝ) / 8 : ℝ) : EReal) := by
  simp [Ideal.ofBits, Ideal.ieee, -EReal.coe_mul]; norm_num
theorem w_sixteenth : Ideal.ofBits .f32 0x3D800000#32 = (((1 : ℝ) / 16 : ℝ) : EReal) := by
  simp [Ideal.ofBits, Ideal.ieee, -EReal.coe_mul]; norm_num
theorem w_sixteen : Ideal.ofBits .f32 0x41800000#32 = ((16 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_neg8 : Ideal.ofBits .f32 0xC1000000#32 = ((-8 : ℝ) : EReal) := by
  simp [Ideal.ofBits, Ideal.ieee, -EReal.coe_mul, -EReal.coe_neg]; norm_num
theorem w_1024 : Ideal.ofBits .f32 0x44800000#32 = ((1024 : ℝ) : EReal) := by
  simp [Ideal.ofBits, Ideal.ieee, -EReal.coe_mul]; norm_num

/-- The small number under the roots. -/
def eps : ℝ := (Ideal.ofBits .f32 0x358637BD#32).toReal
theorem eps_lit : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]
theorem w_eps : Ideal.ofBits .f32 0x358637BD#32 = (eps : EReal) := by
  obtain ⟨r, -, e⟩ := eps_lit
  unfold eps; rw [e, EReal.toReal_coe]
theorem eps_pos : 0 < eps := by
  obtain ⟨r, h, e⟩ := eps_lit
  unfold eps; rw [e, EReal.toReal_coe]; exact h

/-- The scores' scale, the literal nearest to one over the root of 128. -/
def sc : ℝ := (Ideal.ofBits .f32 0x3DB504F3#32).toReal
theorem w_sc : Ideal.ofBits .f32 0x3DB504F3#32 = (sc : EReal) := by
  have : ∃ r : ℝ, Ideal.ofBits .f32 0x3DB504F3#32 = (r : EReal) := by
    refine ⟨11863283 * 2 ^ (-27 : ℤ), ?_⟩
    simp [Ideal.ofBits, Ideal.ieee, -EReal.coe_mul]
  obtain ⟨r, e⟩ := this
  unfold sc; rw [e, EReal.toReal_coe]

theorem sqrt_c {r : ℝ} (h : 0 ≤ r) : Ideal.sqrt (r : EReal) = (Real.sqrt r : EReal) := by
  rw [Ideal.sqrt_coe, if_neg (not_lt.2 h)]
theorem rsqrt_c {r : ℝ} (h : 0 < r) : Ideal.rsqrt (r : EReal) = (((Real.sqrt r)⁻¹ : ℝ) : EReal) := by
  rw [Ideal.rsqrt_coe, if_neg (not_lt.2 h.le), if_neg h.ne']
theorem log1p_c {r : ℝ} (h : -1 < r) : Ideal.log1p (r : EReal) = (Real.log (1 + r) : EReal) := by
  unfold Ideal.log1p
  rw [show (1 : EReal) = ((1 : ℝ) : EReal) by norm_cast, ← EReal.coe_add, Ideal.log_coe, if_neg (by linarith)]
theorem div_c {y : ℝ} (h : y ≠ 0) (x : ℝ) : Ideal.div (x : EReal) (y : EReal) = ((x / y : ℝ) : EReal) := by
  rw [Ideal.div_coe h, ← EReal.coe_mul]; congr 1; ring
theorem max_c (x y : ℝ) : max (x : EReal) (y : EReal) = ((max x y : ℝ) : EReal) := (EReal.coe_strictMono.monotone.map_max).symm

/-! ## Gates -/

/-- The logistic function. -/
def sg (x : ℝ) : ℝ := (1 + Real.exp (-x))⁻¹
/-- The softplus. -/
def sp (x : ℝ) : ℝ := Real.log (1 + Real.exp x)

theorem sg_pos (x : ℝ) : 0 < sg x := by unfold sg; positivity
theorem sp_pos (x : ℝ) : 0 < sp x := Real.log_pos (by linarith [Real.exp_pos x])

theorem sg_tanh (x : ℝ) : 1 / 2 * Real.tanh (1 / 2 * x) + 1 / 2 = sg x := by
  unfold sg
  rw [Real.tanh_eq_sinh_div_cosh, Real.sinh_eq, Real.cosh_eq]
  have h : Real.exp (-x) = Real.exp (-(1 / 2 * x)) * Real.exp (-(1 / 2 * x)) := by rw [← Real.exp_add]; congr 1; ring
  have h2 : Real.exp (1 / 2 * x) = (Real.exp (-(1 / 2 * x)))⁻¹ := by rw [Real.exp_neg, inv_inv]
  rw [h, h2]
  have p := Real.exp_pos (-(1 / 2 * x))
  generalize Real.exp (-(1 / 2 * x)) = e at *
  have : 1 + e * e ≠ 0 := by positivity
  field_simp
  ring

theorem sp_max (x : ℝ) : max x 0 + Real.log (1 + Real.exp (-|x|)) = sp x := by
  unfold sp
  rcases le_total 0 x with h | h
  · rw [max_eq_left h, abs_of_nonneg h]
    nth_rewrite 1 [← Real.log_exp x]
    rw [← Real.log_mul (Real.exp_pos x).ne' (by positivity)]
    congr 1
    rw [mul_add, ← Real.exp_add]; simp; ring
  · rw [max_eq_right h, abs_of_nonpos h, neg_neg, zero_add]

theorem one_sub_sq (l : ℝ) : (0 - (Real.exp l * Real.exp l + 1)) * Real.tanh l = 1 - Real.exp (2 * l) := by
  rw [Real.tanh_eq_sinh_div_cosh, Real.sinh_eq, Real.cosh_eq]
  have h2 : Real.exp (-l) = (Real.exp l)⁻¹ := Real.exp_neg l
  have h3 : Real.exp (2 * l) = Real.exp l * Real.exp l := by rw [← Real.exp_add]; congr 1; ring
  rw [h2, h3]
  have p := Real.exp_pos l
  generalize Real.exp l = e at *
  have : e * e + 1 ≠ 0 := by positivity
  field_simp
  ring

theorem one_sub_nonneg {l : ℝ} (h : l ≤ 0) : 0 ≤ 1 - Real.exp (2 * l) := by
  have : Real.exp (2 * l) ≤ 1 := Real.exp_le_one_iff.2 (by linarith)
  linarith

/-! ## A linear recurrence -/

/-- The recurrence `f (n + 1) = exp (l n) * f n + b n` from 0. -/
def rec0 (l b : ℕ → ℝ) : ℕ → ℝ
  | 0 => 0
  | n + 1 => Real.exp (l n) * rec0 l b n + b n

/-- Its solution by prefix sums. -/
theorem rec0_eq (l b : ℕ → ℝ) (n : ℕ) :
    rec0 l b n = Real.exp (∑ j ∈ Finset.range n, l j) * ∑ m ∈ Finset.range n, Real.exp (-∑ j ∈ Finset.range (m + 1), l j) * b m := by
  induction n with
  | zero => simp [rec0]
  | succ n ih =>
    rw [rec0, ih, Finset.sum_range_succ, Finset.sum_range_succ (fun m => Real.exp (-∑ j ∈ Finset.range (m + 1), l j) * b m), Finset.sum_range_succ l n, Real.exp_add,
      Real.exp_neg, Real.exp_add]
    have p1 := (Real.exp_pos (∑ j ∈ Finset.range n, l j)).ne'
    have p2 := (Real.exp_pos (l n)).ne'
    field_simp

/-- A sum against a triangle of ones is a prefix sum. -/
theorem sum_tri (N i : ℕ) (h : i < N) (f : ℕ → ℝ) :
    ∑ k : Fin N, (if k.val ≤ i then 1 else 0) * f k.val = ∑ k ∈ Finset.range (i + 1), f k := by
  rw [Fin.sum_univ_eq_sum_range (fun k => (if k ≤ i then (1 : ℝ) else 0) * f k) N]
  simp only [ite_mul, one_mul, zero_mul]
  rw [← Finset.sum_filter]
  congr 1
  ext k
  simp only [Finset.mem_filter, Finset.mem_range]
  omega

theorem sum_tri_lt (N i : ℕ) (h : i < N) (f : ℕ → ℝ) :
    ∑ k : Fin N, (if k.val < i then 1 else 0) * f k.val = ∑ k ∈ Finset.range i, f k := by
  rw [Fin.sum_univ_eq_sum_range (fun k => (if k < i then (1 : ℝ) else 0) * f k) N]
  simp only [ite_mul, one_mul, zero_mul]
  rw [← Finset.sum_filter]
  congr 1
  ext k
  simp only [Finset.mem_filter, Finset.mem_range]
  omega

/-! ## The layer -/

/-- The arguments that are finite, as real functions of natural indices. -/
structure Arr where
  x : ℕ → ℕ → ℕ → ℝ
  kt : ℕ → ℕ → ℕ → ℝ
  vm : ℕ → ℕ → ℕ → ℝ
  ng : ℕ → ℝ
  w : ℕ → ℕ → ℝ
  cw : ℕ → ℕ → ℝ
  cb : ℕ → ℝ
  wa : ℕ → ℕ → ℕ → ℝ
  ba : ℕ → ℕ → ℝ
  wi : ℕ → ℕ → ℕ → ℝ
  bi : ℕ → ℕ → ℝ
  lam : ℕ → ℝ
  wg : ℕ → ℕ → ℝ
  bg : ℕ → ℝ

namespace Arr
variable (A : Arr)

/-- The mean square of a row of the activations. -/
def mq (b s : ℕ) : ℝ := (∑ k : Fin 1024, A.x b s k.val * A.x b s k.val) / 1024
/-- The normalised activations. -/
def h (b s d : ℕ) : ℝ := A.x b s d * (Real.sqrt (A.mq b s + eps))⁻¹ * A.ng d
/-- Column `j` of the projection. -/
def pj (b s j : ℕ) : ℝ := ∑ k : Fin 1024, A.h b s k.val * A.w k.val j
/-- The projection's first columns under 8 rows of zeros. -/
def pz (b n c : ℕ) : ℝ := if n < 8 then 0 else A.pj b (n - 8) c
/-- The causal convolution. -/
def cv (b s c : ℕ) : ℝ :=
  A.cb c + A.cw 3 c * A.pz b (s + 8) c + A.cw 2 c * A.pz b (s + 7) c + A.cw 1 c * A.pz b (s + 6) c + A.cw 0 c * A.pz b (s + 5) c
/-- The two gates' arguments, by head and column of the head. -/
def ga (b s hd j : ℕ) : ℝ := ∑ k : Fin 128, A.cv b s (128 * hd + k.val) * A.wa hd k.val j
def gi (b s hd j : ℕ) : ℝ := ∑ k : Fin 128, A.cv b s (128 * hd + k.val) * A.wi hd k.val j
/-- The recurrence's logarithmic decay and its input. -/
def la (b c s : ℕ) : ℝ := sg (A.ga b s (c / 128) (c % 128) + A.ba (c / 128) (c % 128)) * (-8 * sp (-A.lam c))
def bx (b c s : ℕ) : ℝ := Real.sqrt (1 - Real.exp (2 * A.la b c s)) * (sg (A.gi b s (c / 128) (c % 128) + A.bi (c / 128) (c % 128)) * A.cv b s c)
/-- The recurrent state before position `n`. -/
def H (b c n : ℕ) : ℝ := rec0 (A.la b c) (A.bx b c) n

theorem la_nonpos (b c s : ℕ) : A.la b c s ≤ 0 := by
  unfold la
  have := mul_pos (sg_pos (A.ga b s (c / 128) (c % 128) + A.ba (c / 128) (c % 128))) (sp_pos (-A.lam c))
  nlinarith

/-- The attention's logarithmic decay at column `j` of the keys. -/
def al (b j s : ℕ) : ℝ := -sp (-((∑ k : Fin 16, A.pj b s (2048 + k.val) * A.wg k.val j) + A.bg j)) / 16
/-- Its sum over the first positions of chunk `n`, up to position `i`. -/
def cum (b n i j : ℕ) : ℝ := ∑ k ∈ Finset.range (i + 1), A.al b j (64 * n + k)
def qd (b n i j : ℕ) : ℝ := A.pj b (64 * n + i) (1024 + j) * (1 / 8) * Real.exp (A.cum b n i j)
def kd (b n i j : ℕ) : ℝ := A.pj b (64 * n + i) (1280 + j) * Real.exp (-A.cum b n i j)
def kr (b n i j : ℕ) : ℝ := A.pj b (64 * n + i) (1280 + j) * Real.exp (A.cum b n 63 j - A.cum b n i j)
def vv (b n i c : ℕ) : ℝ := A.pj b (64 * n + i) (1536 + c)
/-- What chunk `n` adds to the state, value column `c`, key column `j`. -/
def kv (b c j n : ℕ) : ℝ := ∑ i : Fin 64, A.vv b n i.val c * A.kr b n i.val j
/-- The attention's state before chunk `n`. -/
def S (b c j n : ℕ) : ℝ := rec0 (fun n => A.cum b n 63 j) (A.kv b c j) n
/-- The attention's rows before their norm: position `i` of chunk `n`, column `c` of the values. -/
def oi (b n i c : ℕ) : ℝ :=
  (∑ j : Fin 64, (if j.val ≤ i then ∑ k : Fin 64, A.qd b n i (64 * (c / 128) + k.val) * A.kd b n j.val (64 * (c / 128) + k.val) else 0) * A.vv b n j.val c)
    + ∑ k : Fin 64, A.qd b n i (64 * (c / 128) + k.val) * A.S b c (64 * (c / 128) + k.val) n
/-- The cross-attention's scores of head `hd`, and its rows. -/
def score (b s hd m : ℕ) : ℝ := (∑ k : Fin 128, A.pj b s (2064 + 128 * hd + k.val) * A.kt b (128 * hd + k.val) m) * sc
def xa (b s c : ℕ) : ℝ :=
  (∑ m : Fin 256, Real.exp (A.score b s (c / 128) m.val) * A.vm b m.val c) / ∑ m : Fin 256, Real.exp (A.score b s (c / 128) m.val)
/-- The gate. -/
def silu (b s j : ℕ) : ℝ := A.pj b s (2576 + j) * sg (A.pj b s (2576 + j))

theorem mq_eps (b s : ℕ) : 0 < A.mq b s + eps := by
  have : 0 ≤ A.mq b s := div_nonneg (Finset.sum_nonneg fun _ _ => mul_self_nonneg _) (by norm_num)
  linarith [eps_pos]

/-- The attention's rows after their norm. -/
def og (G : ℕ → EReal) (b s c : ℕ) : EReal :=
  (A.oi b (s / 64) (s % 64) c : EReal)
    * Ideal.rsqrt (Ideal.div (∑ k : Fin 128, (A.oi b (s / 64) (s % 64) (128 * (c / 128) + k.val) : EReal) * (A.oi b (s / 64) (s % 64) (128 * (c / 128) + k.val) : EReal)) (Ideal.ofBits .f32 0x43000000#32)
        + Ideal.ofBits .f32 0x358637BD#32) * G c
/-- The three groups' rows side by side. -/
def ym (G : ℕ → EReal) (b s j : ℕ) : EReal :=
  if j < 1024 then (A.H b j (s + 1) : EReal) else if j < 1536 then A.og G b s (j - 1024) else (A.xa b s (j - 1536) : EReal)
/-- The residual sum. -/
def z (G : ℕ → EReal) (W : ℕ → ℕ → EReal) (b s d : ℕ) : EReal :=
  (A.x b s d : EReal) + ∑ k : Fin 2048, A.ym G b s k.val * (A.silu b s k.val : EReal) * W k.val d
/-- The layer's result. -/
def out (G : ℕ → EReal) (W : ℕ → ℕ → EReal) (g : ℕ → EReal) (b s d : ℕ) : EReal :=
  A.z G W b s d * Ideal.rsqrt (Ideal.div (∑ k : Fin 1024, A.z G W b s k.val * A.z G W b s k.val) (Ideal.ofBits .f32 0x44800000#32) + Ideal.ofBits .f32 0x358637BD#32) * g d

end Arr

end Cert.Layer

end
-- ==== Proof.KRows.lean ====
/-
  The kernel's row-local stages, read at an index at the ideal instance: the norm, the two projections, the convolution and
  the gates' products.
-/
module

public import proofs.«01_k».proof.Proof.Stages
public import proofs.«01_k».proof.Proof.Spec

@[expose] public section

noncomputable section

namespace Cert.KernelIdeal.Layer

open Idealize.ShloMosaic Idealize.SL.Sem
open Cert.KernelIdeal.Gen Cert.Layer

/-- A block of operands is that of batch row `b`, tile `t`. -/
structure Ok (I : Ins Ideal) (A : Arr) (G : ℕ → EReal) (W : ℕ → ℕ → EReal) (g : ℕ → EReal) (b t : ℕ) : Prop where
  x : ∀ (r : Fin 512) (d : Fin 1024), I.x (ix3 0 r d) = (A.x b (512 * t + r.val) d.val : EReal)
  wl : ∀ (k j : Fin 1024), I.wl (ix2 k j) = (A.w k.val j.val : EReal)
  wr : ∀ (k : Fin 1024) (j : Fin 3712), I.wr (ix2 k j) = ((if j.val < 1024 then A.w k.val (1024 + j.val) else
    if j.val < 3584 then A.w k.val (j.val + 1040) else if j.val < 3600 then A.w k.val (j.val - 3584 + 2048) else 0 : ℝ) : EReal)
  wai : ∀ (h : Fin 8) (k : Fin 128) (j : Fin 256), I.wai (ix3 h k j) = ((if j.val < 128 then A.wa h.val k.val j.val else A.wi h.val k.val (j.val - 128) : ℝ) : EReal)
  ba : ∀ c : Fin 1024, I.ba (ix2 0 c) = (A.ba (c.val / 128) (c.val % 128) : EReal)
  bi : ∀ c : Fin 1024, I.bi (ix2 0 c) = (A.bi (c.val / 128) (c.val % 128) : EReal)
  cw : ∀ (k : Fin 4) (c : Fin 1024), I.cw (ix2 k c) = (A.cw k.val c.val : EReal)
  cb : ∀ c : Fin 1024, I.cb (ix2 0 c) = (A.cb c.val : EReal)
  lam : ∀ c : Fin 1024, I.lam (ix2 0 c) = (A.lam c.val : EReal)
  wg : ∀ (k : Fin 128) (j : Fin 256), I.wg (ix2 k j) = ((if k.val < 16 then A.wg k.val j.val else 0 : ℝ) : EReal)
  bg : ∀ j : Fin 256, I.bg (ix2 0 j) = (A.bg j.val : EReal)
  gg : ∀ c : Fin 512, I.gg (ix2 0 c) = G c.val
  kt : ∀ (r : Fin 512) (m : Fin 256), I.kt (ix3 0 r m) = (A.kt b r.val m.val : EReal)
  vm : ∀ (m : Fin 256) (c : Fin 512), I.vm (ix3 0 m c) = (A.vm b m.val c.val : EReal)
  wo : ∀ (k : Fin 2048) (d : Fin 1024), I.wo (ix2 k d) = W k.val d.val
  ng : ∀ d : Fin 1024, I.ng (ix2 0 d) = (A.ng d.val : EReal)
  fg : ∀ d : Fin 1024, I.fg (ix2 0 d) = g d.val

/-- What is handed to tile `t` of batch row `b`. -/
structure OkC (K : Carry Ideal) (A : Arr) (b t : ℕ) : Prop where
  tl : ∀ (i : Fin 8) (c : Fin 1024), K.t (ix2 i c) = (A.pz b (512 * t + i.val) c.val : EReal)
  h : ∀ c : Fin 1024, K.h (ix2 0 c) = (A.H b c.val (512 * t) : EReal)
  s : ∀ (v : Fin 512) (k : Fin 256), K.s (ix2 v k) = ((if v.val / 128 = k.val / 64 then A.S b v.val k.val (8 * t) else 0 : ℝ) : EReal)

theorem win_ix {α : Type} {R C n m : ℕ} [NeZero R] [NeZero C] (x : (⟨2, ![R, C]⟩ : Shape).Idx → α) (o q : ℕ) (i : Fin n) (j : Fin m) (h : o + i.val < R) (h' : q + j.val < C) :
    win x o q n m (ix2 i j) = x (ix2 ⟨o + i.val, h⟩ ⟨q + j.val, h'⟩) := by
  refine congrArg x ?_
  congr 1
  · exact Fin.ext (Nat.mod_eq_of_lt h)
  · exact Fin.ext (Nat.mod_eq_of_lt h')

theorem win3_ix {α : Type} {S R C a n m : ℕ} [NeZero S] [NeZero R] [NeZero C] (x : (⟨3, ![S, R, C]⟩ : Shape).Idx → α) (p o q : ℕ) (k : Fin a) (i : Fin n) (j : Fin m)
    (h'' : p + k.val < S) (h : o + i.val < R) (h' : q + j.val < C) :
    win3 x p o q a n m (ix3 k i j) = x (ix3 ⟨p + k.val, h''⟩ ⟨o + i.val, h⟩ ⟨q + j.val, h'⟩) := by
  refine congrArg x ?_
  congr 1
  · exact Fin.ext (Nat.mod_eq_of_lt h'')
  · exact Fin.ext (Nat.mod_eq_of_lt h)
  · exact Fin.ext (Nat.mod_eq_of_lt h')

theorem blocks_ix {α : Type} {R C : ℕ} (n : ℕ) [NeZero n] (P : ℕ → (⟨2, ![n, C]⟩ : Shape).Idx → α) (i : Fin R) (j : Fin C) :
    blocks n P (ix2 i j) = P (i.val / n) (ix2 (Fin.ofNat n (i.val % n)) j) := rfl

/-! ## Payloads -/

theorem pay87_ix (g : Vec Ideal S1x1024 .f32) (x : Vec Ideal S1x32x1024 .f32) (r : Fin 32) (d : Fin 1024) :
    k0_pay87 g x (ix2 r d) = x (ix3 0 r d) * Ideal.rsqrt (Ideal.div (∑ k : Fin 1024, x (ix3 0 r k) * x (ix3 0 r k)) (Ideal.ofBits .f32 0x44800000#32)
      + Ideal.ofBits .f32 0x358637BD#32) * g (ix2 0 d) := by
  pointwise [k0_pay87]
  try rfl

theorem pay88_ix (h : Vec Ideal S512x1024 .bf16) (w : Vec Ideal S1024x1024 .bf16) (r : Fin 512) (d : Fin 1024) :
    k0_pay88 h w (ix2 r d) = ∑ k : Fin 1024, h (ix2 r k) * w (ix2 k d) := by
  pointwise [k0_pay88]
  try rfl

theorem pay89_ix (h : Vec Ideal S512x1024 .bf16) (w : Vec Ideal S1024x3712 .bf16) (r : Fin 512) (d : Fin 3712) :
    k0_pay89 h w (ix2 r d) = ∑ k : Fin 1024, h (ix2 r k) * w (ix2 k d) := by
  pointwise [k0_pay89]
  try rfl

theorem pay92_ix (w : Vec Ideal S4x1024 .f32) (b : Vec Ideal S1x1024 .f32) (x : Vec Ideal S40x1024 .f32) (r : Fin 32) (d : Fin 1024) :
    k0_pay92 w b x (ix2 r d) = b (ix2 0 d) + w (ix2 3 d) * x (ix2 ⟨8 + r.val, by omega⟩ d) + w (ix2 2 d) * x (ix2 ⟨7 + r.val, by omega⟩ d)
      + w (ix2 1 d) * x (ix2 ⟨6 + r.val, by omega⟩ d) + w (ix2 0 d) * x (ix2 ⟨5 + r.val, by omega⟩ d) := by
  pointwise [k0_pay92, k0_pay91]
  try rfl

theorem pay93_ix (w : Vec Ideal S4x1024 .f32) (b : Vec Ideal S1x1024 .f32) (x : Vec Ideal S40x1024 .f32) (r : Fin 32) (d : Fin 1024) :
    k0_pay93 w b x (ix2 r d) = k0_pay92 w b x (ix2 r d) := by
  pointwise [k0_pay93, k0_pay92, k0_pay91]
  try rfl

theorem pay95_ix (u : Vec Ideal S512x128 .bf16) (w : Vec Ideal S1x128x256 .bf16) (r : Fin 512) (j : Fin 256) :
    k0_pay95 u w (ix2 r j) = ∑ k : Fin 128, u (ix2 r k) * w (ix3 0 k j) := by
  pointwise [k0_pay95]
  try rfl

theorem pay90_ix (x : Vec Ideal S8x1024 .f32) (r : Fin 8) (j : Fin 1024) : k0_pay90 x (ix2 r j) = x (ix2 r j) := by
  pointwise [k0_pay90]
  try rfl
theorem pay94_ix (x : Vec Ideal S8x1024 .f32) (r : Fin 8) (j : Fin 1024) : k0_pay94 x (ix2 r j) = x (ix2 r j) := by
  pointwise [k0_pay94]
  try rfl
theorem pay110_ix (x : Vec Ideal S1x1024 .f32) (r : Fin 1) (j : Fin 1024) : k0_pay110 x (ix2 r j) = x (ix2 r j) := by
  pointwise [k0_pay110]
  try rfl

/-! ## Stages -/

section
variable {I : Ins Ideal} {K : Carry Ideal} {A : Arr} {G : ℕ → EReal} {W : ℕ → ℕ → EReal} {g : ℕ → EReal} {b t : ℕ}

theorem hn_ix (O : Ok I A G W g b t) (r : Fin 512) (d : Fin 1024) : I.hn (ix2 r d) = (A.h b (512 * t + r.val) d.val : EReal) := by
  have hx : ∀ k : Fin 1024, win3 I.x 0 (32 * (r.val / 32)) 0 1 32 1024 (ix3 0 (Fin.ofNat 32 (r.val % 32)) k) = (A.x b (512 * t + r.val) k.val : EReal) := by
    intro k
    rw [win3_ix _ _ _ _ _ _ _ (by decide) (by show 32 * (r.val / 32) + r.val % 32 % 32 < 512; omega) (by omega)]
    refine Eq.trans (congrArg I.x ?_) (O.x r k)
    congr 1
    · exact Fin.ext (by show 32 * (r.val / 32) + r.val % 32 % 32 = r.val; omega)
    · exact Fin.ext (by show 0 + k.val = k.val; omega)
  show k0_pay87 I.ng (win3 I.x 0 (32 * (r.val / 32)) 0 1 32 1024) (ix2 (Fin.ofNat 32 (r.val % 32)) d) = _
  rw [pay87_ix, O.ng]
  simp only [hx]
  simp only [← EReal.coe_mul, coe_sum, w_1024, w_eps]
  rw [div_c (by norm_num), ← EReal.coe_add]
  rw [show (∑ i : Fin 1024, A.x b (512 * t + r.val) i.val * A.x b (512 * t + r.val) i.val) / 1024 = A.mq b (512 * t + r.val) from rfl]
  rw [rsqrt_c (A.mq_eps _ _), ← EReal.coe_mul, ← EReal.coe_mul]
  rfl

theorem u_ix (O : Ok I A G W g b t) (r : Fin 512) (d : Fin 1024) : I.u (ix2 r d) = (A.pj b (512 * t + r.val) d.val : EReal) := by
  unfold Ins.u
  rw [pay88_ix]
  simp only [hn_ix O, O.wl, ← EReal.coe_mul, coe_sum]
  rfl

/-- Column `j` of the kernel's second projection is this column of the one projection, or padding. -/
def col (j : ℕ) : ℕ := if j < 1024 then 1024 + j else if j < 3584 then j + 1040 else j - 3584 + 2048

theorem pr_ix (O : Ok I A G W g b t) (r : Fin 512) (j : Fin 3712) :
    I.pr (ix2 r j) = ((if j.val < 3600 then A.pj b (512 * t + r.val) (col j.val) else 0 : ℝ) : EReal) := by
  unfold Ins.pr
  rw [pay89_ix]
  simp only [hn_ix O, O.wr, ← EReal.coe_mul, coe_sum]
  congr 1
  unfold col Arr.pj
  by_cases h1 : j.val < 1024
  · simp only [h1, if_pos, show j.val < 3600 by omega, if_true]
  by_cases h2 : j.val < 3584
  · simp only [h1, h2, if_false, show j.val < 3600 by omega, if_true]
  by_cases h3 : j.val < 3600
  · simp only [h1, h2, h3, if_false, if_true]
  · simp only [h1, h2, h3, if_false, mul_zero, Finset.sum_const_zero]

theorem up_ix (O : Ok I A G W g b t) (C : OkC K A b t) (y : Fin 520) (c : Fin 1024) : I.up K (ix2 y c) = (A.pz b (512 * t + y.val) c.val : EReal) := by
  show (if y.val < 8 then K.t (ix2 (Fin.ofNat 8 y.val) c) else I.u (ix2 (Fin.ofNat 512 (y.val - 8)) c)) = _
  by_cases h : y.val < 8
  · rw [if_pos h, C.tl]
    show ((A.pz b (512 * t + y.val % 8) c.val : ℝ) : EReal) = _
    rw [Nat.mod_eq_of_lt h]
  · rw [if_neg h, u_ix O]
    unfold Arr.pz
    rw [if_neg (by omega)]
    show ((A.pj b (512 * t + (y.val - 8) % 512) c.val : ℝ) : EReal) = _
    congr 2
    omega

theorem tail_ix (O : Ok I A G W g b t) (C : OkC K A b t) (i : Fin 8) (c : Fin 1024) :
    k0_pay94 (I.tail K) (ix2 i c) = (A.pz b (512 * (t + 1) + i.val) c.val : EReal) := by
  rw [pay94_ix]
  unfold Ins.tail
  rw [pay90_ix, win_ix _ _ _ _ _ (by omega) (by omega), up_ix O C]
  show ((A.pz b (512 * t + (512 + i.val)) (0 + c.val) : ℝ) : EReal) = _
  congr 2 <;> omega

theorem conv_ix (O : Ok I A G W g b t) (C : OkC K A b t) (r : Fin 512) (c : Fin 1024) :
    uC I.cw I.cb (I.up K) (ix2 r c) = (A.cv b (512 * t + r.val) c.val : EReal) := by
  show k0_pay92 I.cw I.cb (win (I.up K) (32 * (r.val / 32)) 0 40 1024) (ix2 (Fin.ofNat 32 (r.val % 32)) c) = _
  have hu : ∀ (y : Fin 40) (s : ℕ), 32 * (r.val / 32) + y.val = s → win (I.up K) (32 * (r.val / 32)) 0 40 1024 (ix2 y c) = (A.pz b (512 * t + s) c.val : EReal) := by
    intro y s e
    rw [win_ix _ _ _ _ _ (by omega) (by omega), up_ix O C]
    show ((A.pz b (512 * t + (32 * (r.val / 32) + y.val)) (0 + c.val) : ℝ) : EReal) = _
    rw [e, Nat.zero_add]
  rw [pay92_ix, hu _ (r.val + 8) (by show 32 * (r.val / 32) + (8 + r.val % 32 % 32) = _; omega),
    hu _ (r.val + 7) (by show 32 * (r.val / 32) + (7 + r.val % 32 % 32) = _; omega),
    hu _ (r.val + 6) (by show 32 * (r.val / 32) + (6 + r.val % 32 % 32) = _; omega),
    hu _ (r.val + 5) (by show 32 * (r.val / 32) + (5 + r.val % 32 % 32) = _; omega), O.cb, O.cw, O.cw, O.cw, O.cw]
  simp only [← EReal.coe_mul, ← EReal.coe_add]
  rfl

theorem convB_ix (O : Ok I A G W g b t) (C : OkC K A b t) (r : Fin 512) (c : Fin 1024) :
    uB I.cw I.cb (I.up K) (ix2 r c) = (A.cv b (512 * t + r.val) c.val : EReal) :=
  (pay93_ix I.cw I.cb (win (I.up K) (32 * (r.val / 32)) 0 40 1024) (Fin.ofNat 32 (r.val % 32)) c).trans (conv_ix O C r c)

theorem cu_ix (O : Ok I A G W g b t) (C : OkC K A b t) (y : Fin 520) (r : ℕ) (e : y.val = r + 8) (c : Fin 1024) :
    I.cu K (ix2 y c) = (A.cv b (512 * t + r) c.val : EReal) := by
  show (if y.val < 8 then k0_pay94 (I.tail K) (ix2 (Fin.ofNat 8 y.val) c) else uC I.cw I.cb (I.up K) (ix2 (Fin.ofNat 512 (y.val - 8)) c)) = _
  rw [if_neg (by omega), conv_ix O C]
  show ((A.cv b (512 * t + (y.val - 8) % 512) c.val : ℝ) : EReal) = _
  congr 2
  omega

/-- The gates' products: for each head 128 columns of the one gate, then 128 of the other. -/
theorem ri_ix (O : Ok I A G W g b t) (C : OkC K A b t) (r : Fin 512) (j : Fin 2048) (hd l : ℕ) (hl : l < 128) (hj : j.val = 256 * hd + l) :
    I.ri K (ix2 r j) = (A.ga b (512 * t + r.val) hd l : EReal) := by
  have hq : j.val / 256 = hd := by omega
  have hm : j.val % 256 = l := by omega
  show k0_pay95 (win (uB I.cw I.cb (I.up K)) 0 (128 * (j.val / 256)) 512 128) (win3 I.wai (j.val / 256) 0 0 1 128 256) (ix2 r (Fin.ofNat 256 (j.val % 256))) = _
  rw [hq, hm, pay95_ix]
  unfold Arr.ga
  rw [← coe_sum]
  refine Finset.sum_congr rfl fun k _ => ?_
  rw [win_ix _ _ _ _ _ (by omega) (by omega), convB_ix O C, win3_ix _ _ _ _ _ _ _ (by show hd + 0 < 8; omega) (by omega) (by show 0 + l % 256 < 256; omega), O.wai]
  rw [← EReal.coe_mul]
  show (((A.cv b (512 * t + (0 + r.val)) (128 * hd + k.val)) * (if 0 + l % 256 < 128 then A.wa (hd + 0) (0 + k.val) (0 + l % 256) else _) : ℝ) : EReal) = _
  rw [if_pos (by omega), Nat.mod_eq_of_lt (by omega : l < 256)]
  simp only [Nat.zero_add, Nat.add_zero]

theorem ri2_ix (O : Ok I A G W g b t) (C : OkC K A b t) (r : Fin 512) (j : Fin 2048) (hd l : ℕ) (hl : l < 128) (hj : j.val = 256 * hd + 128 + l) :
    I.ri K (ix2 r j) = (A.gi b (512 * t + r.val) hd l : EReal) := by
  have hq : j.val / 256 = hd := by omega
  have hm : j.val % 256 = 128 + l := by omega
  show k0_pay95 (win (uB I.cw I.cb (I.up K)) 0 (128 * (j.val / 256)) 512 128) (win3 I.wai (j.val / 256) 0 0 1 128 256) (ix2 r (Fin.ofNat 256 (j.val % 256))) = _
  rw [hq, hm, pay95_ix]
  unfold Arr.gi
  rw [← coe_sum]
  refine Finset.sum_congr rfl fun k _ => ?_
  rw [win_ix _ _ _ _ _ (by omega) (by omega), convB_ix O C, win3_ix _ _ _ _ _ _ _ (by show hd + 0 < 8; omega) (by omega) (by show 0 + (128 + l) % 256 < 256; omega), O.wai]
  rw [← EReal.coe_mul]
  show (((A.cv b (512 * t + (0 + r.val)) (128 * hd + k.val)) * (if 0 + (128 + l) % 256 < 128 then _ else A.wi (hd + 0) (0 + k.val) (0 + (128 + l) % 256 - 128)) : ℝ) : EReal) = _
  rw [if_neg (by omega), show 0 + (128 + l) % 256 - 128 = l by omega]
  simp only [Nat.zero_add, Nat.add_zero]

end

end Cert.KernelIdeal.Layer

end
-- ==== Proof.KScan.lean ====
/-
  The kernel's scan, at the ideal instance: a trip makes, for each head, eight steps of the recurrence in three doublings;
  over the trips the row handed on is the recurrent state.
-/
module

public import proofs.«01_k».proof.Proof.KRows

@[expose] public section

noncomputable section

namespace Cert.KernelIdeal.Layer

open Idealize.ShloMosaic Idealize.SL.Sem
open Cert.KernelIdeal.Gen Cert.Layer

section Head
variable {F : FTy → Type} [FloatOps F]

/-- The logistic function as the kernel writes it. -/
def sigV (z : FVec F S8x128 .f32) : FVec F S8x128 .f32 :=
  addf (mulf (broadcast S8x128 (Scalar.ofBits .f32 0x3F000000#32)) (tanh (mulf (broadcast S8x128 (Scalar.ofBits .f32 0x3F000000#32)) z))) (broadcast S8x128 (Scalar.ofBits .f32 0x3F000000#32))

/-- The decays of 8 rows of one head, from the gate's argument. -/
def laV (z : FVec F S8x128 .f32) (cl : FVec F S1x128 .f32) : FVec F S8x128 .f32 := mulf (sigV z) (broadcastTo S8x128 cl broadcasts_S1x128_S8x128)

/-- The inputs of 8 rows of one head. -/
def bxV (z zi u : FVec F S8x128 .f32) (cl : FVec F S1x128 .f32) : FVec F S8x128 .f32 :=
  mulf (sqrt (mulf (subf (broadcast S8x128 (Scalar.ofBits .f32 0x00000000#32)) (addf (mulf (exp (laV z cl)) (exp (laV z cl))) (broadcast S8x128 (Scalar.ofBits .f32 0x3F800000#32)))) (tanh (laV z cl)))) (mulf (sigV zi) u)

def rowI : IVec S8x128 32 := iota .tc S8x128 32 [0] iota_S8x128_d0_w32

/-- One doubling over a distance of `s` rows. -/
def dbA (s : BitVec 32) (a : FVec F S8x128 .f32) : FVec F S8x128 .f32 :=
  select (cmpi .sge rowI (broadcast S8x128 s)) (mulf a (dynamicRotate 0 s none a rotates_S8x128_d0)) a
def dbB (s : BitVec 32) (a b : FVec F S8x128 .f32) : FVec F S8x128 .f32 :=
  select (cmpi .sge rowI (broadcast S8x128 s)) (addf (mulf a (dynamicRotate 0 s none b rotates_S8x128_d0)) b) b

/-- The 8 rows of one head from its decays, its inputs and the state before them. -/
def headV (a b : FVec F S8x128 .f32) (h : FVec F S1x128 .f32) : FVec F S8x128 .f32 :=
  addf (mulf (dbA 4#32 (dbA 2#32 (dbA 1#32 a))) (broadcastTo S8x128 h broadcasts_S1x128_S8x128))
    (dbB 4#32 (dbA 2#32 (dbA 1#32 a)) (dbB 2#32 (dbA 1#32 a) (dbB 1#32 a b)))

/-- One head of the trip, its columns cut out of the operands. -/
def hdV (v102 v104 v106 : FVec F S1x1024 .f32) (acc : Vec F S1x1024 .f32) (v301 : Vec F S8x2048 .f32) (v304 : Vec F S8x1024 .f32)
    (o p q : ℕ) (s1 : S8x2048.Slices ![0, p] S8x128) (s2 : S8x2048.Slices ![0, q] S8x128) (s3 : S1x1024.Slices ![0, o] S1x128) (s4 : S8x1024.Slices ![0, o] S8x128) : FVec F S8x128 .f32 :=
  headV (exp (laV (addf (extractStridedSlice S8x128 ![0, p] v301 s1) (broadcastTo S8x128 (extractStridedSlice S1x128 ![0, o] v104 s3) broadcasts_S1x128_S8x128)) (extractStridedSlice S1x128 ![0, o] v102 s3)))
    (bxV (addf (extractStridedSlice S8x128 ![0, p] v301 s1) (broadcastTo S8x128 (extractStridedSlice S1x128 ![0, o] v104 s3) broadcasts_S1x128_S8x128))
      (addf (extractStridedSlice S8x128 ![0, q] v301 s2) (broadcastTo S8x128 (extractStridedSlice S1x128 ![0, o] v106 s3) broadcasts_S1x128_S8x128))
      (extractStridedSlice S8x128 ![0, o] v304 s4) (extractStridedSlice S1x128 ![0, o] v102 s3))
    (extractStridedSlice S1x128 ![0, o] acc s3)

end Head

variable {F : FTy → Type} [FloatOps F] in
/-- The trip is its eight heads side by side, and hands on their last rows. -/
theorem scanTrip_eq (v102 v104 v106 : FVec F S1x1024 .f32) (acc : Vec F S1x1024 .f32) (v301 : Vec F S8x2048 .f32) (v304 : Vec F S8x1024 .f32) :
    scanTrip v102 v104 v106 acc v301 v304 =
      (shapeCast S8x1024 (concatenate S8x1024 1 [⟨S8x128, hdV v102 v104 v106 acc v301 v304 0 0 128 slices_S8x2048_o0_0_S8x128 slices_S8x2048_o0_128_S8x128 slices_S1x1024_o0_0_S1x128 slices_S8x1024_o0_0_S8x128⟩, ⟨S8x128, hdV v102 v104 v106 acc v301 v304 128 256 384 slices_S8x2048_o0_256_S8x128 slices_S8x2048_o0_384_S8x128 slices_S1x1024_o0_128_S1x128 slices_S8x1024_o0_128_S8x128⟩, ⟨S8x128, hdV v102 v104 v106 acc v301 v304 256 512 640 slices_S8x2048_o0_512_S8x128 slices_S8x2048_o0_640_S8x128 slices_S1x1024_o0_256_S1x128 slices_S8x1024_o0_256_S8x128⟩, ⟨S8x128, hdV v102 v104 v106 acc v301 v304 384 768 896 slices_S8x2048_o0_768_S8x128 slices_S8x2048_o0_896_S8x128 slices_S1x1024_o0_384_S1x128 slices_S8x1024_o0_384_S8x128⟩, ⟨S8x128, hdV v102 v104 v106 acc v301 v304 512 1024 1152 slices_S8x2048_o0_1024_S8x128 slices_S8x2048_o0_1152_S8x128 slices_S1x1024_o0_512_S1x128 slices_S8x1024_o0_512_S8x128⟩, ⟨S8x128, hdV v102 v104 v106 acc v301 v304 640 1280 1408 slices_S8x2048_o0_1280_S8x128 slices_S8x2048_o0_1408_S8x128 slices_S1x1024_o0_640_S1x128 slices_S8x1024_o0_640_S8x128⟩, ⟨S8x128, hdV v102 v104 v106 acc v301 v304 768 1536 1664 slices_S8x2048_o0_1536_S8x128 slices_S8x2048_o0_1664_S8x128 slices_S1x1024_o0_768_S1x128 slices_S8x1024_o0_768_S8x128⟩, ⟨S8x128, hdV v102 v104 v106 acc v301 v304 896 1792 1920 slices_S8x2048_o0_1792_S8x128 slices_S8x2048_o0_1920_S8x128 slices_S1x1024_o0_896_S1x128 slices_S8x1024_o0_896_S8x128⟩] concatenates_S8x128_S8x128_S8x128_S8x128_S8x128_S8x128_S8x128_S8x128_S8x1024_d1) shapeCasts_S8x1024_S8x1024,
      concatenate S1x1024 1 [⟨S1x128, extractStridedSlice S1x128 ![7, 0] (hdV v102 v104 v106 acc v301 v304 0 0 128 slices_S8x2048_o0_0_S8x128 slices_S8x2048_o0_128_S8x128 slices_S1x1024_o0_0_S1x128 slices_S8x1024_o0_0_S8x128) slices_S8x128_o7_0_S1x128⟩, ⟨S1x128, extractStridedSlice S1x128 ![7, 0] (hdV v102 v104 v106 acc v301 v304 128 256 384 slices_S8x2048_o0_256_S8x128 slices_S8x2048_o0_384_S8x128 slices_S1x1024_o0_128_S1x128 slices_S8x1024_o0_128_S8x128) slices_S8x128_o7_0_S1x128⟩, ⟨S1x128, extractStridedSlice S1x128 ![7, 0] (hdV v102 v104 v106 acc v301 v304 256 512 640 slices_S8x2048_o0_512_S8x128 slices_S8x2048_o0_640_S8x128 slices_S1x1024_o0_256_S1x128 slices_S8x1024_o0_256_S8x128) slices_S8x128_o7_0_S1x128⟩, ⟨S1x128, extractStridedSlice S1x128 ![7, 0] (hdV v102 v104 v106 acc v301 v304 384 768 896 slices_S8x2048_o0_768_S8x128 slices_S8x2048_o0_896_S8x128 slices_S1x1024_o0_384_S1x128 slices_S8x1024_o0_384_S8x128) slices_S8x128_o7_0_S1x128⟩, ⟨S1x128, extractStridedSlice S1x128 ![7, 0] (hdV v102 v104 v106 acc v301 v304 512 1024 1152 slices_S8x2048_o0_1024_S8x128 slices_S8x2048_o0_1152_S8x128 slices_S1x1024_o0_512_S1x128 slices_S8x1024_o0_512_S8x128) slices_S8x128_o7_0_S1x128⟩, ⟨S1x128, extractStridedSlice S1x128 ![7, 0] (hdV v102 v104 v106 acc v301 v304 640 1280 1408 slices_S8x2048_o0_1280_S8x128 slices_S8x2048_o0_1408_S8x128 slices_S1x1024_o0_640_S1x128 slices_S8x1024_o0_640_S8x128) slices_S8x128_o7_0_S1x128⟩, ⟨S1x128, extractStridedSlice S1x128 ![7, 0] (hdV v102 v104 v106 acc v301 v304 768 1536 1664 slices_S8x2048_o0_1536_S8x128 slices_S8x2048_o0_1664_S8x128 slices_S1x1024_o0_768_S1x128 slices_S8x1024_o0_768_S8x128) slices_S8x128_o7_0_S1x128⟩, ⟨S1x128, extractStridedSlice S1x128 ![7, 0] (hdV v102 v104 v106 acc v301 v304 896 1792 1920 slices_S8x2048_o0_1792_S8x128 slices_S8x2048_o0_1920_S8x128 slices_S1x1024_o0_896_S1x128 slices_S8x1024_o0_896_S8x128) slices_S8x128_o7_0_S1x128⟩] concatenates_S1x128_S1x128_S1x128_S1x128_S1x128_S1x128_S1x128_S1x128_S1x1024_d1) := rfl

theorem slice_ix {α : Type} {R C n m : ℕ} (x : (⟨2, ![R, C]⟩ : Shape).Idx → α) (o : ℕ) (h : (⟨2, ![R, C]⟩ : Shape).Slices ![0, o] (⟨2, ![n, m]⟩ : Shape)) (r : Fin n) (l : Fin m) (hr : r.val < R) (hl : o + l.val < C) :
    extractStridedSlice (⟨2, ![n, m]⟩ : Shape) ![0, o] x h (ix2 r l) = x (ix2 ⟨r.val, hr⟩ ⟨o + l.val, hl⟩) := by
  refine congrArg x ?_
  funext a
  match a with
  | ⟨0, _⟩ => exact Fin.ext (by show 0 + r.val = r.val; omega)
  | ⟨1, _⟩ => rfl

theorem sge_ix (s : ℕ) (r : Fin 8) (h : s < 8) (x y : EReal) :
    Scalar.select (IntOp.cmpi CmpIPredicate.sge (BitVec.ofNat 32 r.val) (BitVec.ofNat 32 s)) x y = if s ≤ r.val then x else y := by
  have : ∀ (r s : Fin 8), IntOp.cmpi CmpIPredicate.sge (BitVec.ofNat 32 r.val) (BitVec.ofNat 32 s.val) = if s.val ≤ r.val then 1#1 else 0#1 := by decide
  rw [this r ⟨s, h⟩]
  by_cases c : s ≤ r.val
  · rw [if_pos c, if_pos c]; rfl
  · rw [if_neg c, if_neg c]; rfl

theorem dbA1_ix (a : FVec Ideal S8x128 .f32) (r : Fin 8) (l : Fin 128) :
    dbA 1#32 a (ix2 r l) = if 1 ≤ r.val then a (ix2 r l) * a (ix2 ⟨(r.val + 8 - 1) % 8, by omega⟩ l) else a (ix2 r l) := by
  pointwise [dbA, rowI]
  exact sge_ix 1 r (by decide) _ _
theorem dbA2_ix (a : FVec Ideal S8x128 .f32) (r : Fin 8) (l : Fin 128) :
    dbA 2#32 a (ix2 r l) = if 2 ≤ r.val then a (ix2 r l) * a (ix2 ⟨(r.val + 8 - 2) % 8, by omega⟩ l) else a (ix2 r l) := by
  pointwise [dbA, rowI]
  exact sge_ix 2 r (by decide) _ _
theorem dbA4_ix (a : FVec Ideal S8x128 .f32) (r : Fin 8) (l : Fin 128) :
    dbA 4#32 a (ix2 r l) = if 4 ≤ r.val then a (ix2 r l) * a (ix2 ⟨(r.val + 8 - 4) % 8, by omega⟩ l) else a (ix2 r l) := by
  pointwise [dbA, rowI]
  exact sge_ix 4 r (by decide) _ _
theorem dbB1_ix (a b : FVec Ideal S8x128 .f32) (r : Fin 8) (l : Fin 128) :
    dbB 1#32 a b (ix2 r l) = if 1 ≤ r.val then a (ix2 r l) * b (ix2 ⟨(r.val + 8 - 1) % 8, by omega⟩ l) + b (ix2 r l) else b (ix2 r l) := by
  pointwise [dbB, rowI]
  exact sge_ix 1 r (by decide) _ _
theorem dbB2_ix (a b : FVec Ideal S8x128 .f32) (r : Fin 8) (l : Fin 128) :
    dbB 2#32 a b (ix2 r l) = if 2 ≤ r.val then a (ix2 r l) * b (ix2 ⟨(r.val + 8 - 2) % 8, by omega⟩ l) + b (ix2 r l) else b (ix2 r l) := by
  pointwise [dbB, rowI]
  exact sge_ix 2 r (by decide) _ _
theorem dbB4_ix (a b : FVec Ideal S8x128 .f32) (r : Fin 8) (l : Fin 128) :
    dbB 4#32 a b (ix2 r l) = if 4 ≤ r.val then a (ix2 r l) * b (ix2 ⟨(r.val + 8 - 4) % 8, by omega⟩ l) + b (ix2 r l) else b (ix2 r l) := by
  pointwise [dbB, rowI]
  exact sge_ix 4 r (by decide) _ _

/-- The recurrence from a given state. -/
def recH (α β : ℕ → ℝ) (h : ℝ) : ℕ → ℝ
  | 0 => h
  | n + 1 => α n * recH α β h n + β n

theorem headV_ix (a b : FVec Ideal S8x128 .f32) (h : FVec Ideal S1x128 .f32) (l : Fin 128) (α β : ℕ → ℝ) (h0 : ℝ)
    (ha : ∀ r : Fin 8, a (ix2 r l) = (α r.val : EReal)) (hb : ∀ r : Fin 8, b (ix2 r l) = (β r.val : EReal)) (hh : h (ix2 0 l) = (h0 : EReal)) (r : Fin 8) :
    headV a b h (ix2 r l) = (recH α β h0 (r.val + 1) : EReal) := by
  have e : headV a b h (ix2 r l) = dbA 4#32 (dbA 2#32 (dbA 1#32 a)) (ix2 r l) * h (ix2 0 l) + dbB 4#32 (dbA 2#32 (dbA 1#32 a)) (dbB 2#32 (dbA 1#32 a) (dbB 1#32 a b)) (ix2 r l) := by
    unfold headV
    generalize dbA 4#32 (dbA 2#32 (dbA 1#32 a)) = p
    generalize dbB 4#32 (dbA 2#32 (dbA 1#32 a)) (dbB 2#32 (dbA 1#32 a) (dbB 1#32 a b)) = q
    pointwise []
  have A1 : ∀ r : Fin 8, dbA 1#32 a (ix2 r l) = ((if 1 ≤ r.val then α r.val * α (r.val - 1) else α r.val : ℝ) : EReal) := by
    intro r
    rw [dbA1_ix, ha, ha, ← EReal.coe_mul, ← apply_ite Real.toEReal]
    by_cases c : 1 ≤ r.val
    · rw [if_pos c, if_pos c]; congr 3; show (r.val + 8 - 1) % 8 = _; omega
    · rw [if_neg c, if_neg c]
  have B1 : ∀ r : Fin 8, dbB 1#32 a b (ix2 r l) = ((if 1 ≤ r.val then α r.val * β (r.val - 1) + β r.val else β r.val : ℝ) : EReal) := by
    intro r
    rw [dbB1_ix, ha, hb, hb, ← EReal.coe_mul, ← EReal.coe_add, ← apply_ite Real.toEReal]
    by_cases c : 1 ≤ r.val
    · rw [if_pos c, if_pos c]; congr 4; show (r.val + 8 - 1) % 8 = _; omega
    · rw [if_neg c, if_neg c]
  have A2 := dbA2_ix (dbA 1#32 a) (l := l)
  have A4 := dbA4_ix (dbA 2#32 (dbA 1#32 a)) (l := l)
  have B2 := dbB2_ix (dbA 1#32 a) (dbB 1#32 a b) (l := l)
  have B4 := dbB4_ix (dbA 2#32 (dbA 1#32 a)) (dbB 2#32 (dbA 1#32 a) (dbB 1#32 a b)) (l := l)
  simp only [A1, B1] at A2 B2
  simp only [← EReal.coe_mul, ← EReal.coe_add, ← apply_ite Real.toEReal] at A2 B2
  simp only [A2, B2] at A4 B4
  simp only [← EReal.coe_mul, ← EReal.coe_add, ← apply_ite Real.toEReal] at A4 B4
  rw [e, A4, B4, hh, ← EReal.coe_mul, ← EReal.coe_add]
  congr 1
  clear A1 B1 A2 B2 A4 B4 e ha hb hh
  fin_cases r <;> simp [recH] <;> ring

/-- A decay, an input: the kernel's spelling at reals. -/
theorem laV_ix (z : FVec Ideal S8x128 .f32) (cl : FVec Ideal S1x128 .f32) (r : Fin 8) (l : Fin 128) (x c : ℝ) (hz : z (ix2 r l) = (x : EReal)) (hc : cl (ix2 0 l) = (c : EReal)) :
    laV z cl (ix2 r l) = ((sg x * c : ℝ) : EReal) := by
  pointwise [laV, sigV]
  rw [hz, hc, w_half]
  simp only [← EReal.coe_mul, ← EReal.coe_add, Ideal.tanh_coe]
  rw [sg_tanh]

theorem bxV_ix (z zi u : FVec Ideal S8x128 .f32) (cl : FVec Ideal S1x128 .f32) (r : Fin 8) (l : Fin 128) (x y c v : ℝ) (hz : z (ix2 r l) = (x : EReal)) (hc : cl (ix2 0 l) = (c : EReal))
    (hi : zi (ix2 r l) = (y : EReal)) (hu : u (ix2 r l) = (v : EReal)) (hn : c ≤ 0) :
    bxV z zi u cl (ix2 r l) = ((Real.sqrt (1 - Real.exp (2 * (sg x * c))) * (sg y * v) : ℝ) : EReal) := by
  have e : bxV z zi u cl (ix2 r l) = Ideal.sqrt ((0 - (Ideal.exp (laV z cl (ix2 r l)) * Ideal.exp (laV z cl (ix2 r l)) + 1)) * Ideal.tanh (laV z cl (ix2 r l)))
      * ((Ideal.ofBits FTy.f32 0x3F000000#32 * Ideal.tanh (Ideal.ofBits FTy.f32 0x3F000000#32 * zi (ix2 r l)) + Ideal.ofBits FTy.f32 0x3F000000#32) * u (ix2 r l)) := by
    unfold bxV
    generalize laV z cl = w
    pointwise [sigV]
  rw [e, laV_ix z cl r l x c hz hc, hi, hu, w_half]
  simp only [Ideal.exp_coe, Ideal.tanh_coe]
  rw [show (0 : EReal) = ((0 : ℝ) : EReal) from rfl, show (1 : EReal) = ((1 : ℝ) : EReal) from rfl]
  simp only [← EReal.coe_mul, ← EReal.coe_add, ← EReal.coe_sub, Ideal.tanh_coe]
  rw [one_sub_sq, sg_tanh, sqrt_c (one_sub_nonneg (by nlinarith [sg_pos x])), ← EReal.coe_mul]

/-- One head. -/
theorem hdV_ix (v102 v104 v106 : FVec Ideal S1x1024 .f32) (acc : Vec Ideal S1x1024 .f32) (v301 : Vec Ideal S8x2048 .f32) (v304 : Vec Ideal S8x1024 .f32)
    (hd : ℕ) (hhd : hd < 8) (o p q : ℕ) (ho : o = 128 * hd) (hp : p = 256 * hd) (hq : q = 256 * hd + 128)
    (s1 : S8x2048.Slices ![0, p] S8x128) (s2 : S8x2048.Slices ![0, q] S8x128) (s3 : S1x1024.Slices ![0, o] S1x128) (s4 : S8x1024.Slices ![0, o] S8x128)
    (cl ba bi h0 : ℕ → ℝ) (zr zi : ℕ → ℕ → ℕ → ℝ) (u : ℕ → ℕ → ℝ)
    (hcl : ∀ c : Fin 1024, v102 (ix2 0 c) = (cl c.val : EReal)) (hn : ∀ c, cl c ≤ 0) (hba : ∀ c : Fin 1024, v104 (ix2 0 c) = (ba c.val : EReal))
    (hbi : ∀ c : Fin 1024, v106 (ix2 0 c) = (bi c.val : EReal)) (hacc : ∀ c : Fin 1024, acc (ix2 0 c) = (h0 c.val : EReal))
    (hzr : ∀ (r : Fin 8) (j : Fin 2048) (hd l : ℕ), l < 128 → j.val = 256 * hd + l → v301 (ix2 r j) = (zr r.val hd l : EReal))
    (hzi : ∀ (r : Fin 8) (j : Fin 2048) (hd l : ℕ), l < 128 → j.val = 256 * hd + 128 + l → v301 (ix2 r j) = (zi r.val hd l : EReal))
    (hu : ∀ (r : Fin 8) (c : Fin 1024), v304 (ix2 r c) = (u r.val c.val : EReal)) (r : Fin 8) (l : Fin 128) :
    hdV v102 v104 v106 acc v301 v304 o p q s1 s2 s3 s4 (ix2 r l)
      = (recH (fun r => Real.exp (sg (zr r hd l.val + ba (128 * hd + l.val)) * cl (128 * hd + l.val)))
          (fun r => Real.sqrt (1 - Real.exp (2 * (sg (zr r hd l.val + ba (128 * hd + l.val)) * cl (128 * hd + l.val)))) * (sg (zi r hd l.val + bi (128 * hd + l.val)) * u r (128 * hd + l.val)))
          (h0 (128 * hd + l.val)) (r.val + 1) : EReal) := by
  subst ho hp hq
  have bz : ∀ (x : FVec Ideal S8x128 .f32) (y : FVec Ideal S1x128 .f32) (r : Fin 8), addf x (broadcastTo S8x128 y broadcasts_S1x128_S8x128) (ix2 r l) = x (ix2 r l) + y (ix2 0 l) := by
    intro x y r
    pointwise []
  have bzr : ∀ r : Fin 8, addf (extractStridedSlice S8x128 ![0, 256 * hd] v301 s1) (broadcastTo S8x128 (extractStridedSlice S1x128 ![0, 128 * hd] v104 s3) broadcasts_S1x128_S8x128) (ix2 r l)
      = ((zr r.val hd l.val + ba (128 * hd + l.val) : ℝ) : EReal) := by
    intro r
    rw [bz, slice_ix v301 _ s1 r l (by omega) (by omega), slice_ix v104 _ s3 0 l (by decide) (by omega), hzr _ _ hd l.val l.isLt rfl, EReal.coe_add]
    exact congrArg (_ + ·) (hba _)
  have bzi : ∀ r : Fin 8, addf (extractStridedSlice S8x128 ![0, 256 * hd + 128] v301 s2) (broadcastTo S8x128 (extractStridedSlice S1x128 ![0, 128 * hd] v106 s3) broadcasts_S1x128_S8x128) (ix2 r l)
      = ((zi r.val hd l.val + bi (128 * hd + l.val) : ℝ) : EReal) := by
    intro r
    rw [bz, slice_ix v301 _ s2 r l (by omega) (by omega), slice_ix v106 _ s3 0 l (by decide) (by omega), hzi _ _ hd l.val l.isLt rfl, EReal.coe_add]
    exact congrArg (_ + ·) (hbi _)
  have bcl : extractStridedSlice S1x128 ![0, 128 * hd] v102 s3 (ix2 0 l) = (cl (128 * hd + l.val) : EReal) := by
    rw [slice_ix v102 _ s3 0 l (by decide) (by omega)]; exact hcl _
  refine headV_ix _ _ _ l _ _ _ (fun r => ?_) (fun r => ?_) ?_ r
  · refine Eq.trans (congrArg Ideal.exp (laV_ix _ _ r l _ _ (bzr r) bcl)) ?_
    rw [Ideal.exp_coe]
  · refine bxV_ix _ _ _ _ r l _ _ _ _ (bzr r) bcl (bzi r) ?_ (hn _)
    rw [slice_ix v304 _ s4 r l (by omega) (by omega)]; exact hu _ _
  · rw [slice_ix acc _ s3 0 l (by decide) (by omega)]; exact hacc _

section Cat
variable {n : ℕ} (x : Fin 8 → FVec Ideal (⟨2, ![8, 128]⟩ : Shape) .f32)

theorem cat8_ix (x0 x1 x2 x3 x4 x5 x6 x7 : FVec Ideal S8x128 .f32) (h) (f : ℕ → ℕ → EReal)
    (h0 : ∀ r l, x0 (ix2 r l) = f r.val (128 * 0 + l.val)) (h1 : ∀ r l, x1 (ix2 r l) = f r.val (128 * 1 + l.val)) (h2 : ∀ r l, x2 (ix2 r l) = f r.val (128 * 2 + l.val))
    (h3 : ∀ r l, x3 (ix2 r l) = f r.val (128 * 3 + l.val)) (h4 : ∀ r l, x4 (ix2 r l) = f r.val (128 * 4 + l.val)) (h5 : ∀ r l, x5 (ix2 r l) = f r.val (128 * 5 + l.val))
    (h6 : ∀ r l, x6 (ix2 r l) = f r.val (128 * 6 + l.val)) (h7 : ∀ r l, x7 (ix2 r l) = f r.val (128 * 7 + l.val)) (r : Fin 8) (c : Fin 1024) :
    concatenate S8x1024 1 [⟨S8x128, x0⟩, ⟨S8x128, x1⟩, ⟨S8x128, x2⟩, ⟨S8x128, x3⟩, ⟨S8x128, x4⟩, ⟨S8x128, x5⟩, ⟨S8x128, x6⟩, ⟨S8x128, x7⟩] h (ix2 r c) = f r.val c.val := by
  pointwise []
  have hc := c.isLt
  simp only [h0, h1, h2, h3, h4, h5, h6, h7]
  split_ifs <;> (congr 1; first | omega | (dsimp only; omega))

theorem cat1_ix (x0 x1 x2 x3 x4 x5 x6 x7 : FVec Ideal S1x128 .f32) (h) (f : ℕ → EReal)
    (h0 : ∀ l, x0 (ix2 0 l) = f (128 * 0 + l.val)) (h1 : ∀ l, x1 (ix2 0 l) = f (128 * 1 + l.val)) (h2 : ∀ l, x2 (ix2 0 l) = f (128 * 2 + l.val))
    (h3 : ∀ l, x3 (ix2 0 l) = f (128 * 3 + l.val)) (h4 : ∀ l, x4 (ix2 0 l) = f (128 * 4 + l.val)) (h5 : ∀ l, x5 (ix2 0 l) = f (128 * 5 + l.val))
    (h6 : ∀ l, x6 (ix2 0 l) = f (128 * 6 + l.val)) (h7 : ∀ l, x7 (ix2 0 l) = f (128 * 7 + l.val)) (c : Fin 1024) :
    concatenate S1x1024 1 [⟨S1x128, x0⟩, ⟨S1x128, x1⟩, ⟨S1x128, x2⟩, ⟨S1x128, x3⟩, ⟨S1x128, x4⟩, ⟨S1x128, x5⟩, ⟨S1x128, x6⟩, ⟨S1x128, x7⟩] h (ix2 0 c) = f c.val := by
  pointwise []
  have hc := c.isLt
  simp only [h0, h1, h2, h3, h4, h5, h6, h7]
  split_ifs <;> (congr 1; first | omega | (dsimp only; omega))
end Cat

/-- The trip at an index, and the row it hands on. -/
theorem trip_ix (v102 v104 v106 : FVec Ideal S1x1024 .f32) (acc : Vec Ideal S1x1024 .f32) (v301 : Vec Ideal S8x2048 .f32) (v304 : Vec Ideal S8x1024 .f32)
    (cl ba bi h0 : ℕ → ℝ) (zr zi : ℕ → ℕ → ℕ → ℝ) (u : ℕ → ℕ → ℝ)
    (hcl : ∀ c : Fin 1024, v102 (ix2 0 c) = (cl c.val : EReal)) (hn : ∀ c, cl c ≤ 0) (hba : ∀ c : Fin 1024, v104 (ix2 0 c) = (ba c.val : EReal))
    (hbi : ∀ c : Fin 1024, v106 (ix2 0 c) = (bi c.val : EReal)) (hacc : ∀ c : Fin 1024, acc (ix2 0 c) = (h0 c.val : EReal))
    (hzr : ∀ (r : Fin 8) (j : Fin 2048) (hd l : ℕ), l < 128 → j.val = 256 * hd + l → v301 (ix2 r j) = (zr r.val hd l : EReal))
    (hzi : ∀ (r : Fin 8) (j : Fin 2048) (hd l : ℕ), l < 128 → j.val = 256 * hd + 128 + l → v301 (ix2 r j) = (zi r.val hd l : EReal))
    (hu : ∀ (r : Fin 8) (c : Fin 1024), v304 (ix2 r c) = (u r.val c.val : EReal)) (f : ℕ → ℕ → ℝ)
    (hf : f = fun n c => recH (fun r => Real.exp (sg (zr r (c / 128) (c % 128) + ba c) * cl c))
          (fun r => Real.sqrt (1 - Real.exp (2 * (sg (zr r (c / 128) (c % 128) + ba c) * cl c))) * (sg (zi r (c / 128) (c % 128) + bi c) * u r c)) (h0 c) n) :
    (∀ (r : Fin 8) (c : Fin 1024), (scanTrip v102 v104 v106 acc v301 v304).1 (ix2 r c) = (f (r.val + 1) c.val : EReal))
      ∧ ∀ c : Fin 1024, (scanTrip v102 v104 v106 acc v301 v304).2 (ix2 0 c) = (f 8 c.val : EReal) := by
  have H : ∀ (hd : ℕ) (hhd : hd < 8) (o p q : ℕ) (ho : o = 128 * hd) (hp : p = 256 * hd) (hq : q = 256 * hd + 128) s1 s2 s3 s4 (r : Fin 8) (l : Fin 128),
      hdV v102 v104 v106 acc v301 v304 o p q s1 s2 s3 s4 (ix2 r l) = (f (r.val + 1) (128 * hd + l.val) : EReal) := by
    intro hd hhd o p q ho hp hq s1 s2 s3 s4 r l
    rw [hdV_ix v102 v104 v106 acc v301 v304 hd hhd o p q ho hp hq s1 s2 s3 s4 cl ba bi h0 zr zi u hcl hn hba hbi hacc hzr hzi hu r l, hf]
    dsimp only
    rw [show (128 * hd + l.val) / 128 = hd by omega, show (128 * hd + l.val) % 128 = l.val by omega]
  have E : ∀ (v : FVec Ideal S8x128 .f32) (l : Fin 128), extractStridedSlice S1x128 ![7, 0] v slices_S8x128_o7_0_S1x128 (ix2 0 l) = v (ix2 7 l) := by
    intro v l; pointwise []
  rw [scanTrip_eq]
  refine ⟨fun r c => ?_, fun c => ?_⟩
  · dsimp only
    rw [show ∀ (v : FVec Ideal S8x1024 .f32) h, shapeCast S8x1024 v h (ix2 r c) = v (ix2 r c) from fun v h => by pointwise []]
    refine cat8_ix _ _ _ _ _ _ _ _ _ (fun r c => ((f (r + 1) c : ℝ) : EReal)) ?_ ?_ ?_ ?_ ?_ ?_ ?_ ?_ r c
    all_goals intro r l
    · exact H 0 (by decide) _ _ _ rfl rfl rfl _ _ _ _ r l
    · exact H 1 (by decide) _ _ _ rfl rfl rfl _ _ _ _ r l
    · exact H 2 (by decide) _ _ _ rfl rfl rfl _ _ _ _ r l
    · exact H 3 (by decide) _ _ _ rfl rfl rfl _ _ _ _ r l
    · exact H 4 (by decide) _ _ _ rfl rfl rfl _ _ _ _ r l
    · exact H 5 (by decide) _ _ _ rfl rfl rfl _ _ _ _ r l
    · exact H 6 (by decide) _ _ _ rfl rfl rfl _ _ _ _ r l
    · exact H 7 (by decide) _ _ _ rfl rfl rfl _ _ _ _ r l
  · dsimp only
    refine cat1_ix _ _ _ _ _ _ _ _ _ (fun c => ((f 8 c : ℝ) : EReal)) ?_ ?_ ?_ ?_ ?_ ?_ ?_ ?_ c
    all_goals intro l
    all_goals refine (E _ l).trans ?_
    · exact H 0 (by decide) _ _ _ rfl rfl rfl _ _ _ _ 7 l
    · exact H 1 (by decide) _ _ _ rfl rfl rfl _ _ _ _ 7 l
    · exact H 2 (by decide) _ _ _ rfl rfl rfl _ _ _ _ 7 l
    · exact H 3 (by decide) _ _ _ rfl rfl rfl _ _ _ _ 7 l
    · exact H 4 (by decide) _ _ _ rfl rfl rfl _ _ _ _ 7 l
    · exact H 5 (by decide) _ _ _ rfl rfl rfl _ _ _ _ 7 l
    · exact H 6 (by decide) _ _ _ rfl rfl rfl _ _ _ _ 7 l
    · exact H 7 (by decide) _ _ _ rfl rfl rfl _ _ _ _ 7 l

theorem recH_rec0 (l b : ℕ → ℝ) (s n : ℕ) : recH (fun r => Real.exp (l (s + r))) (fun r => b (s + r)) (rec0 l b s) n = rec0 l b (s + n) := by
  induction n with
  | zero => rfl
  | succ n ih => rw [recH, ih]; rfl

theorem pay104_ix (v : Vec Ideal S1x1024 .f32) (c : Fin 1024) : k0_pay104 v (ix2 0 c)
    = Ideal.ofBits .f32 0xC1000000#32 * (max (0 - v (ix2 0 c)) 0 + Ideal.log1p (Ideal.exp (0 - FloatOps.absf (F := Ideal) (φ := .f32) (0 - v (ix2 0 c))))) := by
  pointwise [k0_pay104]
  try rfl

/-- The softplus as the kernel writes it. -/
theorem sp_e (y : ℝ) : max (y : EReal) 0 + Ideal.log1p (Ideal.exp (0 - FloatOps.absf (F := Ideal) (φ := .f32) (y : EReal))) = (sp y : EReal) := by
  have e : FloatOps.absf (F := Ideal) (φ := .f32) (y : EReal) = ((|y| : ℝ) : EReal) := (max_c y (-y)).trans (by rw [abs_eq_max_neg])
  rw [e, show (0 : EReal) = ((0 : ℝ) : EReal) from rfl, ← EReal.coe_sub, Ideal.exp_coe, log1p_c (by linarith [Real.exp_pos (0 - |y|)]), max_c, ← EReal.coe_add, zero_sub, sp_max]

theorem cl_e (v : Vec Ideal S1x1024 .f32) (c : Fin 1024) (y : ℝ) (h : v (ix2 0 c) = (y : EReal)) : k0_pay104 v (ix2 0 c) = ((-8 * sp (-y) : ℝ) : EReal) := by
  rw [pay104_ix, h, show (0 : EReal) - (y : EReal) = ((-y : ℝ) : EReal) by rw [← zero_sub y]; rfl, sp_e, w_neg8, ← EReal.coe_mul]
theorem pay105_ix (v : Vec Ideal S1x1024 .f32) (c : Fin 1024) : k0_pay105 v (ix2 0 c) = v (ix2 0 c) := by
  pointwise [k0_pay105]
theorem pay106_ix (v : Vec Ideal S1x1024 .f32) (c : Fin 1024) : k0_pay106 v (ix2 0 c) = v (ix2 0 c) := by
  pointwise [k0_pay106]

variable {I : Ins Ideal} {K : Carry Ideal} {A : Arr} {G : ℕ → EReal} {W : ℕ → ℕ → EReal} {g : ℕ → EReal} {b t : ℕ}

theorem scanAt_ix (O : Ok I A G W g b t) (C : OkC K A b t) (k : ℕ) (hk : k < 64) (acc : Vec Ideal S1x1024 .f32) (ha : ∀ c : Fin 1024, acc (ix2 0 c) = (A.H b c.val (512 * t + 8 * k) : EReal)) :
    (∀ (r : Fin 8) (c : Fin 1024), (scanAt I.lam I.ba I.bi (I.ri K) (I.cu K) acc k).1 (ix2 r c) = (A.H b c.val (512 * t + 8 * k + (r.val + 1)) : EReal))
      ∧ ∀ c : Fin 1024, (scanAt I.lam I.ba I.bi (I.ri K) (I.cu K) acc k).2 (ix2 0 c) = (A.H b c.val (512 * t + 8 * (k + 1)) : EReal) := by
  have T := trip_ix (k0_pay104 I.lam) (k0_pay105 I.ba) (k0_pay106 I.bi) acc (win (I.ri K) (8 * k) 0 8 2048) (win (I.cu K) (8 * k + 8) 0 8 1024)
    (fun c => -8 * sp (-A.lam c)) (fun c => A.ba (c / 128) (c % 128)) (fun c => A.bi (c / 128) (c % 128)) (fun c => A.H b c (512 * t + 8 * k))
    (fun r hd l => A.ga b (512 * t + 8 * k + r) hd l) (fun r hd l => A.gi b (512 * t + 8 * k + r) hd l) (fun r c => A.cv b (512 * t + 8 * k + r) c)
    (fun c => cl_e _ c _ (O.lam c)) (fun c => by have := sp_pos (-A.lam c); linarith) (fun c => (pay105_ix _ c).trans (O.ba c)) (fun c => (pay106_ix _ c).trans (O.bi c)) ha
    (fun r j hd l hl hj => by
      rw [win_ix _ _ _ r j (by omega) (by omega), ri_ix O C _ _ hd l hl (by show 0 + j.val = _; omega), Nat.add_assoc])
    (fun r j hd l hl hj => by
      rw [win_ix _ _ _ r j (by omega) (by omega), ri2_ix O C _ _ hd l hl (by show 0 + j.val = _; omega), Nat.add_assoc])
    (fun r c => by
      rw [win_ix _ _ _ r c (by omega) (by omega), cu_ix O C _ (8 * k + r.val) (by show 8 * k + 8 + r.val = _; omega), Nat.add_assoc]
      congr 2; exact Nat.zero_add _)
    (fun n c => A.H b c (512 * t + 8 * k + n)) (by
      funext n c
      exact (recH_rec0 (A.la b c) (A.bx b c) (512 * t + 8 * k) n).symm)
  exact ⟨T.1, T.2⟩

theorem carry_ix (O : Ok I A G W g b t) (C : OkC K A b t) (k : ℕ) (hk : k ≤ 64) (c : Fin 1024) :
    scanCarry I.lam I.ba I.bi (I.ri K) (I.cu K) K.h k (ix2 0 c) = (A.H b c.val (512 * t + 8 * k) : EReal) := by
  induction k generalizing c with
  | zero => exact C.h c
  | succ k ih => exact (scanAt_ix O C k (by omega) _ (fun c => ih (by omega) c)).2 c

theorem yl_ix (O : Ok I A G W g b t) (C : OkC K A b t) (k : ℕ) (hk : k < 64) (r : Fin 8) (c : Fin 1024) :
    I.yl K k (ix2 r c) = (A.H b c.val (512 * t + 8 * k + r.val + 1) : EReal) :=
  (scanAt_ix O C k hk _ (fun c => carry_ix O C k (by omega) c)).1 r c

end Cert.KernelIdeal.Layer

end
-- ==== Proof.KGla.lean ====
/-
  The kernel's gated linear attention at the ideal instance.
-/
module

public import proofs.«01_k».proof.Proof.KScan

@[expose] public section

noncomputable section

namespace Cert.KernelIdeal.Layer

open Idealize.ShloMosaic Idealize.SL.Sem
open Cert.KernelIdeal.Gen Cert.Layer

/-! ## Sums and masks -/

theorem sum_pad (f : ℕ → ℝ) : ∑ x : Fin 128, (if x.val < 16 then f x.val else 0) = ∑ k : Fin 16, f k.val := by
  rw [← Finset.sum_filter]
  symm
  refine Finset.sum_bij (fun k _ => (⟨k.val, by omega⟩ : Fin 128)) ?_ ?_ ?_ ?_
  · intro k _; simp only [Finset.mem_filter, Finset.mem_univ, true_and]; exact k.isLt
  · intro a _ b _ h; exact Fin.ext (by simpa using h)
  · intro x hx; simp only [Finset.mem_filter, Finset.mem_univ, true_and] at hx; exact ⟨⟨x.val, hx⟩, Finset.mem_univ _, rfl⟩
  · intro k _; rfl

theorem sum_blk (h : ℕ) (hh : h < 4) (f : ℕ → ℝ) : ∑ x : Fin 256, (if x.val / 64 = h then f x.val else 0) = ∑ k : Fin 64, f (64 * h + k.val) := by
  rw [← Finset.sum_filter]
  symm
  refine Finset.sum_bij (fun k _ => (⟨64 * h + k.val, by omega⟩ : Fin 256)) ?_ ?_ ?_ ?_
  · intro k _; simp only [Finset.mem_filter, Finset.mem_univ, true_and]; omega
  · intro a _ b _ h
    have := congrArg Fin.val h
    dsimp only at this
    exact Fin.ext (by omega)
  · intro x hx
    simp only [Finset.mem_filter, Finset.mem_univ, true_and] at hx
    exact ⟨⟨x.val % 64, by omega⟩, Finset.mem_univ _, Fin.ext (by dsimp only; omega)⟩
  · intro k _; rfl

/-- A quotient rounded down as the kernel writes it. -/
def fq (d : BitVec 32) (n : ℕ) : BitVec 32 :=
  Scalar.select
    (IntOp.andi
      (IntOp.cmpi CmpIPredicate.ne
        (IntOp.subi (BitVec.setWidth 32 (IntOp.cmpi CmpIPredicate.sgt (BitVec.ofNat 32 n) 0#32)) (BitVec.setWidth 32 (IntOp.cmpi CmpIPredicate.slt (BitVec.ofNat 32 n) 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector (BitVec.ofNat 32 n) d) 0#32))
    (IntOp.subi (IntOp.divsi ArithUnit.vector (BitVec.ofNat 32 n) d) 1#32)
    (IntOp.divsi ArithUnit.vector (BitVec.ofNat 32 n) d)

theorem fq64 : ∀ n : Fin 256, fq 64#32 n.val = BitVec.ofNat 32 (n.val / 64) := by decide +kernel
theorem fq128 : ∀ n : Fin 512, fq 128#32 n.val = BitVec.ofNat 32 (n.val / 128) := by decide +kernel

theorem eqm (a b : ℕ) (ha : a < 4) (hb : b < 4) (x y : EReal) :
    Scalar.select (IntOp.cmpi CmpIPredicate.eq (BitVec.ofNat 32 a) (BitVec.ofNat 32 b)) x y = if a = b then x else y := by
  have : ∀ a b : Fin 4, IntOp.cmpi CmpIPredicate.eq (BitVec.ofNat 32 a.val) (BitVec.ofNat 32 b.val) = if a.val = b.val then 1#1 else 0#1 := by decide
  rw [this ⟨a, ha⟩ ⟨b, hb⟩]
  by_cases c : a = b
  · rw [if_pos c, if_pos c]; rfl
  · rw [if_neg c, if_neg c]; rfl

theorem mK (x y : Fin 256) (p q : EReal) : Scalar.select (mKbd (ix2 x y)) p q = if x.val / 64 = y.val / 64 then p else q := by
  have e : mKbd (ix2 x y) = IntOp.cmpi CmpIPredicate.eq (fq 64#32 x.val) (fq 64#32 y.val) := by
    pointwise [mKbd, k0_pay118, k0_pay116, k0_pay117]
    rfl
  rw [e, fq64, fq64, eqm _ _ (by omega) (by omega)]
theorem mV (x : Fin 256) (c : Fin 512) (p q : EReal) : Scalar.select (mVbd (ix2 x c)) p q = if x.val / 64 = c.val / 128 then p else q := by
  have e : mVbd (ix2 x c) = IntOp.cmpi CmpIPredicate.eq (fq 64#32 x.val) (fq 128#32 c.val) := by
    pointwise [mVbd, k0_pay121, k0_pay119, k0_pay120]
    rfl
  rw [e, fq64, fq128, eqm _ _ (by omega) (by omega)]
theorem mS (v : Fin 512) (k : Fin 256) (p q : EReal) : Scalar.select (mSbd (ix2 v k)) p q = if v.val / 128 = k.val / 64 then p else q := by
  have e : mSbd (ix2 v k) = IntOp.cmpi CmpIPredicate.eq (fq 128#32 v.val) (fq 64#32 k.val) := by
    pointwise [mSbd, k0_pay125, k0_pay122, k0_pay123, k0_pay124]
    rfl
  rw [e, fq64, fq128, eqm _ _ (by omega) (by omega)]

theorem sle_ix (r j : Fin 64) (x y : EReal) : Scalar.select (IntOp.cmpi CmpIPredicate.sle (BitVec.ofNat 32 j.val) (BitVec.ofNat 32 r.val)) x y = if j.val ≤ r.val then x else y := by
  have : ∀ (r j : Fin 64), IntOp.cmpi CmpIPredicate.sle (BitVec.ofNat 32 j.val) (BitVec.ofNat 32 r.val) = if j.val ≤ r.val then 1#1 else 0#1 := by decide +kernel
  rw [this]
  by_cases c : j.val ≤ r.val
  · rw [if_pos c, if_pos c]; rfl
  · rw [if_neg c, if_neg c]; rfl

theorem slm_ix (r : Fin 64) (x : Fin 256) (p q : EReal) :
    Scalar.select (IntOp.cmpi CmpIPredicate.sle (IntOp.andi (BitVec.ofNat 32 x.val) 63#32) (BitVec.ofNat 32 r.val)) p q = if x.val % 64 ≤ r.val then p else q := by
  have : ∀ x : Fin 256, IntOp.andi (BitVec.ofNat 32 x.val) 63#32 = BitVec.ofNat 32 (x.val % 64) := by decide +kernel
  rw [this]
  exact sle_ix r ⟨x.val % 64, by omega⟩ p q

theorem nest {α : Type} (f : Fin 64 → α) (x : Fin 256) (h1 : x.val < 64 → x.val < 64) (h2 : ¬ x.val < 64 → x.val - 64 < 64 → x.val - 64 < 64)
    (h3 : ¬ x.val < 64 → ¬ x.val - 64 < 64 → x.val - 64 - 64 < 64 → x.val - 64 - 64 < 64)
    (h4 : ¬ x.val < 64 → ¬ x.val - 64 < 64 → ¬ x.val - 64 - 64 < 64 → x.val - 64 - 64 - 64 < 64) :
    (if h : x.val < 64 then f ⟨x.val, h1 h⟩ else if h' : x.val - 64 < 64 then f ⟨x.val - 64, h2 h h'⟩ else if h'' : x.val - 64 - 64 < 64 then f ⟨x.val - 64 - 64, h3 h h' h''⟩
      else f ⟨x.val - 64 - 64 - 64, h4 h h' h''⟩)
      = f ⟨x.val % 64, by omega⟩ := by
  split_ifs <;> (congr 1; apply Fin.ext; dsimp only; omega)

/-! ## One chunk -/

/-- Columns of a chunk at reals. -/
structure OkG (wg : Vec Ideal S128x256 .bf16) (bg : Vec Ideal S1x256 .f32) (v301 v303 : Vec Ideal S64x256 .f32) (v305 : Vec Ideal S64x512 .f32) (v308 : Vec Ideal S64x128 .f32) (A : Arr) (b n : ℕ) : Prop where
  wg : ∀ (k : Fin 128) (j : Fin 256), wg (ix2 k j) = ((if k.val < 16 then A.wg k.val j.val else 0 : ℝ) : EReal)
  bg : ∀ j : Fin 256, bg (ix2 0 j) = (A.bg j.val : EReal)
  q : ∀ (r : Fin 64) (j : Fin 256), v301 (ix2 r j) = (A.pj b (64 * n + r.val) (1024 + j.val) : EReal)
  k : ∀ (r : Fin 64) (j : Fin 256), v303 (ix2 r j) = (A.pj b (64 * n + r.val) (1280 + j.val) : EReal)
  v : ∀ (r : Fin 64) (c : Fin 512), v305 (ix2 r c) = (A.pj b (64 * n + r.val) (1536 + c.val) : EReal)
  a : ∀ (r : Fin 64) (x : Fin 128), v308 (ix2 r x) = ((if x.val < 16 then A.pj b (64 * n + r.val) (2048 + x.val) else 0 : ℝ) : EReal)

section Chunk
variable {wg : Vec Ideal S128x256 .bf16} {bg : Vec Ideal S1x256 .f32} {v301 v303 : Vec Ideal S64x256 .f32} {v305 : Vec Ideal S64x512 .f32} {v308 : Vec Ideal S64x128 .f32} {A : Arr} {b n : ℕ}

theorem pay111_ix (v : Vec Ideal S128x256 .bf16) (k : Fin 128) (j : Fin 256) : k0_pay111 v (ix2 k j) = v (ix2 k j) := by
  pointwise [k0_pay111]
theorem pay112_ix (v : Vec Ideal S1x256 .f32) (j : Fin 256) : k0_pay112 v (ix2 0 j) = v (ix2 0 j) := by
  pointwise [k0_pay112]
theorem pay113_ix (v : Vec Ideal S1x512 .f32) (j : Fin 512) : k0_pay113 v (ix2 0 j) = v (ix2 0 j) := by
  pointwise [k0_pay113]
theorem pay69_ix (v : Vec Ideal S64x512 .f32) (r : Fin 64) (j : Fin 512) : k0_pay69 v (ix2 r j) = v (ix2 r j) := by
  pointwise [k0_pay69]
  try rfl
theorem pay114_ix (r j : Fin 64) : k0_pay114 (F := Ideal) (ix2 r j) = if j.val ≤ r.val then (1 : EReal) else 0 := by
  pointwise [k0_pay114]
  exact sle_ix r j _ _

theorem pay70_ix (v115 : FVec Ideal S128x256 .bf16) (v117 : FVec Ideal S1x256 .f32) (v126 : FVec Ideal S64x64 .bf16) (v308 : Vec Ideal S64x128 .f32) (r : Fin 64) (j : Fin 256) (al : Fin 64 → EReal)
    (ha : ∀ x : Fin 64, (0 - (max (0 - (∑ y : Fin 128, v308 (ix2 x y) * v115 (ix2 y j) + v117 (ix2 0 j))) 0 +
      Ideal.log1p (Ideal.exp (0 - FloatOps.absf (F := Ideal) (φ := .f32) (0 - (∑ y : Fin 128, v308 (ix2 x y) * v115 (ix2 y j) + v117 (ix2 0 j))))))) * Ideal.ofBits .f32 0x3D800000#32 = al x) :
    k0_pay70 v115 v117 v126 v308 (ix2 r j) = ∑ x : Fin 64, v126 (ix2 r x) * al x + ∑ x : Fin 64, v126 (ix2 r x) * (al x - al x) := by
  pointwise [k0_pay70]
  simp only [← ha]
  try rfl

theorem al_e (O : OkG wg bg v301 v303 v305 v308 A b n) (x : Fin 64) (j : Fin 256) :
    (0 - (max (0 - (∑ y : Fin 128, v308 (ix2 x y) * k0_pay111 wg (ix2 y j) + k0_pay112 bg (ix2 0 j))) 0 +
      Ideal.log1p (Ideal.exp (0 - FloatOps.absf (F := Ideal) (φ := .f32) (0 - (∑ y : Fin 128, v308 (ix2 x y) * k0_pay111 wg (ix2 y j) + k0_pay112 bg (ix2 0 j))))))) * Ideal.ofBits .f32 0x3D800000#32
      = (A.al b j.val (64 * n + x.val) : EReal) := by
  have e : ∑ y : Fin 128, v308 (ix2 x y) * k0_pay111 wg (ix2 y j) + k0_pay112 bg (ix2 0 j)
      = (((∑ k : Fin 16, A.pj b (64 * n + x.val) (2048 + k.val) * A.wg k.val j.val) + A.bg j.val : ℝ) : EReal) := by
    rw [pay112_ix, O.bg, ← sum_pad (fun y => A.pj b (64 * n + x.val) (2048 + y) * A.wg y j.val), EReal.coe_add, ← coe_sum]
    congr 1
    refine Finset.sum_congr rfl fun y _ => ?_
    rw [pay111_ix, O.wg, O.a, ← EReal.coe_mul]
    by_cases h : y.val < 16
    · simp only [if_pos h]
    · simp only [if_neg h, mul_zero]
  rw [e, show ∀ y : ℝ, (0 : EReal) - (y : EReal) = ((-y : ℝ) : EReal) from fun y => by rw [← zero_sub y]; rfl, sp_e,
    show ∀ y : ℝ, (0 : EReal) - (y : EReal) = ((-y : ℝ) : EReal) from fun y => by rw [← zero_sub y]; rfl, w_sixteenth, ← EReal.coe_mul]
  congr 1
  unfold Arr.al
  ring

theorem sum_upto (r : Fin 64) (f : ℕ → ℝ) : ∑ x : Fin 64, (if x.val ≤ r.val then f x.val else 0) = ∑ k ∈ Finset.range (r.val + 1), f k := by
  rw [Fin.sum_univ_eq_sum_range (fun x => if x ≤ r.val then f x else 0) 64, ← Finset.sum_filter]
  refine Finset.sum_congr ?_ fun _ _ => rfl
  ext k
  simp only [Finset.mem_filter, Finset.mem_range]
  omega

theorem cum_ix (O : OkG wg bg v301 v303 v305 v308 A b n) (r : Fin 64) (j : Fin 256) :
    k0_pay70 (k0_pay111 wg) (k0_pay112 bg) k0_pay114 v308 (ix2 r j) = (A.cum b n r.val j.val : EReal) := by
  rw [pay70_ix _ _ _ _ r j (fun x => (A.al b j.val (64 * n + x.val) : EReal)) (fun x => al_e O x j)]
  have e1 : ∑ x : Fin 64, k0_pay114 (F := Ideal) (ix2 r x) * (A.al b j.val (64 * n + x.val) : EReal) = (A.cum b n r.val j.val : EReal) := by
    unfold Arr.cum
    rw [← sum_upto r (fun k => A.al b j.val (64 * n + k)), ← coe_sum]
    refine Finset.sum_congr rfl fun x _ => ?_
    rw [pay114_ix]
    by_cases h : x.val ≤ r.val
    · rw [if_pos h, if_pos h, one_mul]
    · rw [if_neg h, if_neg h, zero_mul]; rfl
  have e2 : ∑ x : Fin 64, k0_pay114 (F := Ideal) (ix2 r x) * ((A.al b j.val (64 * n + x.val) : EReal) - (A.al b j.val (64 * n + x.val) : EReal)) = 0 := by
    refine Finset.sum_eq_zero fun x _ => ?_
    rw [← EReal.coe_sub, sub_self]
    exact mul_zero _
  rw [e1, e2, add_zero]

theorem last_ix (O : OkG wg bg v301 v303 v305 v308 A b n) (j : Fin 256) :
    k0_pay71 (k0_pay111 wg) (k0_pay112 bg) k0_pay114 v308 (ix2 0 j) = (A.cum b n 63 j.val : EReal) := by
  refine Eq.trans ?_ (cum_ix O 63 j)
  pointwise [k0_pay71]

theorem qd_ix (O : OkG wg bg v301 v303 v305 v308 A b n) (r : Fin 64) (j : Fin 256) :
    k0_pay72 (k0_pay111 wg) (k0_pay112 bg) k0_pay114 v301 v308 (ix2 r j) = (A.qd b n r.val j.val : EReal) := by
  have e : k0_pay72 (k0_pay111 wg) (k0_pay112 bg) k0_pay114 v301 v308 (ix2 r j)
      = v301 (ix2 r j) * Ideal.ofBits .f32 0x3E000000#32 * Ideal.exp (k0_pay70 (k0_pay111 wg) (k0_pay112 bg) k0_pay114 v308 (ix2 r j)) := by
    pointwise [k0_pay72]
    try rfl
  rw [e, cum_ix O, O.q, w_eighth, Ideal.exp_coe, ← EReal.coe_mul, ← EReal.coe_mul]
  rfl

theorem nc_ix (O : OkG wg bg v301 v303 v305 v308 A b n) (r : Fin 64) (j : Fin 256) :
    k0_pay73 (k0_pay111 wg) (k0_pay112 bg) k0_pay114 v308 (ix2 r j) = ((-A.cum b n r.val j.val : ℝ) : EReal) := by
  have e : k0_pay73 (k0_pay111 wg) (k0_pay112 bg) k0_pay114 v308 (ix2 r j) = 0 - k0_pay70 (k0_pay111 wg) (k0_pay112 bg) k0_pay114 v308 (ix2 r j) := by
    pointwise [k0_pay73]
  rw [e, cum_ix O, ← zero_sub (A.cum b n r.val j.val)]
  rfl

theorem pay74_ix (v303 : Vec Ideal S64x256 .f32) (v305 : Vec Ideal S64x512 .f32) (v339 : FVec Ideal S64x256 .bf16) (v341 : FVec Ideal S64x256 .f32) (S : Vec Ideal S512x256 .f32) (r : Fin 64) (c : Fin 512) :
    k0_pay74 k0_pay115 mKbd mVbd v303 (k0_pay69 v305) v339 v341 S (ix2 r c)
      = ∑ x : Fin 256, (if x.val / 64 = c.val / 128 then
          (if x.val % 64 ≤ r.val then (∑ y : Fin 256, if x.val / 64 = y.val / 64 then v339 (ix2 r y) * (v303 (ix2 ⟨x.val % 64, by omega⟩ y) * Ideal.exp (v341 (ix2 ⟨x.val % 64, by omega⟩ y))) else 0)
            * v305 (ix2 ⟨x.val % 64, by omega⟩ c) else 0) else 0)
        + ∑ x : Fin 256, v339 (ix2 r x) * S (ix2 c x) := by
  pointwise [k0_pay74, k0_pay69, k0_pay115]
  congr 1
  refine Finset.sum_congr rfl fun x _ => ?_
  rw [mV, slm_ix]
  by_cases h1 : x.val / 64 = c.val / 128
  · rw [if_pos h1, if_pos h1]
    by_cases h2 : x.val % 64 ≤ r.val
    · rw [if_pos h2, if_pos h2]
      refine congrArg₂ (· * ·) (Finset.sum_congr rfl fun y _ => (mK _ _ _ _).trans ?_) (nest (fun i => v305 (ix2 i c)) x _ _ _ _)
      by_cases h3 : x.val / 64 = y.val / 64
      · rw [if_pos h3, if_pos h3]
        exact congrArg (v339 (ix2 r y) * ·) (nest (fun i => v303 (ix2 i y) * Ideal.exp (v341 (ix2 i y))) x _ _ _ _)
      · rw [if_neg h3, if_neg h3]
    · rw [if_neg h2, if_neg h2]
  · rw [if_neg h1, if_neg h1]

theorem o_ix (O : OkG wg bg v301 v303 v305 v308 A b n) (S : Vec Ideal S512x256 .f32)
    (hS : ∀ (v : Fin 512) (k : Fin 256), S (ix2 v k) = ((if v.val / 128 = k.val / 64 then A.S b v.val k.val n else 0 : ℝ) : EReal)) (r : Fin 64) (c : Fin 512) :
    k0_pay74 k0_pay115 mKbd mVbd v303 (k0_pay69 v305) (k0_pay72 (k0_pay111 wg) (k0_pay112 bg) k0_pay114 v301 v308) (k0_pay73 (k0_pay111 wg) (k0_pay112 bg) k0_pay114 v308) S (ix2 r c)
      = (A.oi b n r.val c.val : EReal) := by
  rw [pay74_ix]
  unfold Arr.oi
  rw [EReal.coe_add]
  congr 1
  · rw [show (∑ j : Fin 64, (if j.val ≤ r.val then ∑ k : Fin 64, A.qd b n r.val (64 * (c.val / 128) + k.val) * A.kd b n j.val (64 * (c.val / 128) + k.val) else 0) * A.vv b n j.val c.val)
        = ∑ x : Fin 256, if x.val / 64 = c.val / 128 then
            (if x.val % 64 ≤ r.val then ∑ k : Fin 64, A.qd b n r.val (64 * (c.val / 128) + k.val) * A.kd b n (x.val % 64) (64 * (c.val / 128) + k.val) else 0) * A.vv b n (x.val % 64) c.val else 0 from ?_,
      ← coe_sum]
    · refine Finset.sum_congr rfl fun x _ => ?_
      by_cases h : x.val / 64 = c.val / 128
      · rw [if_pos h, if_pos h]
        by_cases h' : x.val % 64 ≤ r.val
        · rw [if_pos h', if_pos h', O.v, EReal.coe_mul]
          congr 1
          rw [← h, ← sum_blk (x.val / 64) (by omega) (fun y => A.qd b n r.val y * A.kd b n (x.val % 64) y), ← coe_sum]
          refine Finset.sum_congr rfl fun y _ => ?_
          by_cases h'' : x.val / 64 = y.val / 64
          · rw [if_pos h'', if_pos h''.symm, qd_ix O, nc_ix O, O.k, Ideal.exp_coe, ← EReal.coe_mul, ← EReal.coe_mul]
            rfl
          · rw [if_neg h'', if_neg (fun e => h'' e.symm)]; rfl
        · rw [if_neg h', if_neg h', zero_mul]; rfl
      · rw [if_neg h, if_neg h]; rfl
    · rw [sum_blk (c.val / 128) (by omega) (fun x => (if x % 64 ≤ r.val then ∑ k : Fin 64, A.qd b n r.val (64 * (c.val / 128) + k.val) * A.kd b n (x % 64) (64 * (c.val / 128) + k.val) else 0) * A.vv b n (x % 64) c.val)]
      refine Finset.sum_congr rfl fun j _ => ?_
      rw [show (64 * (c.val / 128) + j.val) % 64 = j.val by omega]
  · rw [← sum_blk (c.val / 128) (by omega) (fun x => A.qd b n r.val x * A.S b c.val x n), ← coe_sum]
    refine Finset.sum_congr rfl fun x _ => ?_
    rw [qd_ix O, hS, ← EReal.coe_mul]
    congr 1
    by_cases h : x.val / 64 = c.val / 128
    · rw [if_pos h, if_pos h.symm]
    · rw [if_neg h, if_neg (fun e => h e.symm), mul_zero]

theorem st_ix (O : OkG wg bg v301 v303 v305 v308 A b n) (S : Vec Ideal S512x256 .f32)
    (hS : ∀ (v : Fin 512) (k : Fin 256), S (ix2 v k) = ((if v.val / 128 = k.val / 64 then A.S b v.val k.val n else 0 : ℝ) : EReal)) (v : Fin 512) (k : Fin 256) :
    k0_pay75 mSbd v303 (k0_pay69 v305) (k0_pay70 (k0_pay111 wg) (k0_pay112 bg) k0_pay114 v308) (k0_pay71 (k0_pay111 wg) (k0_pay112 bg) k0_pay114 v308) S (ix2 v k)
      = ((if v.val / 128 = k.val / 64 then A.S b v.val k.val (n + 1) else 0 : ℝ) : EReal) := by
  have e : ∀ (v306 : FVec Ideal S64x512 .bf16) (v333 : FVec Ideal S64x256 .f32) (v334 : FVec Ideal S1x256 .f32), k0_pay75 mSbd v303 v306 v333 v334 S (ix2 v k)
      = S (ix2 v k) * Ideal.exp (v334 (ix2 0 k)) + Scalar.select (mSbd (ix2 v k)) (∑ x : Fin 64, v306 (ix2 x v) * (v303 (ix2 x k) * Ideal.exp (v334 (ix2 0 k) - v333 (ix2 x k)))) 0 := by
    intro v306 v333 v334
    pointwise [k0_pay75]
    try rfl
  rw [e, hS, mS, last_ix O, Ideal.exp_coe]
  by_cases h : v.val / 128 = k.val / 64
  · rw [if_pos h, if_pos h, if_pos h]
    have e2 : ∑ x : Fin 64, k0_pay69 v305 (ix2 x v) * (v303 (ix2 x k) * Ideal.exp ((A.cum b n 63 k.val : EReal) - k0_pay70 (k0_pay111 wg) (k0_pay112 bg) k0_pay114 v308 (ix2 x k)))
        = (A.kv b v.val k.val n : EReal) := by
      unfold Arr.kv
      rw [← coe_sum]
      refine Finset.sum_congr rfl fun x _ => ?_
      rw [pay69_ix, O.v, O.k, cum_ix O, ← EReal.coe_sub, Ideal.exp_coe, ← EReal.coe_mul, ← EReal.coe_mul]
      rfl
    rw [e2, ← EReal.coe_mul, ← EReal.coe_add]
    congr 1
    unfold Arr.S
    rw [rec0]
    ring
  · rw [if_neg h, if_neg h, if_neg h, ← EReal.coe_mul, zero_mul]
    exact add_zero _

/-- The rows after their norm. -/
theorem pay78_ix (v119 : FVec Ideal S1x512 .f32) (v339 : FVec Ideal S64x256 .bf16) (v341 : FVec Ideal S64x256 .f32) (S : Vec Ideal S512x256 .f32) (r : Fin 64) (c : Fin 512) (f : ℕ → EReal) (gf : ℕ → EReal)
    (h : ∀ c : Fin 512, k0_pay74 k0_pay115 mKbd mVbd v303 (k0_pay69 v305) v339 v341 S (ix2 r c) = f c.val) (hg : ∀ c : Fin 512, v119 (ix2 0 c) = gf c.val) :
    k0_pay126 (k0_pay78 v119 (k0_pay74 k0_pay115 mKbd mVbd v303 (k0_pay69 v305) v339 v341 S) (k0_pay76 k0_pay115 mKbd mVbd v303 (k0_pay69 v305) v339 v341 S)
      (k0_pay77 k0_pay115 mKbd mVbd v303 (k0_pay69 v305) v339 v341 S)) (ix2 r c)
      = f c.val * Ideal.rsqrt (Ideal.div (∑ k : Fin 128, f (128 * (c.val / 128) + k.val) * f (128 * (c.val / 128) + k.val)) (Ideal.ofBits .f32 0x43000000#32) + Ideal.ofBits .f32 0x358637BD#32) * gf c.val := by
  generalize hw : k0_pay74 k0_pay115 mKbd mVbd v303 (k0_pay69 v305) v339 v341 S = w at h
  have e76 : ∀ l : Fin 128, k0_pay76 k0_pay115 mKbd mVbd v303 (k0_pay69 v305) v339 v341 S (ix2 r l) = f l.val := by
    intro l
    refine Eq.trans ?_ (h ⟨l.val, by omega⟩)
    rw [← hw]
    pointwise [k0_pay76]
  have e77 : k0_pay77 k0_pay115 mKbd mVbd v303 (k0_pay69 v305) v339 v341 S (ix2 r 0)
      = Ideal.rsqrt (Ideal.div (∑ k : Fin 128, f k.val * f k.val) (Ideal.ofBits .f32 0x43000000#32) + Ideal.ofBits .f32 0x358637BD#32) := by
    have : ∀ v131 v182 v233 v306, k0_pay77 v131 v182 v233 v303 v306 v339 v341 S (ix2 r 0)
      = Ideal.rsqrt (Ideal.div (∑ k : Fin 128, k0_pay76 v131 v182 v233 v303 v306 v339 v341 S (ix2 r k) * k0_pay76 v131 v182 v233 v303 v306 v339 v341 S (ix2 r k)) (Ideal.ofBits .f32 0x43000000#32) + Ideal.ofBits .f32 0x358637BD#32) := by
      intro v131 v182 v233 v306
      pointwise [k0_pay77]
    refine (this _ _ _ _).trans ?_
    simp only [e76]
  generalize k0_pay76 k0_pay115 mKbd mVbd v303 (k0_pay69 v305) v339 v341 S = x76 at *
  generalize k0_pay77 k0_pay115 mKbd mVbd v303 (k0_pay69 v305) v339 v341 S = x77 at *
  clear hw
  have hc := c.isLt
  pointwise [k0_pay126, k0_pay78]
  simp only [h, hg, e76, e77]
  split_ifs
  · rw [show c.val / 128 = 0 by omega]; simp only [Nat.mul_zero, Nat.zero_add]
  · rw [show c.val / 128 = 1 by omega, show 128 + (c.val - 128) = c.val by omega]
  · rw [show c.val / 128 = 2 by omega, show 256 + (c.val - 128 - 128) = c.val by omega]
  · rw [show c.val / 128 = 3 by omega, show 384 + (c.val - 128 - 128 - 128) = c.val by omega]

end Chunk

/-! ## The tile -/

variable {I : Ins Ideal} {K : Carry Ideal} {A : Arr} {G : ℕ → EReal} {W : ℕ → ℕ → EReal} {g : ℕ → EReal} {b t : ℕ}

theorem okG (O : Ok I A G W g b t) (k : ℕ) (hk : k < 8) :
    OkG I.wg I.bg (win I.pr (64 * k) 0 64 256) (win I.pr (64 * k) 256 64 256) (win I.pr (64 * k) 512 64 512) (win I.pr (64 * k) 3584 64 128) A b (8 * t + k) := by
  have e : ∀ (q m : ℕ) (r : Fin 64) (j : Fin m), q + j.val < 3600 → q + m ≤ 3712 → win I.pr (64 * k) q 64 m (ix2 r j) = (A.pj b (64 * (8 * t + k) + r.val) (col (q + j.val)) : EReal) := by
    intro q m r j h h'
    rw [win_ix _ _ _ r j (by omega) (by omega), pr_ix O, if_pos h]
    congr 2
    show 512 * t + (64 * k + r.val) = _
    omega
  refine ⟨O.wg, O.bg, fun r j => ?_, fun r j => ?_, fun r c => ?_, fun r x => ?_⟩
  · rw [e _ _ _ _ (by omega) (by omega)]; congr 2; unfold col; split_ifs <;> omega
  · rw [e _ _ _ _ (by omega) (by omega)]; congr 2; unfold col; split_ifs <;> omega
  · rw [e _ _ _ _ (by omega) (by omega)]; congr 2; unfold col; split_ifs <;> omega
  · by_cases h : x.val < 16
    · rw [e _ _ _ _ (by omega) (by omega), if_pos h]; congr 2; unfold col; split_ifs <;> omega
    · rw [win_ix _ _ _ r x (by omega) (by omega), pr_ix O, if_neg (by show ¬ (3584 + x.val < 3600); omega), if_neg h]

theorem state_ix (O : Ok I A G W g b t) (C : OkC K A b t) (k : ℕ) (hk : k ≤ 8) (v : Fin 512) (j : Fin 256) :
    glaState I.wg I.bg I.gg I.pr K.s k (ix2 v j) = ((if v.val / 128 = j.val / 64 then A.S b v.val j.val (8 * t + k) else 0 : ℝ) : EReal) := by
  induction k generalizing v j with
  | zero => exact C.s v j
  | succ k ih => exact st_ix (okG O k (by omega)) _ (fun v j => ih (by omega) v j) v j

theorem og_ix (O : Ok I A G W g b t) (C : OkC K A b t) (k : ℕ) (hk : k < 8) (r : Fin 64) (c : Fin 512) :
    I.og K k (ix2 r c) = A.og G b (512 * t + 64 * k + r.val) c.val := by
  refine (pay78_ix _ _ _ _ r c (fun c => ((A.oi b (8 * t + k) r.val c : ℝ) : EReal)) G
    (fun c => o_ix (okG O k hk) _ (fun v j => state_ix O C k (by omega) v j) r c) (fun c => (pay113_ix _ c).trans (O.gg c))).trans ?_
  unfold Arr.og
  rw [show (512 * t + 64 * k + r.val) / 64 = 8 * t + k by omega, show (512 * t + 64 * k + r.val) % 64 = r.val by omega]

end Cert.KernelIdeal.Layer

end
-- ==== Proof.KOut.lean ====
/-
  The kernel's cross-attention, gate and output at the ideal instance.
-/
module

public import proofs.«01_k».proof.Proof.KGla

@[expose] public section

noncomputable section

namespace Cert.KernelIdeal.Layer

open Idealize.ShloMosaic Idealize.SL.Sem
open Cert.KernelIdeal.Gen Cert.Layer

theorem w_bot : Ideal.ofBits .f32 0xFF800000#32 = ⊥ := by
  simp [Ideal.ofBits, Ideal.ieee]

/-- The softmax with the largest score subtracted is the softmax. -/
theorem soft (s v : Fin 256 → ℝ) (e : Fin 256 → EReal) (he : ∀ x, e x = (s x : EReal)) (w : Fin 256 → EReal) (hw : ∀ x, w x = (v x : EReal)) :
    (∑ x : Fin 256, Ideal.exp (e x - Finset.fold max (Ideal.ofBits .f32 0xFF800000#32) e Finset.univ) * w x)
      * Ideal.div 1 (∑ x : Fin 256, Ideal.exp (e x - Finset.fold max (Ideal.ofBits .f32 0xFF800000#32) e Finset.univ))
      = (((∑ x : Fin 256, Real.exp (s x) * v x) / ∑ x : Fin 256, Real.exp (s x) : ℝ) : EReal) := by
  rw [w_bot]
  have hM : ∃ M : ℝ, Finset.fold max (⊥ : EReal) e Finset.univ = (M : EReal) := by
    refine ⟨_, (EReal.coe_toReal (ne_of_lt ?_) (ne_of_gt ?_)).symm⟩
    · rw [Finset.fold_max_lt]
      exact ⟨bot_lt_top, fun x _ => by rw [he]; exact EReal.coe_lt_top _⟩
    · rw [Finset.lt_fold_max]
      exact Or.inr ⟨0, Finset.mem_univ _, by rw [he]; exact EReal.bot_lt_coe _⟩
  obtain ⟨M, hM⟩ := hM
  have hx : ∀ x, Ideal.exp ((s x : EReal) - (M : EReal)) = ((Real.exp (s x) * Real.exp (-M) : ℝ) : EReal) := by
    intro x
    rw [← EReal.coe_sub, Ideal.exp_coe, ← Real.exp_add, sub_eq_add_neg]
  have pos : 0 < ∑ x : Fin 256, Real.exp (s x) := Finset.sum_pos (fun _ _ => Real.exp_pos _) ⟨0, Finset.mem_univ _⟩
  have pm := Real.exp_pos (-M)
  rw [hM]
  simp only [he, hw, hx, ← EReal.coe_mul, coe_sum]
  rw [show (1 : EReal) = ((1 : ℝ) : EReal) from rfl, ← Finset.sum_mul, div_c (mul_pos pos pm).ne', ← EReal.coe_mul]
  congr 1
  simp only [mul_right_comm _ (Real.exp (-M)), ← Finset.sum_mul]
  field_simp

/-- A head's scores of one row. -/
def sE (p : Vec Ideal S128x128 .f32) (kt : Vec Ideal S1x128x256 .bf16) (r : Fin 128) (x : Fin 256) : EReal :=
  (∑ k : Fin 128, p (ix2 r k) * kt (ix3 0 k x)) * Ideal.ofBits .f32 0x3DB504F3#32

/-- A head at an index. -/
def hE (p : Vec Ideal S128x128 .f32) (kt : Vec Ideal S1x128x256 .bf16) (vm : Vec Ideal S1x256x128 .bf16) (r c : Fin 128) : EReal :=
  (∑ x : Fin 256, Ideal.exp (sE p kt r x - Finset.fold max (Ideal.ofBits .f32 0xFF800000#32) (sE p kt r) Finset.univ) * vm (ix3 0 x c))
      * Ideal.div 1 (∑ x : Fin 256, Ideal.exp (sE p kt r x - Finset.fold max (Ideal.ofBits .f32 0xFF800000#32) (sE p kt r) Finset.univ))

theorem pay79_ix (p : Vec Ideal S128x128 .f32) (kt : Vec Ideal S1x128x256 .bf16) (vm : Vec Ideal S1x256x128 .bf16) (r c : Fin 128) :
    k0_pay79 p kt vm (ix2 r c) = hE p kt vm r c := by
  pointwise [k0_pay79]
  rfl
theorem pay81_ix (p : Vec Ideal S128x128 .f32) (kt : Vec Ideal S1x128x256 .bf16) (vm : Vec Ideal S1x256x128 .bf16) (r c : Fin 128) :
    k0_pay81 (k0_pay80 p kt) vm (ix2 r c) = hE p kt vm r c := by
  pointwise [k0_pay81, k0_pay80]
  rfl
theorem pay82_ix (p : Vec Ideal S128x128 .f32) (kt : Vec Ideal S1x128x256 .bf16) (vm : Vec Ideal S1x256x128 .bf16) (r c : Fin 128) :
    k0_pay82 p kt vm (ix2 r c) = hE p kt vm r c := by
  pointwise [k0_pay82]
  rfl
theorem pay1_ix (a b c : FVec Ideal S128x128 .f32) (d : Vec Ideal S128x128 .f32) (kt : Vec Ideal S1x128x256 .bf16) (vm : Vec Ideal S1x256x128 .bf16) (r : Fin 128) (j : Fin 512)
    (f : ℕ → EReal) (h0 : ∀ l : Fin 128, a (ix2 r l) = f (128 * 0 + l.val)) (h1 : ∀ l : Fin 128, b (ix2 r l) = f (128 * 1 + l.val)) (h2 : ∀ l : Fin 128, c (ix2 r l) = f (128 * 2 + l.val))
    (h3 : ∀ l : Fin 128, hE d kt vm r l = f (128 * 3 + l.val)) :
    k0_pay1 (F := Ideal) a b c (k0_pay83 d) kt vm (ix2 r j) = f j.val := by
  have hj := j.isLt
  have h3' : ∀ l : Fin 128, (∑ x : Fin 256, Ideal.exp ((∑ k : Fin 128, d (ix2 r k) * kt (ix3 0 k x)) * Ideal.ofBits .f32 0x3DB504F3#32
      - Finset.fold max (Ideal.ofBits .f32 0xFF800000#32) (fun x => (∑ k : Fin 128, d (ix2 r k) * kt (ix3 0 k x)) * Ideal.ofBits .f32 0x3DB504F3#32) Finset.univ) * vm (ix3 0 x l))
      * Ideal.div 1 (∑ x : Fin 256, Ideal.exp ((∑ k : Fin 128, d (ix2 r k) * kt (ix3 0 k x)) * Ideal.ofBits .f32 0x3DB504F3#32
      - Finset.fold max (Ideal.ofBits .f32 0xFF800000#32) (fun x => (∑ k : Fin 128, d (ix2 r k) * kt (ix3 0 k x)) * Ideal.ofBits .f32 0x3DB504F3#32) Finset.univ)) = f (128 * 3 + l.val) := h3
  pointwise [k0_pay1, k0_pay83]
  simp only [h0, h1, h2, h3']
  split_ifs <;> (congr 1; first | omega | (dsimp only; omega))

theorem pay3_ix (y : Vec Ideal S512x2048 .bf16) (w : Vec Ideal S2048x1024 .bf16) (r : Fin 512) (c : Fin 1024) :
    k0_pay3 (F := Ideal) y w (ix3 0 r c) = ∑ x : Fin 2048, y (ix2 r x) * w (ix2 x c) := by
  pointwise [k0_pay3]
theorem pay2_ix (p y : Vec Ideal S32x2048 .f32) (r : Fin 32) (c : Fin 2048) :
    k0_pay2 p y (ix2 r c) = y (ix2 r c) * (Ideal.ofBits .f32 0x3F000000#32 * p (ix2 r c) + Ideal.ofBits .f32 0x3F000000#32 * p (ix2 r c) * Ideal.tanh (Ideal.ofBits .f32 0x3F000000#32 * p (ix2 r c))) := by
  pointwise [k0_pay2]
  try rfl
theorem pay4_ix (g : Vec Ideal S1x1024 .f32) (x o : Vec Ideal S1x32x1024 .f32) (r : Fin 32) (d : Fin 1024) :
    k0_pay4 g x o (ix3 0 r d) = (x (ix3 0 r d) + o (ix3 0 r d)) * Ideal.rsqrt (Ideal.div (∑ k : Fin 1024, (x (ix3 0 r k) + o (ix3 0 r k)) * (x (ix3 0 r k) + o (ix3 0 r k))) (Ideal.ofBits .f32 0x44800000#32)
      + Ideal.ofBits .f32 0x358637BD#32) * g (ix2 0 d) := by
  pointwise [k0_pay4]
  try rfl

/-! ## The tile -/

variable {I : Ins Ideal} {K : Carry Ideal} {A : Arr} {G : ℕ → EReal} {W : ℕ → ℕ → EReal} {g : ℕ → EReal} {b t : ℕ}

theorem hE_ix (O : Ok I A G W g b t) (k : ℕ) (hk : k < 4) (hd q : ℕ) (hhd : hd < 4) (o : ℕ) (hq : q = 1024 + 128 * hd) (ho : o = 128 * hd) (r c : Fin 128) :
    hE (win I.pr (128 * k) q 128 128) (win3 I.kt 0 o 0 1 128 256) (win3 I.vm 0 0 o 1 256 128) r c = (A.xa b (512 * t + 128 * k + r.val) (128 * hd + c.val) : EReal) := by
  subst hq ho
  unfold hE
  refine (soft (fun x => A.score b (512 * t + 128 * k + r.val) hd x.val) (fun x => A.vm b x.val (128 * hd + c.val)) _ (fun x => ?_) _ (fun x => ?_)).trans ?_
  · unfold sE Arr.score
    rw [w_sc, EReal.coe_mul, ← coe_sum]
    congr 1
    refine Finset.sum_congr rfl fun y _ => ?_
    rw [win_ix _ _ _ r y (by omega) (by omega), pr_ix O, if_pos (by show 1024 + 128 * hd + y.val < 3600; omega), win3_ix _ _ _ _ 0 y x (by decide) (by omega) (by omega), EReal.coe_mul]
    congr 1
    · congr 2
      · show 512 * t + (128 * k + r.val) = _; omega
      · show col (1024 + 128 * hd + y.val) = _; unfold col; split_ifs <;> omega
    · refine Eq.trans (congrArg I.kt ?_) (O.kt ⟨128 * hd + y.val, by omega⟩ x)
      congr 1
      exact Fin.ext (Nat.zero_add _)
  · rw [win3_ix _ _ _ _ 0 x c (by decide) (by omega) (by omega)]
    refine Eq.trans (congrArg I.vm ?_) (O.vm x ⟨128 * hd + c.val, by omega⟩)
    congr 1
    exact Fin.ext (Nat.zero_add _)
  · unfold Arr.xa
    rw [show (128 * hd + c.val) / 128 = hd by omega]

theorem xa_ix (O : Ok I A G W g b t) (k : ℕ) (hk : k < 4) (r : Fin 128) (c : Fin 512) : I.xa k (ix2 r c) = (A.xa b (512 * t + 128 * k + r.val) c.val : EReal) :=
  pay1_ix _ _ _ _ _ _ r c (fun c => ((A.xa b (512 * t + 128 * k + r.val) c : ℝ) : EReal))
    (fun l => (pay79_ix _ _ _ r l).trans (hE_ix O k hk 0 1024 (by decide) 0 rfl rfl r l))
    (fun l => (pay81_ix _ _ _ r l).trans (hE_ix O k hk 1 1152 (by decide) 128 rfl rfl r l))
    (fun l => (pay82_ix _ _ _ r l).trans (hE_ix O k hk 2 1280 (by decide) 256 rfl rfl r l))
    (fun l => hE_ix O k hk 3 1408 (by decide) 384 rfl rfl r l)

theorem ym_ix (O : Ok I A G W g b t) (C : OkC K A b t) (r : Fin 512) (j : Fin 2048) : I.ym K (ix2 r j) = A.ym G b (512 * t + r.val) j.val := by
  show (if j.val < 1024 then I.yl K (r.val / 8) (ix2 (Fin.ofNat 8 (r.val % 8)) (Fin.ofNat 1024 j.val))
    else if j.val < 1536 then I.og K (r.val / 64) (ix2 (Fin.ofNat 64 (r.val % 64)) (Fin.ofNat 512 (j.val - 1024)))
    else I.xa (r.val / 128) (ix2 (Fin.ofNat 128 (r.val % 128)) (Fin.ofNat 512 (j.val - 1536)))) = _
  unfold Arr.ym
  by_cases h1 : j.val < 1024
  · rw [if_pos h1, if_pos h1, yl_ix O C _ (by omega)]
    have e1 : (Fin.ofNat 1024 j.val).val = j.val := by show j.val % 1024 = _; omega
    have e2 : 512 * t + 8 * (r.val / 8) + (Fin.ofNat 8 (r.val % 8)).val + 1 = 512 * t + r.val + 1 := by show 512 * t + 8 * (r.val / 8) + r.val % 8 % 8 + 1 = _; omega
    rw [e1, e2]
  · rw [if_neg h1, if_neg h1]
    by_cases h2 : j.val < 1536
    · rw [if_pos h2, if_pos h2, og_ix O C _ (by omega)]
      have e1 : (Fin.ofNat 512 (j.val - 1024)).val = j.val - 1024 := by show (j.val - 1024) % 512 = _; omega
      have e2 : 512 * t + 64 * (r.val / 64) + (Fin.ofNat 64 (r.val % 64)).val = 512 * t + r.val := by show 512 * t + 64 * (r.val / 64) + r.val % 64 % 64 = _; omega
      rw [e1, e2]
    · rw [if_neg h2, if_neg h2, xa_ix O _ (by omega)]
      have e1 : (Fin.ofNat 512 (j.val - 1536)).val = j.val - 1536 := by show (j.val - 1536) % 512 = _; omega
      have e2 : 512 * t + 128 * (r.val / 128) + (Fin.ofNat 128 (r.val % 128)).val = 512 * t + r.val := by show 512 * t + 128 * (r.val / 128) + r.val % 128 % 128 = _; omega
      rw [e1, e2]

theorem g_ix (O : Ok I A G W g b t) (C : OkC K A b t) (r : Fin 512) (j : Fin 2048) :
    yB I.pr (I.ym K) (ix2 r j) = A.ym G b (512 * t + r.val) j.val * (A.silu b (512 * t + r.val) j.val : EReal) := by
  show k0_pay2 (win I.pr (32 * (r.val / 32)) 1536 32 2048) (win (I.ym K) (32 * (r.val / 32)) 0 32 2048) (ix2 (Fin.ofNat 32 (r.val % 32)) j) = _
  have hr : 32 * (r.val / 32) + (Fin.ofNat 32 (r.val % 32) : Fin 32).val = r.val := by show 32 * (r.val / 32) + r.val % 32 % 32 = _; omega
  rw [pay2_ix, win_ix _ _ _ _ j (by omega) (by omega), win_ix _ _ _ _ j (by omega) (by omega), ym_ix O C, pr_ix O, if_pos (by show 1536 + j.val < 3600; omega)]
  simp only [hr, Nat.zero_add]
  congr 1
  rw [show col (1536 + j.val) = 2576 + j.val by unfold col; split_ifs <;> omega, w_half]
  simp only [← EReal.coe_mul, Ideal.tanh_coe, ← EReal.coe_add]
  congr 1
  unfold Arr.silu
  rw [← sg_tanh]
  ring

theorem yo_ix (O : Ok I A G W g b t) (C : OkC K A b t) (r : Fin 512) (d : Fin 1024) :
    I.yo K (ix3 0 r d) = ∑ k : Fin 2048, A.ym G b (512 * t + r.val) k.val * (A.silu b (512 * t + r.val) k.val : EReal) * W k.val d.val := by
  unfold Ins.yo
  rw [pay3_ix]
  refine Finset.sum_congr rfl fun k _ => ?_
  rw [g_ix O C, O.wo]

theorem out_ix (O : Ok I A G W g b t) (C : OkC K A b t) (r : Fin 512) (d : Fin 1024) :
    I.out K (ix3 0 r d) = A.out G W g b (512 * t + r.val) d.val := by
  show k0_pay4 I.fg (win3 I.x 0 (32 * (r.val / 32)) 0 1 32 1024) (win3 (I.yo K) 0 (32 * (r.val / 32)) 0 1 32 1024) (ix3 0 (Fin.ofNat 32 (r.val % 32)) d) = _
  have hr : 32 * (r.val / 32) + (Fin.ofNat 32 (r.val % 32) : Fin 32).val = r.val := by show 32 * (r.val / 32) + r.val % 32 % 32 = _; omega
  have hw : ∀ (v : Vec Ideal S1x512x1024 .f32) (d : Fin 1024), win3 v 0 (32 * (r.val / 32)) 0 1 32 1024 (ix3 0 (Fin.ofNat 32 (r.val % 32)) d) = v (ix3 0 r d) := by
    intro v d
    rw [win3_ix _ _ _ _ 0 _ d (by decide) (by omega) (by omega)]
    refine congrArg v ?_
    congr 1
    · exact Fin.ext hr
    · exact Fin.ext (Nat.zero_add _)
  rw [pay4_ix]
  simp only [hw, O.x, O.fg, yo_ix O C]
  rfl

theorem next_ix (O : Ok I A G W g b t) (C : OkC K A b t) : OkC (I.next K) A b (t + 1) := by
  refine ⟨fun i c => tail_ix O C i c, fun c => ?_, fun v k => ?_⟩
  · refine (pay110_ix _ 0 c).trans ((carry_ix O C 64 (by decide) c).trans ?_)
    rw [show 512 * t + 8 * 64 = 512 * (t + 1) by omega]
  · refine (state_ix O C 8 (by decide) v k).trans ?_
    rw [show 8 * t + 8 = 8 * (t + 1) by omega]

theorem zero_ok (A : Arr) (b : ℕ) : OkC Carry.zero A b 0 := by
  refine ⟨fun i c => ?_, fun c => ?_, fun v k => ?_⟩
  · rw [Arr.pz, if_pos (by omega)]
    show k0_pay84 (ix2 i c) = _
    pointwise [k0_pay84]
    rfl
  · show k0_pay85 (ix2 0 c) = _
    pointwise [k0_pay85]
    rfl
  · rw [show A.S b v.val k.val (8 * 0) = 0 from rfl, ite_self]
    show k0_pay86 (ix2 v k) = _
    pointwise [k0_pay86]
    rfl

end Cert.KernelIdeal.Layer

end
-- ==== Proof.Args.lean ====
/- The arguments of the layer call as arrays over the naturals, and the result they determine. -/
module

public import proofs.«01_k».proof.Proof.Spec
public import Idealize.ShloMosaic.Lib.Pointwise

@[expose] public section

noncomputable section

namespace Cert.Layer

open Idealize.ShloMosaic

/-- The arguments of the layer call. -/
structure Raw where
  a0 : FVec Ideal (⟨3, ![8, 4096, 1024]⟩ : Shape) .f32
  a1 : FVec Ideal (⟨3, ![8, 512, 256]⟩ : Shape) .bf16
  a2 : FVec Ideal (⟨3, ![8, 256, 512]⟩ : Shape) .bf16
  a3 : FVec Ideal (⟨2, ![1, 1024]⟩ : Shape) .f32
  a4 : FVec Ideal (⟨3, ![1, 1024, 4624]⟩ : Shape) .f32
  a5 : FVec Ideal (⟨3, ![1, 4, 1024]⟩ : Shape) .f32
  a6 : FVec Ideal (⟨2, ![1, 1024]⟩ : Shape) .f32
  a7 : FVec Ideal (⟨4, ![1, 8, 128, 128]⟩ : Shape) .f32
  a8 : FVec Ideal (⟨3, ![1, 8, 128]⟩ : Shape) .f32
  a9 : FVec Ideal (⟨4, ![1, 8, 128, 128]⟩ : Shape) .f32
  a10 : FVec Ideal (⟨3, ![1, 8, 128]⟩ : Shape) .f32
  a11 : FVec Ideal (⟨2, ![1, 1024]⟩ : Shape) .f32
  a12 : FVec Ideal (⟨3, ![1, 16, 256]⟩ : Shape) .f32
  a13 : FVec Ideal (⟨2, ![1, 256]⟩ : Shape) .f32
  a14 : FVec Ideal (⟨2, ![1, 512]⟩ : Shape) .f32
  a15 : FVec Ideal (⟨3, ![1, 2048, 1024]⟩ : Shape) .f32
  a16 : FVec Ideal (⟨1, ![1024]⟩ : Shape) .f32

namespace Raw

/-- The entries that are assumed real. -/
structure Re (R : Raw) : Prop where
  e0 : ∀ i, R.a0 i = ((EReal.toReal (R.a0 i) : ℝ) : EReal)
  e1 : ∀ i, R.a1 i = ((EReal.toReal (R.a1 i) : ℝ) : EReal)
  e2 : ∀ i, R.a2 i = ((EReal.toReal (R.a2 i) : ℝ) : EReal)
  e3 : ∀ i, R.a3 i = ((EReal.toReal (R.a3 i) : ℝ) : EReal)
  e4 : ∀ i, R.a4 i = ((EReal.toReal (R.a4 i) : ℝ) : EReal)
  e5 : ∀ i, R.a5 i = ((EReal.toReal (R.a5 i) : ℝ) : EReal)
  e6 : ∀ i, R.a6 i = ((EReal.toReal (R.a6 i) : ℝ) : EReal)
  e7 : ∀ i, R.a7 i = ((EReal.toReal (R.a7 i) : ℝ) : EReal)
  e8 : ∀ i, R.a8 i = ((EReal.toReal (R.a8 i) : ℝ) : EReal)
  e9 : ∀ i, R.a9 i = ((EReal.toReal (R.a9 i) : ℝ) : EReal)
  e10 : ∀ i, R.a10 i = ((EReal.toReal (R.a10 i) : ℝ) : EReal)
  e11 : ∀ i, R.a11 i = ((EReal.toReal (R.a11 i) : ℝ) : EReal)
  e12 : ∀ i, R.a12 i = ((EReal.toReal (R.a12 i) : ℝ) : EReal)
  e13 : ∀ i, R.a13 i = ((EReal.toReal (R.a13 i) : ℝ) : EReal)

/-- The real arrays. -/
def arr (R : Raw) : Arr where
  x b s d := EReal.toReal (R.a0 (ix3 (Fin.ofNat 8 b) (Fin.ofNat 4096 s) (Fin.ofNat 1024 d)))
  kt b r k := EReal.toReal (R.a1 (ix3 (Fin.ofNat 8 b) (Fin.ofNat 512 r) (Fin.ofNat 256 k)))
  vm b k r := EReal.toReal (R.a2 (ix3 (Fin.ofNat 8 b) (Fin.ofNat 256 k) (Fin.ofNat 512 r)))
  ng d := EReal.toReal (R.a3 (ix2 0 (Fin.ofNat 1024 d)))
  w k j := EReal.toReal (R.a4 (ix3 0 (Fin.ofNat 1024 k) (Fin.ofNat 4624 j)))
  cw k c := EReal.toReal (R.a5 (ix3 0 (Fin.ofNat 4 k) (Fin.ofNat 1024 c)))
  cb c := EReal.toReal (R.a6 (ix2 0 (Fin.ofNat 1024 c)))
  wa h k j := EReal.toReal (R.a7 (ix4 0 (Fin.ofNat 8 h) (Fin.ofNat 128 k) (Fin.ofNat 128 j)))
  ba h k := EReal.toReal (R.a8 (ix3 0 (Fin.ofNat 8 h) (Fin.ofNat 128 k)))
  wi h k j := EReal.toReal (R.a9 (ix4 0 (Fin.ofNat 8 h) (Fin.ofNat 128 k) (Fin.ofNat 128 j)))
  bi h k := EReal.toReal (R.a10 (ix3 0 (Fin.ofNat 8 h) (Fin.ofNat 128 k)))
  lam c := EReal.toReal (R.a11 (ix2 0 (Fin.ofNat 1024 c)))
  wg k j := EReal.toReal (R.a12 (ix3 0 (Fin.ofNat 16 k) (Fin.ofNat 256 j)))
  bg j := EReal.toReal (R.a13 (ix2 0 (Fin.ofNat 256 j)))

/-- The other arguments. -/
def G (R : Raw) (c : ℕ) : EReal := R.a14 (ix2 0 (Fin.ofNat 512 c))
def W (R : Raw) (k d : ℕ) : EReal := R.a15 (ix3 0 (Fin.ofNat 2048 k) (Fin.ofNat 1024 d))
def g (R : Raw) (d : ℕ) : EReal := R.a16 (ix1 (Fin.ofNat 1024 d))

/-- The layer's result. -/
def res (R : Raw) : FVec Ideal (⟨3, ![8, 4096, 1024]⟩ : Shape) .f32 :=
  fun i => R.arr.out R.G R.W R.g (i 0).val (i 1).val (i 2).val

end Raw

theorem ofNat_val {n : ℕ} [NeZero n] (k : Fin n) : Fin.ofNat n k.val = k := Fin.ofNat_val_eq_self k

theorem ofNat_eq {n k : ℕ} [NeZero n] (h : k < n) : Fin.ofNat n k = ⟨k, h⟩ := Fin.ext (Nat.mod_eq_of_lt h)

namespace Raw
variable {R : Raw} (E : R.Re)
include E

theorem x_at (b : Fin 8) (s : Fin 4096) (d : Fin 1024) : R.a0 (ix3 b s d) = (R.arr.x b.val s.val d.val : EReal) := by
  show _ = ((EReal.toReal (R.a0 (ix3 (Fin.ofNat 8 b.val) (Fin.ofNat 4096 s.val) (Fin.ofNat 1024 d.val))) : ℝ) : EReal)
  rw [ofNat_val, ofNat_val, ofNat_val]; exact E.e0 _
theorem kt_at (b : Fin 8) (s : Fin 512) (d : Fin 256) : R.a1 (ix3 b s d) = (R.arr.kt b.val s.val d.val : EReal) := by
  show _ = ((EReal.toReal (R.a1 (ix3 (Fin.ofNat 8 b.val) (Fin.ofNat 512 s.val) (Fin.ofNat 256 d.val))) : ℝ) : EReal)
  rw [ofNat_val, ofNat_val, ofNat_val]; exact E.e1 _
theorem vm_at (b : Fin 8) (s : Fin 256) (d : Fin 512) : R.a2 (ix3 b s d) = (R.arr.vm b.val s.val d.val : EReal) := by
  show _ = ((EReal.toReal (R.a2 (ix3 (Fin.ofNat 8 b.val) (Fin.ofNat 256 s.val) (Fin.ofNat 512 d.val))) : ℝ) : EReal)
  rw [ofNat_val, ofNat_val, ofNat_val]; exact E.e2 _
theorem ng_at (d : Fin 1024) : R.a3 (ix2 0 d) = (R.arr.ng d.val : EReal) := by
  show _ = ((EReal.toReal (R.a3 (ix2 0 (Fin.ofNat 1024 d.val))) : ℝ) : EReal)
  rw [ofNat_val]; exact E.e3 _
theorem w_at (k : Fin 1024) (j : Fin 4624) : R.a4 (ix3 0 k j) = (R.arr.w k.val j.val : EReal) := by
  show _ = ((EReal.toReal (R.a4 (ix3 0 (Fin.ofNat 1024 k.val) (Fin.ofNat 4624 j.val))) : ℝ) : EReal)
  rw [ofNat_val, ofNat_val]; exact E.e4 _
theorem cw_at (k : Fin 4) (j : Fin 1024) : R.a5 (ix3 0 k j) = (R.arr.cw k.val j.val : EReal) := by
  show _ = ((EReal.toReal (R.a5 (ix3 0 (Fin.ofNat 4 k.val) (Fin.ofNat 1024 j.val))) : ℝ) : EReal)
  rw [ofNat_val, ofNat_val]; exact E.e5 _
theorem cb_at (d : Fin 1024) : R.a6 (ix2 0 d) = (R.arr.cb d.val : EReal) := by
  show _ = ((EReal.toReal (R.a6 (ix2 0 (Fin.ofNat 1024 d.val))) : ℝ) : EReal)
  rw [ofNat_val]; exact E.e6 _
theorem wa_at (h : Fin 8) (k j : Fin 128) : R.a7 (ix4 0 h k j) = (R.arr.wa h.val k.val j.val : EReal) := by
  show _ = ((EReal.toReal (R.a7 (ix4 0 (Fin.ofNat 8 h.val) (Fin.ofNat 128 k.val) (Fin.ofNat 128 j.val))) : ℝ) : EReal)
  rw [ofNat_val, ofNat_val, ofNat_val]; exact E.e7 _
theorem ba_at (h : Fin 8) (k : Fin 128) : R.a8 (ix3 0 h k) = (R.arr.ba h.val k.val : EReal) := by
  show _ = ((EReal.toReal (R.a8 (ix3 0 (Fin.ofNat 8 h.val) (Fin.ofNat 128 k.val))) : ℝ) : EReal)
  rw [ofNat_val, ofNat_val]; exact E.e8 _
theorem wi_at (h : Fin 8) (k j : Fin 128) : R.a9 (ix4 0 h k j) = (R.arr.wi h.val k.val j.val : EReal) := by
  show _ = ((EReal.toReal (R.a9 (ix4 0 (Fin.ofNat 8 h.val) (Fin.ofNat 128 k.val) (Fin.ofNat 128 j.val))) : ℝ) : EReal)
  rw [ofNat_val, ofNat_val, ofNat_val]; exact E.e9 _
theorem bi_at (h : Fin 8) (k : Fin 128) : R.a10 (ix3 0 h k) = (R.arr.bi h.val k.val : EReal) := by
  show _ = ((EReal.toReal (R.a10 (ix3 0 (Fin.ofNat 8 h.val) (Fin.ofNat 128 k.val))) : ℝ) : EReal)
  rw [ofNat_val, ofNat_val]; exact E.e10 _
theorem lam_at (d : Fin 1024) : R.a11 (ix2 0 d) = (R.arr.lam d.val : EReal) := by
  show _ = ((EReal.toReal (R.a11 (ix2 0 (Fin.ofNat 1024 d.val))) : ℝ) : EReal)
  rw [ofNat_val]; exact E.e11 _
theorem wg_at (k : Fin 16) (j : Fin 256) : R.a12 (ix3 0 k j) = (R.arr.wg k.val j.val : EReal) := by
  show _ = ((EReal.toReal (R.a12 (ix3 0 (Fin.ofNat 16 k.val) (Fin.ofNat 256 j.val))) : ℝ) : EReal)
  rw [ofNat_val, ofNat_val]; exact E.e12 _
theorem bg_at (d : Fin 256) : R.a13 (ix2 0 d) = (R.arr.bg d.val : EReal) := by
  show _ = ((EReal.toReal (R.a13 (ix2 0 (Fin.ofNat 256 d.val))) : ℝ) : EReal)
  rw [ofNat_val]; exact E.e13 _

omit E in
theorem G_at (d : Fin 512) : R.a14 (ix2 0 d) = R.G d.val := by
  show _ = R.a14 (ix2 0 (Fin.ofNat 512 d.val)); rw [ofNat_val]
omit E in
theorem W_at (k : Fin 2048) (d : Fin 1024) : R.a15 (ix3 0 k d) = R.W k.val d.val := by
  show _ = R.a15 (ix3 0 (Fin.ofNat 2048 k.val) (Fin.ofNat 1024 d.val)); rw [ofNat_val, ofNat_val]
omit E in
theorem g_at (d : Fin 1024) : R.a16 (ix1 d) = R.g d.val := by
  show _ = R.a16 (ix1 (Fin.ofNat 1024 d.val)); rw [ofNat_val]

end Raw

end Cert.Layer

end
-- ==== Proof.KHost.lean ====
/- The layer call: what its windows hold of the arguments, and the result it leaves. -/
module

public import proofs.«01_k».proof.Proof.KOut
public import proofs.«01_k».proof.Proof.Run6
public import proofs.«01_k».proof.Proof.Args
public import Idealize.ShloMosaic.Lib.Pipeline.Value

@[expose] public section

set_option maxHeartbeats 1000000

noncomputable section

namespace Cert.KernelIdeal.Layer

open Idealize.ShloMosaic Idealize.ShloMosaic.TcCoe Idealize.SL.Sem
open Cert.KernelIdeal.Gen Cert.Layer

variable (m : (ℓ : Loc nD τ sig) → Buf (Elt Ideal) ℓ)

/-- The call's arguments. -/
def raw (c : Dev nD) : Raw where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)

/-! ## The arrays the windows are cut from -/

/-- The projection's weights as a matrix. -/
abbrev w0 (c : Dev nD) : FVec Ideal S1024x4624 .f32 := shapeCast S1024x4624 (raw m c).a4 shapeCasts_S1x1024x4624_S1024x4624

theorem V_v2 (c : Dev nD) : V m c main_v2 = (truncf (F := Ideal) .bf16 (extractStridedSlice S1024x1024 ![0, 0] (w0 m c) slices_S1024x4624_S1024x1024_0_0) bitsLt_bf16_f32 : FVec Ideal S1024x1024 .bf16) := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results
  rfl

theorem V_v9 (c : Dev nD) : V m c main_v9 = (truncf (F := Ideal) .bf16 (concatenate S1024x3712 1 [⟨S1024x1024, extractStridedSlice S1024x1024 ![0, 1024] (w0 m c) slices_S1024x4624_S1024x1024_0_1024⟩, ⟨S1024x512, extractStridedSlice S1024x512 ![0, 2064] (w0 m c) slices_S1024x4624_S1024x512_0_2064⟩, ⟨S1024x2048, extractStridedSlice S1024x2048 ![0, 2576] (w0 m c) slices_S1024x4624_S1024x2048_0_2576⟩, ⟨S1024x128, pad S1024x128 ![0, 0] ![0, 112] ![0, 0] (extractStridedSlice S1024x16 ![0, 2048] (w0 m c) slices_S1024x4624_S1024x16_0_2048) (sitofp (F := Ideal) .f32 (constantI S_ 32 0#32)) pads_S1024x16_S1024x128_000_01120 h_S_⟩] concatenates_S1024x1024_S1024x512_S1024x2048_S1024x128_S1024x3712_d1) bitsLt_bf16_f32 : FVec Ideal S1024x3712 .bf16) := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  after_results
  rfl

theorem V_v13 (c : Dev nD) : V m c main_v13 = (truncf (F := Ideal) .bf16 (concatenate S8x128x256 2 [⟨S8x128x128, shapeCast S8x128x128 (raw m c).a7 shapeCasts_S1x8x128x128_S8x128x128⟩, ⟨S8x128x128, shapeCast S8x128x128 (raw m c).a9 shapeCasts_S1x8x128x128_S8x128x128⟩] concatenates_S8x128x128_S8x128x128_S8x128x256_d2) bitsLt_bf16_f32 : FVec Ideal S8x128x256 .bf16) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_results
  rfl

theorem V_v16 (c : Dev nD) : V m c main_v16 = (truncf (F := Ideal) .bf16 (pad S128x256 ![0, 0] ![112, 0] ![0, 0] (shapeCast S16x256 (raw m c).a12 shapeCasts_S1x16x256_S16x256) (sitofp (F := Ideal) .f32 (constantI S_ 32 0#32)) pads_S16x256_S128x256_01120_000 h_S_) bitsLt_bf16_f32 : FVec Ideal S128x256 .bf16) := by
  show StableHlo.after (List.flatten [hostOps0, hostOps0_1, hostOps0_2, hostOps0_3, hostOps0_4]) (fun b => m (c, b)) (Proc.devRef .tc main_v16) = _
  simp only [hostOps0, hostOps0_1, hostOps0_2, hostOps0_3, hostOps0_4, List.flatten_cons, List.flatten_nil, List.append_nil, List.cons_append, List.nil_append]
  after_results
  rfl

theorem V_v18 (c : Dev nD) : V m c main_v18 = (shapeCast S1x1024 (shapeCast S8x128 (raw m c).a8 shapeCasts_S1x8x128_S8x128) shapeCasts_S8x128_S1x1024 : FVec Ideal S1x1024 .f32) := by
  show StableHlo.after (List.flatten [hostOps0, hostOps0_1, hostOps0_2, hostOps0_3, hostOps0_4]) (fun b => m (c, b)) (Proc.devRef .tc main_v18) = _
  simp only [hostOps0, hostOps0_1, hostOps0_2, hostOps0_3, hostOps0_4, List.flatten_cons, List.flatten_nil, List.append_nil, List.cons_append, List.nil_append]
  after_results
  rfl

theorem V_v20 (c : Dev nD) : V m c main_v20 = (shapeCast S1x1024 (shapeCast S8x128 (raw m c).a10 shapeCasts_S1x8x128_S8x128) shapeCasts_S8x128_S1x1024 : FVec Ideal S1x1024 .f32) := by
  show StableHlo.after (List.flatten [hostOps0, hostOps0_1, hostOps0_2, hostOps0_3, hostOps0_4]) (fun b => m (c, b)) (Proc.devRef .tc main_v20) = _
  simp only [hostOps0, hostOps0_1, hostOps0_2, hostOps0_3, hostOps0_4, List.flatten_cons, List.flatten_nil, List.append_nil, List.cons_append, List.nil_append]
  after_results
  rfl

theorem V_v21 (c : Dev nD) : V m c main_v21 = (shapeCast S4x1024 (raw m c).a5 shapeCasts_S1x4x1024_S4x1024 : FVec Ideal S4x1024 .f32) := by
  show StableHlo.after (List.flatten [hostOps0, hostOps0_1, hostOps0_2, hostOps0_3, hostOps0_4]) (fun b => m (c, b)) (Proc.devRef .tc main_v21) = _
  simp only [hostOps0, hostOps0_1, hostOps0_2, hostOps0_3, hostOps0_4, List.flatten_cons, List.flatten_nil, List.append_nil, List.cons_append, List.nil_append]
  after_results
  rfl

theorem V_v23 (c : Dev nD) : V m c main_v23 = (shapeCast S1x1024 (shapeCast S1024 (raw m c).a6 shapeCasts_S1x1024_S1024) shapeCasts_S1024_S1x1024 : FVec Ideal S1x1024 .f32) := by
  show StableHlo.after (List.flatten [hostOps0, hostOps0_1, hostOps0_2, hostOps0_3, hostOps0_4]) (fun b => m (c, b)) (Proc.devRef .tc main_v23) = _
  simp only [hostOps0, hostOps0_1, hostOps0_2, hostOps0_3, hostOps0_4, List.flatten_cons, List.flatten_nil, List.append_nil, List.cons_append, List.nil_append]
  after_results
  rfl

theorem V_v25 (c : Dev nD) : V m c main_v25 = (shapeCast S1x1024 (shapeCast S1024 (raw m c).a11 shapeCasts_S1x1024_S1024) shapeCasts_S1024_S1x1024 : FVec Ideal S1x1024 .f32) := by
  show StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append]
  after_results
  rfl

theorem V_v27 (c : Dev nD) : V m c main_v27 = (shapeCast S1x256 (shapeCast S256 (raw m c).a13 shapeCasts_S1x256_S256) shapeCasts_S256_S1x256 : FVec Ideal S1x256 .f32) := by
  show StableHlo.after (List.flatten [hostOps0, hostOps0_1, hostOps0_2, hostOps0_3, hostOps0_4]) (fun b => m (c, b)) (Proc.devRef .tc main_v27) = _
  simp only [hostOps0, hostOps0_1, hostOps0_2, hostOps0_3, hostOps0_4, List.flatten_cons, List.flatten_nil, List.append_nil, List.cons_append, List.nil_append]
  after_results
  rfl

theorem V_v29 (c : Dev nD) : V m c main_v29 = (shapeCast S1x512 (shapeCast S512 (raw m c).a14 shapeCasts_S1x512_S512) shapeCasts_S512_S1x512 : FVec Ideal S1x512 .f32) := by
  show StableHlo.after (List.flatten [hostOps0, hostOps0_1, hostOps0_2, hostOps0_3, hostOps0_4]) (fun b => m (c, b)) (Proc.devRef .tc main_v29) = _
  simp only [hostOps0, hostOps0_1, hostOps0_2, hostOps0_3, hostOps0_4, List.flatten_cons, List.flatten_nil, List.append_nil, List.cons_append, List.nil_append]
  after_results
  rfl

theorem V_v33 (c : Dev nD) : V m c main_v33 = (shapeCast S1x1024 (shapeCast S1024 (raw m c).a3 shapeCasts_S1x1024_S1024) shapeCasts_S1024_S1x1024 : FVec Ideal S1x1024 .f32) := by
  show StableHlo.after (List.flatten [hostOps0, hostOps0_1, hostOps0_2, hostOps0_3, hostOps0_4]) (fun b => m (c, b)) (Proc.devRef .tc main_v33) = _
  simp only [hostOps0, hostOps0_1, hostOps0_2, hostOps0_3, hostOps0_4, List.flatten_cons, List.flatten_nil, List.append_nil, List.cons_append, List.nil_append]
  after_results
  rfl

theorem V_v31 (c : Dev nD) : V m c main_v31 = (truncf (F := Ideal) .bf16 (shapeCast S2048x1024 (raw m c).a15 shapeCasts_S1x2048x1024_S2048x1024) bitsLt_bf16_f32 : FVec Ideal S2048x1024 .bf16) := by
  show StableHlo.after (List.flatten [hostOps0, hostOps0_1, hostOps0_2, hostOps0_3, hostOps0_4]) (fun b => m (c, b)) (Proc.devRef .tc main_v31) = _
  simp only [hostOps0, hostOps0_1, hostOps0_2, hostOps0_3, hostOps0_4, List.flatten_cons, List.flatten_nil, List.append_nil, List.cons_append, List.nil_append]
  after_results
  rfl

theorem V_v34 (c : Dev nD) : V m c main_v34 = (shapeCast S1x1024 (raw m c).a16 shapeCasts_S1024_S1x1024 : FVec Ideal S1x1024 .f32) := by
  show StableHlo.after (List.flatten [hostOps0, hostOps0_1, hostOps0_2, hostOps0_3, hostOps0_4]) (fun b => m (c, b)) (Proc.devRef .tc main_v34) = _
  simp only [hostOps0, hostOps0_1, hostOps0_2, hostOps0_3, hostOps0_4, List.flatten_cons, List.flatten_nil, List.append_nil, List.cons_append, List.nil_append]
  after_results
  rfl

end Cert.KernelIdeal.Layer

end
-- ==== Proof.KBlk.lean ====
/- The layer call: the blocks of every point of the grid. -/
module

public import proofs.«01_k».proof.Proof.KHost

@[expose] public section

set_option maxHeartbeats 1000000

noncomputable section

namespace Cert.KernelIdeal.Layer

open Idealize.ShloMosaic Idealize.ShloMosaic.TcCoe Idealize.SL.Sem
open Cert.KernelIdeal.Gen Cert.Layer

variable (m : (ℓ : Loc nD τ sig) → Buf (Elt Ideal) ℓ)

theorem idx_x : ∀ t : Fin cfg0.N, win0_0.index t = ![t.val / 8, t.val % 8, 0] := (by decide +kernel : ∀ t : Fin grid0.N, _)
theorem idx_m : ∀ t : Fin cfg0.N, win0_12.index t = ![t.val / 8, 0, 0] ∧ win0_13.index t = ![t.val / 8, 0, 0] := (by decide +kernel : ∀ t : Fin grid0.N, _)
theorem idx_o : ∀ t : Fin cfg0.N, win0_17.index t = ![t.val / 8, t.val % 8, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_3 : ∀ t : Fin cfg0.N, win0_3.index t = ![0, 0, 0] := (by decide +kernel : ∀ t : Fin grid0.N, _)
theorem lt64 (t : Fin cfg0.N) : t.val < 64 := t.isLt

theorem blk1 (c : Dev nD) (t : Fin cfg0.N) (i : Fin 1024) (j : Fin 1024) : iblk m c 1 t (ix2 i j) = V m c main_v2 (ix2 i j) := by
  refine congrArg (V m c main_v2) ?_
  funext a; apply Fin.ext
  have e := idx_1 t
  match a with
  | ⟨0, _⟩ => show win0_1.index t 0 * 1024 + 1 * i.val = i.val; rw [e]; show 0 * 1024 + 1 * i.val = i.val; omega
  | ⟨1, _⟩ => show win0_1.index t 1 * 1024 + 1 * j.val = j.val; rw [e]; show 0 * 1024 + 1 * j.val = j.val; omega

theorem blk2 (c : Dev nD) (t : Fin cfg0.N) (i : Fin 1024) (j : Fin 3712) : iblk m c 2 t (ix2 i j) = V m c main_v9 (ix2 i j) := by
  refine congrArg (V m c main_v9) ?_
  funext a; apply Fin.ext
  have e := idx_2 t
  match a with
  | ⟨0, _⟩ => show win0_2.index t 0 * 1024 + 1 * i.val = i.val; rw [e]; show 0 * 1024 + 1 * i.val = i.val; omega
  | ⟨1, _⟩ => show win0_2.index t 1 * 3712 + 1 * j.val = j.val; rw [e]; show 0 * 3712 + 1 * j.val = j.val; omega

theorem blk4 (c : Dev nD) (t : Fin cfg0.N) (i : Fin 1) (j : Fin 1024) : iblk m c 4 t (ix2 i j) = V m c main_v18 (ix2 i j) := by
  refine congrArg (V m c main_v18) ?_
  funext a; apply Fin.ext
  have e := idx_4 t
  match a with
  | ⟨0, _⟩ => show win0_4.index t 0 * 1 + 1 * i.val = i.val; rw [e]; show 0 * 1 + 1 * i.val = i.val; omega
  | ⟨1, _⟩ => show win0_4.index t 1 * 1024 + 1 * j.val = j.val; rw [e]; show 0 * 1024 + 1 * j.val = j.val; omega

theorem blk5 (c : Dev nD) (t : Fin cfg0.N) (i : Fin 1) (j : Fin 1024) : iblk m c 5 t (ix2 i j) = V m c main_v20 (ix2 i j) := by
  refine congrArg (V m c main_v20) ?_
  funext a; apply Fin.ext
  have e := idx_5 t
  match a with
  | ⟨0, _⟩ => show win0_5.index t 0 * 1 + 1 * i.val = i.val; rw [e]; show 0 * 1 + 1 * i.val = i.val; omega
  | ⟨1, _⟩ => show win0_5.index t 1 * 1024 + 1 * j.val = j.val; rw [e]; show 0 * 1024 + 1 * j.val = j.val; omega

theorem blk6 (c : Dev nD) (t : Fin cfg0.N) (i : Fin 4) (j : Fin 1024) : iblk m c 6 t (ix2 i j) = V m c main_v21 (ix2 i j) := by
  refine congrArg (V m c main_v21) ?_
  funext a; apply Fin.ext
  have e := idx_6 t
  match a with
  | ⟨0, _⟩ => show win0_6.index t 0 * 4 + 1 * i.val = i.val; rw [e]; show 0 * 4 + 1 * i.val = i.val; omega
  | ⟨1, _⟩ => show win0_6.index t 1 * 1024 + 1 * j.val = j.val; rw [e]; show 0 * 1024 + 1 * j.val = j.val; omega

theorem blk7 (c : Dev nD) (t : Fin cfg0.N) (i : Fin 1) (j : Fin 1024) : iblk m c 7 t (ix2 i j) = V m c main_v23 (ix2 i j) := by
  refine congrArg (V m c main_v23) ?_
  funext a; apply Fin.ext
  have e := idx_7 t
  match a with
  | ⟨0, _⟩ => show win0_7.index t 0 * 1 + 1 * i.val = i.val; rw [e]; show 0 * 1 + 1 * i.val = i.val; omega
  | ⟨1, _⟩ => show win0_7.index t 1 * 1024 + 1 * j.val = j.val; rw [e]; show 0 * 1024 + 1 * j.val = j.val; omega

theorem blk8 (c : Dev nD) (t : Fin cfg0.N) (i : Fin 1) (j : Fin 1024) : iblk m c 8 t (ix2 i j) = V m c main_v25 (ix2 i j) := by
  refine congrArg (V m c main_v25) ?_
  funext a; apply Fin.ext
  have e := idx_8 t
  match a with
  | ⟨0, _⟩ => show win0_8.index t 0 * 1 + 1 * i.val = i.val; rw [e]; show 0 * 1 + 1 * i.val = i.val; omega
  | ⟨1, _⟩ => show win0_8.index t 1 * 1024 + 1 * j.val = j.val; rw [e]; show 0 * 1024 + 1 * j.val = j.val; omega

theorem blk9 (c : Dev nD) (t : Fin cfg0.N) (i : Fin 128) (j : Fin 256) : iblk m c 9 t (ix2 i j) = V m c main_v16 (ix2 i j) := by
  refine congrArg (V m c main_v16) ?_
  funext a; apply Fin.ext
  have e := idx_9 t
  match a with
  | ⟨0, _⟩ => show win0_9.index t 0 * 128 + 1 * i.val = i.val; rw [e]; show 0 * 128 + 1 * i.val = i.val; omega
  | ⟨1, _⟩ => show win0_9.index t 1 * 256 + 1 * j.val = j.val; rw [e]; show 0 * 256 + 1 * j.val = j.val; omega

theorem blk10 (c : Dev nD) (t : Fin cfg0.N) (i : Fin 1) (j : Fin 256) : iblk m c 10 t (ix2 i j) = V m c main_v27 (ix2 i j) := by
  refine congrArg (V m c main_v27) ?_
  funext a; apply Fin.ext
  have e := idx_10 t
  match a with
  | ⟨0, _⟩ => show win0_10.index t 0 * 1 + 1 * i.val = i.val; rw [e]; show 0 * 1 + 1 * i.val = i.val; omega
  | ⟨1, _⟩ => show win0_10.index t 1 * 256 + 1 * j.val = j.val; rw [e]; show 0 * 256 + 1 * j.val = j.val; omega

theorem blk11 (c : Dev nD) (t : Fin cfg0.N) (i : Fin 1) (j : Fin 512) : iblk m c 11 t (ix2 i j) = V m c main_v29 (ix2 i j) := by
  refine congrArg (V m c main_v29) ?_
  funext a; apply Fin.ext
  have e := idx_11 t
  match a with
  | ⟨0, _⟩ => show win0_11.index t 0 * 1 + 1 * i.val = i.val; rw [e]; show 0 * 1 + 1 * i.val = i.val; omega
  | ⟨1, _⟩ => show win0_11.index t 1 * 512 + 1 * j.val = j.val; rw [e]; show 0 * 512 + 1 * j.val = j.val; omega

theorem blk14 (c : Dev nD) (t : Fin cfg0.N) (i : Fin 2048) (j : Fin 1024) : iblk m c 14 t (ix2 i j) = V m c main_v31 (ix2 i j) := by
  refine congrArg (V m c main_v31) ?_
  funext a; apply Fin.ext
  have e := idx_14 t
  match a with
  | ⟨0, _⟩ => show win0_14.index t 0 * 2048 + 1 * i.val = i.val; rw [e]; show 0 * 2048 + 1 * i.val = i.val; omega
  | ⟨1, _⟩ => show win0_14.index t 1 * 1024 + 1 * j.val = j.val; rw [e]; show 0 * 1024 + 1 * j.val = j.val; omega

theorem blk15 (c : Dev nD) (t : Fin cfg0.N) (i : Fin 1) (j : Fin 1024) : iblk m c 15 t (ix2 i j) = V m c main_v33 (ix2 i j) := by
  refine congrArg (V m c main_v33) ?_
  funext a; apply Fin.ext
  have e := idx_15 t
  match a with
  | ⟨0, _⟩ => show win0_15.index t 0 * 1 + 1 * i.val = i.val; rw [e]; show 0 * 1 + 1 * i.val = i.val; omega
  | ⟨1, _⟩ => show win0_15.index t 1 * 1024 + 1 * j.val = j.val; rw [e]; show 0 * 1024 + 1 * j.val = j.val; omega

theorem blk16 (c : Dev nD) (t : Fin cfg0.N) (i : Fin 1) (j : Fin 1024) : iblk m c 16 t (ix2 i j) = V m c main_v34 (ix2 i j) := by
  refine congrArg (V m c main_v34) ?_
  funext a; apply Fin.ext
  have e := idx_16 t
  match a with
  | ⟨0, _⟩ => show win0_16.index t 0 * 1 + 1 * i.val = i.val; rw [e]; show 0 * 1 + 1 * i.val = i.val; omega
  | ⟨1, _⟩ => show win0_16.index t 1 * 1024 + 1 * j.val = j.val; rw [e]; show 0 * 1024 + 1 * j.val = j.val; omega

theorem blk3 (c : Dev nD) (t : Fin cfg0.N) (h : Fin 8) (i : Fin 128) (j : Fin 256) : iblk m c 3 t (ix3 h i j) = V m c main_v13 (ix3 h i j) := by
  refine congrArg (V m c main_v13) ?_
  funext a; apply Fin.ext
  have e := idx_3 t
  match a with
  | ⟨0, _⟩ => show win0_3.index t 0 * 8 + 1 * h.val = h.val; rw [e]; show 0 * 8 + 1 * h.val = h.val; omega
  | ⟨1, _⟩ => show win0_3.index t 1 * 128 + 1 * i.val = i.val; rw [e]; show 0 * 128 + 1 * i.val = i.val; omega
  | ⟨2, _⟩ => show win0_3.index t 2 * 256 + 1 * j.val = j.val; rw [e]; show 0 * 256 + 1 * j.val = j.val; omega

theorem blk0 (c : Dev nD) (t : Fin cfg0.N) (r : Fin 512) (d : Fin 1024) :
    iblk m c 0 t (ix3 0 r d) = (raw m c).a0 (ix3 ⟨t.val / 8, by have := lt64 t; omega⟩ ⟨512 * (t.val % 8) + r.val, by omega⟩ d) := by
  refine (congrFun (V_main_arg0 m c) _).trans (congrArg (raw m c).a0 ?_)
  funext a; apply Fin.ext
  have e := idx_x t
  match a with
  | ⟨0, _⟩ => show win0_0.index t 0 * 1 + 1 * 0 = t.val / 8; rw [e]; show t.val / 8 * 1 + 1 * 0 = t.val / 8; omega
  | ⟨1, _⟩ => show win0_0.index t 1 * 512 + 1 * r.val = 512 * (t.val % 8) + r.val; rw [e]; show t.val % 8 * 512 + 1 * r.val = 512 * (t.val % 8) + r.val; omega
  | ⟨2, _⟩ => show win0_0.index t 2 * 1024 + 1 * d.val = d.val; rw [e]; show 0 * 1024 + 1 * d.val = d.val; omega

theorem blk12 (c : Dev nD) (t : Fin cfg0.N) (r : Fin 512) (d : Fin 256) :
    iblk m c 12 t (ix3 0 r d) = (raw m c).a1 (ix3 ⟨t.val / 8, by have := lt64 t; omega⟩ r d) := by
  refine (congrFun (V_main_arg1 m c) _).trans (congrArg (raw m c).a1 ?_)
  funext a; apply Fin.ext
  have e := (idx_m t).1
  match a with
  | ⟨0, _⟩ => show win0_12.index t 0 * 1 + 1 * 0 = t.val / 8; rw [e]; show t.val / 8 * 1 + 1 * 0 = t.val / 8; omega
  | ⟨1, _⟩ => show win0_12.index t 1 * 512 + 1 * r.val = r.val; rw [e]; show 0 * 512 + 1 * r.val = r.val; omega
  | ⟨2, _⟩ => show win0_12.index t 2 * 256 + 1 * d.val = d.val; rw [e]; show 0 * 256 + 1 * d.val = d.val; omega

theorem blk13 (c : Dev nD) (t : Fin cfg0.N) (r : Fin 256) (d : Fin 512) :
    iblk m c 13 t (ix3 0 r d) = (raw m c).a2 (ix3 ⟨t.val / 8, by have := lt64 t; omega⟩ r d) := by
  refine (congrFun (V_main_arg2 m c) _).trans (congrArg (raw m c).a2 ?_)
  funext a; apply Fin.ext
  have e := (idx_m t).2
  match a with
  | ⟨0, _⟩ => show win0_13.index t 0 * 1 + 1 * 0 = t.val / 8; rw [e]; show t.val / 8 * 1 + 1 * 0 = t.val / 8; omega
  | ⟨1, _⟩ => show win0_13.index t 1 * 256 + 1 * r.val = r.val; rw [e]; show 0 * 256 + 1 * r.val = r.val; omega
  | ⟨2, _⟩ => show win0_13.index t 2 * 512 + 1 * d.val = d.val; rw [e]; show 0 * 512 + 1 * d.val = d.val; omega

theorem v2_ix (c : Dev nD) (k j : Fin 1024) : V m c main_v2 (ix2 k j) = (raw m c).a4 (ix3 0 k ⟨j.val, by omega⟩) := by
  rw [V_v2]; unfold w0
  generalize (raw m c).a4 = a4'
  pointwise
  try rfl

theorem v9_ix (c : Dev nD) (k : Fin 1024) (j : Fin 3712) : V m c main_v9 (ix2 k j) =
    if h : j.val < 1024 then (raw m c).a4 (ix3 0 k ⟨1024 + j.val, by omega⟩) else
    if h : j.val < 3584 then (raw m c).a4 (ix3 0 k ⟨j.val + 1040, by omega⟩) else
    if h : j.val < 3600 then (raw m c).a4 (ix3 0 k ⟨j.val - 3584 + 2048, by omega⟩) else 0 := by
  rw [V_v9]; unfold w0
  generalize (raw m c).a4 = a4'
  pointwise
  have z : (FloatOps.sitofp FTy.f32 0#32 : Ideal .f32) = (0 : EReal) := by show (((0#32 : BitVec 32).toInt : ℝ) : EReal) = 0; simp
  repeat' split
  all_goals first | (exfalso; omega) | (refine congrArg a4' (congrArg (ix3 0 k) (Fin.ext ?_)); first | omega | (dsimp only; omega)) | exact z

theorem v13_ix (c : Dev nD) (h : Fin 8) (k : Fin 128) (j : Fin 256) : V m c main_v13 (ix3 h k j) =
    if h' : j.val < 128 then (raw m c).a7 (ix4 0 h k ⟨j.val, by omega⟩) else (raw m c).a9 (ix4 0 h k ⟨j.val - 128, by omega⟩) := by
  rw [V_v13]
  generalize (raw m c).a7 = a7'
  generalize (raw m c).a9 = a9'
  pointwise

theorem v16_ix (c : Dev nD) (k : Fin 128) (j : Fin 256) : V m c main_v16 (ix2 k j) =
    if h : k.val < 16 then (raw m c).a12 (ix3 0 ⟨k.val, h⟩ j) else 0 := by
  rw [V_v16]
  generalize (raw m c).a12 = a12'
  pointwise
  have z : (FloatOps.sitofp FTy.f32 0#32 : Ideal .f32) = (0 : EReal) := by show (((0#32 : BitVec 32).toInt : ℝ) : EReal) = 0; simp
  rw [z]

theorem v18_ix (c : Dev nD) (j : Fin 1024) : V m c main_v18 (ix2 0 j) = (raw m c).a8 (ix3 0 ⟨j.val / 128, by omega⟩ ⟨j.val % 128, by omega⟩) := by
  rw [V_v18]
  generalize (raw m c).a8 = a'
  pointwise
  try rfl

theorem v20_ix (c : Dev nD) (j : Fin 1024) : V m c main_v20 (ix2 0 j) = (raw m c).a10 (ix3 0 ⟨j.val / 128, by omega⟩ ⟨j.val % 128, by omega⟩) := by
  rw [V_v20]
  generalize (raw m c).a10 = a'
  pointwise
  try rfl

theorem v21_ix (c : Dev nD) (k : Fin 4) (j : Fin 1024) : V m c main_v21 (ix2 k j) = (raw m c).a5 (ix3 0 k j) := by
  rw [V_v21]
  generalize (raw m c).a5 = a'
  pointwise
  try rfl

theorem v31_ix (c : Dev nD) (k : Fin 2048) (j : Fin 1024) : V m c main_v31 (ix2 k j) = (raw m c).a15 (ix3 0 k j) := by
  rw [V_v31]
  generalize (raw m c).a15 = a'
  pointwise
  try rfl

theorem v34_ix (c : Dev nD) (j : Fin 1024) : V m c main_v34 (ix2 0 j) = (raw m c).a16 (ix1 j) := by
  rw [V_v34]
  generalize (raw m c).a16 = a'
  pointwise
  try rfl

theorem v23_ix (c : Dev nD) (j : Fin 1024) : V m c main_v23 (ix2 0 j) = (raw m c).a6 (ix2 0 j) := by
  rw [V_v23]
  generalize (raw m c).a6 = a'
  pointwise
  try rfl

theorem v25_ix (c : Dev nD) (j : Fin 1024) : V m c main_v25 (ix2 0 j) = (raw m c).a11 (ix2 0 j) := by
  rw [V_v25]
  generalize (raw m c).a11 = a'
  pointwise
  try rfl

theorem v27_ix (c : Dev nD) (j : Fin 256) : V m c main_v27 (ix2 0 j) = (raw m c).a13 (ix2 0 j) := by
  rw [V_v27]
  generalize (raw m c).a13 = a'
  pointwise
  try rfl

theorem v29_ix (c : Dev nD) (j : Fin 512) : V m c main_v29 (ix2 0 j) = (raw m c).a14 (ix2 0 j) := by
  rw [V_v29]
  generalize (raw m c).a14 = a'
  pointwise
  try rfl

theorem v33_ix (c : Dev nD) (j : Fin 1024) : V m c main_v33 (ix2 0 j) = (raw m c).a3 (ix2 0 j) := by
  rw [V_v33]
  generalize (raw m c).a3 = a'
  pointwise
  try rfl

end Cert.KernelIdeal.Layer

end
-- ==== Proof.KAll.lean ====
/- The layer call: the operands of every point of the grid, what is handed on, and the result's array. -/
module

public import proofs.«01_k».proof.Proof.KBlk

@[expose] public section

set_option maxHeartbeats 1000000

noncomputable section

namespace Cert.KernelIdeal.Layer

open Idealize.ShloMosaic Idealize.ShloMosaic.TcCoe Idealize.SL.Sem
open Cert.KernelIdeal.Gen Cert.Layer

variable (m : (ℓ : Loc nD τ sig) → Buf (Elt Ideal) ℓ)

/-! ## The operands and what is handed on -/

theorem wl_ok (c : Dev nD) (E : (raw m c).Re) (t : Fin cfg0.N) (k j : Fin 1024) : iblk m c 1 t (ix2 k j) = ((raw m c).arr.w k.val j.val : EReal) :=
  (blk1 m c t k j).trans ((v2_ix m c k j).trans (Raw.w_at E k ⟨j.val, by omega⟩))

theorem wr_ok (c : Dev nD) (E : (raw m c).Re) (t : Fin cfg0.N) (k : Fin 1024) (j : Fin 3712) :
    iblk m c 2 t (ix2 k j) = ((if j.val < 1024 then (raw m c).arr.w k.val (1024 + j.val) else
    if j.val < 3584 then (raw m c).arr.w k.val (j.val + 1040) else if j.val < 3600 then (raw m c).arr.w k.val (j.val - 3584 + 2048) else 0 : ℝ) : EReal) := by
  refine (blk2 m c t k j).trans ((v9_ix m c k j).trans ?_)
  by_cases h1 : j.val < 1024
  · rw [dif_pos h1, if_pos h1]; exact Raw.w_at E k ⟨1024 + j.val, by omega⟩
  rw [dif_neg h1, if_neg h1]
  by_cases h2 : j.val < 3584
  · rw [dif_pos h2, if_pos h2]; exact Raw.w_at E k ⟨j.val + 1040, by omega⟩
  rw [dif_neg h2, if_neg h2]
  by_cases h3 : j.val < 3600
  · rw [dif_pos h3, if_pos h3]; exact Raw.w_at E k ⟨j.val - 3584 + 2048, by omega⟩
  rw [dif_neg h3, if_neg h3]; rfl

theorem wai_ok (c : Dev nD) (E : (raw m c).Re) (t : Fin cfg0.N) (h : Fin 8) (k : Fin 128) (j : Fin 256) :
    iblk m c 3 t (ix3 h k j) = ((if j.val < 128 then (raw m c).arr.wa h.val k.val j.val else (raw m c).arr.wi h.val k.val (j.val - 128) : ℝ) : EReal) := by
  refine (blk3 m c t h k j).trans ((v13_ix m c h k j).trans ?_)
  by_cases h1 : j.val < 128
  · rw [dif_pos h1, if_pos h1]; exact Raw.wa_at E h k ⟨j.val, h1⟩
  · rw [dif_neg h1, if_neg h1]; exact Raw.wi_at E h k ⟨j.val - 128, by omega⟩

theorem wg_ok (c : Dev nD) (E : (raw m c).Re) (t : Fin cfg0.N) (k : Fin 128) (j : Fin 256) :
    iblk m c 9 t (ix2 k j) = ((if k.val < 16 then (raw m c).arr.wg k.val j.val else 0 : ℝ) : EReal) := by
  refine (blk9 m c t k j).trans ((v16_ix m c k j).trans ?_)
  by_cases h1 : k.val < 16
  · rw [dif_pos h1, if_pos h1]; exact Raw.wg_at E ⟨k.val, h1⟩ j
  · rw [dif_neg h1, if_neg h1]; rfl

theorem x_ok (c : Dev nD) (E : (raw m c).Re) (t : Fin cfg0.N) (r : Fin 512) (d : Fin 1024) :
    iblk m c 0 t (ix3 0 r d) = ((raw m c).arr.x (t.val / 8) (512 * (t.val % 8) + r.val) d.val : EReal) :=
  (blk0 m c t r d).trans (Raw.x_at E ⟨t.val / 8, by have := lt64 t; omega⟩ ⟨512 * (t.val % 8) + r.val, by omega⟩ d)

theorem ba_ok (c : Dev nD) (E : (raw m c).Re) (t : Fin cfg0.N) (j : Fin 1024) :
    iblk m c 4 t (ix2 0 j) = ((raw m c).arr.ba (j.val / 128) (j.val % 128) : EReal) :=
  (blk4 m c t 0 j).trans ((v18_ix m c j).trans (Raw.ba_at E ⟨j.val / 128, by omega⟩ ⟨j.val % 128, by omega⟩))

theorem bi_ok (c : Dev nD) (E : (raw m c).Re) (t : Fin cfg0.N) (j : Fin 1024) :
    iblk m c 5 t (ix2 0 j) = ((raw m c).arr.bi (j.val / 128) (j.val % 128) : EReal) :=
  (blk5 m c t 0 j).trans ((v20_ix m c j).trans (Raw.bi_at E ⟨j.val / 128, by omega⟩ ⟨j.val % 128, by omega⟩))

theorem cw_ok (c : Dev nD) (E : (raw m c).Re) (t : Fin cfg0.N) (k : Fin 4) (j : Fin 1024) :
    iblk m c 6 t (ix2 k j) = ((raw m c).arr.cw k.val j.val : EReal) :=
  (blk6 m c t k j).trans ((v21_ix m c k j).trans (Raw.cw_at E k j))

theorem cb_ok (c : Dev nD) (E : (raw m c).Re) (t : Fin cfg0.N) (j : Fin 1024) :
    iblk m c 7 t (ix2 0 j) = ((raw m c).arr.cb j.val : EReal) :=
  (blk7 m c t 0 j).trans ((v23_ix m c j).trans (Raw.cb_at E j))

theorem lam_ok (c : Dev nD) (E : (raw m c).Re) (t : Fin cfg0.N) (j : Fin 1024) :
    iblk m c 8 t (ix2 0 j) = ((raw m c).arr.lam j.val : EReal) :=
  (blk8 m c t 0 j).trans ((v25_ix m c j).trans (Raw.lam_at E j))

theorem bg_ok (c : Dev nD) (E : (raw m c).Re) (t : Fin cfg0.N) (j : Fin 256) :
    iblk m c 10 t (ix2 0 j) = ((raw m c).arr.bg j.val : EReal) :=
  (blk10 m c t 0 j).trans ((v27_ix m c j).trans (Raw.bg_at E j))

theorem ng_ok (c : Dev nD) (E : (raw m c).Re) (t : Fin cfg0.N) (j : Fin 1024) :
    iblk m c 15 t (ix2 0 j) = ((raw m c).arr.ng j.val : EReal) :=
  (blk15 m c t 0 j).trans ((v33_ix m c j).trans (Raw.ng_at E j))

theorem gg_ok (c : Dev nD) (E : (raw m c).Re) (t : Fin cfg0.N) (j : Fin 512) :
    iblk m c 11 t (ix2 0 j) = (raw m c).G j.val :=
  (blk11 m c t 0 j).trans ((v29_ix m c j).trans (Raw.G_at (R := raw m c) j))

theorem fg_ok (c : Dev nD) (E : (raw m c).Re) (t : Fin cfg0.N) (j : Fin 1024) :
    iblk m c 16 t (ix2 0 j) = (raw m c).g j.val :=
  (blk16 m c t 0 j).trans ((v34_ix m c j).trans (Raw.g_at (R := raw m c) j))

theorem wo_ok (c : Dev nD) (E : (raw m c).Re) (t : Fin cfg0.N) (k : Fin 2048) (d : Fin 1024) :
    iblk m c 14 t (ix2 k d) = (raw m c).W k.val d.val :=
  (blk14 m c t k d).trans ((v31_ix m c k d).trans (Raw.W_at (R := raw m c) k d))

theorem kt_ok (c : Dev nD) (E : (raw m c).Re) (t : Fin cfg0.N) (r : Fin 512) (k : Fin 256) :
    iblk m c 12 t (ix3 0 r k) = ((raw m c).arr.kt (t.val / 8) r.val k.val : EReal) :=
  (blk12 m c t r k).trans (Raw.kt_at E ⟨t.val / 8, by have := lt64 t; omega⟩ r k)

theorem vm_ok (c : Dev nD) (E : (raw m c).Re) (t : Fin cfg0.N) (k : Fin 256) (r : Fin 512) :
    iblk m c 13 t (ix3 0 k r) = ((raw m c).arr.vm (t.val / 8) k.val r.val : EReal) :=
  (blk13 m c t k r).trans (Raw.vm_at E ⟨t.val / 8, by have := lt64 t; omega⟩ k r)

theorem ok (c : Dev nD) (E : (raw m c).Re) (t : Fin cfg0.N) :
    Ok (ins m c t) (raw m c).arr (raw m c).G (raw m c).W (raw m c).g (t.val / 8) (t.val % 8) where
  x := x_ok m c E t
  wl := wl_ok m c E t
  wr := wr_ok m c E t
  wai := wai_ok m c E t
  ba := ba_ok m c E t
  bi := bi_ok m c E t
  cw := cw_ok m c E t
  cb := cb_ok m c E t
  lam := lam_ok m c E t
  wg := wg_ok m c E t
  bg := bg_ok m c E t
  gg := gg_ok m c E t
  kt := kt_ok m c E t
  vm := vm_ok m c E t
  wo := wo_ok m c E t
  ng := ng_ok m c E t
  fg := fg_ok m c E t

theorem coord : ∀ t : Fin cfg0.N, (grid0.coords t 1).val = t.val % 8 := (by decide +kernel : ∀ t : Fin grid0.N, _)

theorem okC (c : Dev nD) (E : (raw m c).Re) : ∀ (n : ℕ) (h : n < cfg0.N),
    OkC (start (grid0.coords ⟨n, h⟩) (carry m c n)) (raw m c).arr (n / 8) (n % 8)
  | 0, h => by
    unfold start; rw [if_pos (by rw [coord]; rfl)]; exact zero_ok _ _
  | n + 1, h => by
    unfold start
    by_cases e : (n + 1) % 8 = 0
    · rw [if_pos (by rw [coord]; exact e), e]; exact zero_ok _ _
    · rw [if_neg (by rw [coord]; exact e)]
      have h' : n < cfg0.N := Nat.lt_of_succ_lt h
      have := next_ix (ok m c E ⟨n, h'⟩) (okC c E n h')
      have hc := carry_succ m c ⟨n, h'⟩
      dsimp only at this hc
      rw [hc, show (n + 1) / 8 = n / 8 by omega, show (n + 1) % 8 = n % 8 + 1 by omega]
      exact this

theorem flushed_eq (c : Dev nD) (E : (raw m c).Re) (t : Fin cfg0.N) :
    (dats m 0 c).flushed 17 t = ((cfg0.win 17).blk t).view.read (Elt Ideal) (raw m c).res := by
  have e0 : (dats m 0 c).flushed 17 t = (cfg0.win 17).cut (grid0.coords t) (outAt m c t) := by
    show (cfg0.win 17).cut (grid0.coords t) ((dats m 0 c).after 17 t) = _
    rw [after_17]
  rw [e0]
  have e := idx_o t
  have ht := lt64 t
  funext y
  have h0 : (y 0).val < 1 := (y 0).isLt
  have h1 : (y 1).val < 512 := (y 1).isLt
  have h2 : (y 2).val < 1024 := (y 2).isLt
  have hy : y = (ix3 0 ⟨(y 1).val, h1⟩ ⟨(y 2).val, h2⟩ : S1x512x1024.Idx) := by
    funext a; apply Fin.ext
    match a with
    | ⟨0, _⟩ => show (y 0).val = 0; omega
    | ⟨1, _⟩ => rfl
    | ⟨2, _⟩ => rfl
  have h : ((cfg0.win 17).blk t).view.emb y = (ix3 ⟨t.val / 8, by omega⟩ ⟨512 * (t.val % 8) + (y 1).val, by omega⟩ ⟨(y 2).val, h2⟩ : S8x4096x1024.Idx) := by
    funext a; apply Fin.ext
    match a with
    | ⟨0, _⟩ => show win0_17.index t 0 * 1 + 1 * (y 0).val = t.val / 8; rw [e]; show t.val / 8 * 1 + 1 * (y 0).val = t.val / 8; omega
    | ⟨1, _⟩ => show win0_17.index t 1 * 512 + 1 * (y 1).val = 512 * (t.val % 8) + (y 1).val; rw [e]; show t.val % 8 * 512 + 1 * (y 1).val = 512 * (t.val % 8) + (y 1).val; omega
    | ⟨2, _⟩ => show win0_17.index t 2 * 1024 + 1 * (y 2).val = (y 2).val; rw [e]; show 0 * 1024 + 1 * (y 2).val = (y 2).val; omega
  show outAt m c t y = (raw m c).res (((cfg0.win 17).blk t).view.emb y)
  rw [h]
  refine (congrArg (outAt m c t) hy).trans ?_
  exact out_ix (ok m c E t) (okC m c E t.val t.isLt) _ _

theorem cover (i : S8x4096x1024.Idx) : ∃ t : Fin cfg0.N, (cfg0.win 17).flush t = true ∧ i ∈ ((cfg0.win 17).blk t).view.set := by
  have h0 : (i 0).val < 8 := (i 0).isLt
  have h1 : (i 1).val < 4096 := (i 1).isLt
  have h2 : (i 2).val < 1024 := (i 2).isLt
  have ht : 8 * (i 0).val + (i 1).val / 512 < 64 := by omega
  refine ⟨⟨8 * (i 0).val + (i 1).val / 512, ht⟩, flush0_17 _, ?_⟩
  have e := idx_o ⟨8 * (i 0).val + (i 1).val / 512, ht⟩
  have ea : (8 * (i 0).val + (i 1).val / 512) / 8 = (i 0).val := by omega
  have eb : (8 * (i 0).val + (i 1).val / 512) % 8 = (i 1).val / 512 := by omega
  dsimp only at e
  rw [ea, eb] at e
  show i ∈ ((View.whole main_v35).slice (win0_17.rect ⟨8 * (i 0).val + (i 1).val / 512, ht⟩)).set
  rw [View.set_slice_whole, Rect.mem_set_unit]
  intro a
  show win0_17.index ⟨8 * (i 0).val + (i 1).val / 512, ht⟩ a * S1x512x1024.size a ≤ (i a).val ∧ (i a).val < win0_17.index ⟨8 * (i 0).val + (i 1).val / 512, ht⟩ a * S1x512x1024.size a + S1x512x1024.size a
  rw [e]
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 1024 ≤ (i 2).val ∧ (i 2).val < 0 * 1024 + 1024; omega

/-- The result's array holds the layer's result. -/
theorem final (c : Dev nD) (E : (raw m c).Re) : (dats m 0 c).arrAt 17 cfg0.N = (raw m c).res :=
  (dats m 0 c).arrAt_eq_of_cover 17 _ (fun t _ => flushed_eq m c E t) cover

end Cert.KernelIdeal.Layer

end
-- ==== Proof.KRun.lean ====
/- The layer call's run: it ends with the layer's result and the arguments as they were. -/
module

public import proofs.«01_k».proof.Proof.KAll
public import proofs.«01_k».proof.Proof.Frames

@[expose] public section

set_option maxHeartbeats 1000000

noncomputable section

namespace Cert.KernelIdeal.Layer

open Idealize.ShloMosaic Idealize.ShloMosaic.TcCoe Idealize.SL.Sem
open Cert.KernelIdeal.Gen Cert.Layer

variable (m : (ℓ : Loc nD τ sig) → Buf (Elt Ideal) ℓ) (ρ : Dev nD → PrngReg)

theorem run_result (E : ∀ c : Dev nD, (raw m c).Re) : θ_run defs (onTc (τ := τ) (main (F := Ideal))) ⟨m, fun _ => 0, ρ⟩ (fun r => ∀ c : Dev nD,
      r.2.mem ((c.tc : Thread nD τ).loc main_v35) = (raw m c).res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h.1.1 c).1 17).trans (final m c (E c)), h.2.1 c⟩)
    (θ_run_and (run_main m ρ) (frame (F := Ideal) m ρ))

end Cert.KernelIdeal.Layer

end
-- ==== Proof.RBase.lean ====
/- The operations of the ideal instance at real numbers, and the reference's arguments at an index. -/
module

public import proofs.«01_k».proof.Proof.Args
public import proofs.«01_k».proof.Proof.Gen.ReferenceIdeal.Read

@[expose] public section

set_option maxHeartbeats 1000000

noncomputable section

namespace Cert.ReferenceIdeal.Layer

open Idealize.ShloMosaic Idealize.SL.Sem
open Cert.ReferenceIdeal Cert.ReferenceIdeal.Gen Cert.ReferenceIdeal.Read Cert.Layer

theorem fmul (a b : ℝ) : (FloatOps.mulf (F := Ideal) (φ := .f32) (a : EReal) (b : EReal) : EReal) = ((a * b : ℝ) : EReal) := (EReal.coe_mul a b).symm
theorem fadd (a b : ℝ) : (FloatOps.addf (F := Ideal) (φ := .f32) (a : EReal) (b : EReal) : EReal) = ((a + b : ℝ) : EReal) := (EReal.coe_add a b).symm
theorem fsub (a b : ℝ) : (FloatOps.subf (F := Ideal) (φ := .f32) (a : EReal) (b : EReal) : EReal) = ((a - b : ℝ) : EReal) := (EReal.coe_sub a b).symm
theorem fneg (a : ℝ) : (FloatOps.hostNegf (F := Ideal) (φ := .f32) (a : EReal) : EReal) = ((-a : ℝ) : EReal) := (EReal.coe_neg a).symm
theorem fexp (a : ℝ) : (FloatOps.hostUnary (F := Ideal) (φ := .f32) .exp (a : EReal) : EReal) = ((Real.exp a : ℝ) : EReal) := Ideal.exp_coe a
theorem fdiv (a : ℝ) {b : ℝ} (h : b ≠ 0) : (FloatOps.hostDivf (F := Ideal) (φ := .f32) (a : EReal) (b : EReal) : EReal) = ((a / b : ℝ) : EReal) := div_c h a
theorem w_one : Ideal.ofBits .f32 0x3F800000#32 = ((1 : ℝ) : EReal) := by
  simp [Ideal.ofBits, Ideal.ieee, -EReal.coe_mul]
  try norm_num
theorem w_zero : Ideal.ofBits .f32 0x00000000#32 = ((0 : ℝ) : EReal) := by
  simp [Ideal.ofBits, Ideal.ieee]
theorem fsg (x : ℝ) : (FloatOps.hostDivf (F := Ideal) (φ := .f32) ((1 : ℝ) : EReal) (FloatOps.addf (F := Ideal) (φ := .f32) ((1 : ℝ) : EReal) (FloatOps.hostUnary (F := Ideal) (φ := .f32) .exp (FloatOps.hostNegf (F := Ideal) (φ := .f32) (x : EReal)))) : EReal) = (sg x : EReal) := by
  have h : (0 : ℝ) < 1 + Real.exp (-x) := by positivity
  rw [fneg, fexp, fadd, fdiv _ h.ne']
  unfold sg; rw [one_div]
theorem fsp (x : ℝ) : (Scalar.select (FloatOps.cmpf (F := Ideal) (φ := .f32) .une (FloatOps.subf (F := Ideal) (φ := .f32) (x : EReal) ((0 : ℝ) : EReal)) (FloatOps.subf (F := Ideal) (φ := .f32) (x : EReal) ((0 : ℝ) : EReal)))
    (FloatOps.addf (F := Ideal) (φ := .f32) (x : EReal) ((0 : ℝ) : EReal))
    (FloatOps.addf (F := Ideal) (φ := .f32) (FloatOps.maximumf (F := Ideal) (φ := .f32) (x : EReal) ((0 : ℝ) : EReal)) (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (x : EReal) ((0 : ℝ) : EReal))))))) : EReal) = (sp x : EReal) := by
  have hc : ∀ a : Ideal .f32, FloatOps.cmpf (F := Ideal) (φ := .f32) .une a a = 0#1 := fun a => by
    show Ideal.cmp .une a a = 0#1
    simp [Ideal.cmp]
  rw [hc]
  show (FloatOps.addf (F := Ideal) (φ := .f32) _ _ : EReal) = _
  have ha : (FloatOps.hostAbsf (F := Ideal) (φ := .f32) (x : EReal) : EReal) = ((|x| : ℝ) : EReal) := by
    show max (x : EReal) (-(x : EReal)) = _
    rw [← EReal.coe_neg, max_c]; rfl
  have hm : (FloatOps.maximumf (F := Ideal) (φ := .f32) (x : EReal) ((0 : ℝ) : EReal) : EReal) = ((max x 0 : ℝ) : EReal) := max_c x 0
  have hl : ∀ y : ℝ, (FloatOps.hostUnary (F := Ideal) (φ := .f32) .log1p ((Real.exp y : ℝ) : EReal) : EReal) = ((Real.log (1 + Real.exp y) : ℝ) : EReal) := fun y =>
    log1p_c (by linarith [Real.exp_pos y])
  rw [fsub, sub_zero, ha, hm, fneg, fexp, hl, fadd, sp_max]
theorem tri (a b n : ℕ) (ha : a < 4096) (hb : b < 4096) {α : Type} (x y : α) :
    Scalar.select (IntOp.cmpi .sge (IntOp.addi (BitVec.ofNat 32 a) 0#32) (BitVec.ofNat 32 b)) x y = if b ≤ a then x else y := by
  have e : IntOp.addi (BitVec.ofNat 32 a) 0#32 = BitVec.ofNat 32 a := BitVec.add_zero _
  rw [e]
  have t : ∀ k : ℕ, k < 4096 → (BitVec.ofNat 32 k).toInt = (k : ℤ) := fun k hk => by
    rw [BitVec.toInt_eq_toNat_of_lt (by rw [BitVec.toNat_ofNat]; omega), BitVec.toNat_ofNat, Nat.mod_eq_of_lt (by omega)]
  by_cases h : b ≤ a
  · rw [if_pos h, show IntOp.cmpi .sge (BitVec.ofNat 32 a) (BitVec.ofNat 32 b) = 1#1 by
      simp [IntOp.cmpi, BitVec.sle_eq_decide, t a ha, t b hb, h]]
    rfl
  · rw [if_neg h, show IntOp.cmpi .sge (BitVec.ofNat 32 a) (BitVec.ofNat 32 b) = 0#1 by
      simp [IntOp.cmpi, BitVec.sle_eq_decide, t a ha, t b hb, h]]
    rfl
theorem stri (a b : Fin 64) {α : Type} (x y : α) :
    Scalar.select (IntOp.cmpi .sge (IntOp.addi (BitVec.ofNat 32 a.val) 4294967295#32) (BitVec.ofNat 32 b.val)) x y = if b.val < a.val then x else y := by
  have h : ∀ a b : Fin 64, IntOp.cmpi .sge (IntOp.addi (BitVec.ofNat 32 a.val) 4294967295#32) (BitVec.ofNat 32 b.val) = if b.val < a.val then 1#1 else 0#1 := by decide +kernel
  rw [h]
  by_cases c : b.val < a.val
  · rw [if_pos c, if_pos c]; rfl
  · rw [if_neg c, if_neg c]; rfl

variable {R : Raw} (E : R.Re)

include E in
theorem x_i (i : (⟨3, ![8, 4096, 1024]⟩ : Shape).Idx) : R.a0 i = (R.arr.x ((i 0)).val ((i 1)).val ((i 2)).val : EReal) :=
  (congrArg R.a0 (eq_ix3 i)).trans (Raw.x_at E (i 0) (i 1) (i 2))
include E in
theorem kt_i (i : (⟨3, ![8, 512, 256]⟩ : Shape).Idx) : R.a1 i = (R.arr.kt ((i 0)).val ((i 1)).val ((i 2)).val : EReal) :=
  (congrArg R.a1 (eq_ix3 i)).trans (Raw.kt_at E (i 0) (i 1) (i 2))
include E in
theorem vm_i (i : (⟨3, ![8, 256, 512]⟩ : Shape).Idx) : R.a2 i = (R.arr.vm ((i 0)).val ((i 1)).val ((i 2)).val : EReal) :=
  (congrArg R.a2 (eq_ix3 i)).trans (Raw.vm_at E (i 0) (i 1) (i 2))
include E in
theorem ng_i (i : (⟨2, ![1, 1024]⟩ : Shape).Idx) : R.a3 i = (R.arr.ng ((i 1)).val : EReal) :=
  (congrArg R.a3 ((eq_ix2 i).trans (congrArg (fun t => ix2 t (i 1)) (Subsingleton.elim (α := Fin 1) (i 0) 0)))).trans (Raw.ng_at E (i 1))
include E in
theorem w_i (i : (⟨3, ![1, 1024, 4624]⟩ : Shape).Idx) : R.a4 i = (R.arr.w ((i 1)).val ((i 2)).val : EReal) :=
  (congrArg R.a4 ((eq_ix3 i).trans (congrArg (fun t => ix3 t (i 1) (i 2)) (Subsingleton.elim (α := Fin 1) (i 0) 0)))).trans (Raw.w_at E (i 1) (i 2))
include E in
theorem cw_i (i : (⟨3, ![1, 4, 1024]⟩ : Shape).Idx) : R.a5 i = (R.arr.cw ((i 1)).val ((i 2)).val : EReal) :=
  (congrArg R.a5 ((eq_ix3 i).trans (congrArg (fun t => ix3 t (i 1) (i 2)) (Subsingleton.elim (α := Fin 1) (i 0) 0)))).trans (Raw.cw_at E (i 1) (i 2))
include E in
theorem cb_i (i : (⟨2, ![1, 1024]⟩ : Shape).Idx) : R.a6 i = (R.arr.cb ((i 1)).val : EReal) :=
  (congrArg R.a6 ((eq_ix2 i).trans (congrArg (fun t => ix2 t (i 1)) (Subsingleton.elim (α := Fin 1) (i 0) 0)))).trans (Raw.cb_at E (i 1))
include E in
theorem wa_i (i : (⟨4, ![1, 8, 128, 128]⟩ : Shape).Idx) : R.a7 i = (R.arr.wa ((i 1)).val ((i 2)).val ((i 3)).val : EReal) :=
  (congrArg R.a7 ((eq_ix4 i).trans (congrArg (fun t => ix4 t (i 1) (i 2) (i 3)) (Subsingleton.elim (α := Fin 1) (i 0) 0)))).trans (Raw.wa_at E (i 1) (i 2) (i 3))
include E in
theorem ba_i (i : (⟨3, ![1, 8, 128]⟩ : Shape).Idx) : R.a8 i = (R.arr.ba ((i 1)).val ((i 2)).val : EReal) :=
  (congrArg R.a8 ((eq_ix3 i).trans (congrArg (fun t => ix3 t (i 1) (i 2)) (Subsingleton.elim (α := Fin 1) (i 0) 0)))).trans (Raw.ba_at E (i 1) (i 2))
include E in
theorem wi_i (i : (⟨4, ![1, 8, 128, 128]⟩ : Shape).Idx) : R.a9 i = (R.arr.wi ((i 1)).val ((i 2)).val ((i 3)).val : EReal) :=
  (congrArg R.a9 ((eq_ix4 i).trans (congrArg (fun t => ix4 t (i 1) (i 2) (i 3)) (Subsingleton.elim (α := Fin 1) (i 0) 0)))).trans (Raw.wi_at E (i 1) (i 2) (i 3))
include E in
theorem bi_i (i : (⟨3, ![1, 8, 128]⟩ : Shape).Idx) : R.a10 i = (R.arr.bi ((i 1)).val ((i 2)).val : EReal) :=
  (congrArg R.a10 ((eq_ix3 i).trans (congrArg (fun t => ix3 t (i 1) (i 2)) (Subsingleton.elim (α := Fin 1) (i 0) 0)))).trans (Raw.bi_at E (i 1) (i 2))
include E in
theorem lam_i (i : (⟨2, ![1, 1024]⟩ : Shape).Idx) : R.a11 i = (R.arr.lam ((i 1)).val : EReal) :=
  (congrArg R.a11 ((eq_ix2 i).trans (congrArg (fun t => ix2 t (i 1)) (Subsingleton.elim (α := Fin 1) (i 0) 0)))).trans (Raw.lam_at E (i 1))
include E in
theorem wg_i (i : (⟨3, ![1, 16, 256]⟩ : Shape).Idx) : R.a12 i = (R.arr.wg ((i 1)).val ((i 2)).val : EReal) :=
  (congrArg R.a12 ((eq_ix3 i).trans (congrArg (fun t => ix3 t (i 1) (i 2)) (Subsingleton.elim (α := Fin 1) (i 0) 0)))).trans (Raw.wg_at E (i 1) (i 2))
include E in
theorem bg_i (i : (⟨2, ![1, 256]⟩ : Shape).Idx) : R.a13 i = (R.arr.bg ((i 1)).val : EReal) :=
  (congrArg R.a13 ((eq_ix2 i).trans (congrArg (fun t => ix2 t (i 1)) (Subsingleton.elim (α := Fin 1) (i 0) 0)))).trans (Raw.bg_at E (i 1))
theorem G_i (i : (⟨2, ![1, 512]⟩ : Shape).Idx) : R.a14 i = R.G ((i 1)).val :=
  (congrArg R.a14 ((eq_ix2 i).trans (congrArg (fun t => ix2 t (i 1)) (Subsingleton.elim (α := Fin 1) (i 0) 0)))).trans (Raw.G_at (R := R) (i 1))
theorem W_i (i : (⟨3, ![1, 2048, 1024]⟩ : Shape).Idx) : R.a15 i = R.W ((i 1)).val ((i 2)).val :=
  (congrArg R.a15 ((eq_ix3 i).trans (congrArg (fun t => ix3 t (i 1) (i 2)) (Subsingleton.elim (α := Fin 1) (i 0) 0)))).trans (Raw.W_at (R := R) (i 1) (i 2))
theorem g_i (i : (⟨1, ![1024]⟩ : Shape).Idx) : R.a16 i = R.g (i 0).val := (congrArg R.a16 (eq_ix1 i)).trans (Raw.g_at (R := R) (i 0))

end Cert.ReferenceIdeal.Layer

end
-- ==== Proof.RScan.lean ====
/- The reference's projection, convolution, gates and recurrence at an index. -/
module

public import proofs.«01_k».proof.Proof.RBase

@[expose] public section

set_option maxHeartbeats 1000000

noncomputable section

namespace Cert.ReferenceIdeal.Layer

open Idealize.ShloMosaic Idealize.SL.Sem
open Cert.ReferenceIdeal Cert.ReferenceIdeal.Gen Cert.ReferenceIdeal.Read Cert.Layer

variable {R : Raw} (E : R.Re)
include E

theorem v1_i (i : S8x4096x1024.Idx) : val_main_v1 (F := Ideal) R.a0 i = ((R.arr.x (i 0).val (i 1).val (i 2).val * R.arr.x (i 0).val (i 1).val (i 2).val : ℝ) : EReal) := by
  rw [val_main_v1_apply, x_i E]
  exact (fmul _ _).trans (congrArg _ (by rfl))

theorem v2_i (i : S8x4096.Idx) : val_main_v2 (F := Ideal) R.a0 i = ((∑ k : Fin 1024, R.arr.x (i 0).val (i 1).val k.val * R.arr.x (i 0).val (i 1).val k.val : ℝ) : EReal) := by
  rw [val_main_v2_apply, val_main_cst_apply]
  have hk : ∀ k : Fin 1024, (val_main_v1 (F := Ideal) R.a0 (idx_main_v2 i k) : EReal) = ((R.arr.x (i 0).val (i 1).val k.val * R.arr.x (i 0).val (i 1).val k.val : ℝ) : EReal) := fun k => by
    rw [v1_i E]
    try rfl
  have hs : (∑ k : Fin 1024, (val_main_v1 (F := Ideal) R.a0 (idx_main_v2 i k) : EReal)) = ((∑ k : Fin 1024, (R.arr.x (i 0).val (i 1).val k.val * R.arr.x (i 0).val (i 1).val k.val) : ℝ) : EReal) :=
    (Finset.sum_congr rfl fun k _ => hk k).trans (coe_sum _ _)
  exact ((congrArg₂ (· + ·) w_zero hs).trans (EReal.coe_add _ _).symm).trans (congrArg _ (by rw [zero_add]))

theorem v4_i (i : S8x4096x1.Idx) : val_main_v4 (F := Ideal) i = ((1024 : ℝ) : EReal) := by
  rw [val_main_v4_apply, val_main_cst_0_apply]; exact w_1024

theorem v5_i (i : S8x4096x1.Idx) : val_main_v5 (F := Ideal) R.a0 i = ((R.arr.mq (i 0).val (i 1).val : ℝ) : EReal) := by
  rw [val_main_v5_apply, val_main_v3_apply, v2_i E, v4_i E]
  exact (fdiv _ (by norm_num)).trans (congrArg _ (by rfl))

theorem v6_i (i : S8x4096x1.Idx) : val_main_v6 (F := Ideal) i = ((eps : ℝ) : EReal) := by
  rw [val_main_v6_apply, val_main_cst_1_apply]; exact w_eps

theorem v7_i (i : S8x4096x1.Idx) : val_main_v7 (F := Ideal) R.a0 i = ((R.arr.mq (i 0).val (i 1).val + eps : ℝ) : EReal) := by
  rw [val_main_v7_apply, v5_i E, v6_i E]
  exact (fadd _ _).trans (congrArg _ (by rfl))

theorem v8_i (i : S8x4096x1.Idx) : val_main_v8 (F := Ideal) R.a0 i = (((Real.sqrt (R.arr.mq (i 0).val (i 1).val + eps))⁻¹ : ℝ) : EReal) := by
  rw [val_main_v8_apply, v7_i E]; exact rsqrt_c (R.arr.mq_eps _ _)

theorem v10_i (i : S8x4096x1024.Idx) : val_main_v10 (F := Ideal) R.a0 i = ((R.arr.x (i 0).val (i 1).val (i 2).val * (Real.sqrt (R.arr.mq (i 0).val (i 1).val + eps))⁻¹ : ℝ) : EReal) := by
  rw [val_main_v10_apply, x_i E, val_main_v9_apply, v8_i E]
  exact (fmul _ _).trans (congrArg _ (by rfl))

theorem v12_i (i : S8x4096x1024.Idx) : val_main_v12 (F := Ideal) R.a3 i = ((R.arr.ng (i 2).val : ℝ) : EReal) := by
  have h0 : (i 0).val < 8 := (i 0).isLt
  have h1 : (i 1).val < 4096 := (i 1).isLt
  have h2 : (i 2).val < 1024 := (i 2).isLt
  rw [val_main_v12_apply, val_main_v11_apply, val_main_v0_apply, ng_i E]
  have e1 : ((idx_main_v0 (idx_main_v11 (idx_main_v12 i))) 1).val = (i 2).val := by
    show (((((i 2).val)))) % 1024 = (i 2).val
    omega
  try rw [e1]
  try rfl

theorem v13_i (i : S8x4096x1024.Idx) : val_main_v13 (F := Ideal) R.a0 R.a3 i = ((R.arr.h (i 0).val (i 1).val (i 2).val : ℝ) : EReal) := by
  rw [val_main_v13_apply, v10_i E, v12_i E]
  exact (fmul _ _).trans (congrArg _ (by rfl))

theorem v14_i (i : S1024x4624.Idx) : val_main_v14 (F := Ideal) R.a4 i = ((R.arr.w (i 0).val (i 1).val : ℝ) : EReal) := by
  have h0 : (i 0).val < 1024 := (i 0).isLt
  have h1 : (i 1).val < 4624 := (i 1).isLt
  rw [val_main_v14_apply, w_i E]
  have e1 : ((idx_main_v14 i) 1).val = (i 0).val := by
    show (((i 0).val) * 4624 + ((i 1).val)) / 4624 % 1024 = (i 0).val
    omega
  have e2 : ((idx_main_v14 i) 2).val = (i 1).val := by
    show (((i 0).val) * 4624 + ((i 1).val)) % 4624 = (i 1).val
    omega
  try rw [e1]
  try rw [e2]
  try rfl

theorem v15_i (i : S8x4096x4624.Idx) : val_main_v15 (F := Ideal) R.a0 R.a3 R.a4 i = ((R.arr.pj (i 0).val (i 1).val (i 2).val : ℝ) : EReal) := by
  have h0 : (i 0).val < 8 := (i 0).isLt
  have h1 : (i 1).val < 4096 := (i 1).isLt
  have h2 : (i 2).val < 4624 := (i 2).isLt
  rw [val_main_v15_apply]
  have hk : ∀ k : Fin 1024, (val_main_v13 (F := Ideal) R.a0 R.a3 (lidx_main_v15 i k) : EReal) * (val_main_v14 (F := Ideal) R.a4 (ridx_main_v15 i k) : EReal) = (((R.arr.h (i 0).val (i 1).val k.val) * (R.arr.w k.val (i 2).val) : ℝ) : EReal) := fun k => by
    rw [v13_i E, v14_i E]; exact (EReal.coe_mul _ _).symm
  refine (Finset.sum_congr rfl fun k _ => hk k).trans ((coe_sum _ _).trans (congrArg _ ?_))
  rfl

theorem v16_i (i : S8x4096x1024.Idx) : val_main_v16 (F := Ideal) R.a0 R.a3 R.a4 i = ((R.arr.pj (i 0).val (i 1).val (i 2).val : ℝ) : EReal) := by
  have h0 : (i 0).val < 8 := (i 0).isLt
  have h1 : (i 1).val < 4096 := (i 1).isLt
  have h2 : (i 2).val < 1024 := (i 2).isLt
  rw [val_main_v16_apply, v15_i E]
  try rfl

theorem v17_i (i : S8x4096x256.Idx) : val_main_v17 (F := Ideal) R.a0 R.a3 R.a4 i = ((R.arr.pj (i 0).val (i 1).val (1024 + (i 2).val) : ℝ) : EReal) := by
  have h0 : (i 0).val < 8 := (i 0).isLt
  have h1 : (i 1).val < 4096 := (i 1).isLt
  have h2 : (i 2).val < 256 := (i 2).isLt
  rw [val_main_v17_apply, v15_i E]
  try rfl

theorem v18_i (i : S8x4096x256.Idx) : val_main_v18 (F := Ideal) R.a0 R.a3 R.a4 i = ((R.arr.pj (i 0).val (i 1).val (1280 + (i 2).val) : ℝ) : EReal) := by
  have h0 : (i 0).val < 8 := (i 0).isLt
  have h1 : (i 1).val < 4096 := (i 1).isLt
  have h2 : (i 2).val < 256 := (i 2).isLt
  rw [val_main_v18_apply, v15_i E]
  try rfl

theorem v19_i (i : S8x4096x512.Idx) : val_main_v19 (F := Ideal) R.a0 R.a3 R.a4 i = ((R.arr.pj (i 0).val (i 1).val (1536 + (i 2).val) : ℝ) : EReal) := by
  have h0 : (i 0).val < 8 := (i 0).isLt
  have h1 : (i 1).val < 4096 := (i 1).isLt
  have h2 : (i 2).val < 512 := (i 2).isLt
  rw [val_main_v19_apply, v15_i E]
  try rfl

theorem v20_i (i : S8x4096x16.Idx) : val_main_v20 (F := Ideal) R.a0 R.a3 R.a4 i = ((R.arr.pj (i 0).val (i 1).val (2048 + (i 2).val) : ℝ) : EReal) := by
  have h0 : (i 0).val < 8 := (i 0).isLt
  have h1 : (i 1).val < 4096 := (i 1).isLt
  have h2 : (i 2).val < 16 := (i 2).isLt
  rw [val_main_v20_apply, v15_i E]
  try rfl

theorem v21_i (i : S8x4096x512.Idx) : val_main_v21 (F := Ideal) R.a0 R.a3 R.a4 i = ((R.arr.pj (i 0).val (i 1).val (2064 + (i 2).val) : ℝ) : EReal) := by
  have h0 : (i 0).val < 8 := (i 0).isLt
  have h1 : (i 1).val < 4096 := (i 1).isLt
  have h2 : (i 2).val < 512 := (i 2).isLt
  rw [val_main_v21_apply, v15_i E]
  try rfl

theorem v22_i (i : S8x4096x2048.Idx) : val_main_v22 (F := Ideal) R.a0 R.a3 R.a4 i = ((R.arr.pj (i 0).val (i 1).val (2576 + (i 2).val) : ℝ) : EReal) := by
  have h0 : (i 0).val < 8 := (i 0).isLt
  have h1 : (i 1).val < 4096 := (i 1).isLt
  have h2 : (i 2).val < 2048 := (i 2).isLt
  rw [val_main_v22_apply, v15_i E]
  try rfl

theorem v23_i (i : S8x3x1024.Idx) : val_main_v23 (F := Ideal) i = ((0 : ℝ) : EReal) := by
  rw [val_main_v23_apply, val_main_cst_2_apply]; exact w_zero

theorem v24_ix (b : Fin 8) (s : Fin 4099) (c : Fin 1024) : val_main_v24 (F := Ideal) R.a0 R.a3 R.a4 (ix3 b s c) = ((R.arr.pz b.val (s.val + 5) c.val : ℝ) : EReal) := by
  have h : val_main_v24 (F := Ideal) R.a0 R.a3 R.a4 (ix3 b s c) = if h : s.val < 3 then val_main_v23 (F := Ideal) (ix3 b ⟨s.val, h⟩ c)
      else val_main_v16 (F := Ideal) R.a0 R.a3 R.a4 (ix3 b ⟨s.val - 3, by omega⟩ c) := by
    unfold val_main_v24
    generalize val_main_v23 (F := Ideal) = y
    generalize val_main_v16 (F := Ideal) R.a0 R.a3 R.a4 = x
    pointwise
  rw [h]
  unfold Arr.pz
  by_cases g : s.val < 3
  · rw [dif_pos g, v23_i E, if_pos (by omega)]
  · rw [dif_neg g, v16_i E, if_neg (by omega)]
    show ((R.arr.pj b.val (s.val - 3) c.val : ℝ) : EReal) = _
    rw [show s.val + 5 - 8 = s.val - 3 by omega]
theorem v24_i (i : S8x4099x1024.Idx) : val_main_v24 (F := Ideal) R.a0 R.a3 R.a4 i = ((R.arr.pz (i 0).val ((i 1).val + 5) (i 2).val : ℝ) : EReal) :=
  (congrArg (val_main_v24 (F := Ideal) R.a0 R.a3 R.a4) (eq_ix3 i)).trans (v24_ix E (i 0) (i 1) (i 2))

theorem v26_i (i : S8x4096x1024.Idx) : val_main_v26 (F := Ideal) R.a0 R.a3 R.a4 i = ((R.arr.pz (i 0).val ((i 1).val + 5) (i 2).val : ℝ) : EReal) := by
  have h0 : (i 0).val < 8 := (i 0).isLt
  have h1 : (i 1).val < 4096 := (i 1).isLt
  have h2 : (i 2).val < 1024 := (i 2).isLt
  rw [val_main_v26_apply, v24_i E]
  try rfl

theorem v32_i (i : S8x4096x1024.Idx) : val_main_v32 (F := Ideal) R.a0 R.a3 R.a4 i = ((R.arr.pz (i 0).val ((i 1).val + 6) (i 2).val : ℝ) : EReal) := by
  have h0 : (i 0).val < 8 := (i 0).isLt
  have h1 : (i 1).val < 4096 := (i 1).isLt
  have h2 : (i 2).val < 1024 := (i 2).isLt
  rw [val_main_v32_apply, v24_i E]
  have e1 : ((idx_main_v32 i) 1).val = (i 1).val + 1 := by
    show 1 + ((i 1).val) = (i 1).val + 1
    omega
  try rw [e1]
  try rfl

theorem v39_i (i : S8x4096x1024.Idx) : val_main_v39 (F := Ideal) R.a0 R.a3 R.a4 i = ((R.arr.pz (i 0).val ((i 1).val + 7) (i 2).val : ℝ) : EReal) := by
  have h0 : (i 0).val < 8 := (i 0).isLt
  have h1 : (i 1).val < 4096 := (i 1).isLt
  have h2 : (i 2).val < 1024 := (i 2).isLt
  rw [val_main_v39_apply, v24_i E]
  have e1 : ((idx_main_v39 i) 1).val = (i 1).val + 2 := by
    show 2 + ((i 1).val) = (i 1).val + 2
    omega
  try rw [e1]
  try rfl

theorem v46_i (i : S8x4096x1024.Idx) : val_main_v46 (F := Ideal) R.a0 R.a3 R.a4 i = ((R.arr.pz (i 0).val ((i 1).val + 8) (i 2).val : ℝ) : EReal) := by
  have h0 : (i 0).val < 8 := (i 0).isLt
  have h1 : (i 1).val < 4096 := (i 1).isLt
  have h2 : (i 2).val < 1024 := (i 2).isLt
  rw [val_main_v46_apply, v24_i E]
  have e1 : ((idx_main_v46 i) 1).val = (i 1).val + 3 := by
    show 3 + ((i 1).val) = (i 1).val + 3
    omega
  try rw [e1]
  try rfl

theorem v30_i (i : S8x4096x1024.Idx) : val_main_v30 (F := Ideal) R.a5 i = ((R.arr.cw 0 (i 2).val : ℝ) : EReal) := by
  have h0 : (i 0).val < 8 := (i 0).isLt
  have h1 : (i 1).val < 4096 := (i 1).isLt
  have h2 : (i 2).val < 1024 := (i 2).isLt
  rw [val_main_v30_apply, val_main_v29_apply, val_main_v28_apply, val_main_v27_apply, val_main_v25_apply, cw_i E]
  have e1 : ((idx_main_v25 (idx_main_v27 (idx_main_v28 (idx_main_v29 (idx_main_v30 i))))) 1).val = 0 := by
    show (((0)) * 1024 + (((((((i 2).val)))) % 1024))) / 1024 % 4 = 0
    omega
  have e2 : ((idx_main_v25 (idx_main_v27 (idx_main_v28 (idx_main_v29 (idx_main_v30 i))))) 2).val = (i 2).val := by
    show (((0)) * 1024 + (((((((i 2).val)))) % 1024))) % 1024 = (i 2).val
    omega
  try rw [e1]
  try rw [e2]
  try rfl

theorem v36_i (i : S8x4096x1024.Idx) : val_main_v36 (F := Ideal) R.a5 i = ((R.arr.cw 1 (i 2).val : ℝ) : EReal) := by
  have h0 : (i 0).val < 8 := (i 0).isLt
  have h1 : (i 1).val < 4096 := (i 1).isLt
  have h2 : (i 2).val < 1024 := (i 2).isLt
  rw [val_main_v36_apply, val_main_v35_apply, val_main_v34_apply, val_main_v33_apply, val_main_v25_apply, cw_i E]
  have e1 : ((idx_main_v25 (idx_main_v33 (idx_main_v34 (idx_main_v35 (idx_main_v36 i))))) 1).val = 1 := by
    show ((1 + (0)) * 1024 + (((((((i 2).val)))) % 1024))) / 1024 % 4 = 1
    omega
  have e2 : ((idx_main_v25 (idx_main_v33 (idx_main_v34 (idx_main_v35 (idx_main_v36 i))))) 2).val = (i 2).val := by
    show ((1 + (0)) * 1024 + (((((((i 2).val)))) % 1024))) % 1024 = (i 2).val
    omega
  try rw [e1]
  try rw [e2]
  try rfl

theorem v43_i (i : S8x4096x1024.Idx) : val_main_v43 (F := Ideal) R.a5 i = ((R.arr.cw 2 (i 2).val : ℝ) : EReal) := by
  have h0 : (i 0).val < 8 := (i 0).isLt
  have h1 : (i 1).val < 4096 := (i 1).isLt
  have h2 : (i 2).val < 1024 := (i 2).isLt
  rw [val_main_v43_apply, val_main_v42_apply, val_main_v41_apply, val_main_v40_apply, val_main_v25_apply, cw_i E]
  have e1 : ((idx_main_v25 (idx_main_v40 (idx_main_v41 (idx_main_v42 (idx_main_v43 i))))) 1).val = 2 := by
    show ((2 + (0)) * 1024 + (((((((i 2).val)))) % 1024))) / 1024 % 4 = 2
    omega
  have e2 : ((idx_main_v25 (idx_main_v40 (idx_main_v41 (idx_main_v42 (idx_main_v43 i))))) 2).val = (i 2).val := by
    show ((2 + (0)) * 1024 + (((((((i 2).val)))) % 1024))) % 1024 = (i 2).val
    omega
  try rw [e1]
  try rw [e2]
  try rfl

theorem v50_i (i : S8x4096x1024.Idx) : val_main_v50 (F := Ideal) R.a5 i = ((R.arr.cw 3 (i 2).val : ℝ) : EReal) := by
  have h0 : (i 0).val < 8 := (i 0).isLt
  have h1 : (i 1).val < 4096 := (i 1).isLt
  have h2 : (i 2).val < 1024 := (i 2).isLt
  rw [val_main_v50_apply, val_main_v49_apply, val_main_v48_apply, val_main_v47_apply, val_main_v25_apply, cw_i E]
  have e1 : ((idx_main_v25 (idx_main_v47 (idx_main_v48 (idx_main_v49 (idx_main_v50 i))))) 1).val = 3 := by
    show ((3 + (0)) * 1024 + (((((((i 2).val)))) % 1024))) / 1024 % 4 = 3
    omega
  have e2 : ((idx_main_v25 (idx_main_v47 (idx_main_v48 (idx_main_v49 (idx_main_v50 i))))) 2).val = (i 2).val := by
    show ((3 + (0)) * 1024 + (((((((i 2).val)))) % 1024))) % 1024 = (i 2).val
    omega
  try rw [e1]
  try rw [e2]
  try rfl

theorem v55_i (i : S8x4096x1024.Idx) : val_main_v55 (F := Ideal) R.a6 i = ((R.arr.cb (i 2).val : ℝ) : EReal) := by
  have h0 : (i 0).val < 8 := (i 0).isLt
  have h1 : (i 1).val < 4096 := (i 1).isLt
  have h2 : (i 2).val < 1024 := (i 2).isLt
  rw [val_main_v55_apply, val_main_v54_apply, val_main_v53_apply, cb_i E]
  have e1 : ((idx_main_v53 (idx_main_v54 (idx_main_v55 i))) 1).val = (i 2).val := by
    show (((((i 2).val)))) % 1024 = (i 2).val
    omega
  try rw [e1]
  try rfl

theorem v31_i (i : S8x4096x1024.Idx) : val_main_v31 (F := Ideal) R.a0 R.a3 R.a4 R.a5 i = ((R.arr.pz (i 0).val ((i 1).val + 5) (i 2).val * R.arr.cw 0 (i 2).val : ℝ) : EReal) := by
  rw [val_main_v31_apply, v26_i E, v30_i E]
  exact (fmul _ _).trans (congrArg _ (by rfl))

theorem v37_i (i : S8x4096x1024.Idx) : val_main_v37 (F := Ideal) R.a0 R.a3 R.a4 R.a5 i = ((R.arr.pz (i 0).val ((i 1).val + 6) (i 2).val * R.arr.cw 1 (i 2).val : ℝ) : EReal) := by
  rw [val_main_v37_apply, v32_i E, v36_i E]
  exact (fmul _ _).trans (congrArg _ (by rfl))

theorem v38_i (i : S8x4096x1024.Idx) : val_main_v38 (F := Ideal) R.a0 R.a3 R.a4 R.a5 i = ((R.arr.pz (i 0).val ((i 1).val + 5) (i 2).val * R.arr.cw 0 (i 2).val + R.arr.pz (i 0).val ((i 1).val + 6) (i 2).val * R.arr.cw 1 (i 2).val : ℝ) : EReal) := by
  rw [val_main_v38_apply, v31_i E, v37_i E]
  exact (fadd _ _).trans (congrArg _ (by rfl))

theorem v44_i (i : S8x4096x1024.Idx) : val_main_v44 (F := Ideal) R.a0 R.a3 R.a4 R.a5 i = ((R.arr.pz (i 0).val ((i 1).val + 7) (i 2).val * R.arr.cw 2 (i 2).val : ℝ) : EReal) := by
  rw [val_main_v44_apply, v39_i E, v43_i E]
  exact (fmul _ _).trans (congrArg _ (by rfl))

theorem v45_i (i : S8x4096x1024.Idx) : val_main_v45 (F := Ideal) R.a0 R.a3 R.a4 R.a5 i = ((R.arr.pz (i 0).val ((i 1).val + 5) (i 2).val * R.arr.cw 0 (i 2).val + R.arr.pz (i 0).val ((i 1).val + 6) (i 2).val * R.arr.cw 1 (i 2).val + R.arr.pz (i 0).val ((i 1).val + 7) (i 2).val * R.arr.cw 2 (i 2).val : ℝ) : EReal) := by
  rw [val_main_v45_apply, v38_i E, v44_i E]
  exact (fadd _ _).trans (congrArg _ (by rfl))

theorem v51_i (i : S8x4096x1024.Idx) : val_main_v51 (F := Ideal) R.a0 R.a3 R.a4 R.a5 i = ((R.arr.pz (i 0).val ((i 1).val + 8) (i 2).val * R.arr.cw 3 (i 2).val : ℝ) : EReal) := by
  rw [val_main_v51_apply, v46_i E, v50_i E]
  exact (fmul _ _).trans (congrArg _ (by rfl))

theorem v52_i (i : S8x4096x1024.Idx) : val_main_v52 (F := Ideal) R.a0 R.a3 R.a4 R.a5 i = ((R.arr.pz (i 0).val ((i 1).val + 5) (i 2).val * R.arr.cw 0 (i 2).val + R.arr.pz (i 0).val ((i 1).val + 6) (i 2).val * R.arr.cw 1 (i 2).val + R.arr.pz (i 0).val ((i 1).val + 7) (i 2).val * R.arr.cw 2 (i 2).val + R.arr.pz (i 0).val ((i 1).val + 8) (i 2).val * R.arr.cw 3 (i 2).val : ℝ) : EReal) := by
  rw [val_main_v52_apply, v45_i E, v51_i E]
  exact (fadd _ _).trans (congrArg _ (by rfl))

theorem v56_i (i : S8x4096x1024.Idx) : val_main_v56 (F := Ideal) R.a0 R.a3 R.a4 R.a5 R.a6 i = ((R.arr.cv (i 0).val (i 1).val (i 2).val : ℝ) : EReal) := by
  rw [val_main_v56_apply, v52_i E, v55_i E]
  exact (fadd _ _).trans (congrArg _ (by unfold Arr.cv; ring))

theorem v57_i (i : S8x4096x8x128.Idx) : val_main_v57 (F := Ideal) R.a0 R.a3 R.a4 R.a5 R.a6 i = ((R.arr.cv (i 0).val (i 1).val (128 * (i 2).val + (i 3).val) : ℝ) : EReal) := by
  have h0 : (i 0).val < 8 := (i 0).isLt
  have h1 : (i 1).val < 4096 := (i 1).isLt
  have h2 : (i 2).val < 8 := (i 2).isLt
  have h3 : (i 3).val < 128 := (i 3).isLt
  rw [val_main_v57_apply, v56_i E]
  have e0 : ((idx_main_v57 i) 0).val = (i 0).val := by
    show (((((i 0).val) * 4096 + ((i 1).val)) * 8 + ((i 2).val)) * 128 + ((i 3).val)) / 4194304 = (i 0).val
    omega
  have e1 : ((idx_main_v57 i) 1).val = (i 1).val := by
    show (((((i 0).val) * 4096 + ((i 1).val)) * 8 + ((i 2).val)) * 128 + ((i 3).val)) / 1024 % 4096 = (i 1).val
    omega
  have e2 : ((idx_main_v57 i) 2).val = 128 * (i 2).val + (i 3).val := by
    show (((((i 0).val) * 4096 + ((i 1).val)) * 8 + ((i 2).val)) * 128 + ((i 3).val)) % 1024 = 128 * (i 2).val + (i 3).val
    omega
  try rw [e0]
  try rw [e1]
  try rw [e2]
  try rfl

theorem v58_i (i : S8x128x128.Idx) : val_main_v58 (F := Ideal) R.a7 i = ((R.arr.wa (i 0).val (i 1).val (i 2).val : ℝ) : EReal) := by
  have h0 : (i 0).val < 8 := (i 0).isLt
  have h1 : (i 1).val < 128 := (i 1).isLt
  have h2 : (i 2).val < 128 := (i 2).isLt
  rw [val_main_v58_apply, wa_i E]
  have e1 : ((idx_main_v58 i) 1).val = (i 0).val := by
    show ((((i 0).val) * 128 + ((i 1).val)) * 128 + ((i 2).val)) / 16384 % 8 = (i 0).val
    omega
  have e2 : ((idx_main_v58 i) 2).val = (i 1).val := by
    show ((((i 0).val) * 128 + ((i 1).val)) * 128 + ((i 2).val)) / 128 % 128 = (i 1).val
    omega
  have e3 : ((idx_main_v58 i) 3).val = (i 2).val := by
    show ((((i 0).val) * 128 + ((i 1).val)) * 128 + ((i 2).val)) % 128 = (i 2).val
    omega
  try rw [e1]
  try rw [e2]
  try rw [e3]
  try rfl

theorem v59_i (i : S8x128x8x4096.Idx) : val_main_v59 (F := Ideal) R.a0 R.a3 R.a4 R.a5 R.a6 R.a7 i = ((R.arr.ga (i 2).val (i 3).val (i 0).val (i 1).val : ℝ) : EReal) := by
  have h0 : (i 0).val < 8 := (i 0).isLt
  have h1 : (i 1).val < 128 := (i 1).isLt
  have h2 : (i 2).val < 8 := (i 2).isLt
  have h3 : (i 3).val < 4096 := (i 3).isLt
  rw [val_main_v59_apply]
  have hk : ∀ k : Fin 128, (val_main_v58 (F := Ideal) R.a7 (lidx_main_v59 i k) : EReal) * (val_main_v57 (F := Ideal) R.a0 R.a3 R.a4 R.a5 R.a6 (ridx_main_v59 i k) : EReal) = (((R.arr.wa (i 0).val k.val (i 1).val) * (R.arr.cv (i 2).val (i 3).val (128 * (i 0).val + k.val)) : ℝ) : EReal) := fun k => by
    rw [v58_i E, v57_i E]; exact (EReal.coe_mul _ _).symm
  refine (Finset.sum_congr rfl fun k _ => hk k).trans ((coe_sum _ _).trans (congrArg _ ?_))
  exact Finset.sum_congr rfl fun k _ => mul_comm _ _

theorem v60_i (i : S8x4096x8x128.Idx) : val_main_v60 (F := Ideal) R.a0 R.a3 R.a4 R.a5 R.a6 R.a7 i = ((R.arr.ga (i 0).val (i 1).val (i 2).val (i 3).val : ℝ) : EReal) := by
  have h0 : (i 0).val < 8 := (i 0).isLt
  have h1 : (i 1).val < 4096 := (i 1).isLt
  have h2 : (i 2).val < 8 := (i 2).isLt
  have h3 : (i 3).val < 128 := (i 3).isLt
  rw [val_main_v60_apply, v59_i E]
  try rfl

theorem v63_i (i : S8x4096x8x128.Idx) : val_main_v63 (F := Ideal) R.a8 i = ((R.arr.ba (i 2).val (i 3).val : ℝ) : EReal) := by
  have h0 : (i 0).val < 8 := (i 0).isLt
  have h1 : (i 1).val < 4096 := (i 1).isLt
  have h2 : (i 2).val < 8 := (i 2).isLt
  have h3 : (i 3).val < 128 := (i 3).isLt
  rw [val_main_v63_apply, val_main_v62_apply, val_main_v61_apply, ba_i E]
  have e1 : ((idx_main_v61 (idx_main_v62 (idx_main_v63 i))) 1).val = (i 2).val := by
    show (((((i 2).val))) * 128 + ((((i 3).val)))) / 128 % 8 = (i 2).val
    omega
  have e2 : ((idx_main_v61 (idx_main_v62 (idx_main_v63 i))) 2).val = (i 3).val := by
    show (((((i 2).val))) * 128 + ((((i 3).val)))) % 128 = (i 3).val
    omega
  try rw [e1]
  try rw [e2]
  try rfl

theorem v64_i (i : S8x4096x8x128.Idx) : val_main_v64 (F := Ideal) R.a0 R.a3 R.a4 R.a5 R.a6 R.a7 R.a8 i = ((R.arr.ga (i 0).val (i 1).val (i 2).val (i 3).val + R.arr.ba (i 2).val (i 3).val : ℝ) : EReal) := by
  rw [val_main_v64_apply, v60_i E, v63_i E]
  exact (fadd _ _).trans (congrArg _ (by rfl))

theorem v67_i (i : S8x4096x8x128.Idx) : val_main_v67 (F := Ideal) i = ((1 : ℝ) : EReal) := by
  rw [val_main_v67_apply, val_main_cst_3_apply]; exact w_one

theorem v69_i (i : S8x4096x8x128.Idx) : val_main_v69 (F := Ideal) i = ((1 : ℝ) : EReal) := by
  rw [val_main_v69_apply, val_main_cst_4_apply]; exact w_one

theorem v70_i (i : S8x4096x8x128.Idx) : val_main_v70 (F := Ideal) R.a0 R.a3 R.a4 R.a5 R.a6 R.a7 R.a8 i = ((sg (R.arr.ga (i 0).val (i 1).val (i 2).val (i 3).val + R.arr.ba (i 2).val (i 3).val) : ℝ) : EReal) := by
  rw [val_main_v70_apply, val_main_v68_apply, val_main_v66_apply, val_main_v65_apply, v64_i E, v67_i E, v69_i E]
  exact (fsg _).trans (congrArg _ (by rfl))

theorem v71_i (i : S8x4096x1024.Idx) : val_main_v71 (F := Ideal) R.a0 R.a3 R.a4 R.a5 R.a6 R.a7 R.a8 i = ((sg (R.arr.ga (i 0).val (i 1).val ((i 2).val / 128) ((i 2).val % 128) + R.arr.ba ((i 2).val / 128) ((i 2).val % 128)) : ℝ) : EReal) := by
  have h0 : (i 0).val < 8 := (i 0).isLt
  have h1 : (i 1).val < 4096 := (i 1).isLt
  have h2 : (i 2).val < 1024 := (i 2).isLt
  rw [val_main_v71_apply, v70_i E]
  have e0 : ((idx_main_v71 i) 0).val = (i 0).val := by
    show ((((i 0).val) * 4096 + ((i 1).val)) * 1024 + ((i 2).val)) / 4194304 = (i 0).val
    omega
  have e1 : ((idx_main_v71 i) 1).val = (i 1).val := by
    show ((((i 0).val) * 4096 + ((i 1).val)) * 1024 + ((i 2).val)) / 1024 % 4096 = (i 1).val
    omega
  have e2 : ((idx_main_v71 i) 2).val = (i 2).val / 128 := by
    show ((((i 0).val) * 4096 + ((i 1).val)) * 1024 + ((i 2).val)) / 128 % 8 = (i 2).val / 128
    omega
  have e3 : ((idx_main_v71 i) 3).val = (i 2).val % 128 := by
    show ((((i 0).val) * 4096 + ((i 1).val)) * 1024 + ((i 2).val)) % 128 = (i 2).val % 128
    omega
  try rw [e0]
  try rw [e1]
  try rw [e2]
  try rw [e3]
  try rfl

theorem v72_i (i : S8x128x128.Idx) : val_main_v72 (F := Ideal) R.a9 i = ((R.arr.wi (i 0).val (i 1).val (i 2).val : ℝ) : EReal) := by
  have h0 : (i 0).val < 8 := (i 0).isLt
  have h1 : (i 1).val < 128 := (i 1).isLt
  have h2 : (i 2).val < 128 := (i 2).isLt
  rw [val_main_v72_apply, wi_i E]
  have e1 : ((idx_main_v72 i) 1).val = (i 0).val := by
    show ((((i 0).val) * 128 + ((i 1).val)) * 128 + ((i 2).val)) / 16384 % 8 = (i 0).val
    omega
  have e2 : ((idx_main_v72 i) 2).val = (i 1).val := by
    show ((((i 0).val) * 128 + ((i 1).val)) * 128 + ((i 2).val)) / 128 % 128 = (i 1).val
    omega
  have e3 : ((idx_main_v72 i) 3).val = (i 2).val := by
    show ((((i 0).val) * 128 + ((i 1).val)) * 128 + ((i 2).val)) % 128 = (i 2).val
    omega
  try rw [e1]
  try rw [e2]
  try rw [e3]
  try rfl

theorem v73_i (i : S8x128x8x4096.Idx) : val_main_v73 (F := Ideal) R.a0 R.a3 R.a4 R.a5 R.a6 R.a9 i = ((R.arr.gi (i 2).val (i 3).val (i 0).val (i 1).val : ℝ) : EReal) := by
  have h0 : (i 0).val < 8 := (i 0).isLt
  have h1 : (i 1).val < 128 := (i 1).isLt
  have h2 : (i 2).val < 8 := (i 2).isLt
  have h3 : (i 3).val < 4096 := (i 3).isLt
  rw [val_main_v73_apply]
  have hk : ∀ k : Fin 128, (val_main_v72 (F := Ideal) R.a9 (lidx_main_v73 i k) : EReal) * (val_main_v57 (F := Ideal) R.a0 R.a3 R.a4 R.a5 R.a6 (ridx_main_v73 i k) : EReal) = (((R.arr.wi (i 0).val k.val (i 1).val) * (R.arr.cv (i 2).val (i 3).val (128 * (i 0).val + k.val)) : ℝ) : EReal) := fun k => by
    rw [v72_i E, v57_i E]; exact (EReal.coe_mul _ _).symm
  refine (Finset.sum_congr rfl fun k _ => hk k).trans ((coe_sum _ _).trans (congrArg _ ?_))
  exact Finset.sum_congr rfl fun k _ => mul_comm _ _

theorem v74_i (i : S8x4096x8x128.Idx) : val_main_v74 (F := Ideal) R.a0 R.a3 R.a4 R.a5 R.a6 R.a9 i = ((R.arr.gi (i 0).val (i 1).val (i 2).val (i 3).val : ℝ) : EReal) := by
  have h0 : (i 0).val < 8 := (i 0).isLt
  have h1 : (i 1).val < 4096 := (i 1).isLt
  have h2 : (i 2).val < 8 := (i 2).isLt
  have h3 : (i 3).val < 128 := (i 3).isLt
  rw [val_main_v74_apply, v73_i E]
  try rfl

theorem v77_i (i : S8x4096x8x128.Idx) : val_main_v77 (F := Ideal) R.a10 i = ((R.arr.bi (i 2).val (i 3).val : ℝ) : EReal) := by
  have h0 : (i 0).val < 8 := (i 0).isLt
  have h1 : (i 1).val < 4096 := (i 1).isLt
  have h2 : (i 2).val < 8 := (i 2).isLt
  have h3 : (i 3).val < 128 := (i 3).isLt
  rw [val_main_v77_apply, val_main_v76_apply, val_main_v75_apply, bi_i E]
  have e1 : ((idx_main_v75 (idx_main_v76 (idx_main_v77 i))) 1).val = (i 2).val := by
    show (((((i 2).val))) * 128 + ((((i 3).val)))) / 128 % 8 = (i 2).val
    omega
  have e2 : ((idx_main_v75 (idx_main_v76 (idx_main_v77 i))) 2).val = (i 3).val := by
    show (((((i 2).val))) * 128 + ((((i 3).val)))) % 128 = (i 3).val
    omega
  try rw [e1]
  try rw [e2]
  try rfl

theorem v78_i (i : S8x4096x8x128.Idx) : val_main_v78 (F := Ideal) R.a0 R.a3 R.a4 R.a5 R.a6 R.a9 R.a10 i = ((R.arr.gi (i 0).val (i 1).val (i 2).val (i 3).val + R.arr.bi (i 2).val (i 3).val : ℝ) : EReal) := by
  rw [val_main_v78_apply, v74_i E, v77_i E]
  exact (fadd _ _).trans (congrArg _ (by rfl))

theorem v81_i (i : S8x4096x8x128.Idx) : val_main_v81 (F := Ideal) i = ((1 : ℝ) : EReal) := by
  rw [val_main_v81_apply, val_main_cst_5_apply]; exact w_one

theorem v83_i (i : S8x4096x8x128.Idx) : val_main_v83 (F := Ideal) i = ((1 : ℝ) : EReal) := by
  rw [val_main_v83_apply, val_main_cst_6_apply]; exact w_one

theorem v84_i (i : S8x4096x8x128.Idx) : val_main_v84 (F := Ideal) R.a0 R.a3 R.a4 R.a5 R.a6 R.a9 R.a10 i = ((sg (R.arr.gi (i 0).val (i 1).val (i 2).val (i 3).val + R.arr.bi (i 2).val (i 3).val) : ℝ) : EReal) := by
  rw [val_main_v84_apply, val_main_v82_apply, val_main_v80_apply, val_main_v79_apply, v78_i E, v81_i E, v83_i E]
  exact (fsg _).trans (congrArg _ (by rfl))

theorem v85_i (i : S8x4096x1024.Idx) : val_main_v85 (F := Ideal) R.a0 R.a3 R.a4 R.a5 R.a6 R.a9 R.a10 i = ((sg (R.arr.gi (i 0).val (i 1).val ((i 2).val / 128) ((i 2).val % 128) + R.arr.bi ((i 2).val / 128) ((i 2).val % 128)) : ℝ) : EReal) := by
  have h0 : (i 0).val < 8 := (i 0).isLt
  have h1 : (i 1).val < 4096 := (i 1).isLt
  have h2 : (i 2).val < 1024 := (i 2).isLt
  rw [val_main_v85_apply, v84_i E]
  have e0 : ((idx_main_v85 i) 0).val = (i 0).val := by
    show ((((i 0).val) * 4096 + ((i 1).val)) * 1024 + ((i 2).val)) / 4194304 = (i 0).val
    omega
  have e1 : ((idx_main_v85 i) 1).val = (i 1).val := by
    show ((((i 0).val) * 4096 + ((i 1).val)) * 1024 + ((i 2).val)) / 1024 % 4096 = (i 1).val
    omega
  have e2 : ((idx_main_v85 i) 2).val = (i 2).val / 128 := by
    show ((((i 0).val) * 4096 + ((i 1).val)) * 1024 + ((i 2).val)) / 128 % 8 = (i 2).val / 128
    omega
  have e3 : ((idx_main_v85 i) 3).val = (i 2).val % 128 := by
    show ((((i 0).val) * 4096 + ((i 1).val)) * 1024 + ((i 2).val)) % 128 = (i 2).val % 128
    omega
  try rw [e0]
  try rw [e1]
  try rw [e2]
  try rw [e3]
  try rfl

theorem v86_i (i : S8x4096x1024.Idx) : val_main_v86 (F := Ideal) i = ((-8 : ℝ) : EReal) := by
  rw [val_main_v86_apply, val_main_cst_7_apply]; exact w_neg8

theorem v87_i (i : S8x4096x1024.Idx) : val_main_v87 (F := Ideal) R.a0 R.a3 R.a4 R.a5 R.a6 R.a7 R.a8 i = ((-8 * sg (R.arr.ga (i 0).val (i 1).val ((i 2).val / 128) ((i 2).val % 128) + R.arr.ba ((i 2).val / 128) ((i 2).val % 128)) : ℝ) : EReal) := by
  rw [val_main_v87_apply, v86_i E, v71_i E]
  exact (fmul _ _).trans (congrArg _ (by rfl))

theorem v88_i (i : S1024.Idx) : val_main_v88 (F := Ideal) R.a11 i = ((R.arr.lam (i 0).val : ℝ) : EReal) := by
  have h0 : (i 0).val < 1024 := (i 0).isLt
  rw [val_main_v88_apply, lam_i E]
  have e1 : ((idx_main_v88 i) 1).val = (i 0).val := by
    show (((i 0).val)) % 1024 = (i 0).val
    omega
  try rw [e1]
  try rfl

theorem v89_i (i : S1024.Idx) : val_main_v89 (F := Ideal) R.a11 i = ((-R.arr.lam (i 0).val : ℝ) : EReal) := by
  rw [val_main_v89_apply, v88_i E]
  exact (fneg _).trans (congrArg _ (by rfl))

theorem call0_v0_i (i : S1024.Idx) : val_main_call0_v0 (F := Ideal) i = ((0 : ℝ) : EReal) := by
  rw [val_main_call0_v0_apply, val_main_call0_cst_apply]; exact w_zero

theorem call0_v2_i (i : S1024.Idx) : val_main_call0_v2 (F := Ideal) i = ((0 : ℝ) : EReal) := by
  rw [val_main_call0_v2_apply, val_main_call0_cst_apply]; exact w_zero

theorem call0_v5_i (i : S1024.Idx) : val_main_call0_v5 (F := Ideal) i = ((0 : ℝ) : EReal) := by
  rw [val_main_call0_v5_apply, val_main_call0_cst_apply]; exact w_zero

theorem v90_i (i : S1024.Idx) : val_main_v90 (F := Ideal) R.a11 i = ((sp (-R.arr.lam (i 0).val) : ℝ) : EReal) := by
  rw [val_main_v90_apply, val_main_call0_v4_apply, val_main_call0_v6_apply, val_main_call0_v11_apply, val_main_call0_v1_apply, val_main_call0_v10_apply, val_main_call0_v9_apply, val_main_call0_v8_apply, val_main_call0_v7_apply, val_main_call0_v3_apply, v89_i E, call0_v0_i E, call0_v2_i E, call0_v5_i E]; exact fsp _

theorem v92_i (i : S8x4096x1024.Idx) : val_main_v92 (F := Ideal) R.a11 i = ((sp (-R.arr.lam (i 2).val) : ℝ) : EReal) := by
  have h0 : (i 0).val < 8 := (i 0).isLt
  have h1 : (i 1).val < 4096 := (i 1).isLt
  have h2 : (i 2).val < 1024 := (i 2).isLt
  rw [val_main_v92_apply, val_main_v91_apply, v90_i E]
  try rfl

theorem v93_i (i : S8x4096x1024.Idx) : val_main_v93 (F := Ideal) R.a0 R.a3 R.a4 R.a5 R.a6 R.a7 R.a8 R.a11 i = ((R.arr.la (i 0).val (i 2).val (i 1).val : ℝ) : EReal) := by
  rw [val_main_v93_apply, v87_i E, v92_i E]
  exact (fmul _ _).trans (congrArg _ (by unfold Arr.la; ring))

theorem v94_i (i : S8x4096x1024.Idx) : val_main_v94 (F := Ideal) i = ((2 : ℝ) : EReal) := by
  rw [val_main_v94_apply, val_main_cst_8_apply]; exact w_two

theorem v95_i (i : S8x4096x1024.Idx) : val_main_v95 (F := Ideal) R.a0 R.a3 R.a4 R.a5 R.a6 R.a7 R.a8 R.a11 i = ((2 * R.arr.la (i 0).val (i 2).val (i 1).val : ℝ) : EReal) := by
  rw [val_main_v95_apply, v94_i E, v93_i E]
  exact (fmul _ _).trans (congrArg _ (by rfl))

theorem v96_i (i : S8x4096x1024.Idx) : val_main_v96 (F := Ideal) R.a0 R.a3 R.a4 R.a5 R.a6 R.a7 R.a8 R.a11 i = ((Real.exp (2 * R.arr.la (i 0).val (i 2).val (i 1).val) - 1 : ℝ) : EReal) := by
  rw [val_main_v96_apply, v95_i E]
  show Ideal.exp _ - 1 = _
  rw [Ideal.exp_coe]; rfl

theorem v97_i (i : S8x4096x1024.Idx) : val_main_v97 (F := Ideal) R.a0 R.a3 R.a4 R.a5 R.a6 R.a7 R.a8 R.a11 i = ((1 - Real.exp (2 * R.arr.la (i 0).val (i 2).val (i 1).val) : ℝ) : EReal) := by
  rw [val_main_v97_apply, v96_i E]
  exact (fneg _).trans (congrArg _ (by ring))

theorem v98_i (i : S8x4096x1024.Idx) : val_main_v98 (F := Ideal) R.a0 R.a3 R.a4 R.a5 R.a6 R.a7 R.a8 R.a11 i = ((Real.sqrt (1 - Real.exp (2 * R.arr.la (i 0).val (i 2).val (i 1).val)) : ℝ) : EReal) := by
  rw [val_main_v98_apply, v97_i E]; exact sqrt_c (one_sub_nonneg (R.arr.la_nonpos _ _ _))

theorem v99_i (i : S8x4096x1024.Idx) : val_main_v99 (F := Ideal) R.a0 R.a3 R.a4 R.a5 R.a6 R.a9 R.a10 i = ((sg (R.arr.gi (i 0).val (i 1).val ((i 2).val / 128) ((i 2).val % 128) + R.arr.bi ((i 2).val / 128) ((i 2).val % 128)) * R.arr.cv (i 0).val (i 1).val (i 2).val : ℝ) : EReal) := by
  rw [val_main_v99_apply, v85_i E, v56_i E]
  exact (fmul _ _).trans (congrArg _ (by rfl))

theorem v100_i (i : S8x4096x1024.Idx) : val_main_v100 (F := Ideal) R.a0 R.a3 R.a4 R.a5 R.a6 R.a7 R.a8 R.a9 R.a10 R.a11 i = ((R.arr.bx (i 0).val (i 2).val (i 1).val : ℝ) : EReal) := by
  rw [val_main_v100_apply, v98_i E, v99_i E]
  exact (fmul _ _).trans (congrArg _ (by rfl))

theorem v101_i (i : S4096x4096.Idx) : val_main_v101 (F := Ideal) i = ((1 : ℝ) : EReal) := by
  rw [val_main_v101_apply, val_main_cst_9_apply]; exact w_one

theorem call1_v5_i (i : S4096x4096.Idx) : val_main_call1_v5 (F := Ideal) i = ((0 : ℝ) : EReal) := by
  rw [val_main_call1_v5_apply, val_main_call1_cst_apply]; exact w_zero

theorem v102_i (i : S4096x4096.Idx) : val_main_v102 (F := Ideal) i = ((if (i 1).val ≤ (i 0).val then 1 else 0 : ℝ) : EReal) := by
  have h0 : (i 0).val < 4096 := (i 0).isLt
  have h1 : (i 1).val < 4096 := (i 1).isLt
  rw [val_main_v102_apply, val_main_call1_v4_apply, val_main_call1_v2_apply, val_main_call1_v0_apply, val_main_call1_v1_apply, val_main_call1_c_apply, val_main_call1_v3_apply, v101_i E, call1_v5_i E]
  rw [tri _ _ 0 h0 h1]
  split <;> rfl

theorem v103_i (i : S8x1024x4096.Idx) : val_main_v103 (F := Ideal) R.a0 R.a3 R.a4 R.a5 R.a6 R.a7 R.a8 R.a11 i = ((∑ k ∈ Finset.range ((i 2).val + 1), R.arr.la (i 0).val (i 1).val k : ℝ) : EReal) := by
  have h0 : (i 0).val < 8 := (i 0).isLt
  have h1 : (i 1).val < 1024 := (i 1).isLt
  have h2 : (i 2).val < 4096 := (i 2).isLt
  rw [val_main_v103_apply]
  have hk : ∀ k : Fin 4096, (val_main_v93 (F := Ideal) R.a0 R.a3 R.a4 R.a5 R.a6 R.a7 R.a8 R.a11 (lidx_main_v103 i k) : EReal) * (val_main_v102 (F := Ideal) (ridx_main_v103 i k) : EReal) = (((R.arr.la (i 0).val (i 1).val k.val) * (if k.val ≤ (i 2).val then 1 else 0) : ℝ) : EReal) := fun k => by
    rw [v93_i E, v102_i E]; exact (EReal.coe_mul _ _).symm
  refine (Finset.sum_congr rfl fun k _ => hk k).trans ((coe_sum _ _).trans (congrArg _ ?_))
  have h := sum_tri 4096 (i 2).val (h2) (R.arr.la (i 0).val (i 1).val)
  rw [← h]
  exact Finset.sum_congr rfl fun k _ => mul_comm _ _

theorem v104_i (i : S8x4096x1024.Idx) : val_main_v104 (F := Ideal) R.a0 R.a3 R.a4 R.a5 R.a6 R.a7 R.a8 R.a11 i = ((∑ k ∈ Finset.range ((i 1).val + 1), R.arr.la (i 0).val (i 2).val k : ℝ) : EReal) := by
  have h0 : (i 0).val < 8 := (i 0).isLt
  have h1 : (i 1).val < 4096 := (i 1).isLt
  have h2 : (i 2).val < 1024 := (i 2).isLt
  rw [val_main_v104_apply, v103_i E]
  try rfl

theorem v105_i (i : S8x4096x1024.Idx) : val_main_v105 (F := Ideal) R.a0 R.a3 R.a4 R.a5 R.a6 R.a7 R.a8 R.a11 i = ((Real.exp (∑ k ∈ Finset.range ((i 1).val + 1), R.arr.la (i 0).val (i 2).val k) : ℝ) : EReal) := by
  rw [val_main_v105_apply, v104_i E]
  exact (fexp _).trans (congrArg _ (by rfl))

theorem v107_i (i : S8x4096x1024.Idx) : val_main_v107 (F := Ideal) R.a0 R.a3 R.a4 R.a5 R.a6 R.a7 R.a8 R.a11 i = ((Real.exp (-(∑ k ∈ Finset.range ((i 1).val + 1), R.arr.la (i 0).val (i 2).val k)) : ℝ) : EReal) := by
  rw [val_main_v107_apply, val_main_v106_apply, v104_i E, fneg]; exact fexp _

theorem v108_i (i : S8x4096x1024.Idx) : val_main_v108 (F := Ideal) R.a0 R.a3 R.a4 R.a5 R.a6 R.a7 R.a8 R.a9 R.a10 R.a11 i = ((Real.exp (-(∑ k ∈ Finset.range ((i 1).val + 1), R.arr.la (i 0).val (i 2).val k)) * R.arr.bx (i 0).val (i 2).val (i 1).val : ℝ) : EReal) := by
  rw [val_main_v108_apply, v107_i E, v100_i E]
  exact (fmul _ _).trans (congrArg _ (by rfl))

theorem v109_i (i : S8x1024x4096.Idx) : val_main_v109 (F := Ideal) R.a0 R.a3 R.a4 R.a5 R.a6 R.a7 R.a8 R.a9 R.a10 R.a11 i = ((∑ k ∈ Finset.range ((i 2).val + 1), Real.exp (-∑ j ∈ Finset.range (k + 1), R.arr.la (i 0).val (i 1).val j) * R.arr.bx (i 0).val (i 1).val k : ℝ) : EReal) := by
  have h0 : (i 0).val < 8 := (i 0).isLt
  have h1 : (i 1).val < 1024 := (i 1).isLt
  have h2 : (i 2).val < 4096 := (i 2).isLt
  rw [val_main_v109_apply]
  have hk : ∀ k : Fin 4096, (val_main_v108 (F := Ideal) R.a0 R.a3 R.a4 R.a5 R.a6 R.a7 R.a8 R.a9 R.a10 R.a11 (lidx_main_v109 i k) : EReal) * (val_main_v102 (F := Ideal) (ridx_main_v109 i k) : EReal) = (((Real.exp (-(∑ j ∈ Finset.range (k.val + 1), R.arr.la (i 0).val (i 1).val j)) * R.arr.bx (i 0).val (i 1).val k.val) * (if k.val ≤ (i 2).val then 1 else 0) : ℝ) : EReal) := fun k => by
    rw [v108_i E, v102_i E]; exact (EReal.coe_mul _ _).symm
  refine (Finset.sum_congr rfl fun k _ => hk k).trans ((coe_sum _ _).trans (congrArg _ ?_))
  have h := sum_tri 4096 (i 2).val (h2) (fun k => Real.exp (-∑ j ∈ Finset.range (k + 1), R.arr.la (i 0).val (i 1).val j) * R.arr.bx (i 0).val (i 1).val k)
  rw [← h]
  exact Finset.sum_congr rfl fun k _ => mul_comm _ _

theorem v110_i (i : S8x4096x1024.Idx) : val_main_v110 (F := Ideal) R.a0 R.a3 R.a4 R.a5 R.a6 R.a7 R.a8 R.a9 R.a10 R.a11 i = ((∑ k ∈ Finset.range ((i 1).val + 1), Real.exp (-∑ j ∈ Finset.range (k + 1), R.arr.la (i 0).val (i 2).val j) * R.arr.bx (i 0).val (i 2).val k : ℝ) : EReal) := by
  have h0 : (i 0).val < 8 := (i 0).isLt
  have h1 : (i 1).val < 4096 := (i 1).isLt
  have h2 : (i 2).val < 1024 := (i 2).isLt
  rw [val_main_v110_apply, v109_i E]
  try rfl

theorem v111_i (i : S8x4096x1024.Idx) : val_main_v111 (F := Ideal) R.a0 R.a3 R.a4 R.a5 R.a6 R.a7 R.a8 R.a9 R.a10 R.a11 i = ((R.arr.H (i 0).val (i 2).val ((i 1).val + 1) : ℝ) : EReal) := by
  rw [val_main_v111_apply, v105_i E, v110_i E]
  exact (fmul _ _).trans (congrArg _ (by exact (rec0_eq _ _ _).symm))

end Cert.ReferenceIdeal.Layer

end
-- ==== Proof.RGla.lean ====
/- The reference's attention at an index. -/
module

public import proofs.«01_k».proof.Proof.RScan

@[expose] public section

set_option maxHeartbeats 1000000

noncomputable section

namespace Cert.ReferenceIdeal.Layer

open Idealize.ShloMosaic Idealize.SL.Sem
open Cert.ReferenceIdeal Cert.ReferenceIdeal.Gen Cert.ReferenceIdeal.Read Cert.Layer

variable {R : Raw} (E : R.Re)
include E

theorem v112_i (i : S8x64x64x4x64.Idx) : val_main_v112 (F := Ideal) R.a0 R.a3 R.a4 i = ((R.arr.pj (i 0).val (64 * (i 1).val + (i 2).val) (1024 + (64 * (i 3).val + (i 4).val)) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 64 := (i 4).isLt
  rw [val_main_v112_apply, v17_i E]
  have e0 : ((idx_main_v112 i) 0).val = (i 0).val := by
    show ((((((i 0).val) * 64 + ((i 1).val)) * 64 + ((i 2).val)) * 4 + ((i 3).val)) * 64 + ((i 4).val)) / 1048576 = (i 0).val
    omega
  have e1 : ((idx_main_v112 i) 1).val = 64 * (i 1).val + (i 2).val := by
    show ((((((i 0).val) * 64 + ((i 1).val)) * 64 + ((i 2).val)) * 4 + ((i 3).val)) * 64 + ((i 4).val)) / 256 % 4096 = 64 * (i 1).val + (i 2).val
    omega
  have e2 : ((idx_main_v112 i) 2).val = 64 * (i 3).val + (i 4).val := by
    show ((((((i 0).val) * 64 + ((i 1).val)) * 64 + ((i 2).val)) * 4 + ((i 3).val)) * 64 + ((i 4).val)) % 256 = 64 * (i 3).val + (i 4).val
    omega
  try rw [e0]
  try rw [e1]
  try rw [e2]
  try rfl

theorem v113_i (i : S8x64x64x4x64.Idx) : val_main_v113 (F := Ideal) i = ((1 / 8 : ℝ) : EReal) := by
  rw [val_main_v113_apply, val_main_cst_10_apply]; exact w_eighth

theorem v114_i (i : S8x64x64x4x64.Idx) : val_main_v114 (F := Ideal) R.a0 R.a3 R.a4 i = ((R.arr.pj (i 0).val (64 * (i 1).val + (i 2).val) (1024 + (64 * (i 3).val + (i 4).val)) * (1 / 8) : ℝ) : EReal) := by
  rw [val_main_v114_apply, v112_i E, v113_i E]
  exact (fmul _ _).trans (congrArg _ (by rfl))

theorem v115_i (i : S8x64x64x4x64.Idx) : val_main_v115 (F := Ideal) R.a0 R.a3 R.a4 i = ((R.arr.pj (i 0).val (64 * (i 1).val + (i 2).val) (1280 + (64 * (i 3).val + (i 4).val)) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 64 := (i 4).isLt
  rw [val_main_v115_apply, v18_i E]
  have e0 : ((idx_main_v115 i) 0).val = (i 0).val := by
    show ((((((i 0).val) * 64 + ((i 1).val)) * 64 + ((i 2).val)) * 4 + ((i 3).val)) * 64 + ((i 4).val)) / 1048576 = (i 0).val
    omega
  have e1 : ((idx_main_v115 i) 1).val = 64 * (i 1).val + (i 2).val := by
    show ((((((i 0).val) * 64 + ((i 1).val)) * 64 + ((i 2).val)) * 4 + ((i 3).val)) * 64 + ((i 4).val)) / 256 % 4096 = 64 * (i 1).val + (i 2).val
    omega
  have e2 : ((idx_main_v115 i) 2).val = 64 * (i 3).val + (i 4).val := by
    show ((((((i 0).val) * 64 + ((i 1).val)) * 64 + ((i 2).val)) * 4 + ((i 3).val)) * 64 + ((i 4).val)) % 256 = 64 * (i 3).val + (i 4).val
    omega
  try rw [e0]
  try rw [e1]
  try rw [e2]
  try rfl

theorem v116_i (i : S8x64x64x4x128.Idx) : val_main_v116 (F := Ideal) R.a0 R.a3 R.a4 i = ((R.arr.vv (i 0).val (i 1).val (i 2).val (128 * (i 3).val + (i 4).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  rw [val_main_v116_apply, v19_i E]
  have e0 : ((idx_main_v116 i) 0).val = (i 0).val := by
    show ((((((i 0).val) * 64 + ((i 1).val)) * 64 + ((i 2).val)) * 4 + ((i 3).val)) * 128 + ((i 4).val)) / 2097152 = (i 0).val
    omega
  have e1 : ((idx_main_v116 i) 1).val = 64 * (i 1).val + (i 2).val := by
    show ((((((i 0).val) * 64 + ((i 1).val)) * 64 + ((i 2).val)) * 4 + ((i 3).val)) * 128 + ((i 4).val)) / 512 % 4096 = 64 * (i 1).val + (i 2).val
    omega
  have e2 : ((idx_main_v116 i) 2).val = 128 * (i 3).val + (i 4).val := by
    show ((((((i 0).val) * 64 + ((i 1).val)) * 64 + ((i 2).val)) * 4 + ((i 3).val)) * 128 + ((i 4).val)) % 512 = 128 * (i 3).val + (i 4).val
    omega
  try rw [e0]
  try rw [e1]
  try rw [e2]
  try rfl

theorem v117_i (i : S16x256.Idx) : val_main_v117 (F := Ideal) R.a12 i = ((R.arr.wg (i 0).val (i 1).val : ℝ) : EReal) := by
  have h0 : (i 0).val < 16 := (i 0).isLt
  have h1 : (i 1).val < 256 := (i 1).isLt
  rw [val_main_v117_apply, wg_i E]
  have e1 : ((idx_main_v117 i) 1).val = (i 0).val := by
    show (((i 0).val) * 256 + ((i 1).val)) / 256 % 16 = (i 0).val
    omega
  have e2 : ((idx_main_v117 i) 2).val = (i 1).val := by
    show (((i 0).val) * 256 + ((i 1).val)) % 256 = (i 1).val
    omega
  try rw [e1]
  try rw [e2]
  try rfl

theorem v118_i (i : S8x4096x256.Idx) : val_main_v118 (F := Ideal) R.a0 R.a3 R.a4 R.a12 i = ((∑ k : Fin 16, R.arr.pj (i 0).val (i 1).val (2048 + k.val) * R.arr.wg k.val (i 2).val : ℝ) : EReal) := by
  have h0 : (i 0).val < 8 := (i 0).isLt
  have h1 : (i 1).val < 4096 := (i 1).isLt
  have h2 : (i 2).val < 256 := (i 2).isLt
  rw [val_main_v118_apply]
  have hk : ∀ k : Fin 16, (val_main_v20 (F := Ideal) R.a0 R.a3 R.a4 (lidx_main_v118 i k) : EReal) * (val_main_v117 (F := Ideal) R.a12 (ridx_main_v118 i k) : EReal) = (((R.arr.pj (i 0).val (i 1).val (2048 + k.val)) * (R.arr.wg k.val (i 2).val) : ℝ) : EReal) := fun k => by
    rw [v20_i E, v117_i E]; exact (EReal.coe_mul _ _).symm
  refine (Finset.sum_congr rfl fun k _ => hk k).trans ((coe_sum _ _).trans (congrArg _ ?_))
  rfl

theorem v121_i (i : S8x4096x256.Idx) : val_main_v121 (F := Ideal) R.a13 i = ((R.arr.bg (i 2).val : ℝ) : EReal) := by
  have h0 : (i 0).val < 8 := (i 0).isLt
  have h1 : (i 1).val < 4096 := (i 1).isLt
  have h2 : (i 2).val < 256 := (i 2).isLt
  rw [val_main_v121_apply, val_main_v120_apply, val_main_v119_apply, bg_i E]
  have e1 : ((idx_main_v119 (idx_main_v120 (idx_main_v121 i))) 1).val = (i 2).val := by
    show (((((i 2).val)))) % 256 = (i 2).val
    omega
  try rw [e1]
  try rfl

theorem v122_i (i : S8x4096x256.Idx) : val_main_v122 (F := Ideal) R.a0 R.a3 R.a4 R.a12 R.a13 i = (((∑ k : Fin 16, R.arr.pj (i 0).val (i 1).val (2048 + k.val) * R.arr.wg k.val (i 2).val) + R.arr.bg (i 2).val : ℝ) : EReal) := by
  rw [val_main_v122_apply, v118_i E, v121_i E]
  exact (fadd _ _).trans (congrArg _ (by rfl))

theorem call2_v0_i (i : S8x4096x256.Idx) : val_main_call2_v0 (F := Ideal) R.a0 R.a3 R.a4 R.a12 R.a13 i = ((-((∑ k : Fin 16, R.arr.pj (i 0).val (i 1).val (2048 + k.val) * R.arr.wg k.val (i 2).val) + R.arr.bg (i 2).val) : ℝ) : EReal) := by
  rw [val_main_call2_v0_apply, v122_i E]
  exact (fneg _).trans (congrArg _ (by rfl))

theorem call2_call0_v0_i (i : S8x4096x256.Idx) : val_main_call2_call0_v0 (F := Ideal) i = ((0 : ℝ) : EReal) := by
  rw [val_main_call2_call0_v0_apply, val_main_call2_call0_cst_apply]; exact w_zero

theorem call2_call0_v2_i (i : S8x4096x256.Idx) : val_main_call2_call0_v2 (F := Ideal) i = ((0 : ℝ) : EReal) := by
  rw [val_main_call2_call0_v2_apply, val_main_call2_call0_cst_apply]; exact w_zero

theorem call2_call0_v5_i (i : S8x4096x256.Idx) : val_main_call2_call0_v5 (F := Ideal) i = ((0 : ℝ) : EReal) := by
  rw [val_main_call2_call0_v5_apply, val_main_call2_call0_cst_apply]; exact w_zero

theorem call2_v1_i (i : S8x4096x256.Idx) : val_main_call2_v1 (F := Ideal) R.a0 R.a3 R.a4 R.a12 R.a13 i = ((sp (-((∑ k : Fin 16, R.arr.pj (i 0).val (i 1).val (2048 + k.val) * R.arr.wg k.val (i 2).val) + R.arr.bg (i 2).val)) : ℝ) : EReal) := by
  rw [val_main_call2_v1_apply, val_main_call2_call0_v4_apply, val_main_call2_call0_v6_apply, val_main_call2_call0_v11_apply, val_main_call2_call0_v1_apply, val_main_call2_call0_v10_apply, val_main_call2_call0_v9_apply, val_main_call2_call0_v8_apply, val_main_call2_call0_v7_apply, val_main_call2_call0_v3_apply, call2_v0_i E, call2_call0_v0_i E, call2_call0_v2_i E, call2_call0_v5_i E]; exact fsp _

theorem v124_i (i : S8x4096x256.Idx) : val_main_v124 (F := Ideal) i = ((16 : ℝ) : EReal) := by
  rw [val_main_v124_apply, val_main_cst_11_apply]; exact w_sixteen

theorem v125_i (i : S8x4096x256.Idx) : val_main_v125 (F := Ideal) R.a0 R.a3 R.a4 R.a12 R.a13 i = ((R.arr.al (i 0).val (i 2).val (i 1).val : ℝ) : EReal) := by
  rw [val_main_v125_apply, val_main_v123_apply, call2_v1_i E, v124_i E, fneg]; exact fdiv _ (by norm_num)

theorem v126_i (i : S8x64x64x4x64.Idx) : val_main_v126 (F := Ideal) R.a0 R.a3 R.a4 R.a12 R.a13 i = ((R.arr.al (i 0).val (64 * (i 3).val + (i 4).val) (64 * (i 1).val + (i 2).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 64 := (i 4).isLt
  rw [val_main_v126_apply, v125_i E]
  have e0 : ((idx_main_v126 i) 0).val = (i 0).val := by
    show ((((((i 0).val) * 64 + ((i 1).val)) * 64 + ((i 2).val)) * 4 + ((i 3).val)) * 64 + ((i 4).val)) / 1048576 = (i 0).val
    omega
  have e1 : ((idx_main_v126 i) 1).val = 64 * (i 1).val + (i 2).val := by
    show ((((((i 0).val) * 64 + ((i 1).val)) * 64 + ((i 2).val)) * 4 + ((i 3).val)) * 64 + ((i 4).val)) / 256 % 4096 = 64 * (i 1).val + (i 2).val
    omega
  have e2 : ((idx_main_v126 i) 2).val = 64 * (i 3).val + (i 4).val := by
    show ((((((i 0).val) * 64 + ((i 1).val)) * 64 + ((i 2).val)) * 4 + ((i 3).val)) * 64 + ((i 4).val)) % 256 = 64 * (i 3).val + (i 4).val
    omega
  try rw [e0]
  try rw [e1]
  try rw [e2]
  try rfl

theorem v127_i (i : S64x64.Idx) : val_main_v127 (F := Ideal) i = ((1 : ℝ) : EReal) := by
  rw [val_main_v127_apply, val_main_cst_12_apply]; exact w_one

theorem call3_v5_i (i : S64x64.Idx) : val_main_call3_v5 (F := Ideal) i = ((0 : ℝ) : EReal) := by
  rw [val_main_call3_v5_apply, val_main_call3_cst_apply]; exact w_zero

theorem v129_i (i : S64x64.Idx) : val_main_v129 (F := Ideal) i = ((1 : ℝ) : EReal) := by
  rw [val_main_v129_apply, val_main_cst_13_apply]; exact w_one

theorem call4_v5_i (i : S64x64.Idx) : val_main_call4_v5 (F := Ideal) i = ((0 : ℝ) : EReal) := by
  rw [val_main_call4_v5_apply, val_main_call4_cst_apply]; exact w_zero

theorem v128_i (i : S64x64.Idx) : val_main_v128 (F := Ideal) i = ((if (i 1).val ≤ (i 0).val then 1 else 0 : ℝ) : EReal) := by
  have h0 : (i 0).val < 64 := (i 0).isLt
  have h1 : (i 1).val < 64 := (i 1).isLt
  rw [val_main_v128_apply, val_main_call3_v4_apply, val_main_call3_v2_apply, val_main_call3_v0_apply, val_main_call3_v1_apply, val_main_call3_c_apply, val_main_call3_v3_apply, v127_i E, call3_v5_i E]
  rw [tri _ _ 0 (by omega) (by omega)]
  split <;> rfl

theorem v130_i (i : S64x64.Idx) : val_main_v130 (F := Ideal) i = ((if (i 1).val < (i 0).val then 1 else 0 : ℝ) : EReal) := by
  have h0 : (i 0).val < 64 := (i 0).isLt
  have h1 : (i 1).val < 64 := (i 1).isLt
  rw [val_main_v130_apply, val_main_call4_v4_apply, val_main_call4_v2_apply, val_main_call4_v0_apply, val_main_call4_v1_apply, val_main_call4_c_apply, val_main_call4_v3_apply, v129_i E, call4_v5_i E]
  refine (stri (i 0) (i 1) _ _).trans ?_
  split <;> rfl

theorem v131_i (i : S8x64x4x64x64.Idx) : val_main_v131 (F := Ideal) R.a0 R.a3 R.a4 R.a12 R.a13 i = ((R.arr.cum (i 0).val (i 1).val (i 4).val (64 * (i 2).val + (i 3).val) : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 64 := (i 4).isLt
  rw [val_main_v131_apply]
  have hk : ∀ k : Fin 64, (val_main_v126 (F := Ideal) R.a0 R.a3 R.a4 R.a12 R.a13 (lidx_main_v131 i k) : EReal) * (val_main_v128 (F := Ideal) (ridx_main_v131 i k) : EReal) = (((R.arr.al (i 0).val (64 * (i 2).val + (i 3).val) (64 * (i 1).val + k.val)) * (if k.val ≤ (i 4).val then 1 else 0) : ℝ) : EReal) := fun k => by
    rw [v126_i E, v128_i E]; exact (EReal.coe_mul _ _).symm
  refine (Finset.sum_congr rfl fun k _ => hk k).trans ((coe_sum _ _).trans (congrArg _ ?_))
  have h := sum_tri 64 (i 4).val (h4) (fun k => R.arr.al (i 0).val (64 * (i 2).val + (i 3).val) (64 * (i 1).val + k))
  unfold Arr.cum
  rw [← h]
  exact Finset.sum_congr rfl fun k _ => mul_comm _ _

theorem v132_i (i : S8x64x64x4x64.Idx) : val_main_v132 (F := Ideal) R.a0 R.a3 R.a4 R.a12 R.a13 i = ((R.arr.cum (i 0).val (i 1).val (i 2).val (64 * (i 3).val + (i 4).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 64 := (i 4).isLt
  rw [val_main_v132_apply, v131_i E]
  try rfl

theorem v133_i (i : S8x64x1x4x64.Idx) : val_main_v133 (F := Ideal) R.a0 R.a3 R.a4 R.a12 R.a13 i = ((R.arr.cum (i 0).val (i 1).val 63 (64 * (i 3).val + (i 4).val) : ℝ) : EReal) := by
  have h0 : (i 0).val < 8 := (i 0).isLt
  have h1 : (i 1).val < 64 := (i 1).isLt
  have h2 : (i 2).val < 1 := (i 2).isLt
  have h3 : (i 3).val < 4 := (i 3).isLt
  have h4 : (i 4).val < 64 := (i 4).isLt
  rw [val_main_v133_apply, v132_i E]
  have e2 : ((idx_main_v133 i) 2).val = 63 := by
    show 63 + ((i 2).val) = 63
    omega
  try rw [e2]
  try rfl

theorem v134_i (i : S8x64x64x4x64.Idx) : val_main_v134 (F := Ideal) R.a0 R.a3 R.a4 R.a12 R.a13 i = ((Real.exp (R.arr.cum (i 0).val (i 1).val (i 2).val (64 * (i 3).val + (i 4).val)) : ℝ) : EReal) := by
  rw [val_main_v134_apply, v132_i E]
  exact (fexp _).trans (congrArg _ (by rfl))

theorem v135_i (i : S8x64x64x4x64.Idx) : val_main_v135 (F := Ideal) R.a0 R.a3 R.a4 R.a12 R.a13 i = ((R.arr.qd (i 0).val (i 1).val (i 2).val (64 * (i 3).val + (i 4).val) : ℝ) : EReal) := by
  rw [val_main_v135_apply, v114_i E, v134_i E]
  exact (fmul _ _).trans (congrArg _ (by rfl))

theorem v137_i (i : S8x64x64x4x64.Idx) : val_main_v137 (F := Ideal) R.a0 R.a3 R.a4 R.a12 R.a13 i = ((Real.exp (-R.arr.cum (i 0).val (i 1).val (i 2).val (64 * (i 3).val + (i 4).val)) : ℝ) : EReal) := by
  rw [val_main_v137_apply, val_main_v136_apply, v132_i E, fneg]; exact fexp _

theorem v138_i (i : S8x64x64x4x64.Idx) : val_main_v138 (F := Ideal) R.a0 R.a3 R.a4 R.a12 R.a13 i = ((R.arr.kd (i 0).val (i 1).val (i 2).val (64 * (i 3).val + (i 4).val) : ℝ) : EReal) := by
  rw [val_main_v138_apply, v115_i E, v137_i E]
  exact (fmul _ _).trans (congrArg _ (by rfl))

theorem v139_i (i : S8x64x4x64x64.Idx) : val_main_v139 (F := Ideal) R.a0 R.a3 R.a4 R.a12 R.a13 i = ((∑ k : Fin 64, R.arr.qd (i 0).val (i 1).val (i 3).val (64 * (i 2).val + k.val) * R.arr.kd (i 0).val (i 1).val (i 4).val (64 * (i 2).val + k.val) : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 64 := (i 4).isLt
  rw [val_main_v139_apply]
  have hk : ∀ k : Fin 64, (val_main_v135 (F := Ideal) R.a0 R.a3 R.a4 R.a12 R.a13 (lidx_main_v139 i k) : EReal) * (val_main_v138 (F := Ideal) R.a0 R.a3 R.a4 R.a12 R.a13 (ridx_main_v139 i k) : EReal) = (((R.arr.qd (i 0).val (i 1).val (i 3).val (64 * (i 2).val + k.val)) * (R.arr.kd (i 0).val (i 1).val (i 4).val (64 * (i 2).val + k.val)) : ℝ) : EReal) := fun k => by
    rw [v135_i E, v138_i E]; exact (EReal.coe_mul _ _).symm
  refine (Finset.sum_congr rfl fun k _ => hk k).trans ((coe_sum _ _).trans (congrArg _ ?_))
  rfl

theorem v141_i (i : S64x64.Idx) : val_main_v141 (F := Ideal) i = if (i 1).val ≤ (i 0).val then 1#1 else 0#1 := by
  have h0 : (i 0).val < 64 := (i 0).isLt
  have h1 : (i 1).val < 64 := (i 1).isLt
  rw [val_main_v141_apply, val_main_call5_v4_apply, val_main_call5_v2_apply, val_main_call5_v0_apply, val_main_call5_v1_apply, val_main_call5_c_apply, val_main_call5_v3_apply, val_main_v140_apply, val_main_c_apply, val_main_call5_v5_apply, val_main_call5_c_0_apply]
  exact tri _ _ 0 (by omega) (by omega) _ _

theorem v142_i (i : S8x64x4x64x64.Idx) : val_main_v142 (F := Ideal) R.a0 R.a3 R.a4 R.a12 R.a13 i = ((if (i 4).val ≤ (i 3).val then ∑ k : Fin 64, R.arr.qd (i 0).val (i 1).val (i 3).val (64 * (i 2).val + k.val) * R.arr.kd (i 0).val (i 1).val (i 4).val (64 * (i 2).val + k.val) else 0 : ℝ) : EReal) := by
  rw [val_main_v142_apply, v139_i E, val_main_call6_v1_apply, v141_i E, val_main_call6_v2_apply, val_main_call6_v0_apply, val_main_cst_14_apply]
  show Scalar.select (if (i 4).val ≤ (i 3).val then 1#1 else 0#1) _ _ = _
  split
  · rfl
  · exact w_zero

theorem v143_i (i : S8x64x4x128x64.Idx) : val_main_v143 (F := Ideal) R.a0 R.a3 R.a4 R.a12 R.a13 i = ((∑ k : Fin 64, (if k.val ≤ (i 4).val then ∑ k_1 : Fin 64, R.arr.qd (i 0).val (i 1).val (i 4).val (64 * (i 2).val + k_1.val) * R.arr.kd (i 0).val (i 1).val k.val (64 * (i 2).val + k_1.val) else 0) * R.arr.vv (i 0).val (i 1).val k.val (128 * (i 2).val + (i 3).val) : ℝ) : EReal) := by
  have h0 : (i 0).val < 8 := (i 0).isLt
  have h1 : (i 1).val < 64 := (i 1).isLt
  have h2 : (i 2).val < 4 := (i 2).isLt
  have h3 : (i 3).val < 128 := (i 3).isLt
  have h4 : (i 4).val < 64 := (i 4).isLt
  rw [val_main_v143_apply]
  have hk : ∀ k : Fin 64, (val_main_v116 (F := Ideal) R.a0 R.a3 R.a4 (lidx_main_v143 i k) : EReal) * (val_main_v142 (F := Ideal) R.a0 R.a3 R.a4 R.a12 R.a13 (ridx_main_v143 i k) : EReal) = (((R.arr.vv (i 0).val (i 1).val k.val (128 * (i 2).val + (i 3).val)) * (if k.val ≤ (i 4).val then ∑ k_1 : Fin 64, R.arr.qd (i 0).val (i 1).val (i 4).val (64 * (i 2).val + k_1.val) * R.arr.kd (i 0).val (i 1).val k.val (64 * (i 2).val + k_1.val) else 0) : ℝ) : EReal) := fun k => by
    rw [v116_i E, v142_i E]; exact (EReal.coe_mul _ _).symm
  refine (Finset.sum_congr rfl fun k _ => hk k).trans ((coe_sum _ _).trans (congrArg _ ?_))
  exact Finset.sum_congr rfl fun k _ => mul_comm _ _

theorem v144_i (i : S8x64x64x4x128.Idx) : val_main_v144 (F := Ideal) R.a0 R.a3 R.a4 R.a12 R.a13 i = ((∑ k : Fin 64, (if k.val ≤ (i 2).val then ∑ k_1 : Fin 64, R.arr.qd (i 0).val (i 1).val (i 2).val (64 * (i 3).val + k_1.val) * R.arr.kd (i 0).val (i 1).val k.val (64 * (i 3).val + k_1.val) else 0) * R.arr.vv (i 0).val (i 1).val k.val (128 * (i 3).val + (i 4).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  rw [val_main_v144_apply, v143_i E]
  try rfl

theorem v145_i (i : S8x64x64x4x64.Idx) : val_main_v145 (F := Ideal) R.a0 R.a3 R.a4 R.a12 R.a13 i = ((R.arr.cum (i 0).val (i 1).val 63 (64 * (i 3).val + (i 4).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 64 := (i 4).isLt
  rw [val_main_v145_apply, v133_i E]
  try rfl

theorem v146_i (i : S8x64x64x4x64.Idx) : val_main_v146 (F := Ideal) R.a0 R.a3 R.a4 R.a12 R.a13 i = ((R.arr.cum (i 0).val (i 1).val 63 (64 * (i 3).val + (i 4).val) - R.arr.cum (i 0).val (i 1).val (i 2).val (64 * (i 3).val + (i 4).val) : ℝ) : EReal) := by
  rw [val_main_v146_apply, v145_i E, v132_i E]
  exact (fsub _ _).trans (congrArg _ (by rfl))

theorem v147_i (i : S8x64x64x4x64.Idx) : val_main_v147 (F := Ideal) R.a0 R.a3 R.a4 R.a12 R.a13 i = ((Real.exp (R.arr.cum (i 0).val (i 1).val 63 (64 * (i 3).val + (i 4).val) - R.arr.cum (i 0).val (i 1).val (i 2).val (64 * (i 3).val + (i 4).val)) : ℝ) : EReal) := by
  rw [val_main_v147_apply, v146_i E]
  exact (fexp _).trans (congrArg _ (by rfl))

theorem v148_i (i : S8x64x64x4x64.Idx) : val_main_v148 (F := Ideal) R.a0 R.a3 R.a4 R.a12 R.a13 i = ((R.arr.kr (i 0).val (i 1).val (i 2).val (64 * (i 3).val + (i 4).val) : ℝ) : EReal) := by
  rw [val_main_v148_apply, v115_i E, v147_i E]
  exact (fmul _ _).trans (congrArg _ (by rfl))

theorem v149_i (i : S8x64x4x64x128.Idx) : val_main_v149 (F := Ideal) R.a0 R.a3 R.a4 R.a12 R.a13 i = ((R.arr.kv (i 0).val (128 * (i 2).val + (i 4).val) (64 * (i 2).val + (i 3).val) (i 1).val : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 128 := (i 4).isLt
  rw [val_main_v149_apply]
  have hk : ∀ k : Fin 64, (val_main_v148 (F := Ideal) R.a0 R.a3 R.a4 R.a12 R.a13 (lidx_main_v149 i k) : EReal) * (val_main_v116 (F := Ideal) R.a0 R.a3 R.a4 (ridx_main_v149 i k) : EReal) = (((R.arr.kr (i 0).val (i 1).val k.val (64 * (i 2).val + (i 3).val)) * (R.arr.vv (i 0).val (i 1).val k.val (128 * (i 2).val + (i 4).val)) : ℝ) : EReal) := fun k => by
    rw [v148_i E, v116_i E]; exact (EReal.coe_mul _ _).symm
  refine (Finset.sum_congr rfl fun k _ => hk k).trans ((coe_sum _ _).trans (congrArg _ ?_))
  exact Finset.sum_congr rfl fun k _ => mul_comm _ _

theorem v150_i (i : S8x64x4x64.Idx) : val_main_v150 (F := Ideal) R.a0 R.a3 R.a4 R.a12 R.a13 i = ((R.arr.cum (i 0).val (i 1).val 63 (64 * (i 2).val + (i 3).val) : ℝ) : EReal) := by
  have h0 : (i 0).val < 8 := (i 0).isLt
  have h1 : (i 1).val < 64 := (i 1).isLt
  have h2 : (i 2).val < 4 := (i 2).isLt
  have h3 : (i 3).val < 64 := (i 3).isLt
  rw [val_main_v150_apply, v133_i E]
  have e0 : ((idx_main_v150 i) 0).val = (i 0).val := by
    show (((((i 0).val) * 64 + ((i 1).val)) * 4 + ((i 2).val)) * 64 + ((i 3).val)) / 16384 = (i 0).val
    omega
  have e1 : ((idx_main_v150 i) 1).val = (i 1).val := by
    show (((((i 0).val) * 64 + ((i 1).val)) * 4 + ((i 2).val)) * 64 + ((i 3).val)) / 256 % 64 = (i 1).val
    omega
  have e3 : ((idx_main_v150 i) 3).val = (i 2).val := by
    show (((((i 0).val) * 64 + ((i 1).val)) * 4 + ((i 2).val)) * 64 + ((i 3).val)) / 64 % 4 = (i 2).val
    omega
  have e4 : ((idx_main_v150 i) 4).val = (i 3).val := by
    show (((((i 0).val) * 64 + ((i 1).val)) * 4 + ((i 2).val)) * 64 + ((i 3).val)) % 64 = (i 3).val
    omega
  try rw [e0]
  try rw [e1]
  try rw [e3]
  try rw [e4]
  try rfl

theorem v151_i (i : S8x4x64x64.Idx) : val_main_v151 (F := Ideal) R.a0 R.a3 R.a4 R.a12 R.a13 i = ((∑ k ∈ Finset.range (i 3).val, R.arr.cum (i 0).val k 63 (64 * (i 1).val + (i 2).val) : ℝ) : EReal) := by
  have h0 : (i 0).val < 8 := (i 0).isLt
  have h1 : (i 1).val < 4 := (i 1).isLt
  have h2 : (i 2).val < 64 := (i 2).isLt
  have h3 : (i 3).val < 64 := (i 3).isLt
  rw [val_main_v151_apply]
  have hk : ∀ k : Fin 64, (val_main_v150 (F := Ideal) R.a0 R.a3 R.a4 R.a12 R.a13 (lidx_main_v151 i k) : EReal) * (val_main_v130 (F := Ideal) (ridx_main_v151 i k) : EReal) = (((R.arr.cum (i 0).val k.val 63 (64 * (i 1).val + (i 2).val)) * (if k.val < (i 3).val then 1 else 0) : ℝ) : EReal) := fun k => by
    rw [v150_i E, v130_i E]; exact (EReal.coe_mul _ _).symm
  refine (Finset.sum_congr rfl fun k _ => hk k).trans ((coe_sum _ _).trans (congrArg _ ?_))
  have h := sum_tri_lt 64 (i 3).val (h3) (fun k => R.arr.cum (i 0).val k 63 (64 * (i 1).val + (i 2).val))
  rw [← h]
  exact Finset.sum_congr rfl fun k _ => mul_comm _ _

theorem v152_i (i : S8x64x4x64.Idx) : val_main_v152 (F := Ideal) R.a0 R.a3 R.a4 R.a12 R.a13 i = ((∑ k ∈ Finset.range (i 1).val, R.arr.cum (i 0).val k 63 (64 * (i 2).val + (i 3).val) : ℝ) : EReal) := by
  have h0 : (i 0).val < 8 := (i 0).isLt
  have h1 : (i 1).val < 64 := (i 1).isLt
  have h2 : (i 2).val < 4 := (i 2).isLt
  have h3 : (i 3).val < 64 := (i 3).isLt
  rw [val_main_v152_apply, v151_i E]
  try rfl

theorem v153_i (i : S8x4x64x64.Idx) : val_main_v153 (F := Ideal) R.a0 R.a3 R.a4 R.a12 R.a13 i = ((∑ k ∈ Finset.range ((i 3).val + 1), R.arr.cum (i 0).val k 63 (64 * (i 1).val + (i 2).val) : ℝ) : EReal) := by
  have h0 : (i 0).val < 8 := (i 0).isLt
  have h1 : (i 1).val < 4 := (i 1).isLt
  have h2 : (i 2).val < 64 := (i 2).isLt
  have h3 : (i 3).val < 64 := (i 3).isLt
  rw [val_main_v153_apply]
  have hk : ∀ k : Fin 64, (val_main_v150 (F := Ideal) R.a0 R.a3 R.a4 R.a12 R.a13 (lidx_main_v153 i k) : EReal) * (val_main_v128 (F := Ideal) (ridx_main_v153 i k) : EReal) = (((R.arr.cum (i 0).val k.val 63 (64 * (i 1).val + (i 2).val)) * (if k.val ≤ (i 3).val then 1 else 0) : ℝ) : EReal) := fun k => by
    rw [v150_i E, v128_i E]; exact (EReal.coe_mul _ _).symm
  refine (Finset.sum_congr rfl fun k _ => hk k).trans ((coe_sum _ _).trans (congrArg _ ?_))
  have h := sum_tri 64 (i 3).val (h3) (fun k => R.arr.cum (i 0).val k 63 (64 * (i 1).val + (i 2).val))
  rw [← h]
  exact Finset.sum_congr rfl fun k _ => mul_comm _ _

theorem v154_i (i : S8x64x4x64.Idx) : val_main_v154 (F := Ideal) R.a0 R.a3 R.a4 R.a12 R.a13 i = ((∑ k ∈ Finset.range ((i 1).val + 1), R.arr.cum (i 0).val k 63 (64 * (i 2).val + (i 3).val) : ℝ) : EReal) := by
  have h0 : (i 0).val < 8 := (i 0).isLt
  have h1 : (i 1).val < 64 := (i 1).isLt
  have h2 : (i 2).val < 4 := (i 2).isLt
  have h3 : (i 3).val < 64 := (i 3).isLt
  rw [val_main_v154_apply, v153_i E]
  try rfl

theorem v155_i (i : S8x64x4x64.Idx) : val_main_v155 (F := Ideal) R.a0 R.a3 R.a4 R.a12 R.a13 i = ((Real.exp (∑ k ∈ Finset.range (i 1).val, R.arr.cum (i 0).val k 63 (64 * (i 2).val + (i 3).val)) : ℝ) : EReal) := by
  rw [val_main_v155_apply, v152_i E]
  exact (fexp _).trans (congrArg _ (by rfl))

theorem v158_i (i : S8x64x4x64.Idx) : val_main_v158 (F := Ideal) R.a0 R.a3 R.a4 R.a12 R.a13 i = ((Real.exp (-∑ k ∈ Finset.range ((i 1).val + 1), R.arr.cum (i 0).val k 63 (64 * (i 2).val + (i 3).val)) : ℝ) : EReal) := by
  rw [val_main_v158_apply, val_main_v157_apply, v154_i E, fneg]; exact fexp _

theorem v160_i (i : S8x64x4x64x128.Idx) : val_main_v160 (F := Ideal) R.a0 R.a3 R.a4 R.a12 R.a13 i = ((Real.exp (-∑ k ∈ Finset.range ((i 1).val + 1), R.arr.cum (i 0).val k 63 (64 * (i 2).val + (i 3).val)) : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 128 := (i 4).isLt
  rw [val_main_v160_apply, val_main_v159_apply, v158_i E]
  try rfl

theorem v161_i (i : S8x64x4x64x128.Idx) : val_main_v161 (F := Ideal) R.a0 R.a3 R.a4 R.a12 R.a13 i = ((Real.exp (-∑ k ∈ Finset.range ((i 1).val + 1), R.arr.cum (i 0).val k 63 (64 * (i 2).val + (i 3).val)) * R.arr.kv (i 0).val (128 * (i 2).val + (i 4).val) (64 * (i 2).val + (i 3).val) (i 1).val : ℝ) : EReal) := by
  rw [val_main_v161_apply, v160_i E, v149_i E]
  exact (fmul _ _).trans (congrArg _ (by rfl))

theorem v162_i (i : S8x4x64x128x64.Idx) : val_main_v162 (F := Ideal) R.a0 R.a3 R.a4 R.a12 R.a13 i = ((∑ k ∈ Finset.range (i 4).val, Real.exp (-∑ j ∈ Finset.range (k + 1), R.arr.cum (i 0).val j 63 (64 * (i 1).val + (i 2).val)) * R.arr.kv (i 0).val (128 * (i 1).val + (i 3).val) (64 * (i 1).val + (i 2).val) k : ℝ) : EReal) := by
  have h0 : (i 0).val < 8 := (i 0).isLt
  have h1 : (i 1).val < 4 := (i 1).isLt
  have h2 : (i 2).val < 64 := (i 2).isLt
  have h3 : (i 3).val < 128 := (i 3).isLt
  have h4 : (i 4).val < 64 := (i 4).isLt
  rw [val_main_v162_apply]
  have hk : ∀ k : Fin 64, (val_main_v161 (F := Ideal) R.a0 R.a3 R.a4 R.a12 R.a13 (lidx_main_v162 i k) : EReal) * (val_main_v130 (F := Ideal) (ridx_main_v162 i k) : EReal) = (((Real.exp (-∑ j ∈ Finset.range (k.val + 1), R.arr.cum (i 0).val j 63 (64 * (i 1).val + (i 2).val)) * R.arr.kv (i 0).val (128 * (i 1).val + (i 3).val) (64 * (i 1).val + (i 2).val) k.val) * (if k.val < (i 4).val then 1 else 0) : ℝ) : EReal) := fun k => by
    rw [v161_i E, v130_i E]; exact (EReal.coe_mul _ _).symm
  refine (Finset.sum_congr rfl fun k _ => hk k).trans ((coe_sum _ _).trans (congrArg _ ?_))
  have h := sum_tri_lt 64 (i 4).val (h4) (fun k => Real.exp (-∑ j ∈ Finset.range (k + 1), R.arr.cum (i 0).val j 63 (64 * (i 1).val + (i 2).val)) * R.arr.kv (i 0).val (128 * (i 1).val + (i 3).val) (64 * (i 1).val + (i 2).val) k)
  rw [← h]
  exact Finset.sum_congr rfl fun k _ => mul_comm _ _

theorem v163_i (i : S8x64x4x64x128.Idx) : val_main_v163 (F := Ideal) R.a0 R.a3 R.a4 R.a12 R.a13 i = ((∑ k ∈ Finset.range (i 1).val, Real.exp (-∑ j ∈ Finset.range (k + 1), R.arr.cum (i 0).val j 63 (64 * (i 2).val + (i 3).val)) * R.arr.kv (i 0).val (128 * (i 2).val + (i 4).val) (64 * (i 2).val + (i 3).val) k : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 128 := (i 4).isLt
  rw [val_main_v163_apply, v162_i E]
  try rfl

theorem v164_i (i : S8x64x4x64x128.Idx) : val_main_v164 (F := Ideal) R.a0 R.a3 R.a4 R.a12 R.a13 i = ((Real.exp (∑ k ∈ Finset.range (i 1).val, R.arr.cum (i 0).val k 63 (64 * (i 2).val + (i 3).val)) : ℝ) : EReal) := by
  have h0 : (i 0).val < 8 := (i 0).isLt
  have h1 : (i 1).val < 64 := (i 1).isLt
  have h2 : (i 2).val < 4 := (i 2).isLt
  have h3 : (i 3).val < 64 := (i 3).isLt
  have h4 : (i 4).val < 128 := (i 4).isLt
  rw [val_main_v164_apply, val_main_v156_apply, v155_i E]
  try rfl

theorem v165_i (i : S8x64x4x64x128.Idx) : val_main_v165 (F := Ideal) R.a0 R.a3 R.a4 R.a12 R.a13 i = ((R.arr.S (i 0).val (128 * (i 2).val + (i 4).val) (64 * (i 2).val + (i 3).val) (i 1).val : ℝ) : EReal) := by
  rw [val_main_v165_apply, v164_i E, v163_i E]
  exact (fmul _ _).trans (congrArg _ (by exact (rec0_eq _ _ _).symm))

theorem v166_i (i : S8x64x4x128x64.Idx) : val_main_v166 (F := Ideal) R.a0 R.a3 R.a4 R.a12 R.a13 i = ((∑ k : Fin 64, R.arr.qd (i 0).val (i 1).val (i 4).val (64 * (i 2).val + k.val) * R.arr.S (i 0).val (128 * (i 2).val + (i 3).val) (64 * (i 2).val + k.val) (i 1).val : ℝ) : EReal) := by
  have h0 : (i 0).val < 8 := (i 0).isLt
  have h1 : (i 1).val < 64 := (i 1).isLt
  have h2 : (i 2).val < 4 := (i 2).isLt
  have h3 : (i 3).val < 128 := (i 3).isLt
  have h4 : (i 4).val < 64 := (i 4).isLt
  rw [val_main_v166_apply]
  have hk : ∀ k : Fin 64, (val_main_v165 (F := Ideal) R.a0 R.a3 R.a4 R.a12 R.a13 (lidx_main_v166 i k) : EReal) * (val_main_v135 (F := Ideal) R.a0 R.a3 R.a4 R.a12 R.a13 (ridx_main_v166 i k) : EReal) = (((R.arr.S (i 0).val (128 * (i 2).val + (i 3).val) (64 * (i 2).val + k.val) (i 1).val) * (R.arr.qd (i 0).val (i 1).val (i 4).val (64 * (i 2).val + k.val)) : ℝ) : EReal) := fun k => by
    rw [v165_i E, v135_i E]; exact (EReal.coe_mul _ _).symm
  refine (Finset.sum_congr rfl fun k _ => hk k).trans ((coe_sum _ _).trans (congrArg _ ?_))
  exact Finset.sum_congr rfl fun k _ => mul_comm _ _

theorem v167_i (i : S8x64x64x4x128.Idx) : val_main_v167 (F := Ideal) R.a0 R.a3 R.a4 R.a12 R.a13 i = ((∑ k : Fin 64, R.arr.qd (i 0).val (i 1).val (i 2).val (64 * (i 3).val + k.val) * R.arr.S (i 0).val (128 * (i 3).val + (i 4).val) (64 * (i 3).val + k.val) (i 1).val : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  rw [val_main_v167_apply, v166_i E]
  try rfl

theorem v168_i (i : S8x64x64x4x128.Idx) : val_main_v168 (F := Ideal) R.a0 R.a3 R.a4 R.a12 R.a13 i = ((R.arr.oi (i 0).val (i 1).val (i 2).val (128 * (i 3).val + (i 4).val) : ℝ) : EReal) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  rw [val_main_v168_apply, v144_i E, v167_i E, fadd]
  unfold Arr.oi
  rw [show (128 * (i 3).val + (i 4).val) / 128 = (i 3).val by omega]

theorem v169_i (i : S8x4096x4x128.Idx) : val_main_v169 (F := Ideal) R.a0 R.a3 R.a4 R.a12 R.a13 i = ((R.arr.oi (i 0).val ((i 1).val / 64) ((i 1).val % 64) (128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v169_apply, v168_i E]
  have e0 : ((idx_main_v169 i) 0).val = (i 0).val := by
    show (((((i 0).val) * 4096 + ((i 1).val)) * 4 + ((i 2).val)) * 128 + ((i 3).val)) / 2097152 = (i 0).val
    omega
  have e1 : ((idx_main_v169 i) 1).val = (i 1).val / 64 := by
    show (((((i 0).val) * 4096 + ((i 1).val)) * 4 + ((i 2).val)) * 128 + ((i 3).val)) / 32768 % 64 = (i 1).val / 64
    omega
  have e2 : ((idx_main_v169 i) 2).val = (i 1).val % 64 := by
    show (((((i 0).val) * 4096 + ((i 1).val)) * 4 + ((i 2).val)) * 128 + ((i 3).val)) / 512 % 64 = (i 1).val % 64
    omega
  have e3 : ((idx_main_v169 i) 3).val = (i 2).val := by
    show (((((i 0).val) * 4096 + ((i 1).val)) * 4 + ((i 2).val)) * 128 + ((i 3).val)) / 128 % 4 = (i 2).val
    omega
  have e4 : ((idx_main_v169 i) 4).val = (i 3).val := by
    show (((((i 0).val) * 4096 + ((i 1).val)) * 4 + ((i 2).val)) * 128 + ((i 3).val)) % 128 = (i 3).val
    omega
  try rw [e0]
  try rw [e1]
  try rw [e2]
  try rw [e3]
  try rw [e4]
  try rfl

theorem v171_i (i : S8x4096x4.Idx) : val_main_v171 (F := Ideal) R.a0 R.a3 R.a4 R.a12 R.a13 i = (∑ k : Fin 128, (R.arr.oi (i 0).val ((i 1).val / 64) ((i 1).val % 64) (128 * (i 2).val + k.val) : EReal) * (R.arr.oi (i 0).val ((i 1).val / 64) ((i 1).val % 64) (128 * (i 2).val + k.val) : EReal) : EReal) := by
  rw [val_main_v171_apply, val_main_cst_15_apply]
  have hk : ∀ k : Fin 128, (val_main_v170 (F := Ideal) R.a0 R.a3 R.a4 R.a12 R.a13 (idx_main_v171 i k) : EReal) = (R.arr.oi (i 0).val ((i 1).val / 64) ((i 1).val % 64) (128 * (i 2).val + k.val) : EReal) * (R.arr.oi (i 0).val ((i 1).val / 64) ((i 1).val % 64) (128 * (i 2).val + k.val) : EReal) := fun k => by
    rw [val_main_v170_apply, v169_i E]; rfl
  exact (congrArg₂ (· + ·) w_zero (Finset.sum_congr rfl fun k _ => hk k)).trans (zero_add _)

theorem v177_i (i : S8x4096x4x1.Idx) : val_main_v177 (F := Ideal) R.a0 R.a3 R.a4 R.a12 R.a13 i = (Ideal.rsqrt (Ideal.div (∑ k : Fin 128, (R.arr.oi (i 0).val ((i 1).val / 64) ((i 1).val % 64) (128 * (i 2).val + k.val) : EReal) * (R.arr.oi (i 0).val ((i 1).val / 64) ((i 1).val % 64) (128 * (i 2).val + k.val) : EReal)) (Ideal.ofBits .f32 0x43000000#32) + Ideal.ofBits .f32 0x358637BD#32) : EReal) := by
  rw [val_main_v177_apply, val_main_v176_apply, val_main_v174_apply, val_main_v172_apply, v171_i E, val_main_v173_apply, val_main_cst_16_apply, val_main_v175_apply, val_main_cst_17_apply]
  rfl

theorem v183_i (i : S8x4096x4x128.Idx) : val_main_v183 (F := Ideal) R.a14 i = (R.G (128 * (i 2).val + (i 3).val) : EReal) := by
  have h0 : (i 0).val < 8 := (i 0).isLt
  have h1 : (i 1).val < 4096 := (i 1).isLt
  have h2 : (i 2).val < 4 := (i 2).isLt
  have h3 : (i 3).val < 128 := (i 3).isLt
  rw [val_main_v183_apply, val_main_v182_apply, val_main_v181_apply, val_main_v180_apply, G_i]
  have e1 : ((idx_main_v180 (idx_main_v181 (idx_main_v182 (idx_main_v183 i)))) 1).val = 128 * (i 2).val + (i 3).val := by
    show ((((((i 2).val))) * 128 + ((((i 3).val))))) % 512 = 128 * (i 2).val + (i 3).val
    omega
  try rw [e1]
  try rfl

theorem v184_i (i : S8x4096x4x128.Idx) : val_main_v184 (F := Ideal) R.a0 R.a3 R.a4 R.a12 R.a13 R.a14 i = ((R.arr.oi (i 0).val ((i 1).val / 64) ((i 1).val % 64) (128 * (i 2).val + (i 3).val) : EReal) * Ideal.rsqrt (Ideal.div (∑ k : Fin 128, (R.arr.oi (i 0).val ((i 1).val / 64) ((i 1).val % 64) (128 * (i 2).val + k.val) : EReal) * (R.arr.oi (i 0).val ((i 1).val / 64) ((i 1).val % 64) (128 * (i 2).val + k.val) : EReal)) (Ideal.ofBits .f32 0x43000000#32) + Ideal.ofBits .f32 0x358637BD#32) * R.G (128 * (i 2).val + (i 3).val) : EReal) := by
  rw [val_main_v184_apply, val_main_v179_apply, v169_i E, val_main_v178_apply, v177_i E, v183_i E]
  rfl

theorem v185_i (i : S8x4096x512.Idx) : val_main_v185 (F := Ideal) R.a0 R.a3 R.a4 R.a12 R.a13 R.a14 i = (R.arr.og R.G (i 0).val (i 1).val (i 2).val : EReal) := by
  have h0 : (i 0).val < 8 := (i 0).isLt
  have h1 : (i 1).val < 4096 := (i 1).isLt
  have h2 : (i 2).val < 512 := (i 2).isLt
  rw [val_main_v185_apply, v184_i E]
  have e0 : ((idx_main_v185 i) 0).val = (i 0).val := by
    show (((i 0).val * 4096 + (i 1).val) * 512 + (i 2).val) / 2097152 = (i 0).val
    omega
  have e1 : ((idx_main_v185 i) 1).val = (i 1).val := by
    show (((i 0).val * 4096 + (i 1).val) * 512 + (i 2).val) / 512 % 4096 = (i 1).val
    omega
  have e2 : ((idx_main_v185 i) 2).val = (i 2).val / 128 := by
    show (((i 0).val * 4096 + (i 1).val) * 512 + (i 2).val) / 128 % 4 = (i 2).val / 128
    omega
  have e3 : ((idx_main_v185 i) 3).val = (i 2).val % 128 := by
    show (((i 0).val * 4096 + (i 1).val) * 512 + (i 2).val) % 128 = (i 2).val % 128
    omega
  rw [e0, e1, e2, e3]
  unfold Arr.og
  rw [show 128 * ((i 2).val / 128) + (i 2).val % 128 = (i 2).val by omega]

end Cert.ReferenceIdeal.Layer

end
-- ==== Proof.ROut.lean ====
/- The reference's cross-attention, gate and output at an index. -/
module

public import proofs.«01_k».proof.Proof.RGla

@[expose] public section

set_option maxHeartbeats 1000000

noncomputable section

namespace Cert.ReferenceIdeal.Layer

open Idealize.ShloMosaic Idealize.SL.Sem
open Cert.ReferenceIdeal Cert.ReferenceIdeal.Gen Cert.ReferenceIdeal.Read Cert.Layer

variable {R : Raw} (E : R.Re)
include E

theorem v186_i (i : S8x4096x4x128.Idx) : val_main_v186 (F := Ideal) R.a0 R.a3 R.a4 i = ((R.arr.pj (i 0).val (i 1).val (2064 + 128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v186_apply, v21_i E]
  have e0 : ((idx_main_v186 i) 0).val = (i 0).val := by
    show (((((i 0).val) * 4096 + ((i 1).val)) * 4 + ((i 2).val)) * 128 + ((i 3).val)) / 2097152 = (i 0).val
    omega
  have e1 : ((idx_main_v186 i) 1).val = (i 1).val := by
    show (((((i 0).val) * 4096 + ((i 1).val)) * 4 + ((i 2).val)) * 128 + ((i 3).val)) / 512 % 4096 = (i 1).val
    omega
  have e2 : ((idx_main_v186 i) 2).val = 128 * (i 2).val + (i 3).val := by
    show (((((i 0).val) * 4096 + ((i 1).val)) * 4 + ((i 2).val)) * 128 + ((i 3).val)) % 512 = 128 * (i 2).val + (i 3).val
    omega
  try rw [e0]
  try rw [e1]
  try rw [e2]
  rw [← Nat.add_assoc]

theorem v187_i (i : S8x512x256.Idx) : val_main_v187 (F := Ideal) R.a1 i = ((R.arr.kt (i 0).val (i 1).val (i 2).val : ℝ) : EReal) := by
  rw [val_main_v187_apply]; exact kt_i E i

theorem v188_i (i : S8x4x128x256.Idx) : val_main_v188 (F := Ideal) R.a1 i = ((R.arr.kt (i 0).val (128 * (i 1).val + (i 2).val) (i 3).val : ℝ) : EReal) := by
  have h0 : (i 0).val < 8 := (i 0).isLt
  have h1 : (i 1).val < 4 := (i 1).isLt
  have h2 : (i 2).val < 128 := (i 2).isLt
  have h3 : (i 3).val < 256 := (i 3).isLt
  rw [val_main_v188_apply, v187_i E]
  have e0 : ((idx_main_v188 i) 0).val = (i 0).val := by
    show (((((i 0).val) * 4 + ((i 1).val)) * 128 + ((i 2).val)) * 256 + ((i 3).val)) / 131072 = (i 0).val
    omega
  have e1 : ((idx_main_v188 i) 1).val = 128 * (i 1).val + (i 2).val := by
    show (((((i 0).val) * 4 + ((i 1).val)) * 128 + ((i 2).val)) * 256 + ((i 3).val)) / 256 % 512 = 128 * (i 1).val + (i 2).val
    omega
  have e2 : ((idx_main_v188 i) 2).val = (i 3).val := by
    show (((((i 0).val) * 4 + ((i 1).val)) * 128 + ((i 2).val)) * 256 + ((i 3).val)) % 256 = (i 3).val
    omega
  try rw [e0]
  try rw [e1]
  try rw [e2]
  try rfl

theorem v189_i (i : S8x256x512.Idx) : val_main_v189 (F := Ideal) R.a2 i = ((R.arr.vm (i 0).val (i 1).val (i 2).val : ℝ) : EReal) := by
  rw [val_main_v189_apply]; exact vm_i E i

theorem v190_i (i : S8x256x4x128.Idx) : val_main_v190 (F := Ideal) R.a2 i = ((R.arr.vm (i 0).val (i 1).val (128 * (i 2).val + (i 3).val) : ℝ) : EReal) := by
  have h0 : (i 0).val < 8 := (i 0).isLt
  have h1 : (i 1).val < 256 := (i 1).isLt
  have h2 : (i 2).val < 4 := (i 2).isLt
  have h3 : (i 3).val < 128 := (i 3).isLt
  rw [val_main_v190_apply, v189_i E]
  have e0 : ((idx_main_v190 i) 0).val = (i 0).val := by
    show (((((i 0).val) * 256 + ((i 1).val)) * 4 + ((i 2).val)) * 128 + ((i 3).val)) / 131072 = (i 0).val
    omega
  have e1 : ((idx_main_v190 i) 1).val = (i 1).val := by
    show (((((i 0).val) * 256 + ((i 1).val)) * 4 + ((i 2).val)) * 128 + ((i 3).val)) / 512 % 256 = (i 1).val
    omega
  have e2 : ((idx_main_v190 i) 2).val = 128 * (i 2).val + (i 3).val := by
    show (((((i 0).val) * 256 + ((i 1).val)) * 4 + ((i 2).val)) * 128 + ((i 3).val)) % 512 = 128 * (i 2).val + (i 3).val
    omega
  try rw [e0]
  try rw [e1]
  try rw [e2]
  try rfl

theorem v191_i (i : S8x4x4096x256.Idx) : val_main_v191 (F := Ideal) R.a0 R.a1 R.a3 R.a4 i = ((∑ k : Fin 128, R.arr.pj (i 0).val (i 2).val (2064 + 128 * (i 1).val + k.val) * R.arr.kt (i 0).val (128 * (i 1).val + k.val) (i 3).val : ℝ) : EReal) := by
  have h0 : (i 0).val < 8 := (i 0).isLt
  have h1 : (i 1).val < 4 := (i 1).isLt
  have h2 : (i 2).val < 4096 := (i 2).isLt
  have h3 : (i 3).val < 256 := (i 3).isLt
  rw [val_main_v191_apply]
  have hk : ∀ k : Fin 128, (val_main_v186 (F := Ideal) R.a0 R.a3 R.a4 (lidx_main_v191 i k) : EReal) * (val_main_v188 (F := Ideal) R.a1 (ridx_main_v191 i k) : EReal) = (((R.arr.pj (i 0).val (i 2).val (2064 + 128 * (i 1).val + k.val)) * (R.arr.kt (i 0).val (128 * (i 1).val + k.val) (i 3).val) : ℝ) : EReal) := fun k => by
    rw [v186_i E, v188_i E]; exact (EReal.coe_mul _ _).symm
  refine (Finset.sum_congr rfl fun k _ => hk k).trans ((coe_sum _ _).trans (congrArg _ ?_))
  rfl

theorem v192_i (i : S8x4x4096x256.Idx) : val_main_v192 (F := Ideal) i = ((sc : ℝ) : EReal) := by
  rw [val_main_v192_apply, val_main_cst_18_apply]; exact w_sc

theorem v193_i (i : S8x4x4096x256.Idx) : val_main_v193 (F := Ideal) R.a0 R.a1 R.a3 R.a4 i = ((R.arr.score (i 0).val (i 2).val (i 1).val (i 3).val : ℝ) : EReal) := by
  rw [val_main_v193_apply, v191_i E, v192_i E]
  exact (fmul _ _).trans (congrArg _ (by rfl))

omit E in
theorem bot_w : Ideal.ofBits .f32 0xFF800000#32 = ⊥ := by
  simp [Ideal.ofBits, Ideal.ieee]
omit E in
theorem fold_real (s : Fin 256 → ℝ) : ∃ M : ℝ, Finset.fold max (⊥ : EReal) (fun x => (s x : EReal)) Finset.univ = (M : EReal) := by
  refine ⟨_, (EReal.coe_toReal (ne_of_lt ?_) (ne_of_gt ?_)).symm⟩
  · rw [Finset.fold_max_lt]
    exact ⟨bot_lt_top, fun x _ => EReal.coe_lt_top _⟩
  · rw [Finset.lt_fold_max]
    exact Or.inr ⟨0, Finset.mem_univ _, EReal.bot_lt_coe _⟩
/-- The largest score of a row is a real number. -/
theorem v194_ix (b : Fin 8) (h : Fin 4) (s : Fin 4096) : ∃ M : ℝ, val_main_v194 (F := Ideal) R.a0 R.a1 R.a3 R.a4 (ix3 b h s) = (M : EReal) := by
  have e : val_main_v194 (F := Ideal) R.a0 R.a1 R.a3 R.a4 (ix3 b h s)
      = Finset.fold max (Ideal.ofBits .f32 0xFF800000#32) (fun x : Fin 256 => val_main_v193 (F := Ideal) R.a0 R.a1 R.a3 R.a4 (ix4 b h s x)) Finset.univ := by
    unfold val_main_v194
    generalize val_main_v193 (F := Ideal) R.a0 R.a1 R.a3 R.a4 = y
    pointwise [val_main_cst_19]
    try rfl
  obtain ⟨M, hM⟩ := fold_real (fun x => R.arr.score b.val s.val h.val x.val)
  refine ⟨M, e.trans ?_⟩
  rw [bot_w, ← hM]
  exact congrArg (fun f => Finset.fold max (⊥ : EReal) f Finset.univ) (funext fun x => v193_i E (ix4 b h s x))
theorem v196_i (i : S8x4x4096.Idx) : ∃ M : ℝ, val_main_v196 (F := Ideal) R.a0 R.a1 R.a3 R.a4 i = (M : EReal) := by
  obtain ⟨M, hM⟩ := v194_ix E (i 0) (i 1) (i 2)
  refine ⟨M, ?_⟩
  rw [val_main_v196_apply, val_main_v195_apply, val_main_cst_20_apply]
  refine (congrArg (fun t : EReal => max (Ideal.ofBits .f32 0xFF800000#32) t) ((congrArg (val_main_v194 (F := Ideal) R.a0 R.a1 R.a3 R.a4) (eq_ix3 i)).trans hM)).trans ?_
  rw [bot_w]; exact max_eq_right bot_le
theorem v204_i (i : S8x4x4096x256.Idx) : val_main_v204 (F := Ideal) R.a0 R.a1 R.a3 R.a4 i
    = ((Real.exp (R.arr.score (i 0).val (i 2).val (i 1).val (i 3).val) / ∑ x : Fin 256, Real.exp (R.arr.score (i 0).val (i 2).val (i 1).val x.val) : ℝ) : EReal) := by
  obtain ⟨M, hM⟩ := v196_i E (idx_main_v197 (idx_main_v198 i))
  have h200 : ∀ k : Fin 256, val_main_v200 (F := Ideal) R.a0 R.a1 R.a3 R.a4 (idx_main_v201 (idx_main_v202 (idx_main_v203 i)) k)
      = ((Real.exp (R.arr.score (i 0).val (i 2).val (i 1).val k.val) * Real.exp (-M) : ℝ) : EReal) := fun k => by
    rw [val_main_v200_apply, val_main_v199_apply, v193_i E, val_main_v198_apply, val_main_v197_apply]
    have hi : idx_main_v197 (idx_main_v198 (idx_main_v201 (idx_main_v202 (idx_main_v203 i)) k)) = idx_main_v197 (idx_main_v198 i) := funext fun a => by
      match a with
      | ⟨0, _⟩ => rfl
      | ⟨1, _⟩ => rfl
      | ⟨2, _⟩ => rfl
    rw [hi, hM, fsub]
    refine (fexp _).trans (congrArg _ ?_)
    rw [sub_eq_add_neg, Real.exp_add]
  have h200' : val_main_v200 (F := Ideal) R.a0 R.a1 R.a3 R.a4 i
      = ((Real.exp (R.arr.score (i 0).val (i 2).val (i 1).val (i 3).val) * Real.exp (-M) : ℝ) : EReal) := by
    rw [val_main_v200_apply, val_main_v199_apply, v193_i E, val_main_v198_apply, val_main_v197_apply, hM, fsub]
    refine (fexp _).trans (congrArg _ ?_)
    rw [sub_eq_add_neg, Real.exp_add]
  have pos : 0 < ∑ x : Fin 256, Real.exp (R.arr.score (i 0).val (i 2).val (i 1).val x.val) := Finset.sum_pos (fun _ _ => Real.exp_pos _) ⟨0, Finset.mem_univ _⟩
  have pm := Real.exp_pos (-M)
  have hs : val_main_v201 (F := Ideal) R.a0 R.a1 R.a3 R.a4 (idx_main_v202 (idx_main_v203 i))
      = (((∑ x : Fin 256, Real.exp (R.arr.score (i 0).val (i 2).val (i 1).val x.val)) * Real.exp (-M) : ℝ) : EReal) := by
    rw [val_main_v201_apply, val_main_cst_21_apply]
    refine (congrArg₂ (· + ·) w_zero ((Finset.sum_congr rfl fun k _ => h200 k).trans (coe_sum _ _))).trans ((EReal.coe_add _ _).symm.trans (congrArg _ ?_))
    rw [zero_add, Finset.sum_mul]
  rw [val_main_v204_apply, h200', val_main_v203_apply, val_main_v202_apply, hs]
  refine (fdiv _ (mul_pos pos pm).ne').trans (congrArg _ ?_)
  field_simp

theorem v205_i (i : S8x4x128x4096.Idx) : val_main_v205 (F := Ideal) R.a0 R.a1 R.a2 R.a3 R.a4 i = ((R.arr.xa (i 0).val (i 3).val (128 * (i 1).val + (i 2).val) : ℝ) : EReal) := by
  have h0 : (i 0).val < 8 := (i 0).isLt
  have h1 : (i 1).val < 4 := (i 1).isLt
  have h2 : (i 2).val < 128 := (i 2).isLt
  have h3 : (i 3).val < 4096 := (i 3).isLt
  rw [val_main_v205_apply]
  have hk : ∀ k : Fin 256, (val_main_v190 (F := Ideal) R.a2 (lidx_main_v205 i k) : EReal) * (val_main_v204 (F := Ideal) R.a0 R.a1 R.a3 R.a4 (ridx_main_v205 i k) : EReal) = (((R.arr.vm (i 0).val k.val (128 * (i 1).val + (i 2).val)) * (Real.exp (R.arr.score (i 0).val (i 3).val (i 1).val k.val) / ∑ x : Fin 256, Real.exp (R.arr.score (i 0).val (i 3).val (i 1).val x.val)) : ℝ) : EReal) := fun k => by
    rw [v190_i E, v204_i E]; exact (EReal.coe_mul _ _).symm
  refine (Finset.sum_congr rfl fun k _ => hk k).trans ((coe_sum _ _).trans (congrArg _ ?_))
  unfold Arr.xa
  rw [show (128 * (i 1).val + (i 2).val) / 128 = (i 1).val by omega, Finset.sum_div]
  exact Finset.sum_congr rfl fun k _ => by ring

theorem v206_i (i : S8x4096x4x128.Idx) : val_main_v206 (F := Ideal) R.a0 R.a1 R.a2 R.a3 R.a4 i = ((R.arr.xa (i 0).val (i 1).val (128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v206_apply, v205_i E]
  try rfl

theorem v207_i (i : S8x4096x512.Idx) : val_main_v207 (F := Ideal) R.a0 R.a1 R.a2 R.a3 R.a4 i = ((R.arr.xa (i 0).val (i 1).val (i 2).val : ℝ) : EReal) := by
  have h0 : (i 0).val < 8 := (i 0).isLt
  have h1 : (i 1).val < 4096 := (i 1).isLt
  have h2 : (i 2).val < 512 := (i 2).isLt
  rw [val_main_v207_apply, v206_i E]
  have e0 : ((idx_main_v207 i) 0).val = (i 0).val := by
    show (((i 0).val * 4096 + (i 1).val) * 512 + (i 2).val) / 2097152 = (i 0).val
    omega
  have e1 : ((idx_main_v207 i) 1).val = (i 1).val := by
    show (((i 0).val * 4096 + (i 1).val) * 512 + (i 2).val) / 512 % 4096 = (i 1).val
    omega
  have e2 : ((idx_main_v207 i) 2).val = (i 2).val / 128 := by
    show (((i 0).val * 4096 + (i 1).val) * 512 + (i 2).val) / 128 % 4 = (i 2).val / 128
    omega
  have e3 : ((idx_main_v207 i) 3).val = (i 2).val % 128 := by
    show (((i 0).val * 4096 + (i 1).val) * 512 + (i 2).val) % 128 = (i 2).val % 128
    omega
  rw [e0, e1, e2, e3]
  rw [show 128 * ((i 2).val / 128) + (i 2).val % 128 = (i 2).val by omega]

theorem call7_v2_i (i : S8x4096x2048.Idx) : val_main_call7_v2 (F := Ideal) i = ((1 : ℝ) : EReal) := by
  rw [val_main_call7_v2_apply, val_main_call7_cst_apply]; exact w_one

theorem call7_v4_i (i : S8x4096x2048.Idx) : val_main_call7_v4 (F := Ideal) i = ((1 : ℝ) : EReal) := by
  rw [val_main_call7_v4_apply, val_main_call7_cst_0_apply]; exact w_one

theorem call7_v5_i (i : S8x4096x2048.Idx) : val_main_call7_v5 (F := Ideal) R.a0 R.a3 R.a4 i = ((sg (R.arr.pj (i 0).val (i 1).val (2576 + (i 2).val)) : ℝ) : EReal) := by
  rw [val_main_call7_v5_apply, val_main_call7_v3_apply, val_main_call7_v1_apply, val_main_call7_v0_apply, v22_i E, call7_v2_i E, call7_v4_i E]; exact fsg _

theorem v209_i (i : S8x4096x2048.Idx) : val_main_v209 (F := Ideal) R.a0 R.a3 R.a4 i = ((R.arr.silu (i 0).val (i 1).val (i 2).val : ℝ) : EReal) := by
  rw [val_main_v209_apply, v22_i E, call7_v5_i E]
  exact (fmul _ _).trans (congrArg _ (by rfl))

theorem v208_ix (b : Fin 8) (s : Fin 4096) (j : Fin 2048) : val_main_v208 (F := Ideal) R.a0 R.a1 R.a2 R.a3 R.a4 R.a5 R.a6 R.a7 R.a8 R.a9 R.a10 R.a11 R.a12 R.a13 R.a14 (ix3 b s j) = R.arr.ym R.G b.val s.val j.val := by
  have h : val_main_v208 (F := Ideal) R.a0 R.a1 R.a2 R.a3 R.a4 R.a5 R.a6 R.a7 R.a8 R.a9 R.a10 R.a11 R.a12 R.a13 R.a14 (ix3 b s j) = if h : j.val < 1024 then val_main_v111 (F := Ideal) R.a0 R.a3 R.a4 R.a5 R.a6 R.a7 R.a8 R.a9 R.a10 R.a11 (ix3 b s ⟨j.val, h⟩) else
      if h' : j.val < 1536 then val_main_v185 (F := Ideal) R.a0 R.a3 R.a4 R.a12 R.a13 R.a14 (ix3 b s ⟨j.val - 1024, by omega⟩) else val_main_v207 (F := Ideal) R.a0 R.a1 R.a2 R.a3 R.a4 (ix3 b s ⟨j.val - 1536, by omega⟩) := by
    unfold val_main_v208
    generalize val_main_v111 (F := Ideal) R.a0 R.a3 R.a4 R.a5 R.a6 R.a7 R.a8 R.a9 R.a10 R.a11 = y1
    generalize val_main_v185 (F := Ideal) R.a0 R.a3 R.a4 R.a12 R.a13 R.a14 = y2
    generalize val_main_v207 (F := Ideal) R.a0 R.a1 R.a2 R.a3 R.a4 = y3
    pointwise
    repeat' split
    all_goals first | (exfalso; omega) | (refine congrArg y1 (congrArg (ix3 b s) (Fin.ext ?_)); first | omega | (dsimp only; omega)) | (refine congrArg y2 (congrArg (ix3 b s) (Fin.ext ?_)); first | omega | (dsimp only; omega)) | (refine congrArg y3 (congrArg (ix3 b s) (Fin.ext ?_)); first | omega | (dsimp only; omega))
  rw [h]
  unfold Arr.ym
  by_cases g : j.val < 1024
  · rw [dif_pos g, if_pos g]; exact v111_i E (ix3 b s ⟨j.val, g⟩)
  rw [dif_neg g, if_neg g]
  by_cases g' : j.val < 1536
  · rw [dif_pos g', if_pos g']; exact v185_i E (ix3 b s ⟨j.val - 1024, by omega⟩)
  rw [dif_neg g', if_neg g']; exact v207_i E (ix3 b s ⟨j.val - 1536, by omega⟩)
theorem v208_i (i : S8x4096x2048.Idx) : val_main_v208 (F := Ideal) R.a0 R.a1 R.a2 R.a3 R.a4 R.a5 R.a6 R.a7 R.a8 R.a9 R.a10 R.a11 R.a12 R.a13 R.a14 i = R.arr.ym R.G (i 0).val (i 1).val (i 2).val :=
  (congrArg (val_main_v208 (F := Ideal) R.a0 R.a1 R.a2 R.a3 R.a4 R.a5 R.a6 R.a7 R.a8 R.a9 R.a10 R.a11 R.a12 R.a13 R.a14) (eq_ix3 i)).trans (v208_ix E (i 0) (i 1) (i 2))

theorem v211_i (i : S2048x1024.Idx) : val_main_v211 (F := Ideal) R.a15 i = (R.W (i 0).val (i 1).val : EReal) := by
  have h0 : (i 0).val < 2048 := (i 0).isLt
  have h1 : (i 1).val < 1024 := (i 1).isLt
  rw [val_main_v211_apply, W_i]
  have e1 : ((idx_main_v211 i) 1).val = (i 0).val := by
    show (((i 0).val) * 1024 + ((i 1).val)) / 1024 % 2048 = (i 0).val
    omega
  have e2 : ((idx_main_v211 i) 2).val = (i 1).val := by
    show (((i 0).val) * 1024 + ((i 1).val)) % 1024 = (i 1).val
    omega
  try rw [e1]
  try rw [e2]
  try rfl

theorem v212_i (i : S8x4096x1024.Idx) : val_main_v212 (F := Ideal) R.a0 R.a1 R.a2 R.a3 R.a4 R.a5 R.a6 R.a7 R.a8 R.a9 R.a10 R.a11 R.a12 R.a13 R.a14 R.a15 i = (∑ k : Fin 2048, R.arr.ym R.G (i 0).val (i 1).val k.val * (R.arr.silu (i 0).val (i 1).val k.val : EReal) * R.W k.val (i 2).val : EReal) := by
  rw [val_main_v212_apply]
  refine Finset.sum_congr rfl fun k _ => ?_
  rw [val_main_v210_apply, v208_i E, v209_i E, v211_i E]
  rfl

theorem v213_i (i : S8x4096x1024.Idx) : val_main_v213 (F := Ideal) R.a0 R.a1 R.a2 R.a3 R.a4 R.a5 R.a6 R.a7 R.a8 R.a9 R.a10 R.a11 R.a12 R.a13 R.a14 R.a15 i = (R.arr.z R.G R.W (i 0).val (i 1).val (i 2).val : EReal) := by
  rw [val_main_v213_apply, x_i E, v212_i E]
  rfl

theorem v215_i (i : S8x4096.Idx) : val_main_v215 (F := Ideal) R.a0 R.a1 R.a2 R.a3 R.a4 R.a5 R.a6 R.a7 R.a8 R.a9 R.a10 R.a11 R.a12 R.a13 R.a14 R.a15 i = (∑ k : Fin 1024, R.arr.z R.G R.W (i 0).val (i 1).val k.val * R.arr.z R.G R.W (i 0).val (i 1).val k.val : EReal) := by
  rw [val_main_v215_apply, val_main_cst_22_apply]
  have hk : ∀ k : Fin 1024, (val_main_v214 (F := Ideal) R.a0 R.a1 R.a2 R.a3 R.a4 R.a5 R.a6 R.a7 R.a8 R.a9 R.a10 R.a11 R.a12 R.a13 R.a14 R.a15 (idx_main_v215 i k) : EReal) = R.arr.z R.G R.W (i 0).val (i 1).val k.val * R.arr.z R.G R.W (i 0).val (i 1).val k.val := fun k => by
    rw [val_main_v214_apply, v213_i E]; rfl
  exact (congrArg₂ (· + ·) w_zero (Finset.sum_congr rfl fun k _ => hk k)).trans (zero_add _)

theorem v221_i (i : S8x4096x1.Idx) : val_main_v221 (F := Ideal) R.a0 R.a1 R.a2 R.a3 R.a4 R.a5 R.a6 R.a7 R.a8 R.a9 R.a10 R.a11 R.a12 R.a13 R.a14 R.a15 i = (Ideal.rsqrt (Ideal.div (∑ k : Fin 1024, R.arr.z R.G R.W (i 0).val (i 1).val k.val * R.arr.z R.G R.W (i 0).val (i 1).val k.val) (Ideal.ofBits .f32 0x44800000#32) + Ideal.ofBits .f32 0x358637BD#32) : EReal) := by
  rw [val_main_v221_apply, val_main_v220_apply, val_main_v218_apply, val_main_v216_apply, v215_i E, val_main_v217_apply, val_main_cst_23_apply, val_main_v219_apply, val_main_cst_24_apply]
  rfl

theorem v225_i (i : S8x4096x1024.Idx) : val_main_v225 (F := Ideal) R.a16 i = (R.g (i 2).val : EReal) := by
  have h0 : (i 0).val < 8 := (i 0).isLt
  have h1 : (i 1).val < 4096 := (i 1).isLt
  have h2 : (i 2).val < 1024 := (i 2).isLt
  rw [val_main_v225_apply, val_main_v224_apply, g_i]
  try rfl

theorem v226_i (i : S8x4096x1024.Idx) : val_main_v226 (F := Ideal) R.a0 R.a1 R.a2 R.a3 R.a4 R.a5 R.a6 R.a7 R.a8 R.a9 R.a10 R.a11 R.a12 R.a13 R.a14 R.a15 R.a16 i = (R.arr.out R.G R.W R.g (i 0).val (i 1).val (i 2).val : EReal) := by
  rw [val_main_v226_apply, val_main_v223_apply, v213_i E, val_main_v222_apply, v221_i E, v225_i E]
  rfl

theorem final : val_main_v226 (F := Ideal) R.a0 R.a1 R.a2 R.a3 R.a4 R.a5 R.a6 R.a7 R.a8 R.a9 R.a10 R.a11 R.a12 R.a13 R.a14 R.a15 R.a16 = R.res := funext fun i => v226_i E i

end Cert.ReferenceIdeal.Layer

end
-- ==== Proof.Pre.lean ====
/- The precondition `finite` says that the arguments it tests are real numbers. -/
module

public import proofs.«01_k».proof.Pre_finite
public import proofs.«01_k».proof.Proof.Args
public import Idealize.ShloMosaic.PureOps.Reduce

@[expose] public section

noncomputable section

namespace Cert.Pre_finite

open Idealize.ShloMosaic Cert.Layer

instance facts : Facts where
  bcast_S_S8x4096x1024 := by decide
  reducesTo_S8x4096x1024_S_d0_1_2 := by decide
  h_S_ := by decide
  bitsLt_bf16_f32 := by decide
  bcast_S_S8x512x256 := by decide
  reducesTo_S8x512x256_S_d0_1_2 := by decide
  bcast_S_S8x256x512 := by decide
  reducesTo_S8x256x512_S_d0_1_2 := by decide
  bcast_S_S1x1024 := by decide
  reducesTo_S1x1024_S_d0_1 := by decide
  bcast_S_S1x1024x4624 := by decide
  reducesTo_S1x1024x4624_S_d0_1_2 := by decide
  bcast_S_S1x4x1024 := by decide
  reducesTo_S1x4x1024_S_d0_1_2 := by decide
  bcast_S_S1x8x128x128 := by decide
  reducesTo_S1x8x128x128_S_d0_1_2_3 := by decide
  bcast_S_S1x8x128 := by decide
  reducesTo_S1x8x128_S_d0_1_2 := by decide
  bcast_S_S1x16x256 := by decide
  reducesTo_S1x16x256_S_d0_1_2 := by decide
  bcast_S_S1x256 := by decide
  reducesTo_S1x256_S_d0_1 := by decide

open Facts

theorem and_one {s : Shape} {a b : IVec s 1} (h : andi a b = fun _ => 1#1) : (a = fun _ => 1#1) ∧ (b = fun _ => 1#1) := by
  have e : ∀ x y : BitVec 1, x &&& y = 1#1 → x = 1#1 ∧ y = 1#1 := by decide
  exact ⟨funext fun i => (e _ _ (congrFun h i)).1, funext fun i => (e _ _ (congrFun h i)).2⟩

theorem fold_one {α : Type} (f : α → BitVec 1) (b : BitVec 1) (S : Finset α) (h : S.fold IntOp.andi b f = 1#1) : ∀ i ∈ S, f i = 1#1 := by
  classical
  have e : ∀ x y : BitVec 1, IntOp.andi x y = 1#1 → x = 1#1 ∧ y = 1#1 := by decide
  induction S using Finset.induction_on with
  | empty => intro i hi; exact absurd hi (Finset.notMem_empty i)
  | insert a S ha ih =>
    rw [Finset.fold_insert ha] at h
    intro i hi
    rcases Finset.mem_insert.mp hi with rfl | hi
    · exact (e _ _ h).1
    · exact ih (e _ _ h).2 i hi

theorem all_one {s : Shape} {axes : List (Fin s.rank)} {x : IVec s 1} {v : IVec S_ 1} {h : s.ReducesTo axes S_} {hu : 0 < S_.numel}
    (H : Host.reduce IntOp.andi x v h hu = fun _ => 1#1) (i : s.Idx) : x i = 1#1 := by
  have H0 := congrFun H (h.drop i)
  rw [Host.reduce_eq_fold] at H0
  exact fold_one x _ _ H0 i (Finset.mem_filter.mpr ⟨Finset.mem_univ i, rfl⟩)

theorem inf_eq : Ideal.ofBits .f32 0x7F800000#32 = (⊤ : EReal) := by simp [Ideal.ofBits, Ideal.ieee]

theorem real_of {x : EReal} (h : Ideal.cmp .olt (max x (-x)) (Ideal.ofBits .f32 0x7F800000#32) = 1#1) : x = ((EReal.toReal x : ℝ) : EReal) := by
  have e : ∀ b : Bool, BitVec.ofBool b = 1#1 → b = true := by decide
  have l : max x (-x) < (⊤ : EReal) := by
    rw [← inf_eq]
    exact of_decide_eq_true (e _ h)
  refine (EReal.coe_toReal ?_ ?_).symm
  · rintro rfl
    exact absurd (lt_of_le_of_lt (le_max_left _ _) l) (lt_irrefl _)
  · rintro rfl
    exact absurd (lt_of_le_of_lt (le_max_right _ _) l) (by simp)

theorem real_vec {s : Shape} {axes : List (Fin s.rank)} {x : FVec Ideal s .f32} {bc : S_.BroadcastsInDim s (![] : Fin 0 → Fin s.rank)}
    {h : s.ReducesTo axes S_} {hu : 0 < S_.numel}
    (H : Host.reduce IntOp.andi (cmpf .olt (Host.absf x) (broadcastInDim s ![] bc (constant (F := Ideal) S_ .f32 0x7F800000#32))) (constantI S_ 1 1#1) h hu
      = fun _ => 1#1) (i : s.Idx) : x i = ((EReal.toReal (x i) : ℝ) : EReal) := by
  have h1 := all_one H i
  exact real_of h1

theorem real (R : Raw) (H : fn (F := Ideal) R.a0 R.a1 R.a2 R.a3 R.a4 R.a5 R.a6 R.a7 R.a8 R.a9 R.a10 R.a11 R.a12 R.a13 R.a14 R.a15 R.a16 = fun _ => 1#1) : R.Re := by
  unfold fn fn_part1 fn_part2 fn_part3 fn_part4 at H
  dsimp only at H
  replace ⟨H, h13⟩ := and_one H
  replace ⟨H, h12⟩ := and_one H
  replace ⟨H, h11⟩ := and_one H
  replace ⟨H, h10⟩ := and_one H
  replace ⟨H, h9⟩ := and_one H
  replace ⟨H, h8⟩ := and_one H
  replace ⟨H, h7⟩ := and_one H
  replace ⟨H, h6⟩ := and_one H
  replace ⟨H, h5⟩ := and_one H
  replace ⟨H, h4⟩ := and_one H
  replace ⟨H, h3⟩ := and_one H
  replace ⟨H, h2⟩ := and_one H
  replace ⟨H, h1⟩ := and_one H
  refine ⟨real_vec (axes := [0, 1, 2]) (bc := bcast_S_S8x4096x1024) (h := reducesTo_S8x4096x1024_S_d0_1_2) (hu := h_S_) H, real_vec (axes := [0, 1, 2]) (bc := bcast_S_S8x512x256) (h := reducesTo_S8x512x256_S_d0_1_2) (hu := h_S_) h1, real_vec (axes := [0, 1, 2]) (bc := bcast_S_S8x256x512) (h := reducesTo_S8x256x512_S_d0_1_2) (hu := h_S_) h2, real_vec (axes := [0, 1]) (bc := bcast_S_S1x1024) (h := reducesTo_S1x1024_S_d0_1) (hu := h_S_) h3, real_vec (axes := [0, 1, 2]) (bc := bcast_S_S1x1024x4624) (h := reducesTo_S1x1024x4624_S_d0_1_2) (hu := h_S_) h4, real_vec (axes := [0, 1, 2]) (bc := bcast_S_S1x4x1024) (h := reducesTo_S1x4x1024_S_d0_1_2) (hu := h_S_) h5, real_vec (axes := [0, 1]) (bc := bcast_S_S1x1024) (h := reducesTo_S1x1024_S_d0_1) (hu := h_S_) h6, real_vec (axes := [0, 1, 2, 3]) (bc := bcast_S_S1x8x128x128) (h := reducesTo_S1x8x128x128_S_d0_1_2_3) (hu := h_S_) h7, real_vec (axes := [0, 1, 2]) (bc := bcast_S_S1x8x128) (h := reducesTo_S1x8x128_S_d0_1_2) (hu := h_S_) h8, real_vec (axes := [0, 1, 2, 3]) (bc := bcast_S_S1x8x128x128) (h := reducesTo_S1x8x128x128_S_d0_1_2_3) (hu := h_S_) h9, real_vec (axes := [0, 1, 2]) (bc := bcast_S_S1x8x128) (h := reducesTo_S1x8x128_S_d0_1_2) (hu := h_S_) h10, real_vec (axes := [0, 1]) (bc := bcast_S_S1x1024) (h := reducesTo_S1x1024_S_d0_1) (hu := h_S_) h11, real_vec (axes := [0, 1, 2]) (bc := bcast_S_S1x16x256) (h := reducesTo_S1x16x256_S_d0_1_2) (hu := h_S_) h12, real_vec (axes := [0, 1]) (bc := bcast_S_S1x256) (h := reducesTo_S1x256_S_d0_1) (hu := h_S_) h13⟩

end Cert.Pre_finite

end
-- ==== Proof.LayerEq.lean ====
/- The layer call's value: the kernel and the reference leave the same result from real arguments. -/
module

public import proofs.«01_k».proof.Defs
public import proofs.«01_k».proof.Proof.KRun
public import proofs.«01_k».proof.Proof.ROut
public import proofs.«01_k».proof.Proof.Pre
public import Idealize.ShloMosaic.Lib.Claim

@[expose] public section

set_option maxHeartbeats 1000000

noncomputable section

namespace Cert.LayerEq

open Idealize.ShloMosaic Idealize.ShloMosaic.TcCoe Idealize.SL.Sem

theorem real (m : (ℓ : Loc Cert.KernelIdeal.nD Cert.KernelIdeal.τ Cert.KernelIdeal.sig) → Buf (Elt Ideal) ℓ)
    (H : Cert.Pre_KernelIdeal_finite m) (c : Dev Cert.KernelIdeal.nD) : (Cert.KernelIdeal.Layer.raw m c).Re :=
  Cert.Pre_finite.real (Cert.KernelIdeal.Layer.raw m c) (H c)

/-- The reference's run: it ends with its operations' value and the arguments as they were. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v226) = Cert.ReferenceIdeal.Read.val_main_v226 (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7))
        (m ((c.tc : Thread Cert.ReferenceIdeal.nD Cert.ReferenceIdeal.τ).loc Cert.ReferenceIdeal.main_arg8))
        (m ((c.tc : Thread Cert.ReferenceIdeal.nD Cert.ReferenceIdeal.τ).loc Cert.ReferenceIdeal.main_arg9))
        (m ((c.tc : Thread Cert.ReferenceIdeal.nD Cert.ReferenceIdeal.τ).loc Cert.ReferenceIdeal.main_arg10))
        (m ((c.tc : Thread Cert.ReferenceIdeal.nD Cert.ReferenceIdeal.τ).loc Cert.ReferenceIdeal.main_arg11))
        (m ((c.tc : Thread Cert.ReferenceIdeal.nD Cert.ReferenceIdeal.τ).loc Cert.ReferenceIdeal.main_arg12))
        (m ((c.tc : Thread Cert.ReferenceIdeal.nD Cert.ReferenceIdeal.τ).loc Cert.ReferenceIdeal.main_arg13))
        (m ((c.tc : Thread Cert.ReferenceIdeal.nD Cert.ReferenceIdeal.τ).loc Cert.ReferenceIdeal.main_arg14))
        (m ((c.tc : Thread Cert.ReferenceIdeal.nD Cert.ReferenceIdeal.τ).loc Cert.ReferenceIdeal.main_arg15))
        (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run Cert.ReferenceIdeal.defs _ _).mono (fun r h c => ⟨(h c).1.trans (Cert.ReferenceIdeal.Read.val_main_v226_eq (F := Ideal) (StableHlo.launchContents m c)), (h c).2⟩)
    (Cert.ReferenceIdeal.Value.run (F := Ideal) m g)

theorem algebraic : Cert.algebraic_KernelIdeal_ReferenceIdeal_pre_finite := by
  pair_intro
  · run_from Cert.KernelIdeal.Layer.run_result m g (real m hpre)
  · run_from run_reference m' g'
    · exact Cert.ReferenceIdeal.Layer.final (real m hpre c)

end Cert.LayerEq

end
-- ==== Proof.lean ====
/- The proof of the claims about v00's two calls: the layer call's run, written once at any float values, gives both its frames, its
   value is Proof/LayerEq.lean's; the memory call's run is the generated one, its value is Proof/MemKv.lean's. -/
module

public import proofs.«01_k».proof.Defs
public import proofs.«01_k».proof.Proof.Frames
public import proofs.«01_k».proof.Proof.Same
public import proofs.«01_k».proof.Proof.MemKv
public import proofs.«01_k».proof.Proof.LayerEq
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init
public import Idealize.ShloMosaic.Lib.Claim

@[expose] public section

noncomputable section

namespace Cert.Proof

open Idealize.ShloMosaic Idealize.SL.Sem

theorem frame_ideal : Cert.quiescent_KernelIdeal := fun m ρ _ => Cert.KernelIdeal.Layer.frame (F := Ideal) m ρ

theorem frame_ideal_finite : Cert.quiescent_KernelIdeal_pre_finite := fun m ρ _ => Cert.KernelIdeal.Layer.frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.facts,
  frame_kernel, frame_ideal, frame_ideal_finite, frame_reference, frame_reference_finite, frame_kernel2, frame_ideal2, frame_reference2,
  trivial, Cert.LayerEq.algebraic, trivial, Cert.MemKv.algebraic⟩

end Cert.Proof

end
